-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v12)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v12) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v60) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  IdealRules.named_const.Statement Cert.Kernel3Ideal.κ "qscale" .f32 0x3E38AA3B#32 (((Real.log 256)⁻¹ : ℝ) : EReal)

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v15_0)) (v1 : (c : Dev Cert.Kernel3Ideal.nD) → Buf (Elt Ideal) ((c.tc : Thread Cert.Kernel3Ideal.nD Cert.Kernel3Ideal.τ).loc Cert.Kernel3Ideal.main_v15_1)) (v2 : (c : Dev Cert.Kernel3Ideal.nD) → Buf (Elt Ideal) ((c.tc : Thread Cert.Kernel3Ideal.nD Cert.Kernel3Ideal.τ).loc Cert.Kernel3Ideal.main_v15_2)) (v3 : (c : Dev Cert.Kernel3Ideal.nD) → Buf (Elt Ideal) ((c.tc : Thread Cert.Kernel3Ideal.nD Cert.Kernel3Ideal.τ).loc Cert.Kernel3Ideal.main_v15_3)) (v4 : (c : Dev Cert.Kernel3Ideal.nD) → Buf (Elt Ideal) ((c.tc : Thread Cert.Kernel3Ideal.nD Cert.Kernel3Ideal.τ).loc Cert.Kernel3Ideal.main_v15_4)) (v5 : (c : Dev Cert.Kernel3Ideal.nD) → Buf (Elt Ideal) ((c.tc : Thread Cert.Kernel3Ideal.nD Cert.Kernel3Ideal.τ).loc Cert.Kernel3Ideal.main_v15_5)) (v6 : (c : Dev Cert.Kernel3Ideal.nD) → Buf (Elt Ideal) ((c.tc : Thread Cert.Kernel3Ideal.nD Cert.Kernel3Ideal.τ).loc Cert.Kernel3Ideal.main_v15_6)) (v7 : (c : Dev Cert.Kernel3Ideal.nD) → Buf (Elt Ideal) ((c.tc : Thread Cert.Kernel3Ideal.nD Cert.Kernel3Ideal.τ).loc Cert.Kernel3Ideal.main_v15_7)) (v8 : (c : Dev Cert.Kernel3Ideal.nD) → Buf (Elt Ideal) ((c.tc : Thread Cert.Kernel3Ideal.nD Cert.Kernel3Ideal.τ).loc Cert.Kernel3Ideal.main_v15_8)) (v9 : (c : Dev Cert.Kernel3Ideal.nD) → Buf (Elt Ideal) ((c.tc : Thread Cert.Kernel3Ideal.nD Cert.Kernel3Ideal.τ).loc Cert.Kernel3Ideal.main_v15_9)) (v10 : (c : Dev Cert.Kernel3Ideal.nD) → Buf (Elt Ideal) ((c.tc : Thread Cert.Kernel3Ideal.nD Cert.Kernel3Ideal.τ).loc Cert.Kernel3Ideal.main_v15_10)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v15_0) = v0 c
          ∧ r.2.mem ((c.tc : Thread Cert.Kernel3Ideal.nD Cert.Kernel3Ideal.τ).loc Cert.Kernel3Ideal.main_v15_1) = v1 c
          ∧ r.2.mem ((c.tc : Thread Cert.Kernel3Ideal.nD Cert.Kernel3Ideal.τ).loc Cert.Kernel3Ideal.main_v15_2) = v2 c
          ∧ r.2.mem ((c.tc : Thread Cert.Kernel3Ideal.nD Cert.Kernel3Ideal.τ).loc Cert.Kernel3Ideal.main_v15_3) = v3 c
          ∧ r.2.mem ((c.tc : Thread Cert.Kernel3Ideal.nD Cert.Kernel3Ideal.τ).loc Cert.Kernel3Ideal.main_v15_4) = v4 c
          ∧ r.2.mem ((c.tc : Thread Cert.Kernel3Ideal.nD Cert.Kernel3Ideal.τ).loc Cert.Kernel3Ideal.main_v15_5) = v5 c
          ∧ r.2.mem ((c.tc : Thread Cert.Kernel3Ideal.nD Cert.Kernel3Ideal.τ).loc Cert.Kernel3Ideal.main_v15_6) = v6 c
          ∧ r.2.mem ((c.tc : Thread Cert.Kernel3Ideal.nD Cert.Kernel3Ideal.τ).loc Cert.Kernel3Ideal.main_v15_7) = v7 c
          ∧ r.2.mem ((c.tc : Thread Cert.Kernel3Ideal.nD Cert.Kernel3Ideal.τ).loc Cert.Kernel3Ideal.main_v15_8) = v8 c
          ∧ r.2.mem ((c.tc : Thread Cert.Kernel3Ideal.nD Cert.Kernel3Ideal.τ).loc Cert.Kernel3Ideal.main_v15_9) = v9 c
          ∧ r.2.mem ((c.tc : Thread Cert.Kernel3Ideal.nD Cert.Kernel3Ideal.τ).loc Cert.Kernel3Ideal.main_v15_10) = v10 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v77) = v0 c
          ∧ r.2.mem ((c.tc : Thread Cert.Reference3Ideal.nD Cert.Reference3Ideal.τ).loc Cert.Reference3Ideal.main_v78) = v1 c
          ∧ r.2.mem ((c.tc : Thread Cert.Reference3Ideal.nD Cert.Reference3Ideal.τ).loc Cert.Reference3Ideal.main_v79) = v2 c
          ∧ r.2.mem ((c.tc : Thread Cert.Reference3Ideal.nD Cert.Reference3Ideal.τ).loc Cert.Reference3Ideal.main_v80) = v3 c
          ∧ r.2.mem ((c.tc : Thread Cert.Reference3Ideal.nD Cert.Reference3Ideal.τ).loc Cert.Reference3Ideal.main_v82) = v4 c
          ∧ r.2.mem ((c.tc : Thread Cert.Reference3Ideal.nD Cert.Reference3Ideal.τ).loc Cert.Reference3Ideal.main_v69) = v5 c
          ∧ r.2.mem ((c.tc : Thread Cert.Reference3Ideal.nD Cert.Reference3Ideal.τ).loc Cert.Reference3Ideal.main_v83) = v6 c
          ∧ r.2.mem ((c.tc : Thread Cert.Reference3Ideal.nD Cert.Reference3Ideal.τ).loc Cert.Reference3Ideal.main_v84) = v7 c
          ∧ r.2.mem ((c.tc : Thread Cert.Reference3Ideal.nD Cert.Reference3Ideal.τ).loc Cert.Reference3Ideal.main_v85) = v8 c
          ∧ r.2.mem ((c.tc : Thread Cert.Reference3Ideal.nD Cert.Reference3Ideal.τ).loc Cert.Reference3Ideal.main_v86) = v9 c
          ∧ r.2.mem ((c.tc : Thread Cert.Reference3Ideal.nD Cert.Reference3Ideal.τ).loc Cert.Reference3Ideal.main_v87) = v10 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)) →
    ∃ (v0 : (c : Dev Cert.Kernel4Ideal.nD) → Buf (Elt Ideal) ((c.tc : Thread Cert.Kernel4Ideal.nD Cert.Kernel4Ideal.τ).loc Cert.Kernel4Ideal.main_v12)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v12) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v60) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9))

def preserves_Kernel5_Kernel5Ideal : Prop :=
  IdealRules.named_const.Statement Cert.Kernel5Ideal.κ "qscale" .f32 0x3E38AA3B#32 (((Real.log 256)⁻¹ : ℝ) : EReal)

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)) →
    ∃ (v0 : (c : Dev Cert.Kernel5Ideal.nD) → Buf (Elt Ideal) ((c.tc : Thread Cert.Kernel5Ideal.nD Cert.Kernel5Ideal.τ).loc Cert.Kernel5Ideal.main_v15_0)) (v1 : (c : Dev Cert.Kernel5Ideal.nD) → Buf (Elt Ideal) ((c.tc : Thread Cert.Kernel5Ideal.nD Cert.Kernel5Ideal.τ).loc Cert.Kernel5Ideal.main_v15_1)) (v2 : (c : Dev Cert.Kernel5Ideal.nD) → Buf (Elt Ideal) ((c.tc : Thread Cert.Kernel5Ideal.nD Cert.Kernel5Ideal.τ).loc Cert.Kernel5Ideal.main_v15_2)) (v3 : (c : Dev Cert.Kernel5Ideal.nD) → Buf (Elt Ideal) ((c.tc : Thread Cert.Kernel5Ideal.nD Cert.Kernel5Ideal.τ).loc Cert.Kernel5Ideal.main_v15_3)) (v4 : (c : Dev Cert.Kernel5Ideal.nD) → Buf (Elt Ideal) ((c.tc : Thread Cert.Kernel5Ideal.nD Cert.Kernel5Ideal.τ).loc Cert.Kernel5Ideal.main_v15_4)) (v5 : (c : Dev Cert.Kernel5Ideal.nD) → Buf (Elt Ideal) ((c.tc : Thread Cert.Kernel5Ideal.nD Cert.Kernel5Ideal.τ).loc Cert.Kernel5Ideal.main_v15_5)) (v6 : (c : Dev Cert.Kernel5Ideal.nD) → Buf (Elt Ideal) ((c.tc : Thread Cert.Kernel5Ideal.nD Cert.Kernel5Ideal.τ).loc Cert.Kernel5Ideal.main_v15_6)) (v7 : (c : Dev Cert.Kernel5Ideal.nD) → Buf (Elt Ideal) ((c.tc : Thread Cert.Kernel5Ideal.nD Cert.Kernel5Ideal.τ).loc Cert.Kernel5Ideal.main_v15_7)) (v8 : (c : Dev Cert.Kernel5Ideal.nD) → Buf (Elt Ideal) ((c.tc : Thread Cert.Kernel5Ideal.nD Cert.Kernel5Ideal.τ).loc Cert.Kernel5Ideal.main_v15_8)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v15_0) = v0 c
          ∧ r.2.mem ((c.tc : Thread Cert.Kernel5Ideal.nD Cert.Kernel5Ideal.τ).loc Cert.Kernel5Ideal.main_v15_1) = v1 c
          ∧ r.2.mem ((c.tc : Thread Cert.Kernel5Ideal.nD Cert.Kernel5Ideal.τ).loc Cert.Kernel5Ideal.main_v15_2) = v2 c
          ∧ r.2.mem ((c.tc : Thread Cert.Kernel5Ideal.nD Cert.Kernel5Ideal.τ).loc Cert.Kernel5Ideal.main_v15_3) = v3 c
          ∧ r.2.mem ((c.tc : Thread Cert.Kernel5Ideal.nD Cert.Kernel5Ideal.τ).loc Cert.Kernel5Ideal.main_v15_4) = v4 c
          ∧ r.2.mem ((c.tc : Thread Cert.Kernel5Ideal.nD Cert.Kernel5Ideal.τ).loc Cert.Kernel5Ideal.main_v15_5) = v5 c
          ∧ r.2.mem ((c.tc : Thread Cert.Kernel5Ideal.nD Cert.Kernel5Ideal.τ).loc Cert.Kernel5Ideal.main_v15_6) = v6 c
          ∧ r.2.mem ((c.tc : Thread Cert.Kernel5Ideal.nD Cert.Kernel5Ideal.τ).loc Cert.Kernel5Ideal.main_v15_7) = v7 c
          ∧ r.2.mem ((c.tc : Thread Cert.Kernel5Ideal.nD Cert.Kernel5Ideal.τ).loc Cert.Kernel5Ideal.main_v15_8) = v8 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v75) = v0 c
          ∧ r.2.mem ((c.tc : Thread Cert.Reference5Ideal.nD Cert.Reference5Ideal.τ).loc Cert.Reference5Ideal.main_v2) = v1 c
          ∧ r.2.mem ((c.tc : Thread Cert.Reference5Ideal.nD Cert.Reference5Ideal.τ).loc Cert.Reference5Ideal.main_v3) = v2 c
          ∧ r.2.mem ((c.tc : Thread Cert.Reference5Ideal.nD Cert.Reference5Ideal.τ).loc Cert.Reference5Ideal.main_v68) = v3 c
          ∧ r.2.mem ((c.tc : Thread Cert.Reference5Ideal.nD Cert.Reference5Ideal.τ).loc Cert.Reference5Ideal.main_v76) = v4 c
          ∧ r.2.mem ((c.tc : Thread Cert.Reference5Ideal.nD Cert.Reference5Ideal.τ).loc Cert.Reference5Ideal.main_v77) = v5 c
          ∧ r.2.mem ((c.tc : Thread Cert.Reference5Ideal.nD Cert.Reference5Ideal.τ).loc Cert.Reference5Ideal.main_v78) = v6 c
          ∧ r.2.mem ((c.tc : Thread Cert.Reference5Ideal.nD Cert.Reference5Ideal.τ).loc Cert.Reference5Ideal.main_v79) = v7 c
          ∧ r.2.mem ((c.tc : Thread Cert.Reference5Ideal.nD Cert.Reference5Ideal.τ).loc Cert.Reference5Ideal.main_v80) = v8 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite_scores.lean ====
abbrev S8x4096x8x64 : Shape := ⟨4, ![8, 4096, 8, 64]⟩
abbrev S8x8x4096 : Shape := ⟨3, ![8, 8, 4096]⟩
abbrev S_ : Shape := ⟨0, ![]⟩

class Facts : Prop where
  bcast_S_S8x4096x8x64 : S_.BroadcastsInDim S8x4096x8x64 (![] : Fin 0 → Fin S8x4096x8x64.rank)
  bcast_S_S8x8x4096 : S_.BroadcastsInDim S8x8x4096 (![] : Fin 0 → Fin S8x8x4096.rank)

variable [Facts]

def fn {F : FTy → Type} [FloatOps F] (main_arg0 : FVec F S8x4096x8x64 .f32) (main_arg1 : FVec F S8x4096x8x64 .f32) (main_arg2 : FVec F S8x4096x8x64 .f32) (main_arg3 : FVec F S8x8x4096 .f32) : IVec S8x4096x8x64 1 × IVec S8x4096x8x64 1 × IVec S8x8x4096 1 :=
  let main_v0 : FVec F S8x4096x8x64 .f32 := Host.absf main_arg0
  let main_cst : FVec F S_ .f32 := constant S_ .f32 0x7F800000#32
  let main_v1 : FVec F S8x4096x8x64 .f32 := broadcastInDim S8x4096x8x64 ![] bcast_S_S8x4096x8x64 main_cst
  let main_v2 : IVec S8x4096x8x64 1 := cmpf .olt main_v0 main_v1
  let main_v3 : FVec F S8x4096x8x64 .f32 := Host.absf main_arg1
  let main_cst_0 : FVec F S_ .f32 := constant S_ .f32 0x7F800000#32
  let main_v4 : FVec F S8x4096x8x64 .f32 := broadcastInDim S8x4096x8x64 ![] bcast_S_S8x4096x8x64 main_cst_0
  let main_v5 : IVec S8x4096x8x64 1 := cmpf .olt main_v3 main_v4
  let main_v6 : FVec F S8x8x4096 .f32 := Host.absf main_arg3
  let main_cst_1 : FVec F S_ .f32 := constant S_ .f32 0x7F800000#32
  let main_v7 : FVec F S8x8x4096 .f32 := broadcastInDim S8x8x4096 ![] bcast_S_S8x8x4096 main_cst_1
  let main_v8 : IVec S8x8x4096 1 := cmpf .olt main_v6 main_v7
  (main_v2, main_v5, main_v8)
-- ==== Kernel.lean ====
abbrev S8x4096x8x64 : Shape := ⟨4, ![8, 4096, 8, 64]⟩
abbrev S8x8x4096 : Shape := ⟨3, ![8, 8, 4096]⟩
abbrev S8x4096x512 : Shape := ⟨3, ![8, 4096, 512]⟩
abbrev S_ : Shape := ⟨0, ![]⟩
abbrev S8x512x4096 : Shape := ⟨3, ![8, 512, 4096]⟩
abbrev S8x4x2x4096 : Shape := ⟨4, ![8, 4, 2, 4096]⟩
abbrev S1x128x512 : Shape := ⟨3, ![1, 128, 512]⟩
abbrev S1x4096x128 : Shape := ⟨3, ![1, 4096, 128]⟩
abbrev S1x128x4096 : Shape := ⟨3, ![1, 128, 4096]⟩
abbrev S1x1x2x4096 : Shape := ⟨4, ![1, 1, 2, 4096]⟩
abbrev S1x512x128 : Shape := ⟨3, ![1, 512, 128]⟩
abbrev S2x4096x128 : Shape := ⟨3, ![2, 4096, 128]⟩
abbrev S2x1x512 : Shape := ⟨3, ![2, 1, 512]⟩
abbrev S2x64x512 : Shape := ⟨3, ![2, 64, 512]⟩
abbrev S1x1x1x128 : Shape := ⟨4, ![1, 1, 1, 128]⟩
abbrev S1x128 : Shape := ⟨2, ![1, 128]⟩
abbrev S128x128 : Shape := ⟨2, ![128, 128]⟩
abbrev S1x128x128 : Shape := ⟨3, ![1, 128, 128]⟩
abbrev S128x512 : Shape := ⟨2, ![128, 512]⟩
abbrev S128x1 : Shape := ⟨2, ![128, 1]⟩
abbrev S512x512 : Shape := ⟨2, ![512, 512]⟩
abbrev S512x128 : Shape := ⟨2, ![512, 128]⟩
abbrev S1x1x512 : Shape := ⟨3, ![1, 1, 512]⟩
abbrev S1x512 : Shape := ⟨2, ![1, 512]⟩
abbrev S512 : Shape := ⟨1, ![512]⟩
abbrev S64x512 : Shape := ⟨2, ![64, 512]⟩
abbrev S1x64x512 : Shape := ⟨3, ![1, 64, 512]⟩

abbrev nBuf : Space → Nat
  | .hbm => 21
  | .vmem => 14
  | .smem => 0
  | _ => 0

abbrev bufTy : (tb : Table) → Fin (tcTables nBuf tb) → BufTy
  | .hbm, ⟨0, _⟩ => ⟨S8x4096x8x64, .f32⟩
  | .hbm, ⟨1, _⟩ => ⟨S8x4096x8x64, .f32⟩
  | .hbm, ⟨2, _⟩ => ⟨S8x4096x8x64, .f32⟩
  | .hbm, ⟨3, _⟩ => ⟨S8x8x4096, .f32⟩
  | .hbm, ⟨4, _⟩ => ⟨S8x4096x512, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S8x4096x512, .f32⟩
  | .hbm, ⟨11, _⟩ => ⟨S8x4096x512, .f32⟩
  | .hbm, ⟨12, _⟩ => ⟨S8x512x4096, .f32⟩
  | .hbm, ⟨13, _⟩ => ⟨S8x512x4096, .bf16⟩
  | .hbm, ⟨14, _⟩ => ⟨S8x4096x512, .f32⟩
  | .hbm, ⟨15, _⟩ => ⟨S8x4096x512, .bf16⟩
  | .hbm, ⟨16, _⟩ => ⟨S8x4096x512, .f32⟩
  | .hbm, ⟨17, _⟩ => ⟨S8x512x4096, .f32⟩
  | .hbm, ⟨18, _⟩ => ⟨S8x512x4096, .bf16⟩
  | .hbm, ⟨19, _⟩ => ⟨S8x4x2x4096, .f32⟩
  | .hbm, ⟨20, _⟩ => ⟨S8x4096x512, .bf16⟩
  | .local _ .vmem, ⟨0, _⟩ => ⟨S1x128x512, .bf16⟩
  | .local _ .vmem, ⟨1, _⟩ => ⟨S1x128x512, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x128x4096, .bf16⟩
  | .local _ .vmem, ⟨5, _⟩ => ⟨S1x128x4096, .bf16⟩
  | .local _ .vmem, ⟨6, _⟩ => ⟨S1x1x2x4096, .f32⟩
  | .local _ .vmem, ⟨7, _⟩ => ⟨S1x1x2x4096, .f32⟩
  | .local _ .vmem, ⟨8, _⟩ => ⟨S1x512x128, .bf16⟩
  | .local _ .vmem, ⟨9, _⟩ => ⟨S1x512x128, .bf16⟩
  | .local _ .vmem, ⟨10, _⟩ => ⟨S2x4096x128, .f32⟩
  | .local _ .vmem, ⟨11, _⟩ => ⟨S2x1x512, .f32⟩
  | .local _ .vmem, ⟨12, _⟩ => ⟨S2x1x512, .f32⟩
  | .local _ .vmem, ⟨13, _⟩ => ⟨S2x64x512, .f32⟩
  | _, _ => ⟨S8x4096x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 4, 8], ![false, false, false]⟩

@[reducible] def k0_t1_loop (i : grid0.Coords) : Scf.Loop 32 :=
  let c0_i32_18 : BitVec 32 := 0#32
  let arg2 : BitVec 32 := BitVec.ofNat 32 (i 2).val
  let v37 : BitVec 32 := Scalar.subi arg2 c0_i32_18
  let c1_i32 : BitVec 32 := 1#32
  let v39 : BitVec 32 := Scalar.divsi v37 c1_i32
  let v40 : BitVec 32 := Scalar.muli v39 c1_i32
  let v41 : BitVec 32 := Scalar.addi c0_i32_18 v40
  let c1_i32_19 : BitVec 32 := 1#32
  ⟨c0_i32_18, v41, c1_i32_19⟩
def k0_mult1 (i : grid0.Coords) (k0_t1 : Fin (k0_t1_loop i).trips) : BitVec 32 :=
  let c0_i32_18 : BitVec 32 := 0#32
  let c1_i32_19 : BitVec 32 := 1#32
  let arg12 : BitVec 32 := Scf.iv c0_i32_18 c1_i32_19 k0_t1
  let c512_i32_89 : BitVec 32 := 512#32
  let v152 : BitVec 32 := Scalar.muli arg12 c512_i32_89
  v152
def k0_off1 (i : grid0.Coords) (k0_t1 : Fin (k0_t1_loop i).trips) : Fin 3 → Nat :=
  let c0_90 : Index := 0#32
  let c0_i32_18 : BitVec 32 := 0#32
  let c1_i32_19 : BitVec 32 := 1#32
  let arg12 : BitVec 32 := Scf.iv c0_i32_18 c1_i32_19 k0_t1
  let c512_i32_89 : BitVec 32 := 512#32
  let v152 : BitVec 32 := Scalar.muli arg12 c512_i32_89
  let v153 : BitVec 32 := v152
  let v154 : Index := Scalar.indexCast v153
  let c0_91 : Index := 0#32
  ![0, v154.toNat, 0]
def k0_off2 (i : grid0.Coords) (k0_t1 : Fin (k0_t1_loop i).trips) : Fin 3 → Nat :=
  let c0_92 : Index := 0#32
  let c0_93 : Index := 0#32
  let c0_i32_18 : BitVec 32 := 0#32
  let c1_i32_19 : BitVec 32 := 1#32
  let arg12 : BitVec 32 := Scf.iv c0_i32_18 c1_i32_19 k0_t1
  let c512_i32_89 : BitVec 32 := 512#32
  let v152 : BitVec 32 := Scalar.muli arg12 c512_i32_89
  let v153 : BitVec 32 := v152
  let v157 : Index := Scalar.indexCast v153
  ![0, 0, v157.toNat]
def k0_off3 (i : grid0.Coords) (k0_t1 : Fin (k0_t1_loop i).trips) : Fin 3 → Nat :=
  let c0_95 : Index := 0#32
  let c0_i32_18 : BitVec 32 := 0#32
  let c1_i32_19 : BitVec 32 := 1#32
  let arg12 : BitVec 32 := Scf.iv c0_i32_18 c1_i32_19 k0_t1
  let c512_i32_89 : BitVec 32 := 512#32
  let v152 : BitVec 32 := Scalar.muli arg12 c512_i32_89
  let v153 : BitVec 32 := v152
  let v161 : Index := Scalar.indexCast v153
  let c0_96 : Index := 0#32
  ![0, v161.toNat, 0]
def k0_off4 (i : grid0.Coords) (k0_t1 : Fin (k0_t1_loop i).trips) : Fin 3 → Nat :=
  let c1_119 : Index := 1#32
  let c0_i32_18 : BitVec 32 := 0#32
  let c1_i32_19 : BitVec 32 := 1#32
  let arg12 : BitVec 32 := Scf.iv c0_i32_18 c1_i32_19 k0_t1
  let c512_i32_89 : BitVec 32 := 512#32
  let v152 : BitVec 32 := Scalar.muli arg12 c512_i32_89
  let v153 : BitVec 32 := v152
  let v200 : Index := Scalar.indexCast v153
  let c0_120 : Index := 0#32
  ![1, v200.toNat, 0]
@[reducible] def k0_t2_loop (i : grid0.Coords) : Scf.Loop 32 :=
  let c0_i32_18 : BitVec 32 := 0#32
  let arg2 : BitVec 32 := BitVec.ofNat 32 (i 2).val
  let v37 : BitVec 32 := Scalar.subi arg2 c0_i32_18
  let c1_i32 : BitVec 32 := 1#32
  let v39 : BitVec 32 := Scalar.divsi v37 c1_i32
  let v40 : BitVec 32 := Scalar.muli v39 c1_i32
  let v41 : BitVec 32 := Scalar.addi c0_i32_18 v40
  let v38 : BitVec 32 := Scalar.addi c0_i32_18 v37
  let c1_i32_20 : BitVec 32 := 1#32
  ⟨v41, v38, c1_i32_20⟩
def k0_mult2 (i : grid0.Coords) (k0_t2 : Fin (k0_t2_loop i).trips) : BitVec 32 :=
  let c0_i32_18 : BitVec 32 := 0#32
  let arg2 : BitVec 32 := BitVec.ofNat 32 (i 2).val
  let v37 : BitVec 32 := Scalar.subi arg2 c0_i32_18
  let c1_i32 : BitVec 32 := 1#32
  let v39 : BitVec 32 := Scalar.divsi v37 c1_i32
  let v40 : BitVec 32 := Scalar.muli v39 c1_i32
  let v41 : BitVec 32 := Scalar.addi c0_i32_18 v40
  let c1_i32_20 : BitVec 32 := 1#32
  let arg12 : BitVec 32 := Scf.iv v41 c1_i32_20 k0_t2
  let c512_i32_89 : BitVec 32 := 512#32
  let v152 : BitVec 32 := Scalar.muli arg12 c512_i32_89
  v152
def k0_off5 (i : grid0.Coords) (k0_t2 : Fin (k0_t2_loop i).trips) : Fin 3 → Nat :=
  let c0_90 : Index := 0#32
  let c0_i32_18 : BitVec 32 := 0#32
  let arg2 : BitVec 32 := BitVec.ofNat 32 (i 2).val
  let v37 : BitVec 32 := Scalar.subi arg2 c0_i32_18
  let c1_i32 : BitVec 32 := 1#32
  let v39 : BitVec 32 := Scalar.divsi v37 c1_i32
  let v40 : BitVec 32 := Scalar.muli v39 c1_i32
  let v41 : BitVec 32 := Scalar.addi c0_i32_18 v40
  let c1_i32_20 : BitVec 32 := 1#32
  let arg12 : BitVec 32 := Scf.iv v41 c1_i32_20 k0_t2
  let c512_i32_89 : BitVec 32 := 512#32
  let v152 : BitVec 32 := Scalar.muli arg12 c512_i32_89
  let v153 : BitVec 32 := v152
  let v154 : Index := Scalar.indexCast v153
  let c0_91 : Index := 0#32
  ![0, v154.toNat, 0]
def k0_off6 (i : grid0.Coords) (k0_t2 : Fin (k0_t2_loop i).trips) : Fin 3 → Nat :=
  let c0_92 : Index := 0#32
  let c0_93 : Index := 0#32
  let c0_i32_18 : BitVec 32 := 0#32
  let arg2 : BitVec 32 := BitVec.ofNat 32 (i 2).val
  let v37 : BitVec 32 := Scalar.subi arg2 c0_i32_18
  let c1_i32 : BitVec 32 := 1#32
  let v39 : BitVec 32 := Scalar.divsi v37 c1_i32
  let v40 : BitVec 32 := Scalar.muli v39 c1_i32
  let v41 : BitVec 32 := Scalar.addi c0_i32_18 v40
  let c1_i32_20 : BitVec 32 := 1#32
  let arg12 : BitVec 32 := Scf.iv v41 c1_i32_20 k0_t2
  let c512_i32_89 : BitVec 32 := 512#32
  let v152 : BitVec 32 := Scalar.muli arg12 c512_i32_89
  let v153 : BitVec 32 := v152
  let v157 : Index := Scalar.indexCast v153
  ![0, 0, v157.toNat]
def k0_off7 (i : grid0.Coords) (k0_t2 : Fin (k0_t2_loop i).trips) : Fin 3 → Nat :=
  let c0_95 : Index := 0#32
  let c0_i32_18 : BitVec 32 := 0#32
  let arg2 : BitVec 32 := BitVec.ofNat 32 (i 2).val
  let v37 : BitVec 32 := Scalar.subi arg2 c0_i32_18
  let c1_i32 : BitVec 32 := 1#32
  let v39 : BitVec 32 := Scalar.divsi v37 c1_i32
  let v40 : BitVec 32 := Scalar.muli v39 c1_i32
  let v41 : BitVec 32 := Scalar.addi c0_i32_18 v40
  let c1_i32_20 : BitVec 32 := 1#32
  let arg12 : BitVec 32 := Scf.iv v41 c1_i32_20 k0_t2
  let c512_i32_89 : BitVec 32 := 512#32
  let v152 : BitVec 32 := Scalar.muli arg12 c512_i32_89
  let v153 : BitVec 32 := v152
  let v161 : Index := Scalar.indexCast v153
  let c0_96 : Index := 0#32
  ![0, v161.toNat, 0]
def k0_off8 (i : grid0.Coords) (k0_t2 : Fin (k0_t2_loop i).trips) : Fin 3 → Nat :=
  let c1_119 : Index := 1#32
  let c0_i32_18 : BitVec 32 := 0#32
  let arg2 : BitVec 32 := BitVec.ofNat 32 (i 2).val
  let v37 : BitVec 32 := Scalar.subi arg2 c0_i32_18
  let c1_i32 : BitVec 32 := 1#32
  let v39 : BitVec 32 := Scalar.divsi v37 c1_i32
  let v40 : BitVec 32 := Scalar.muli v39 c1_i32
  let v41 : BitVec 32 := Scalar.addi c0_i32_18 v40
  let c1_i32_20 : BitVec 32 := 1#32
  let arg12 : BitVec 32 := Scf.iv v41 c1_i32_20 k0_t2
  let c512_i32_89 : BitVec 32 := 512#32
  let v152 : BitVec 32 := Scalar.muli arg12 c512_i32_89
  let v153 : BitVec 32 := v152
  let v200 : Index := Scalar.indexCast v153
  let c0_120 : Index := 0#32
  ![1, v200.toNat, 0]
def k0_mult3 (i : grid0.Coords) : BitVec 32 :=
  let arg2 : BitVec 32 := BitVec.ofNat 32 (i 2).val
  let c512_i32 : BitVec 32 := 512#32
  let v42 : BitVec 32 := Scalar.muli arg2 c512_i32
  v42
def k0_off9 (i : grid0.Coords) : Fin 3 → Nat :=
  let c0_21 : Index := 0#32
  let arg2 : BitVec 32 := BitVec.ofNat 32 (i 2).val
  let c512_i32 : BitVec 32 := 512#32
  let v42 : BitVec 32 := Scalar.muli arg2 c512_i32
  let v43 : BitVec 32 := v42
  let v44 : Index := Scalar.indexCast v43
  let c0_22 : Index := 0#32
  ![0, v44.toNat, 0]
def k0_off10 (i : grid0.Coords) : Fin 3 → Nat :=
  let c0_23 : Index := 0#32
  let c0_24 : Index := 0#32
  let arg2 : BitVec 32 := BitVec.ofNat 32 (i 2).val
  let c512_i32 : BitVec 32 := 512#32
  let v42 : BitVec 32 := Scalar.muli arg2 c512_i32
  let v43 : BitVec 32 := v42
  let v47 : Index := Scalar.indexCast v43
  ![0, 0, v47.toNat]
def k0_off11 (i : grid0.Coords) : Fin 3 → Nat :=
  let c0_26 : Index := 0#32
  let arg2 : BitVec 32 := BitVec.ofNat 32 (i 2).val
  let c512_i32 : BitVec 32 := 512#32
  let v42 : BitVec 32 := Scalar.muli arg2 c512_i32
  let v43 : BitVec 32 := v42
  let v51 : Index := Scalar.indexCast v43
  let c0_27 : Index := 0#32
  ![0, v51.toNat, 0]
def k0_off12 (i : grid0.Coords) : Fin 3 → Nat :=
  let c1 : Index := 1#32
  let arg2 : BitVec 32 := BitVec.ofNat 32 (i 2).val
  let c512_i32 : BitVec 32 := 512#32
  let v42 : BitVec 32 := Scalar.muli arg2 c512_i32
  let v43 : BitVec 32 := v42
  let v93 : Index := Scalar.indexCast v43
  let c0_51 : Index := 0#32
  ![1, v93.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x128x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x2x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S8x4096x8x64 : Shape := ⟨4, ![8, 4096, 8, 64]⟩
abbrev S8x8x4096 : Shape := ⟨3, ![8, 8, 4096]⟩
abbrev S8x8x4096x4096 : Shape := ⟨4, ![8, 8, 4096, 4096]⟩
abbrev S_ : Shape := ⟨0, ![]⟩
abbrev S8x8x4096x1 : Shape := ⟨4, ![8, 8, 4096, 1]⟩
abbrev S8x8x1x4096 : Shape := ⟨4, ![8, 8, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x8x64x4096 : Shape := ⟨4, ![8, 8, 64, 4096]⟩
abbrev S8x4096x512 : Shape := ⟨3, ![8, 4096, 512]⟩

abbrev nBuf : Space → Nat
  | .hbm => 43
  | .vmem => 0
  | .smem => 0
  | _ => 0

abbrev bufTy : (tb : Table) → Fin (tcTables nBuf tb) → BufTy
  | .hbm, ⟨0, _⟩ => ⟨S8x4096x8x64, .f32⟩
  | .hbm, ⟨1, _⟩ => ⟨S8x4096x8x64, .f32⟩
  | .hbm, ⟨2, _⟩ => ⟨S8x4096x8x64, .f32⟩
  | .hbm, ⟨3, _⟩ => ⟨S8x8x4096, .f32⟩
  | .hbm, ⟨4, _⟩ => ⟨S8x8x4096x4096, .f32⟩
  | .hbm, ⟨5, _⟩ => ⟨S_, .f32⟩
  | .hbm, ⟨6, _⟩ => ⟨S8x8x4096x4096, .f32⟩
  | .hbm, ⟨7, _⟩ => ⟨S8x8x4096x4096, .f32⟩
  | .hbm, ⟨8, _⟩ => ⟨S8x8x4096x1, .f32⟩
  | .hbm, ⟨9, _⟩ => ⟨S8x8x4096x4096, .f32⟩
  | .hbm, ⟨10, _⟩ => ⟨S8x8x4096x4096, .f32⟩
  | .hbm, ⟨11, _⟩ => ⟨S8x8x1x4096, .f32⟩
  | .hbm, ⟨12, _⟩ => ⟨S8x8x4096x4096, .f32⟩
  | .hbm, ⟨13, _⟩ => ⟨S8x8x4096x4096, .f32⟩
  | .hbm, ⟨14, _⟩ => ⟨S4096, .i32⟩
  | .hbm, ⟨15, _⟩ => ⟨S1x4096, .i32⟩
  | .hbm, ⟨16, _⟩ => ⟨S4096x1, .i32⟩
  | .hbm, ⟨17, _⟩ => ⟨S4096x4096, .i32⟩
  | .hbm, ⟨18, _⟩ => ⟨S4096x4096, .i32⟩
  | .hbm, ⟨19, _⟩ => ⟨S4096x4096, .i1⟩
  | .hbm, ⟨20, _⟩ => ⟨S_, .f32⟩
  | .hbm, ⟨21, _⟩ => ⟨S_, .f32⟩
  | .hbm, ⟨22, _⟩ => ⟨S8x8x4096x4096, .i1⟩
  | .hbm, ⟨23, _⟩ => ⟨S8x8x4096x4096, .f32⟩
  | .hbm, ⟨24, _⟩ => ⟨S8x8x4096x4096, .f32⟩
  | .hbm, ⟨25, _⟩ => ⟨S_, .f32⟩
  | .hbm, ⟨26, _⟩ => ⟨S8x8x4096, .f32⟩
  | .hbm, ⟨27, _⟩ => ⟨S_, .f32⟩
  | .hbm, ⟨28, _⟩ => ⟨S8x8x4096, .f32⟩
  | .hbm, ⟨29, _⟩ => ⟨S8x8x4096, .f32⟩
  | .hbm, ⟨30, _⟩ => ⟨S8x8x4096x1, .f32⟩
  | .hbm, ⟨31, _⟩ => ⟨S8x8x4096x4096, .f32⟩
  | .hbm, ⟨32, _⟩ => ⟨S8x8x4096x4096, .f32⟩
  | .hbm, ⟨33, _⟩ => ⟨S8x8x4096x4096, .f32⟩
  | .hbm, ⟨34, _⟩ => ⟨S_, .f32⟩
  | .hbm, ⟨35, _⟩ => ⟨S8x8x4096, .f32⟩
  | .hbm, ⟨36, _⟩ => ⟨S8x8x4096x1, .f32⟩
  | .hbm, ⟨37, _⟩ => ⟨S8x8x4096x4096, .f32⟩
  | .hbm, ⟨38, _⟩ => ⟨S8x8x4096x4096, .f32⟩
  | .hbm, ⟨39, _⟩ => ⟨S8x8x64x4096, .f32⟩
  | .hbm, ⟨40, _⟩ => ⟨S8x4096x8x64, .f32⟩
  | .hbm, ⟨41, _⟩ => ⟨S8x4096x512, .f32⟩
  | .hbm, ⟨42, _⟩ => ⟨S8x4096x512, .bf16⟩
  | _, _ => ⟨S8x4096x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩

abbrev nD : Nat := 1
abbrev τ : Topo := Topo.v7x

variable {F : FTy → Type} [FloatOps F]
-- ==== Kernel2.lean ====
abbrev S8x4096x1024 : Shape := ⟨3, ![8, 4096, 1024]⟩
abbrev S8x4096x512 : Shape := ⟨3, ![8, 4096, 512]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S32768x1024 : Shape := ⟨2, ![32768, 1024]⟩
abbrev S32768x512 : Shape := ⟨2, ![32768, 512]⟩
abbrev S1x1024 : Shape := ⟨2, ![1, 1024]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩

abbrev nBuf : Space → Nat
  | .hbm => 23
  | .vmem => 15
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .f32⟩
  | .hbm, ⟨2, _⟩ => ⟨S8x4096x512, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024x4096, .f32⟩
  | .hbm, ⟨7, _⟩ => ⟨S4096x1024, .f32⟩
  | .hbm, ⟨8, _⟩ => ⟨S1024, .f32⟩
  | .hbm, ⟨9, _⟩ => ⟨S1024, .f32⟩
  | .hbm, ⟨10, _⟩ => ⟨S32768x1024, .f32⟩
  | .hbm, ⟨11, _⟩ => ⟨S32768x512, .f32⟩
  | .hbm, ⟨12, _⟩ => ⟨S32768x512, .bf16⟩
  | .hbm, ⟨13, _⟩ => ⟨S32768x512, .f32⟩
  | .hbm, ⟨14, _⟩ => ⟨S32768x512, .bf16⟩
  | .hbm, ⟨15, _⟩ => ⟨S1024x1024, .bf16⟩
  | .hbm, ⟨16, _⟩ => ⟨S1x1024, .f32⟩
  | .hbm, ⟨17, _⟩ => ⟨S1x1024, .f32⟩
  | .hbm, ⟨18, _⟩ => ⟨S1024x4096, .bf16⟩
  | .hbm, ⟨19, _⟩ => ⟨S4096x1024, .bf16⟩
  | .hbm, ⟨20, _⟩ => ⟨S1x1024, .f32⟩
  | .hbm, ⟨21, _⟩ => ⟨S1x1024, .f32⟩
  | .hbm, ⟨22, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1024x1024, .bf16⟩
  | .local _ .vmem, ⟨7, _⟩ => ⟨S1x1024, .f32⟩
  | .local _ .vmem, ⟨8, _⟩ => ⟨S1x1024, .f32⟩
  | .local _ .vmem, ⟨9, _⟩ => ⟨S1024x4096, .bf16⟩
  | .local _ .vmem, ⟨10, _⟩ => ⟨S4096x1024, .bf16⟩
  | .local _ .vmem, ⟨11, _⟩ => ⟨S1x1024, .f32⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4096x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference2Ideal.lean ====
abbrev S8x4096x1024 : Shape := ⟨3, ![8, 4096, 1024]⟩
abbrev S8x4096x512 : Shape := ⟨3, ![8, 4096, 512]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x4096 : Shape := ⟨3, ![8, 4096, 4096]⟩
abbrev S32768x1024 : Shape := ⟨2, ![32768, 1024]⟩

abbrev nBuf : Space → Nat
  | .hbm => 85
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .f32⟩
  | .hbm, ⟨2, _⟩ => ⟨S8x4096x512, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024x4096, .f32⟩
  | .hbm, ⟨7, _⟩ => ⟨S4096x1024, .f32⟩
  | .hbm, ⟨8, _⟩ => ⟨S1024, .f32⟩
  | .hbm, ⟨9, _⟩ => ⟨S1024, .f32⟩
  | .hbm, ⟨10, _⟩ => ⟨S8x4096x1024, .f32⟩
  | .hbm, ⟨11, _⟩ => ⟨S8x4096x1024, .f32⟩
  | .hbm, ⟨12, _⟩ => ⟨S_, .f32⟩
  | .hbm, ⟨13, _⟩ => ⟨S8x4096x1024, .f32⟩
  | .hbm, ⟨14, _⟩ => ⟨S8x4096x1024, .f32⟩
  | .hbm, ⟨15, _⟩ => ⟨S8x4096x1024, .f32⟩
  | .hbm, ⟨16, _⟩ => ⟨S_, .f32⟩
  | .hbm, ⟨17, _⟩ => ⟨S8x4096, .f32⟩
  | .hbm, ⟨18, _⟩ => ⟨S8x4096x1, .f32⟩
  | .hbm, ⟨19, _⟩ => ⟨S_, .f32⟩
  | .hbm, ⟨20, _⟩ => ⟨S8x4096x1, .f32⟩
  | .hbm, ⟨21, _⟩ => ⟨S8x4096x1, .f32⟩
  | .hbm, ⟨22, _⟩ => ⟨S8x4096x1024, .f32⟩
  | .hbm, ⟨23, _⟩ => ⟨S8x4096x1024, .f32⟩
  | .hbm, ⟨24, _⟩ => ⟨S8x4096x1024, .f32⟩
  | .hbm, ⟨25, _⟩ => ⟨S_, .f32⟩
  | .hbm, ⟨26, _⟩ => ⟨S8x4096, .f32⟩
  | .hbm, ⟨27, _⟩ => ⟨S8x4096x1, .f32⟩
  | .hbm, ⟨28, _⟩ => ⟨S_, .f32⟩
  | .hbm, ⟨29, _⟩ => ⟨S8x4096x1, .f32⟩
  | .hbm, ⟨30, _⟩ => ⟨S8x4096x1, .f32⟩
  | .hbm, ⟨31, _⟩ => ⟨S8x4096x1024, .f32⟩
  | .hbm, ⟨32, _⟩ => ⟨S8x4096x1024, .f32⟩
  | .hbm, ⟨33, _⟩ => ⟨S_, .f32⟩
  | .hbm, ⟨34, _⟩ => ⟨S8x4096x1, .f32⟩
  | .hbm, ⟨35, _⟩ => ⟨S8x4096x1, .f32⟩
  | .hbm, ⟨36, _⟩ => ⟨S8x4096x1, .f32⟩
  | .hbm, ⟨37, _⟩ => ⟨S8x4096x1024, .f32⟩
  | .hbm, ⟨38, _⟩ => ⟨S8x4096x1024, .f32⟩
  | .hbm, ⟨39, _⟩ => ⟨S1x1x1024, .f32⟩
  | .hbm, ⟨40, _⟩ => ⟨S8x4096x1024, .f32⟩
  | .hbm, ⟨41, _⟩ => ⟨S8x4096x1024, .f32⟩
  | .hbm, ⟨42, _⟩ => ⟨S1x1x1024, .f32⟩
  | .hbm, ⟨43, _⟩ => ⟨S8x4096x1024, .f32⟩
  | .hbm, ⟨44, _⟩ => ⟨S8x4096x1024, .f32⟩
  | .hbm, ⟨45, _⟩ => ⟨S8x4096x4096, .f32⟩
  | .hbm, ⟨46, _⟩ => ⟨S_, .f32⟩
  | .hbm, ⟨47, _⟩ => ⟨S8x4096x4096, .f32⟩
  | .hbm, ⟨48, _⟩ => ⟨S8x4096x4096, .f32⟩
  | .hbm, ⟨49, _⟩ => ⟨S8x4096x4096, .f32⟩
  | .hbm, ⟨50, _⟩ => ⟨S_, .f32⟩
  | .hbm, ⟨51, _⟩ => ⟨S8x4096x1024, .f32⟩
  | .hbm, ⟨52, _⟩ => ⟨S8x4096x1024, .f32⟩
  | .hbm, ⟨53, _⟩ => ⟨S8x4096x1024, .f32⟩
  | .hbm, ⟨54, _⟩ => ⟨S8x4096x1024, .f32⟩
  | .hbm, ⟨55, _⟩ => ⟨S_, .f32⟩
  | .hbm, ⟨56, _⟩ => ⟨S8x4096, .f32⟩
  | .hbm, ⟨57, _⟩ => ⟨S8x4096x1, .f32⟩
  | .hbm, ⟨58, _⟩ => ⟨S_, .f32⟩
  | .hbm, ⟨59, _⟩ => ⟨S8x4096x1, .f32⟩
  | .hbm, ⟨60, _⟩ => ⟨S8x4096x1, .f32⟩
  | .hbm, ⟨61, _⟩ => ⟨S8x4096x1024, .f32⟩
  | .hbm, ⟨62, _⟩ => ⟨S8x4096x1024, .f32⟩
  | .hbm, ⟨63, _⟩ => ⟨S8x4096x1024, .f32⟩
  | .hbm, ⟨64, _⟩ => ⟨S_, .f32⟩
  | .hbm, ⟨65, _⟩ => ⟨S8x4096, .f32⟩
  | .hbm, ⟨66, _⟩ => ⟨S8x4096x1, .f32⟩
  | .hbm, ⟨67, _⟩ => ⟨S_, .f32⟩
  | .hbm, ⟨68, _⟩ => ⟨S8x4096x1, .f32⟩
  | .hbm, ⟨69, _⟩ => ⟨S8x4096x1, .f32⟩
  | .hbm, ⟨70, _⟩ => ⟨S8x4096x1024, .f32⟩
  | .hbm, ⟨71, _⟩ => ⟨S8x4096x1024, .f32⟩
  | .hbm, ⟨72, _⟩ => ⟨S_, .f32⟩
  | .hbm, ⟨73, _⟩ => ⟨S8x4096x1, .f32⟩
  | .hbm, ⟨74, _⟩ => ⟨S8x4096x1, .f32⟩
  | .hbm, ⟨75, _⟩ => ⟨S8x4096x1, .f32⟩
  | .hbm, ⟨76, _⟩ => ⟨S8x4096x1024, .f32⟩
  | .hbm, ⟨77, _⟩ => ⟨S8x4096x1024, .f32⟩
  | .hbm, ⟨78, _⟩ => ⟨S1x1x1024, .f32⟩
  | .hbm, ⟨79, _⟩ => ⟨S8x4096x1024, .f32⟩
  | .hbm, ⟨80, _⟩ => ⟨S8x4096x1024, .f32⟩
  | .hbm, ⟨81, _⟩ => ⟨S1x1x1024, .f32⟩
  | .hbm, ⟨82, _⟩ => ⟨S8x4096x1024, .f32⟩
  | .hbm, ⟨83, _⟩ => ⟨S8x4096x1024, .f32⟩
  | .hbm, ⟨84, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_2 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_call0_cst : Ref sig .tc := ⟨.hbm, 46, rfl⟩
abbrev main_call0_v0 : Ref sig .tc := ⟨.hbm, 47, rfl⟩
abbrev main_v30 : Ref sig .tc := ⟨.hbm, 48, rfl⟩
abbrev main_v31 : Ref sig .tc := ⟨.hbm, 49, rfl⟩
abbrev main_cst_5 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_6 : Ref sig .tc := ⟨.hbm, 55, rfl⟩
abbrev main_v36 : Ref sig .tc := ⟨.hbm, 56, rfl⟩
abbrev main_v37 : Ref sig .tc := ⟨.hbm, 57, rfl⟩
abbrev main_cst_7 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_8 : Ref sig .tc := ⟨.hbm, 64, rfl⟩
abbrev main_v43 : Ref sig .tc := ⟨.hbm, 65, rfl⟩
abbrev main_v44 : Ref sig .tc := ⟨.hbm, 66, rfl⟩
abbrev main_cst_9 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_10 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩

abbrev nD : Nat := 1
abbrev τ : Topo := Topo.v7x

variable {F : FTy → Type} [FloatOps F]
-- ==== Kernel3.lean ====
abbrev S8x4096x1024 : Shape := ⟨3, ![8, 4096, 1024]⟩
abbrev S1024x3600 : Shape := ⟨2, ![1024, 3600]⟩
abbrev S8 : Shape := ⟨1, ![8]⟩
abbrev S4 : Shape := ⟨1, ![4]⟩
abbrev S512 : Shape := ⟨1, ![512]⟩
abbrev S4x1024 : Shape := ⟨2, ![4, 1024]⟩
abbrev S1024 : Shape := ⟨1, ![1024]⟩
abbrev S1024x8 : Shape := ⟨2, ![1024, 8]⟩
abbrev S_ : Shape := ⟨0, ![]⟩
abbrev S1024x112 : Shape := ⟨2, ![1024, 112]⟩
abbrev S1024x128 : Shape := ⟨2, ![1024, 128]⟩
abbrev S1024x1536 : Shape := ⟨2, ![1024, 1536]⟩
abbrev S1024x512 : Shape := ⟨2, ![1024, 512]⟩
abbrev S1024x3712 : Shape := ⟨2, ![1024, 3712]⟩
abbrev S112 : Shape := ⟨1, ![112]⟩
abbrev S128 : Shape := ⟨1, ![128]⟩
abbrev S1x128 : Shape := ⟨2, ![1, 128]⟩
abbrev S1x512 : Shape := ⟨2, ![1, 512]⟩
abbrev S1x1024 : Shape := ⟨2, ![1, 1024]⟩
abbrev S8x8x1024 : Shape := ⟨3, ![8, 8, 1024]⟩
abbrev S8x512x4096 : Shape := ⟨3, ![8, 512, 4096]⟩
abbrev S8x4096x512 : Shape := ⟨3, ![8, 4096, 512]⟩
abbrev S8x4096x128 : Shape := ⟨3, ![8, 4096, 128]⟩
abbrev S1x512x1024 : Shape := ⟨3, ![1, 512, 1024]⟩
abbrev S1x8x1024 : Shape := ⟨3, ![1, 8, 1024]⟩
abbrev S1x512x512 : Shape := ⟨3, ![1, 512, 512]⟩
abbrev S1x512x128 : Shape := ⟨3, ![1, 512, 128]⟩
abbrev S1x520x1024 : Shape := ⟨3, ![1, 520, 1024]⟩
abbrev S512x1024 : Shape := ⟨2, ![512, 1024]⟩
abbrev S512x512 : Shape := ⟨2, ![512, 512]⟩
abbrev S512x128 : Shape := ⟨2, ![512, 128]⟩
abbrev S1024x1024 : Shape := ⟨2, ![1024, 1024]⟩
abbrev S1x1x1024 : Shape := ⟨3, ![1, 1, 1024]⟩

abbrev nBuf : Space → Nat
  | .hbm => 37
  | .vmem => 32
  | .smem => 0
  | _ => 0

abbrev bufTy : (tb : Table) → Fin (tcTables nBuf tb) → BufTy
  | .hbm, ⟨0, _⟩ => ⟨S8x4096x1024, .f32⟩
  | .hbm, ⟨1, _⟩ => ⟨S1024x3600, .f32⟩
  | .hbm, ⟨2, _⟩ => ⟨S8, .f32⟩
  | .hbm, ⟨3, _⟩ => ⟨S4, .f32⟩
  | .hbm, ⟨4, _⟩ => ⟨S4, .f32⟩
  | .hbm, ⟨5, _⟩ => ⟨S512, .f32⟩
  | .hbm, ⟨6, _⟩ => ⟨S4x1024, .f32⟩
  | .hbm, ⟨7, _⟩ => ⟨S1024, .f32⟩
  | .hbm, ⟨8, _⟩ => ⟨S1024x8, .f32⟩
  | .hbm, ⟨9, _⟩ => ⟨S1024x8, .f32⟩
  | .hbm, ⟨10, _⟩ => ⟨S_, .f32⟩
  | .hbm, ⟨11, _⟩ => ⟨S1024x112, .f32⟩
  | .hbm, ⟨12, _⟩ => ⟨S1024x128, .f32⟩
  | .hbm, ⟨13, _⟩ => ⟨S1024x1536, .f32⟩
  | .hbm, ⟨14, _⟩ => ⟨S1024x1536, .f32⟩
  | .hbm, ⟨15, _⟩ => ⟨S1024x512, .f32⟩
  | .hbm, ⟨16, _⟩ => ⟨S1024x3712, .f32⟩
  | .hbm, ⟨17, _⟩ => ⟨S1024x3712, .bf16⟩
  | .hbm, ⟨18, _⟩ => ⟨S_, .f32⟩
  | .hbm, ⟨19, _⟩ => ⟨S112, .f32⟩
  | .hbm, ⟨20, _⟩ => ⟨S128, .f32⟩
  | .hbm, ⟨21, _⟩ => ⟨S1x128, .f32⟩
  | .hbm, ⟨22, _⟩ => ⟨S1x512, .f32⟩
  | .hbm, ⟨23, _⟩ => ⟨S1x1024, .f32⟩
  | .hbm, ⟨24, _⟩ => ⟨S_, .f32⟩
  | .hbm, ⟨25, _⟩ => ⟨S8x8x1024, .f32⟩
  | .hbm, ⟨26, _⟩ => ⟨S8x512x4096, .bf16⟩
  | .hbm, ⟨27, _⟩ => ⟨S8x4096x512, .bf16⟩
  | .hbm, ⟨28, _⟩ => ⟨S8x512x4096, .f32⟩
  | .hbm, ⟨29, _⟩ => ⟨S8x512x4096, .f32⟩
  | .hbm, ⟨30, _⟩ => ⟨S8x512x4096, .bf16⟩
  | .hbm, ⟨31, _⟩ => ⟨S8x4096x128, .f32⟩
  | .hbm, ⟨32, _⟩ => ⟨S8x4096x512, .bf16⟩
  | .hbm, ⟨33, _⟩ => ⟨S8x4096x512, .bf16⟩
  | .hbm, ⟨34, _⟩ => ⟨S8x4096x512, .bf16⟩
  | .hbm, ⟨35, _⟩ => ⟨S8x4096x512, .bf16⟩
  | .hbm, ⟨36, _⟩ => ⟨S8x8x1024, .f32⟩
  | .local _ .vmem, ⟨0, _⟩ => ⟨S1x512x1024, .f32⟩
  | .local _ .vmem, ⟨1, _⟩ => ⟨S1x512x1024, .f32⟩
  | .local _ .vmem, ⟨2, _⟩ => ⟨S1024x3712, .bf16⟩
  | .local _ .vmem, ⟨3, _⟩ => ⟨S1x128, .f32⟩
  | .local _ .vmem, ⟨4, _⟩ => ⟨S1x512, .f32⟩
  | .local _ .vmem, ⟨5, _⟩ => ⟨S4x1024, .f32⟩
  | .local _ .vmem, ⟨6, _⟩ => ⟨S1x1024, .f32⟩
  | .local _ .vmem, ⟨7, _⟩ => ⟨S1x8x1024, .f32⟩
  | .local _ .vmem, ⟨8, _⟩ => ⟨S1x8x1024, .f32⟩
  | .local _ .vmem, ⟨9, _⟩ => ⟨S1x512x512, .bf16⟩
  | .local _ .vmem, ⟨10, _⟩ => ⟨S1x512x512, .bf16⟩
  | .local _ .vmem, ⟨11, _⟩ => ⟨S1x512x512, .bf16⟩
  | .local _ .vmem, ⟨12, _⟩ => ⟨S1x512x512, .bf16⟩
  | .local _ .vmem, ⟨13, _⟩ => ⟨S1x512x512, .f32⟩
  | .local _ .vmem, ⟨14, _⟩ => ⟨S1x512x512, .f32⟩
  | .local _ .vmem, ⟨15, _⟩ => ⟨S1x512x512, .f32⟩
  | .local _ .vmem, ⟨16, _⟩ => ⟨S1x512x512, .f32⟩
  | .local _ .vmem, ⟨17, _⟩ => ⟨S1x512x512, .bf16⟩
  | .local _ .vmem, ⟨18, _⟩ => ⟨S1x512x512, .bf16⟩
  | .local _ .vmem, ⟨19, _⟩ => ⟨S1x512x128, .f32⟩
  | .local _ .vmem, ⟨20, _⟩ => ⟨S1x512x128, .f32⟩
  | .local _ .vmem, ⟨21, _⟩ => ⟨S1x512x512, .bf16⟩
  | .local _ .vmem, ⟨22, _⟩ => ⟨S1x512x512, .bf16⟩
  | .local _ .vmem, ⟨23, _⟩ => ⟨S1x512x512, .bf16⟩
  | .local _ .vmem, ⟨24, _⟩ => ⟨S1x512x512, .bf16⟩
  | .local _ .vmem, ⟨25, _⟩ => ⟨S1x512x512, .bf16⟩
  | .local _ .vmem, ⟨26, _⟩ => ⟨S1x512x512, .bf16⟩
  | .local _ .vmem, ⟨27, _⟩ => ⟨S1x512x512, .bf16⟩
  | .local _ .vmem, ⟨28, _⟩ => ⟨S1x512x512, .bf16⟩
  | .local _ .vmem, ⟨29, _⟩ => ⟨S1x8x1024, .f32⟩
  | .local _ .vmem, ⟨30, _⟩ => ⟨S1x8x1024, .f32⟩
  | .local _ .vmem, ⟨31, _⟩ => ⟨S1x520x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15_0 : Ref sig .tc := ⟨.hbm, 26, rfl⟩
abbrev main_v15_1 : Ref sig .tc := ⟨.hbm, 27, rfl⟩
abbrev main_v15_2 : Ref sig .tc := ⟨.hbm, 28, rfl⟩
abbrev main_v15_3 : Ref sig .tc := ⟨.hbm, 29, rfl⟩
abbrev main_v15_4 : Ref sig .tc := ⟨.hbm, 30, rfl⟩
abbrev main_v15_5 : Ref sig .tc := ⟨.hbm, 31, rfl⟩
abbrev main_v15_6 : Ref sig .tc := ⟨.hbm, 32, rfl⟩
abbrev main_v15_7 : Ref sig .tc := ⟨.hbm, 33, rfl⟩
abbrev main_v15_8 : Ref sig .tc := ⟨.hbm, 34, rfl⟩
abbrev main_v15_9 : Ref sig .tc := ⟨.hbm, 35, rfl⟩
abbrev main_v15_10 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_scratch0 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x3712 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x8x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]
-- ==== Kernel3Ideal.lean ====
variable {F : FTy → Type} [FloatOps F] [Named F]
def κ : String → Option EReal := fun
  | "qscale" => some (((Real.log 256)⁻¹ : ℝ) : EReal)
  | _ => none
-- ==== Reference3Ideal.lean ====
abbrev S8x4096x1024 : Shape := ⟨3, ![8, 4096, 1024]⟩
abbrev S1024x3600 : Shape := ⟨2, ![1024, 3600]⟩
abbrev S8 : Shape := ⟨1, ![8]⟩
abbrev S4 : Shape := ⟨1, ![4]⟩
abbrev S512 : Shape := ⟨1, ![512]⟩
abbrev S4x1024 : Shape := ⟨2, ![4, 1024]⟩
abbrev S1024 : Shape := ⟨1, ![1024]⟩
abbrev S8x4096x3600 : Shape := ⟨3, ![8, 4096, 3600]⟩
abbrev S8x4096x512 : Shape := ⟨3, ![8, 4096, 512]⟩
abbrev S8x4096x8 : Shape := ⟨3, ![8, 4096, 8]⟩
abbrev S1x1x8 : Shape := ⟨3, ![1, 1, 8]⟩
abbrev S_ : Shape := ⟨0, ![]⟩
abbrev S8x3x1024 : Shape := ⟨3, ![8, 3, 1024]⟩
abbrev S8x4099x1024 : Shape := ⟨3, ![8, 4099, 1024]⟩
abbrev S1x1024 : Shape := ⟨2, ![1, 1024]⟩
abbrev S1x1x1024 : Shape := ⟨3, ![1, 1, 1024]⟩
abbrev S8x4096x4 : Shape := ⟨3, ![8, 4096, 4]⟩
abbrev S1x1x4 : Shape := ⟨3, ![1, 1, 4]⟩
abbrev S1x1x512 : Shape := ⟨3, ![1, 1, 512]⟩
abbrev S8x4096x112 : Shape := ⟨3, ![8, 4096, 112]⟩
abbrev S8x4096x128 : Shape := ⟨3, ![8, 4096, 128]⟩
abbrev S8x512x4096 : Shape := ⟨3, ![8, 512, 4096]⟩
abbrev S8x8x1024 : Shape := ⟨3, ![8, 8, 1024]⟩

abbrev nBuf : Space → Nat
  | .hbm => 156
  | .vmem => 0
  | .smem => 0
  | _ => 0

abbrev hbmTy0_0 (i : Nat) : BufTy := match i % 128 with
  | 0 => ⟨S8x4096x1024, .f32⟩
  | 1 => ⟨S1024x3600, .f32⟩
  | 2 => ⟨S8, .f32⟩
  | 3 => ⟨S4, .f32⟩
  | 4 => ⟨S4, .f32⟩
  | 5 => ⟨S512, .f32⟩
  | 6 => ⟨S4x1024, .f32⟩
  | 7 => ⟨S1024, .f32⟩
  | 8 => ⟨S8x4096x3600, .f32⟩
  | 9 => ⟨S8x4096x512, .f32⟩
  | 10 => ⟨S8x4096x512, .f32⟩
  | 11 => ⟨S8x4096x512, .f32⟩
  | 12 => ⟨S8x4096x8, .f32⟩
  | 13 => ⟨S1x1x8, .f32⟩
  | 14 => ⟨S8x4096x8, .f32⟩
  | 15 => ⟨S8x4096x8, .f32⟩
  | 16 => ⟨S8x4096x8, .f32⟩
  | 17 => ⟨S_, .f32⟩
  | 18 => ⟨S8x4096x8, .f32⟩
  | 19 => ⟨S8x4096x8, .f32⟩
  | 20 => ⟨S8x4096x8, .f32⟩
  | 21 => ⟨S8x4096x8, .f32⟩
  | 22 => ⟨S8x4096x8, .i1⟩
  | 23 => ⟨S8x4096x8, .f32⟩
  | 24 => ⟨S8x4096x8, .f32⟩
  | 25 => ⟨S8x4096x8, .f32⟩
  | 26 => ⟨S8x4096x8, .f32⟩
  | 27 => ⟨S8x4096x8, .f32⟩
  | 28 => ⟨S8x4096x8, .f32⟩
  | 29 => ⟨S8x4096x8, .f32⟩
  | 30 => ⟨S8x4096x8, .f32⟩
  | 31 => ⟨S8x4096x8, .f32⟩
  | 32 => ⟨S8x4096x1024, .f32⟩
  | 33 => ⟨S_, .f32⟩
  | 34 => ⟨S8x3x1024, .f32⟩
  | 35 => ⟨S8x4099x1024, .f32⟩
  | 36 => ⟨S8x4096x1024, .f32⟩
  | 37 => ⟨S1x1024, .f32⟩
  | 38 => ⟨S1024, .f32⟩
  | 39 => ⟨S1x1x1024, .f32⟩
  | 40 => ⟨S8x4096x1024, .f32⟩
  | 41 => ⟨S8x4096x1024, .f32⟩
  | 42 => ⟨S1x1x1024, .f32⟩
  | 43 => ⟨S8x4096x1024, .f32⟩
  | 44 => ⟨S8x4096x1024, .f32⟩
  | 45 => ⟨S8x4096x1024, .f32⟩
  | 46 => ⟨S1x1024, .f32⟩
  | 47 => ⟨S1024, .f32⟩
  | 48 => ⟨S1x1x1024, .f32⟩
  | 49 => ⟨S8x4096x1024, .f32⟩
  | 50 => ⟨S8x4096x1024, .f32⟩
  | 51 => ⟨S8x4096x1024, .f32⟩
  | 52 => ⟨S8x4096x1024, .f32⟩
  | 53 => ⟨S1x1024, .f32⟩
  | 54 => ⟨S1024, .f32⟩
  | 55 => ⟨S1x1x1024, .f32⟩
  | 56 => ⟨S8x4096x1024, .f32⟩
  | 57 => ⟨S8x4096x1024, .f32⟩
  | 58 => ⟨S8x4096x1024, .f32⟩
  | 59 => ⟨S8x4096x1024, .f32⟩
  | 60 => ⟨S1x1024, .f32⟩
  | 61 => ⟨S1024, .f32⟩
  | 62 => ⟨S1x1x1024, .f32⟩
  | 63 => ⟨S8x4096x1024, .f32⟩
  | 64 => ⟨S8x4096x1024, .f32⟩
  | 65 => ⟨S8x4096x1024, .f32⟩
  | 66 => ⟨S8x4096x1024, .f32⟩
  | 67 => ⟨S8x4096x1024, .f32⟩
  | 68 => ⟨S_, .f32⟩
  | 69 => ⟨S8x4096x1024, .f32⟩
  | 70 => ⟨S8x4096x1024, .f32⟩
  | 71 => ⟨S_, .f32⟩
  | 72 => ⟨S8x4096x1024, .f32⟩
  | 73 => ⟨S8x4096x1024, .f32⟩
  | 74 => ⟨S8x4096x1024, .f32⟩
  | 75 => ⟨S8x4096x512, .f32⟩
  | 76 => ⟨S8x4096x512, .f32⟩
  | 77 => ⟨S_, .f32⟩
  | 78 => ⟨S8x4096x512, .f32⟩
  | 79 => ⟨S8x4096x512, .f32⟩
  | 80 => ⟨S8x4096x512, .f32⟩
  | 81 => ⟨S8x4096x4, .f32⟩
  | 82 => ⟨S1x1x4, .f32⟩
  | 83 => ⟨S8x4096x4, .f32⟩
  | 84 => ⟨S8x4096x4, .f32⟩
  | 85 => ⟨S8x4096x4, .f32⟩
  | 86 => ⟨S1x1x4, .f32⟩
  | 87 => ⟨S8x4096x4, .f32⟩
  | 88 => ⟨S8x4096x4, .f32⟩
  | 89 => ⟨S8x4096x4, .f32⟩
  | 90 => ⟨S_, .f32⟩
  | 91 => ⟨S8x4096x4, .f32⟩
  | 92 => ⟨S8x4096x4, .f32⟩
  | 93 => ⟨S8x4096x4, .f32⟩
  | 94 => ⟨S8x4096x4, .f32⟩
  | 95 => ⟨S8x4096x4, .i1⟩
  | 96 => ⟨S8x4096x4, .f32⟩
  | 97 => ⟨S8x4096x4, .f32⟩
  | 98 => ⟨S8x4096x4, .f32⟩
  | 99 => ⟨S8x4096x4, .f32⟩
  | 100 => ⟨S8x4096x4, .f32⟩
  | 101 => ⟨S8x4096x4, .f32⟩
  | 102 => ⟨S8x4096x4, .f32⟩
  | 103 => ⟨S8x4096x4, .f32⟩
  | 104 => ⟨S8x4096x4, .f32⟩
  | 105 => ⟨S8x4096x512, .f32⟩
  | 106 => ⟨S1x1x512, .f32⟩
  | 107 => ⟨S8x4096x512, .f32⟩
  | 108 => ⟨S8x4096x512, .f32⟩
  | 109 => ⟨S8x4096x512, .f32⟩
  | 110 => ⟨S8x4096x512, .f32⟩
  | 111 => ⟨S_, .f32⟩
  | 112 => ⟨S8x4096x512, .f32⟩
  | 113 => ⟨S8x4096x512, .f32⟩
  | 114 => ⟨S_, .f32⟩
  | 115 => ⟨S8x4096x512, .f32⟩
  | 116 => ⟨S8x4096x512, .f32⟩
  | 117 => ⟨S_, .f32⟩
  | 118 => ⟨S8x4096x112, .f32⟩
  | 119 => ⟨S8x4096x112, .f32⟩
  | 120 => ⟨S_, .f32⟩
  | 121 => ⟨S8x4096x112, .f32⟩
  | 122 => ⟨S8x4096x112, .f32⟩
  | 123 => ⟨S8x4096x112, .f32⟩
  | 124 => ⟨S8x4096x112, .f32⟩
  | 125 => ⟨S8x4096x112, .i1⟩
  | 126 => ⟨S8x4096x112, .f32⟩
  | 127 => ⟨S8x4096x112, .f32⟩
  | _ => ⟨S8x4096x1024, .f32⟩

abbrev hbmTy0_1 (i : Nat) : BufTy := match i % 128 with
  | 0 => ⟨S8x4096x112, .f32⟩
  | 1 => ⟨S8x4096x112, .f32⟩
  | 2 => ⟨S8x4096x112, .f32⟩
  | 3 => ⟨S8x4096x112, .f32⟩
  | 4 => ⟨S8x4096x112, .f32⟩
  | 5 => ⟨S8x4096x112, .f32⟩
  | 6 => ⟨S8x4096x112, .f32⟩
  | 7 => ⟨S8x4096x128, .f32⟩
  | 8 => ⟨S_, .f32⟩
  | 9 => ⟨S8x4096x512, .f32⟩
  | 10 => ⟨S8x4096x512, .f32⟩
  | 11 => ⟨S_, .f32⟩
  | 12 => ⟨S_, .f32⟩
  | 13 => ⟨S_, .f32⟩
  | 14 => ⟨S8x4096x512, .f32⟩
  | 15 => ⟨S8x4096x512, .f32⟩
  | 16 => ⟨S8x512x4096, .f32⟩
  | 17 => ⟨S8x512x4096, .bf16⟩
  | 18 => ⟨S8x4096x512, .bf16⟩
  | 19 => ⟨S8x512x4096, .f32⟩
  | 20 => ⟨S8x512x4096, .f32⟩
  | 21 => ⟨S8x512x4096, .f32⟩
  | 22 => ⟨S8x512x4096, .bf16⟩
  | 23 => ⟨S8x4096x512, .bf16⟩
  | 24 => ⟨S8x4096x512, .bf16⟩
  | 25 => ⟨S8x4096x512, .bf16⟩
  | 26 => ⟨S8x4096x512, .bf16⟩
  | 27 => ⟨S8x8x1024, .f32⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_call0_v0 : Ref sig .tc := ⟨.hbm, 16, rfl⟩
abbrev main_call0_call0_cst : Ref sig .tc := ⟨.hbm, 17, rfl⟩
abbrev main_call0_call0_v0 : Ref sig .tc := ⟨.hbm, 18, rfl⟩
abbrev main_call0_call0_v1 : Ref sig .tc := ⟨.hbm, 19, rfl⟩
abbrev main_call0_call0_v2 : Ref sig .tc := ⟨.hbm, 20, rfl⟩
abbrev main_call0_call0_v3 : Ref sig .tc := ⟨.hbm, 21, rfl⟩
abbrev main_call0_call0_v4 : Ref sig .tc := ⟨.hbm, 22, rfl⟩
abbrev main_call0_call0_v5 : Ref sig .tc := ⟨.hbm, 23, rfl⟩
abbrev main_call0_call0_v6 : Ref sig .tc := ⟨.hbm, 24, rfl⟩
abbrev main_call0_call0_v7 : Ref sig .tc := ⟨.hbm, 25, rfl⟩
abbrev main_call0_call0_v8 : Ref sig .tc := ⟨.hbm, 26, rfl⟩
abbrev main_call0_call0_v9 : Ref sig .tc := ⟨.hbm, 27, rfl⟩
abbrev main_call0_call0_v10 : Ref sig .tc := ⟨.hbm, 28, rfl⟩
abbrev main_call0_call0_v11 : Ref sig .tc := ⟨.hbm, 29, rfl⟩
abbrev main_call0_v1 : Ref sig .tc := ⟨.hbm, 30, rfl⟩
abbrev main_v8 : Ref sig .tc := ⟨.hbm, 31, rfl⟩
abbrev main_v9 : Ref sig .tc := ⟨.hbm, 32, rfl⟩
abbrev main_cst : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_call1_v0 : Ref sig .tc := ⟨.hbm, 66, rfl⟩
abbrev main_call1_v1 : Ref sig .tc := ⟨.hbm, 67, rfl⟩
abbrev main_call1_cst : Ref sig .tc := ⟨.hbm, 68, rfl⟩
abbrev main_call1_v2 : Ref sig .tc := ⟨.hbm, 69, rfl⟩
abbrev main_call1_v3 : Ref sig .tc := ⟨.hbm, 70, rfl⟩
abbrev main_call1_cst_0 : Ref sig .tc := ⟨.hbm, 71, rfl⟩
abbrev main_call1_v4 : Ref sig .tc := ⟨.hbm, 72, rfl⟩
abbrev main_call1_v5 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_cst_0 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_call2_v0 : Ref sig .tc := ⟨.hbm, 89, rfl⟩
abbrev main_call2_call0_cst : Ref sig .tc := ⟨.hbm, 90, rfl⟩
abbrev main_call2_call0_v0 : Ref sig .tc := ⟨.hbm, 91, rfl⟩
abbrev main_call2_call0_v1 : Ref sig .tc := ⟨.hbm, 92, rfl⟩
abbrev main_call2_call0_v2 : Ref sig .tc := ⟨.hbm, 93, rfl⟩
abbrev main_call2_call0_v3 : Ref sig .tc := ⟨.hbm, 94, rfl⟩
abbrev main_call2_call0_v4 : Ref sig .tc := ⟨.hbm, 95, rfl⟩
abbrev main_call2_call0_v5 : Ref sig .tc := ⟨.hbm, 96, rfl⟩
abbrev main_call2_call0_v6 : Ref sig .tc := ⟨.hbm, 97, rfl⟩
abbrev main_call2_call0_v7 : Ref sig .tc := ⟨.hbm, 98, rfl⟩
abbrev main_call2_call0_v8 : Ref sig .tc := ⟨.hbm, 99, rfl⟩
abbrev main_call2_call0_v9 : Ref sig .tc := ⟨.hbm, 100, rfl⟩
abbrev main_call2_call0_v10 : Ref sig .tc := ⟨.hbm, 101, rfl⟩
abbrev main_call2_call0_v11 : Ref sig .tc := ⟨.hbm, 102, rfl⟩
abbrev main_call2_v1 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_cst_1 : Ref sig .tc := ⟨.hbm, 111, rfl⟩
abbrev main_v63 : Ref sig .tc := ⟨.hbm, 112, rfl⟩
abbrev main_v64 : Ref sig .tc := ⟨.hbm, 113, rfl⟩
abbrev main_cst_2 : Ref sig .tc := ⟨.hbm, 114, rfl⟩
abbrev main_v65 : Ref sig .tc := ⟨.hbm, 115, rfl⟩
abbrev main_v66 : Ref sig .tc := ⟨.hbm, 116, rfl⟩
abbrev main_cst_3 : Ref sig .tc := ⟨.hbm, 117, rfl⟩
abbrev main_v67 : Ref sig .tc := ⟨.hbm, 118, rfl⟩
abbrev main_call3_v0 : Ref sig .tc := ⟨.hbm, 119, rfl⟩
abbrev main_call3_call0_cst : Ref sig .tc := ⟨.hbm, 120, rfl⟩
abbrev main_call3_call0_v0 : Ref sig .tc := ⟨.hbm, 121, rfl⟩
abbrev main_call3_call0_v1 : Ref sig .tc := ⟨.hbm, 122, rfl⟩
abbrev main_call3_call0_v2 : Ref sig .tc := ⟨.hbm, 123, rfl⟩
abbrev main_call3_call0_v3 : Ref sig .tc := ⟨.hbm, 124, rfl⟩
abbrev main_call3_call0_v4 : Ref sig .tc := ⟨.hbm, 125, rfl⟩
abbrev main_call3_call0_v5 : Ref sig .tc := ⟨.hbm, 126, rfl⟩
abbrev main_call3_call0_v6 : Ref sig .tc := ⟨.hbm, 127, rfl⟩
abbrev main_call3_call0_v7 : Ref sig .tc := ⟨.hbm, 128, rfl⟩
abbrev main_call3_call0_v8 : Ref sig .tc := ⟨.hbm, 129, rfl⟩
abbrev main_call3_call0_v9 : Ref sig .tc := ⟨.hbm, 130, rfl⟩
abbrev main_call3_call0_v10 : Ref sig .tc := ⟨.hbm, 131, rfl⟩
abbrev main_call3_call0_v11 : Ref sig .tc := ⟨.hbm, 132, rfl⟩
abbrev main_call3_v1 : Ref sig .tc := ⟨.hbm, 133, rfl⟩
abbrev main_v68 : Ref sig .tc := ⟨.hbm, 134, rfl⟩
abbrev main_v69 : Ref sig .tc := ⟨.hbm, 135, rfl⟩
abbrev main_cst_4 : Ref sig .tc := ⟨.hbm, 136, rfl⟩
abbrev main_v70 : Ref sig .tc := ⟨.hbm, 137, rfl⟩
abbrev main_v71 : Ref sig .tc := ⟨.hbm, 138, rfl⟩
abbrev main_cst_5 : Ref sig .tc := ⟨.hbm, 139, rfl⟩
abbrev main_v72 : Ref sig .tc := ⟨.hbm, 140, rfl⟩
abbrev main_v73 : Ref sig .tc := ⟨.hbm, 141, rfl⟩
abbrev main_v74 : Ref sig .tc := ⟨.hbm, 142, rfl⟩
abbrev main_v75 : Ref sig .tc := ⟨.hbm, 143, rfl⟩
abbrev main_v76 : Ref sig .tc := ⟨.hbm, 144, rfl⟩
abbrev main_v77 : Ref sig .tc := ⟨.hbm, 145, rfl⟩
abbrev main_v78 : Ref sig .tc := ⟨.hbm, 146, rfl⟩
abbrev main_v79 : Ref sig .tc := ⟨.hbm, 147, rfl⟩
abbrev main_v80 : Ref sig .tc := ⟨.hbm, 148, rfl⟩
abbrev main_v81 : Ref sig .tc := ⟨.hbm, 149, rfl⟩
abbrev main_v82 : Ref sig .tc := ⟨.hbm, 150, rfl⟩
abbrev main_v83 : Ref sig .tc := ⟨.hbm, 151, rfl⟩
abbrev main_v84 : Ref sig .tc := ⟨.hbm, 152, rfl⟩
abbrev main_v85 : Ref sig .tc := ⟨.hbm, 153, rfl⟩
abbrev main_v86 : Ref sig .tc := ⟨.hbm, 154, rfl⟩
abbrev main_v87 : Ref sig .tc := ⟨.hbm, 155, rfl⟩

abbrev nD : Nat := 1
abbrev τ : Topo := Topo.v7x

variable {F : FTy → Type} [FloatOps F]
-- ==== Kernel4.lean ====
abbrev S32x8x1024 : Shape := ⟨3, ![32, 8, 1024]⟩
abbrev S32x8x512 : Shape := ⟨3, ![32, 8, 512]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S256x1024 : Shape := ⟨2, ![256, 1024]⟩
abbrev S256x512 : Shape := ⟨2, ![256, 512]⟩
abbrev S1x1024 : Shape := ⟨2, ![1, 1024]⟩
abbrev S512x1024 : Shape := ⟨2, ![512, 1024]⟩
abbrev S256 : Shape := ⟨1, ![256]⟩
abbrev S256x1 : Shape := ⟨2, ![256, 1]⟩

abbrev nBuf : Space → Nat
  | .hbm => 23
  | .vmem => 11
  | .smem => 0
  | _ => 0

abbrev bufTy : (tb : Table) → Fin (tcTables nBuf tb) → BufTy
  | .hbm, ⟨0, _⟩ => ⟨S32x8x1024, .f32⟩
  | .hbm, ⟨1, _⟩ => ⟨S32x8x512, .f32⟩
  | .hbm, ⟨2, _⟩ => ⟨S32x8x512, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024x4096, .f32⟩
  | .hbm, ⟨7, _⟩ => ⟨S4096x1024, .f32⟩
  | .hbm, ⟨8, _⟩ => ⟨S1024, .f32⟩
  | .hbm, ⟨9, _⟩ => ⟨S1024, .f32⟩
  | .hbm, ⟨10, _⟩ => ⟨S256x1024, .f32⟩
  | .hbm, ⟨11, _⟩ => ⟨S256x512, .f32⟩
  | .hbm, ⟨12, _⟩ => ⟨S256x512, .bf16⟩
  | .hbm, ⟨13, _⟩ => ⟨S256x512, .f32⟩
  | .hbm, ⟨14, _⟩ => ⟨S256x512, .bf16⟩
  | .hbm, ⟨15, _⟩ => ⟨S1024x1024, .bf16⟩
  | .hbm, ⟨16, _⟩ => ⟨S1x1024, .f32⟩
  | .hbm, ⟨17, _⟩ => ⟨S1x1024, .f32⟩
  | .hbm, ⟨18, _⟩ => ⟨S1024x4096, .bf16⟩
  | .hbm, ⟨19, _⟩ => ⟨S4096x1024, .bf16⟩
  | .hbm, ⟨20, _⟩ => ⟨S1x1024, .f32⟩
  | .hbm, ⟨21, _⟩ => ⟨S1x1024, .f32⟩
  | .hbm, ⟨22, _⟩ => ⟨S256x1024, .f32⟩
  | .local _ .vmem, ⟨0, _⟩ => ⟨S256x1024, .f32⟩
  | .local _ .vmem, ⟨1, _⟩ => ⟨S256x512, .bf16⟩
  | .local _ .vmem, ⟨2, _⟩ => ⟨S256x512, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1024x4096, .bf16⟩
  | .local _ .vmem, ⟨7, _⟩ => ⟨S4096x1024, .bf16⟩
  | .local _ .vmem, ⟨8, _⟩ => ⟨S1x1024, .f32⟩
  | .local _ .vmem, ⟨9, _⟩ => ⟨S1x1024, .f32⟩
  | .local _ .vmem, ⟨10, _⟩ => ⟨S256x1024, .f32⟩
  | _, _ => ⟨S32x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4096x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]
-- ==== Reference4Ideal.lean ====
abbrev S32x8x1024 : Shape := ⟨3, ![32, 8, 1024]⟩
abbrev S32x8x512 : Shape := ⟨3, ![32, 8, 512]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S32x8 : Shape := ⟨2, ![32, 8]⟩
abbrev S32x8x1 : Shape := ⟨3, ![32, 8, 1]⟩
abbrev S1x1x1024 : Shape := ⟨3, ![1, 1, 1024]⟩
abbrev S32x8x4096 : Shape := ⟨3, ![32, 8, 4096]⟩
abbrev S256x1024 : Shape := ⟨2, ![256, 1024]⟩

abbrev nBuf : Space → Nat
  | .hbm => 85
  | .vmem => 0
  | .smem => 0
  | _ => 0

abbrev bufTy : (tb : Table) → Fin (tcTables nBuf tb) → BufTy
  | .hbm, ⟨0, _⟩ => ⟨S32x8x1024, .f32⟩
  | .hbm, ⟨1, _⟩ => ⟨S32x8x512, .f32⟩
  | .hbm, ⟨2, _⟩ => ⟨S32x8x512, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024x4096, .f32⟩
  | .hbm, ⟨7, _⟩ => ⟨S4096x1024, .f32⟩
  | .hbm, ⟨8, _⟩ => ⟨S1024, .f32⟩
  | .hbm, ⟨9, _⟩ => ⟨S1024, .f32⟩
  | .hbm, ⟨10, _⟩ => ⟨S32x8x1024, .f32⟩
  | .hbm, ⟨11, _⟩ => ⟨S32x8x1024, .f32⟩
  | .hbm, ⟨12, _⟩ => ⟨S_, .f32⟩
  | .hbm, ⟨13, _⟩ => ⟨S32x8x1024, .f32⟩
  | .hbm, ⟨14, _⟩ => ⟨S32x8x1024, .f32⟩
  | .hbm, ⟨15, _⟩ => ⟨S32x8x1024, .f32⟩
  | .hbm, ⟨16, _⟩ => ⟨S_, .f32⟩
  | .hbm, ⟨17, _⟩ => ⟨S32x8, .f32⟩
  | .hbm, ⟨18, _⟩ => ⟨S32x8x1, .f32⟩
  | .hbm, ⟨19, _⟩ => ⟨S_, .f32⟩
  | .hbm, ⟨20, _⟩ => ⟨S32x8x1, .f32⟩
  | .hbm, ⟨21, _⟩ => ⟨S32x8x1, .f32⟩
  | .hbm, ⟨22, _⟩ => ⟨S32x8x1024, .f32⟩
  | .hbm, ⟨23, _⟩ => ⟨S32x8x1024, .f32⟩
  | .hbm, ⟨24, _⟩ => ⟨S32x8x1024, .f32⟩
  | .hbm, ⟨25, _⟩ => ⟨S_, .f32⟩
  | .hbm, ⟨26, _⟩ => ⟨S32x8, .f32⟩
  | .hbm, ⟨27, _⟩ => ⟨S32x8x1, .f32⟩
  | .hbm, ⟨28, _⟩ => ⟨S_, .f32⟩
  | .hbm, ⟨29, _⟩ => ⟨S32x8x1, .f32⟩
  | .hbm, ⟨30, _⟩ => ⟨S32x8x1, .f32⟩
  | .hbm, ⟨31, _⟩ => ⟨S32x8x1024, .f32⟩
  | .hbm, ⟨32, _⟩ => ⟨S32x8x1024, .f32⟩
  | .hbm, ⟨33, _⟩ => ⟨S_, .f32⟩
  | .hbm, ⟨34, _⟩ => ⟨S32x8x1, .f32⟩
  | .hbm, ⟨35, _⟩ => ⟨S32x8x1, .f32⟩
  | .hbm, ⟨36, _⟩ => ⟨S32x8x1, .f32⟩
  | .hbm, ⟨37, _⟩ => ⟨S32x8x1024, .f32⟩
  | .hbm, ⟨38, _⟩ => ⟨S32x8x1024, .f32⟩
  | .hbm, ⟨39, _⟩ => ⟨S1x1x1024, .f32⟩
  | .hbm, ⟨40, _⟩ => ⟨S32x8x1024, .f32⟩
  | .hbm, ⟨41, _⟩ => ⟨S32x8x1024, .f32⟩
  | .hbm, ⟨42, _⟩ => ⟨S1x1x1024, .f32⟩
  | .hbm, ⟨43, _⟩ => ⟨S32x8x1024, .f32⟩
  | .hbm, ⟨44, _⟩ => ⟨S32x8x1024, .f32⟩
  | .hbm, ⟨45, _⟩ => ⟨S32x8x4096, .f32⟩
  | .hbm, ⟨46, _⟩ => ⟨S_, .f32⟩
  | .hbm, ⟨47, _⟩ => ⟨S32x8x4096, .f32⟩
  | .hbm, ⟨48, _⟩ => ⟨S32x8x4096, .f32⟩
  | .hbm, ⟨49, _⟩ => ⟨S32x8x4096, .f32⟩
  | .hbm, ⟨50, _⟩ => ⟨S_, .f32⟩
  | .hbm, ⟨51, _⟩ => ⟨S32x8x1024, .f32⟩
  | .hbm, ⟨52, _⟩ => ⟨S32x8x1024, .f32⟩
  | .hbm, ⟨53, _⟩ => ⟨S32x8x1024, .f32⟩
  | .hbm, ⟨54, _⟩ => ⟨S32x8x1024, .f32⟩
  | .hbm, ⟨55, _⟩ => ⟨S_, .f32⟩
  | .hbm, ⟨56, _⟩ => ⟨S32x8, .f32⟩
  | .hbm, ⟨57, _⟩ => ⟨S32x8x1, .f32⟩
  | .hbm, ⟨58, _⟩ => ⟨S_, .f32⟩
  | .hbm, ⟨59, _⟩ => ⟨S32x8x1, .f32⟩
  | .hbm, ⟨60, _⟩ => ⟨S32x8x1, .f32⟩
  | .hbm, ⟨61, _⟩ => ⟨S32x8x1024, .f32⟩
  | .hbm, ⟨62, _⟩ => ⟨S32x8x1024, .f32⟩
  | .hbm, ⟨63, _⟩ => ⟨S32x8x1024, .f32⟩
  | .hbm, ⟨64, _⟩ => ⟨S_, .f32⟩
  | .hbm, ⟨65, _⟩ => ⟨S32x8, .f32⟩
  | .hbm, ⟨66, _⟩ => ⟨S32x8x1, .f32⟩
  | .hbm, ⟨67, _⟩ => ⟨S_, .f32⟩
  | .hbm, ⟨68, _⟩ => ⟨S32x8x1, .f32⟩
  | .hbm, ⟨69, _⟩ => ⟨S32x8x1, .f32⟩
  | .hbm, ⟨70, _⟩ => ⟨S32x8x1024, .f32⟩
  | .hbm, ⟨71, _⟩ => ⟨S32x8x1024, .f32⟩
  | .hbm, ⟨72, _⟩ => ⟨S_, .f32⟩
  | .hbm, ⟨73, _⟩ => ⟨S32x8x1, .f32⟩
  | .hbm, ⟨74, _⟩ => ⟨S32x8x1, .f32⟩
  | .hbm, ⟨75, _⟩ => ⟨S32x8x1, .f32⟩
  | .hbm, ⟨76, _⟩ => ⟨S32x8x1024, .f32⟩
  | .hbm, ⟨77, _⟩ => ⟨S32x8x1024, .f32⟩
  | .hbm, ⟨78, _⟩ => ⟨S1x1x1024, .f32⟩
  | .hbm, ⟨79, _⟩ => ⟨S32x8x1024, .f32⟩
  | .hbm, ⟨80, _⟩ => ⟨S32x8x1024, .f32⟩
  | .hbm, ⟨81, _⟩ => ⟨S1x1x1024, .f32⟩
  | .hbm, ⟨82, _⟩ => ⟨S32x8x1024, .f32⟩
  | .hbm, ⟨83, _⟩ => ⟨S32x8x1024, .f32⟩
  | .hbm, ⟨84, _⟩ => ⟨S256x1024, .f32⟩
  | _, _ => ⟨S32x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_2 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_call0_cst : Ref sig .tc := ⟨.hbm, 46, rfl⟩
abbrev main_call0_v0 : Ref sig .tc := ⟨.hbm, 47, rfl⟩
abbrev main_v30 : Ref sig .tc := ⟨.hbm, 48, rfl⟩
abbrev main_v31 : Ref sig .tc := ⟨.hbm, 49, rfl⟩
abbrev main_cst_5 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_6 : Ref sig .tc := ⟨.hbm, 55, rfl⟩
abbrev main_v36 : Ref sig .tc := ⟨.hbm, 56, rfl⟩
abbrev main_v37 : Ref sig .tc := ⟨.hbm, 57, rfl⟩
abbrev main_cst_7 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_8 : Ref sig .tc := ⟨.hbm, 64, rfl⟩
abbrev main_v43 : Ref sig .tc := ⟨.hbm, 65, rfl⟩
abbrev main_v44 : Ref sig .tc := ⟨.hbm, 66, rfl⟩
abbrev main_cst_9 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_10 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩

abbrev nD : Nat := 1
abbrev τ : Topo := Topo.v7x

variable {F : FTy → Type} [FloatOps F]
-- ==== Kernel5.lean ====
abbrev S32x8x1024 : Shape := ⟨3, ![32, 8, 1024]⟩
abbrev S32x3x1024 : Shape := ⟨3, ![32, 3, 1024]⟩
abbrev S1024x3600 : Shape := ⟨2, ![1024, 3600]⟩
abbrev S8 : Shape := ⟨1, ![8]⟩
abbrev S4 : Shape := ⟨1, ![4]⟩
abbrev S512 : Shape := ⟨1, ![512]⟩
abbrev S4x1024 : Shape := ⟨2, ![4, 1024]⟩
abbrev S1024 : Shape := ⟨1, ![1024]⟩
abbrev S1024x8 : Shape := ⟨2, ![1024, 8]⟩
abbrev S_ : Shape := ⟨0, ![]⟩
abbrev S1024x112 : Shape := ⟨2, ![1024, 112]⟩
abbrev S1024x128 : Shape := ⟨2, ![1024, 128]⟩
abbrev S1024x1536 : Shape := ⟨2, ![1024, 1536]⟩
abbrev S1024x512 : Shape := ⟨2, ![1024, 512]⟩
abbrev S1024x3712 : Shape := ⟨2, ![1024, 3712]⟩
abbrev S112 : Shape := ⟨1, ![112]⟩
abbrev S128 : Shape := ⟨1, ![128]⟩
abbrev S1x128 : Shape := ⟨2, ![1, 128]⟩
abbrev S1x512 : Shape := ⟨2, ![1, 512]⟩
abbrev S1x1024 : Shape := ⟨2, ![1, 1024]⟩
abbrev S32x8x512 : Shape := ⟨3, ![32, 8, 512]⟩
abbrev S32x8x128 : Shape := ⟨3, ![32, 8, 128]⟩
abbrev S32x16x1024 : Shape := ⟨3, ![32, 16, 1024]⟩
abbrev S256x1024 : Shape := ⟨2, ![256, 1024]⟩
abbrev S256x512 : Shape := ⟨2, ![256, 512]⟩
abbrev S256x128 : Shape := ⟨2, ![256, 128]⟩
abbrev S1024x1024 : Shape := ⟨2, ![1024, 1024]⟩
abbrev S1x1x1024 : Shape := ⟨3, ![1, 1, 1024]⟩

abbrev nBuf : Space → Nat
  | .hbm => 37
  | .vmem => 17
  | .smem => 0
  | _ => 0

abbrev bufTy : (tb : Table) → Fin (tcTables nBuf tb) → BufTy
  | .hbm, ⟨0, _⟩ => ⟨S32x8x1024, .f32⟩
  | .hbm, ⟨1, _⟩ => ⟨S32x3x1024, .f32⟩
  | .hbm, ⟨2, _⟩ => ⟨S1024x3600, .f32⟩
  | .hbm, ⟨3, _⟩ => ⟨S8, .f32⟩
  | .hbm, ⟨4, _⟩ => ⟨S4, .f32⟩
  | .hbm, ⟨5, _⟩ => ⟨S4, .f32⟩
  | .hbm, ⟨6, _⟩ => ⟨S512, .f32⟩
  | .hbm, ⟨7, _⟩ => ⟨S4x1024, .f32⟩
  | .hbm, ⟨8, _⟩ => ⟨S1024, .f32⟩
  | .hbm, ⟨9, _⟩ => ⟨S1024x8, .f32⟩
  | .hbm, ⟨10, _⟩ => ⟨S1024x8, .f32⟩
  | .hbm, ⟨11, _⟩ => ⟨S_, .f32⟩
  | .hbm, ⟨12, _⟩ => ⟨S1024x112, .f32⟩
  | .hbm, ⟨13, _⟩ => ⟨S1024x128, .f32⟩
  | .hbm, ⟨14, _⟩ => ⟨S1024x1536, .f32⟩
  | .hbm, ⟨15, _⟩ => ⟨S1024x1536, .f32⟩
  | .hbm, ⟨16, _⟩ => ⟨S1024x512, .f32⟩
  | .hbm, ⟨17, _⟩ => ⟨S1024x3712, .f32⟩
  | .hbm, ⟨18, _⟩ => ⟨S1024x3712, .bf16⟩
  | .hbm, ⟨19, _⟩ => ⟨S_, .f32⟩
  | .hbm, ⟨20, _⟩ => ⟨S112, .f32⟩
  | .hbm, ⟨21, _⟩ => ⟨S128, .f32⟩
  | .hbm, ⟨22, _⟩ => ⟨S1x128, .f32⟩
  | .hbm, ⟨23, _⟩ => ⟨S_, .i32⟩
  | .hbm, ⟨24, _⟩ => ⟨S_, .f32⟩
  | .hbm, ⟨25, _⟩ => ⟨S32x8x1024, .f32⟩
  | .hbm, ⟨26, _⟩ => ⟨S1x512, .f32⟩
  | .hbm, ⟨27, _⟩ => ⟨S1x1024, .f32⟩
  | .hbm, ⟨28, _⟩ => ⟨S32x8x512, .bf16⟩
  | .hbm, ⟨29, _⟩ => ⟨S32x8x512, .f32⟩
  | .hbm, ⟨30, _⟩ => ⟨S32x8x512, .f32⟩
  | .hbm, ⟨31, _⟩ => ⟨S32x8x128, .f32⟩
  | .hbm, ⟨32, _⟩ => ⟨S32x8x512, .bf16⟩
  | .hbm, ⟨33, _⟩ => ⟨S32x8x512, .bf16⟩
  | .hbm, ⟨34, _⟩ => ⟨S32x8x512, .bf16⟩
  | .hbm, ⟨35, _⟩ => ⟨S32x8x512, .bf16⟩
  | .hbm, ⟨36, _⟩ => ⟨S32x8x1024, .f32⟩
  | .local _ .vmem, ⟨0, _⟩ => ⟨S32x8x1024, .f32⟩
  | .local _ .vmem, ⟨1, _⟩ => ⟨S1024x3712, .bf16⟩
  | .local _ .vmem, ⟨2, _⟩ => ⟨S1x128, .f32⟩
  | .local _ .vmem, ⟨3, _⟩ => ⟨S1x512, .f32⟩
  | .local _ .vmem, ⟨4, _⟩ => ⟨S4x1024, .f32⟩
  | .local _ .vmem, ⟨5, _⟩ => ⟨S1x1024, .f32⟩
  | .local _ .vmem, ⟨6, _⟩ => ⟨S32x8x1024, .f32⟩
  | .local _ .vmem, ⟨7, _⟩ => ⟨S32x8x512, .bf16⟩
  | .local _ .vmem, ⟨8, _⟩ => ⟨S32x8x512, .f32⟩
  | .local _ .vmem, ⟨9, _⟩ => ⟨S32x8x512, .f32⟩
  | .local _ .vmem, ⟨10, _⟩ => ⟨S32x8x128, .f32⟩
  | .local _ .vmem, ⟨11, _⟩ => ⟨S32x8x512, .bf16⟩
  | .local _ .vmem, ⟨12, _⟩ => ⟨S32x8x512, .bf16⟩
  | .local _ .vmem, ⟨13, _⟩ => ⟨S32x8x512, .bf16⟩
  | .local _ .vmem, ⟨14, _⟩ => ⟨S32x8x512, .bf16⟩
  | .local _ .vmem, ⟨15, _⟩ => ⟨S32x8x1024, .f32⟩
  | .local _ .vmem, ⟨16, _⟩ => ⟨S32x16x1024, .f32⟩
  | _, _ => ⟨S32x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_call0_v0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15_0 : Ref sig .tc := ⟨.hbm, 28, rfl⟩
abbrev main_v15_1 : Ref sig .tc := ⟨.hbm, 29, rfl⟩
abbrev main_v15_2 : Ref sig .tc := ⟨.hbm, 30, rfl⟩
abbrev main_v15_3 : Ref sig .tc := ⟨.hbm, 31, rfl⟩
abbrev main_v15_4 : Ref sig .tc := ⟨.hbm, 32, rfl⟩
abbrev main_v15_5 : Ref sig .tc := ⟨.hbm, 33, rfl⟩
abbrev main_v15_6 : Ref sig .tc := ⟨.hbm, 34, rfl⟩
abbrev main_v15_7 : Ref sig .tc := ⟨.hbm, 35, rfl⟩
abbrev main_v15_8 : Ref sig .tc := ⟨.hbm, 36, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_scratch0 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S32x8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1024x3712 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S32x8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 1 → Memref sig .tc .vmem S32x8x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]

abbrev stage0_8 : Fin 1 → Memref sig .tc .vmem S32x8x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, true]

abbrev stage0_9 : Fin 1 → Memref sig .tc .vmem S32x8x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, true]

abbrev stage0_10 : Fin 1 → Memref sig .tc .vmem S32x8x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, true]

abbrev stage0_11 : Fin 1 → Memref sig .tc .vmem S32x8x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true, true]

abbrev stage0_12 : Fin 1 → Memref sig .tc .vmem S32x8x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true, true]

abbrev stage0_13 : Fin 1 → Memref sig .tc .vmem S32x8x512 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true, true]

abbrev stage0_14 : Fin 1 → Memref sig .tc .vmem S32x8x512 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true, true]

abbrev stage0_15 : Fin 1 → Memref sig .tc .vmem S32x8x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true, false]
-- ==== Kernel5Ideal.lean ====
variable {F : FTy → Type} [FloatOps F] [Named F]
def κ : String → Option EReal := fun
  | "qscale" => some (((Real.log 256)⁻¹ : ℝ) : EReal)
  | _ => none
-- ==== Reference5Ideal.lean ====
abbrev S32x8x1024 : Shape := ⟨3, ![32, 8, 1024]⟩
abbrev S32x3x1024 : Shape := ⟨3, ![32, 3, 1024]⟩
abbrev S1024x3600 : Shape := ⟨2, ![1024, 3600]⟩
abbrev S8 : Shape := ⟨1, ![8]⟩
abbrev S4 : Shape := ⟨1, ![4]⟩
abbrev S512 : Shape := ⟨1, ![512]⟩
abbrev S4x1024 : Shape := ⟨2, ![4, 1024]⟩
abbrev S1024 : Shape := ⟨1, ![1024]⟩
abbrev S32x8x3600 : Shape := ⟨3, ![32, 8, 3600]⟩
abbrev S32x8x512 : Shape := ⟨3, ![32, 8, 512]⟩
abbrev S32x8x8 : Shape := ⟨3, ![32, 8, 8]⟩
abbrev S1x1x8 : Shape := ⟨3, ![1, 1, 8]⟩
abbrev S_ : Shape := ⟨0, ![]⟩
abbrev S32x11x1024 : Shape := ⟨3, ![32, 11, 1024]⟩
abbrev S1x1024 : Shape := ⟨2, ![1, 1024]⟩
abbrev S1x1x1024 : Shape := ⟨3, ![1, 1, 1024]⟩
abbrev S32x8x4 : Shape := ⟨3, ![32, 8, 4]⟩
abbrev S1x1x4 : Shape := ⟨3, ![1, 1, 4]⟩
abbrev S1x1x512 : Shape := ⟨3, ![1, 1, 512]⟩
abbrev S32x8x112 : Shape := ⟨3, ![32, 8, 112]⟩
abbrev S32x8x128 : Shape := ⟨3, ![32, 8, 128]⟩

abbrev nBuf : Space → Nat
  | .hbm => 149
  | .vmem => 0
  | .smem => 0
  | _ => 0

abbrev hbmTy0_0 (i : Nat) : BufTy := match i % 128 with
  | 0 => ⟨S32x8x1024, .f32⟩
  | 1 => ⟨S32x3x1024, .f32⟩
  | 2 => ⟨S1024x3600, .f32⟩
  | 3 => ⟨S8, .f32⟩
  | 4 => ⟨S4, .f32⟩
  | 5 => ⟨S4, .f32⟩
  | 6 => ⟨S512, .f32⟩
  | 7 => ⟨S4x1024, .f32⟩
  | 8 => ⟨S1024, .f32⟩
  | 9 => ⟨S32x8x3600, .f32⟩
  | 10 => ⟨S32x8x512, .f32⟩
  | 11 => ⟨S32x8x512, .f32⟩
  | 12 => ⟨S32x8x512, .f32⟩
  | 13 => ⟨S32x8x8, .f32⟩
  | 14 => ⟨S1x1x8, .f32⟩
  | 15 => ⟨S32x8x8, .f32⟩
  | 16 => ⟨S32x8x8, .f32⟩
  | 17 => ⟨S32x8x8, .f32⟩
  | 18 => ⟨S_, .f32⟩
  | 19 => ⟨S32x8x8, .f32⟩
  | 20 => ⟨S32x8x8, .f32⟩
  | 21 => ⟨S32x8x8, .f32⟩
  | 22 => ⟨S32x8x8, .f32⟩
  | 23 => ⟨S32x8x8, .i1⟩
  | 24 => ⟨S32x8x8, .f32⟩
  | 25 => ⟨S32x8x8, .f32⟩
  | 26 => ⟨S32x8x8, .f32⟩
  | 27 => ⟨S32x8x8, .f32⟩
  | 28 => ⟨S32x8x8, .f32⟩
  | 29 => ⟨S32x8x8, .f32⟩
  | 30 => ⟨S32x8x8, .f32⟩
  | 31 => ⟨S32x8x8, .f32⟩
  | 32 => ⟨S32x8x8, .f32⟩
  | 33 => ⟨S32x8x1024, .f32⟩
  | 34 => ⟨S32x11x1024, .f32⟩
  | 35 => ⟨S32x8x1024, .f32⟩
  | 36 => ⟨S1x1024, .f32⟩
  | 37 => ⟨S1024, .f32⟩
  | 38 => ⟨S1x1x1024, .f32⟩
  | 39 => ⟨S32x8x1024, .f32⟩
  | 40 => ⟨S32x8x1024, .f32⟩
  | 41 => ⟨S1x1x1024, .f32⟩
  | 42 => ⟨S32x8x1024, .f32⟩
  | 43 => ⟨S32x8x1024, .f32⟩
  | 44 => ⟨S32x8x1024, .f32⟩
  | 45 => ⟨S1x1024, .f32⟩
  | 46 => ⟨S1024, .f32⟩
  | 47 => ⟨S1x1x1024, .f32⟩
  | 48 => ⟨S32x8x1024, .f32⟩
  | 49 => ⟨S32x8x1024, .f32⟩
  | 50 => ⟨S32x8x1024, .f32⟩
  | 51 => ⟨S32x8x1024, .f32⟩
  | 52 => ⟨S1x1024, .f32⟩
  | 53 => ⟨S1024, .f32⟩
  | 54 => ⟨S1x1x1024, .f32⟩
  | 55 => ⟨S32x8x1024, .f32⟩
  | 56 => ⟨S32x8x1024, .f32⟩
  | 57 => ⟨S32x8x1024, .f32⟩
  | 58 => ⟨S32x8x1024, .f32⟩
  | 59 => ⟨S1x1024, .f32⟩
  | 60 => ⟨S1024, .f32⟩
  | 61 => ⟨S1x1x1024, .f32⟩
  | 62 => ⟨S32x8x1024, .f32⟩
  | 63 => ⟨S32x8x1024, .f32⟩
  | 64 => ⟨S32x8x1024, .f32⟩
  | 65 => ⟨S32x8x1024, .f32⟩
  | 66 => ⟨S32x8x1024, .f32⟩
  | 67 => ⟨S_, .f32⟩
  | 68 => ⟨S32x8x1024, .f32⟩
  | 69 => ⟨S32x8x1024, .f32⟩
  | 70 => ⟨S_, .f32⟩
  | 71 => ⟨S32x8x1024, .f32⟩
  | 72 => ⟨S32x8x1024, .f32⟩
  | 73 => ⟨S32x8x1024, .f32⟩
  | 74 => ⟨S32x8x512, .f32⟩
  | 75 => ⟨S32x8x512, .f32⟩
  | 76 => ⟨S_, .f32⟩
  | 77 => ⟨S32x8x512, .f32⟩
  | 78 => ⟨S32x8x512, .f32⟩
  | 79 => ⟨S32x8x512, .f32⟩
  | 80 => ⟨S32x8x4, .f32⟩
  | 81 => ⟨S1x1x4, .f32⟩
  | 82 => ⟨S32x8x4, .f32⟩
  | 83 => ⟨S32x8x4, .f32⟩
  | 84 => ⟨S32x8x4, .f32⟩
  | 85 => ⟨S1x1x4, .f32⟩
  | 86 => ⟨S32x8x4, .f32⟩
  | 87 => ⟨S32x8x4, .f32⟩
  | 88 => ⟨S32x8x4, .f32⟩
  | 89 => ⟨S_, .f32⟩
  | 90 => ⟨S32x8x4, .f32⟩
  | 91 => ⟨S32x8x4, .f32⟩
  | 92 => ⟨S32x8x4, .f32⟩
  | 93 => ⟨S32x8x4, .f32⟩
  | 94 => ⟨S32x8x4, .i1⟩
  | 95 => ⟨S32x8x4, .f32⟩
  | 96 => ⟨S32x8x4, .f32⟩
  | 97 => ⟨S32x8x4, .f32⟩
  | 98 => ⟨S32x8x4, .f32⟩
  | 99 => ⟨S32x8x4, .f32⟩
  | 100 => ⟨S32x8x4, .f32⟩
  | 101 => ⟨S32x8x4, .f32⟩
  | 102 => ⟨S32x8x4, .f32⟩
  | 103 => ⟨S32x8x4, .f32⟩
  | 104 => ⟨S32x8x512, .f32⟩
  | 105 => ⟨S1x1x512, .f32⟩
  | 106 => ⟨S32x8x512, .f32⟩
  | 107 => ⟨S32x8x512, .f32⟩
  | 108 => ⟨S32x8x512, .f32⟩
  | 109 => ⟨S32x8x512, .f32⟩
  | 110 => ⟨S_, .f32⟩
  | 111 => ⟨S32x8x512, .f32⟩
  | 112 => ⟨S32x8x512, .f32⟩
  | 113 => ⟨S_, .f32⟩
  | 114 => ⟨S32x8x512, .f32⟩
  | 115 => ⟨S32x8x512, .f32⟩
  | 116 => ⟨S_, .f32⟩
  | 117 => ⟨S32x8x112, .f32⟩
  | 118 => ⟨S32x8x112, .f32⟩
  | 119 => ⟨S_, .f32⟩
  | 120 => ⟨S32x8x112, .f32⟩
  | 121 => ⟨S32x8x112, .f32⟩
  | 122 => ⟨S32x8x112, .f32⟩
  | 123 => ⟨S32x8x112, .f32⟩
  | 124 => ⟨S32x8x112, .i1⟩
  | 125 => ⟨S32x8x112, .f32⟩
  | 126 => ⟨S32x8x112, .f32⟩
  | 127 => ⟨S32x8x112, .f32⟩
  | _ => ⟨S32x8x1024, .f32⟩

abbrev hbmTy0_1 (i : Nat) : BufTy := match i % 128 with
  | 0 => ⟨S32x8x112, .f32⟩
  | 1 => ⟨S32x8x112, .f32⟩
  | 2 => ⟨S32x8x112, .f32⟩
  | 3 => ⟨S32x8x112, .f32⟩
  | 4 => ⟨S32x8x112, .f32⟩
  | 5 => ⟨S32x8x112, .f32⟩
  | 6 => ⟨S32x8x128, .f32⟩
  | 7 => ⟨S_, .f32⟩
  | 8 => ⟨S32x8x512, .f32⟩
  | 9 => ⟨S32x8x512, .f32⟩
  | 10 => ⟨S_, .f32⟩
  | 11 => ⟨S_, .f32⟩
  | 12 => ⟨S_, .f32⟩
  | 13 => ⟨S32x8x512, .f32⟩
  | 14 => ⟨S32x8x512, .f32⟩
  | 15 => ⟨S32x8x512, .bf16⟩
  | 16 => ⟨S32x8x512, .bf16⟩
  | 17 => ⟨S32x8x512, .bf16⟩
  | 18 => ⟨S32x8x512, .bf16⟩
  | 19 => ⟨S32x8x512, .bf16⟩
  | 20 => ⟨S32x8x1024, .f32⟩
  | _ => ⟨S32x8x1024, .f32⟩

abbrev hbmTy (i : Nat) : BufTy := match i / 128 with
  | 0 => hbmTy0_0 i
  | 1 => hbmTy0_1 i
  | _ => ⟨S32x8x1024, .f32⟩

abbrev bufTy : (tb : Table) → Fin (tcTables nBuf tb) → BufTy
  | .hbm, ⟨i, _⟩ => hbmTy i
  | _, _ => ⟨S32x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_call0_v0 : Ref sig .tc := ⟨.hbm, 17, rfl⟩
abbrev main_call0_call0_cst : Ref sig .tc := ⟨.hbm, 18, rfl⟩
abbrev main_call0_call0_v0 : Ref sig .tc := ⟨.hbm, 19, rfl⟩
abbrev main_call0_call0_v1 : Ref sig .tc := ⟨.hbm, 20, rfl⟩
abbrev main_call0_call0_v2 : Ref sig .tc := ⟨.hbm, 21, rfl⟩
abbrev main_call0_call0_v3 : Ref sig .tc := ⟨.hbm, 22, rfl⟩
abbrev main_call0_call0_v4 : Ref sig .tc := ⟨.hbm, 23, rfl⟩
abbrev main_call0_call0_v5 : Ref sig .tc := ⟨.hbm, 24, rfl⟩
abbrev main_call0_call0_v6 : Ref sig .tc := ⟨.hbm, 25, rfl⟩
abbrev main_call0_call0_v7 : Ref sig .tc := ⟨.hbm, 26, rfl⟩
abbrev main_call0_call0_v8 : Ref sig .tc := ⟨.hbm, 27, rfl⟩
abbrev main_call0_call0_v9 : Ref sig .tc := ⟨.hbm, 28, rfl⟩
abbrev main_call0_call0_v10 : Ref sig .tc := ⟨.hbm, 29, rfl⟩
abbrev main_call0_call0_v11 : Ref sig .tc := ⟨.hbm, 30, rfl⟩
abbrev main_call0_v1 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_call1_v0 : Ref sig .tc := ⟨.hbm, 65, rfl⟩
abbrev main_call1_v1 : Ref sig .tc := ⟨.hbm, 66, rfl⟩
abbrev main_call1_cst : Ref sig .tc := ⟨.hbm, 67, rfl⟩
abbrev main_call1_v2 : Ref sig .tc := ⟨.hbm, 68, rfl⟩
abbrev main_call1_v3 : Ref sig .tc := ⟨.hbm, 69, rfl⟩
abbrev main_call1_cst_0 : Ref sig .tc := ⟨.hbm, 70, rfl⟩
abbrev main_call1_v4 : Ref sig .tc := ⟨.hbm, 71, rfl⟩
abbrev main_call1_v5 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_cst : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_call2_v0 : Ref sig .tc := ⟨.hbm, 88, rfl⟩
abbrev main_call2_call0_cst : Ref sig .tc := ⟨.hbm, 89, rfl⟩
abbrev main_call2_call0_v0 : Ref sig .tc := ⟨.hbm, 90, rfl⟩
abbrev main_call2_call0_v1 : Ref sig .tc := ⟨.hbm, 91, rfl⟩
abbrev main_call2_call0_v2 : Ref sig .tc := ⟨.hbm, 92, rfl⟩
abbrev main_call2_call0_v3 : Ref sig .tc := ⟨.hbm, 93, rfl⟩
abbrev main_call2_call0_v4 : Ref sig .tc := ⟨.hbm, 94, rfl⟩
abbrev main_call2_call0_v5 : Ref sig .tc := ⟨.hbm, 95, rfl⟩
abbrev main_call2_call0_v6 : Ref sig .tc := ⟨.hbm, 96, rfl⟩
abbrev main_call2_call0_v7 : Ref sig .tc := ⟨.hbm, 97, rfl⟩
abbrev main_call2_call0_v8 : Ref sig .tc := ⟨.hbm, 98, rfl⟩
abbrev main_call2_call0_v9 : Ref sig .tc := ⟨.hbm, 99, rfl⟩
abbrev main_call2_call0_v10 : Ref sig .tc := ⟨.hbm, 100, rfl⟩
abbrev main_call2_call0_v11 : Ref sig .tc := ⟨.hbm, 101, rfl⟩
abbrev main_call2_v1 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_cst_0 : Ref sig .tc := ⟨.hbm, 110, rfl⟩
abbrev main_v62 : Ref sig .tc := ⟨.hbm, 111, rfl⟩
abbrev main_v63 : Ref sig .tc := ⟨.hbm, 112, rfl⟩
abbrev main_cst_1 : Ref sig .tc := ⟨.hbm, 113, rfl⟩
abbrev main_v64 : Ref sig .tc := ⟨.hbm, 114, rfl⟩
abbrev main_v65 : Ref sig .tc := ⟨.hbm, 115, rfl⟩
abbrev main_cst_2 : Ref sig .tc := ⟨.hbm, 116, rfl⟩
abbrev main_v66 : Ref sig .tc := ⟨.hbm, 117, rfl⟩
abbrev main_call3_v0 : Ref sig .tc := ⟨.hbm, 118, rfl⟩
abbrev main_call3_call0_cst : Ref sig .tc := ⟨.hbm, 119, rfl⟩
abbrev main_call3_call0_v0 : Ref sig .tc := ⟨.hbm, 120, rfl⟩
abbrev main_call3_call0_v1 : Ref sig .tc := ⟨.hbm, 121, rfl⟩
abbrev main_call3_call0_v2 : Ref sig .tc := ⟨.hbm, 122, rfl⟩
abbrev main_call3_call0_v3 : Ref sig .tc := ⟨.hbm, 123, rfl⟩
abbrev main_call3_call0_v4 : Ref sig .tc := ⟨.hbm, 124, rfl⟩
abbrev main_call3_call0_v5 : Ref sig .tc := ⟨.hbm, 125, rfl⟩
abbrev main_call3_call0_v6 : Ref sig .tc := ⟨.hbm, 126, rfl⟩
abbrev main_call3_call0_v7 : Ref sig .tc := ⟨.hbm, 127, rfl⟩
abbrev main_call3_call0_v8 : Ref sig .tc := ⟨.hbm, 128, rfl⟩
abbrev main_call3_call0_v9 : Ref sig .tc := ⟨.hbm, 129, rfl⟩
abbrev main_call3_call0_v10 : Ref sig .tc := ⟨.hbm, 130, rfl⟩
abbrev main_call3_call0_v11 : Ref sig .tc := ⟨.hbm, 131, rfl⟩
abbrev main_call3_v1 : Ref sig .tc := ⟨.hbm, 132, rfl⟩
abbrev main_v67 : Ref sig .tc := ⟨.hbm, 133, rfl⟩
abbrev main_v68 : Ref sig .tc := ⟨.hbm, 134, rfl⟩
abbrev main_cst_3 : Ref sig .tc := ⟨.hbm, 135, rfl⟩
abbrev main_v69 : Ref sig .tc := ⟨.hbm, 136, rfl⟩
abbrev main_v70 : Ref sig .tc := ⟨.hbm, 137, rfl⟩
abbrev main_cst_4 : Ref sig .tc := ⟨.hbm, 138, rfl⟩
abbrev main_v71 : Ref sig .tc := ⟨.hbm, 139, rfl⟩
abbrev main_v72 : Ref sig .tc := ⟨.hbm, 140, rfl⟩
abbrev main_v73 : Ref sig .tc := ⟨.hbm, 141, rfl⟩
abbrev main_v74 : Ref sig .tc := ⟨.hbm, 142, rfl⟩
abbrev main_v75 : Ref sig .tc := ⟨.hbm, 143, rfl⟩
abbrev main_v76 : Ref sig .tc := ⟨.hbm, 144, rfl⟩
abbrev main_v77 : Ref sig .tc := ⟨.hbm, 145, rfl⟩
abbrev main_v78 : Ref sig .tc := ⟨.hbm, 146, rfl⟩
abbrev main_v79 : Ref sig .tc := ⟨.hbm, 147, rfl⟩
abbrev main_v80 : Ref sig .tc := ⟨.hbm, 148, rfl⟩

abbrev nD : Nat := 1
abbrev τ : Topo := Topo.v7x

variable {F : FTy → Type} [FloatOps F]
-- ==== Proof.Fox.Math.lean ====
/- The arithmetic of the streamed softmax on the extended reals: one block's update of the running maximum, the
   running sum and the running weighted sum, its closed form after any number of blocks, and the equality of the
   final quotient with the softmax-weighted sum written in one pass. -/
module

public import Idealize.ShloMosaic.PureOps.Ideal

@[expose] public section

noncomputable section

namespace Fox.Math

open Idealize.ShloMosaic

/-! ## One block's update -/

/-- The running maximum after a block with scores `t`. -/
def stepM (t : Fin 512 → EReal) (m : EReal) : EReal := max m (Finset.univ.fold max ⊥ t)

/-- The running sum after a block. -/
def stepL (t : Fin 512 → EReal) (m l : EReal) : EReal :=
  Ideal.exp2 (m - stepM t m) * l + ∑ x, Ideal.exp2 (t x - stepM t m)

/-- One entry of the running weighted sum after a block with values `v`. -/
def stepA (t v : Fin 512 → EReal) (m a : EReal) : EReal :=
  Ideal.exp2 (m - stepM t m) * a + ∑ x, v x * Ideal.exp2 (t x - stepM t m)

/-- The maximum after `n` blocks of the scores `T`. -/
def foldM (T : ℕ → EReal) : ℕ → EReal
  | 0 => ⊥
  | n + 1 => stepM (fun x => T (512 * n + x.val)) (foldM T n)

/-- The sum after `n` blocks. -/
def foldL (T : ℕ → EReal) : ℕ → EReal
  | 0 => 0
  | n + 1 => stepL (fun x => T (512 * n + x.val)) (foldM T n) (foldL T n)

/-- The weighted sum of `V` after `n` blocks. -/
def foldA (T V : ℕ → EReal) : ℕ → EReal
  | 0 => 0
  | n + 1 => stepA (fun x => T (512 * n + x.val)) (fun x => V (512 * n + x.val)) (foldM T n) (foldA T V n)

/-- Only the scores of the blocks read matter. -/
theorem fold_congr {T T' V V' : ℕ → EReal} (n : ℕ) (hT : ∀ k < 512 * n, T k = T' k) (hV : ∀ k < 512 * n, V k = V' k) :
    foldM T n = foldM T' n ∧ foldL T n = foldL T' n ∧ foldA T V n = foldA T' V' n := by
  induction n with
  | zero => exact ⟨rfl, rfl, rfl⟩
  | succ n ih =>
    obtain ⟨h1, h2, h3⟩ := ih (fun k hk => hT k (by omega)) (fun k hk => hV k (by omega))
    have e : (fun x : Fin 512 => T (512 * n + x.val)) = fun x => T' (512 * n + x.val) :=
      funext fun x => hT _ (by omega)
    have e' : (fun x : Fin 512 => V (512 * n + x.val)) = fun x => V' (512 * n + x.val) :=
      funext fun x => hV _ (by omega)
    simp only [foldM, foldL, foldA, e, e', h1, h2, h3, and_self]

/-! ## The closed form -/

theorem exp2_real (r : ℝ) : Ideal.exp2 ((r : ℝ) : EReal) = ((Real.rpow 2 r : ℝ) : EReal) := by
  simp

theorem exp2_nonneg (x : EReal) : 0 ≤ Ideal.exp2 x := by
  induction x with
  | bot => simp
  | top => simp
  | coe r => rw [exp2_real]; exact EReal.coe_nonneg.mpr (Real.rpow_nonneg (by norm_num) _)

theorem bot_sub_real (r : ℝ) : (⊥ : EReal) - (r : EReal) = ⊥ := by
  simp [sub_eq_add_neg]

/-- Rescaling a term from one maximum to another. -/
theorem rescale (t : EReal) (ht : t ≠ ⊤) (a b : ℝ) :
    Ideal.exp2 ((a : EReal) - (b : EReal)) * Ideal.exp2 (t - (a : EReal)) = Ideal.exp2 (t - (b : EReal)) := by
  induction t with
  | bot => simp only [bot_sub_real, Ideal.exp2_bot, mul_zero]
  | top => exact absurd rfl ht
  | coe r =>
    rw [← EReal.coe_sub, ← EReal.coe_sub, ← EReal.coe_sub, exp2_real, exp2_real, exp2_real, ← EReal.coe_mul]
    congr 1
    show (2 : ℝ) ^ (a - b) * (2 : ℝ) ^ (r - a) = (2 : ℝ) ^ (r - b)
    rw [← Real.rpow_add (by norm_num)]
    congr 1; ring

/-- A nonnegative real factor distributes over a sum of extended reals. -/
theorem mul_sum_nonneg {ι : Type} (s : Finset ι) (f : ι → EReal) (c : EReal) (h0 : 0 ≤ c) (ht : c ≠ ⊤) :
    c * ∑ i ∈ s, f i = ∑ i ∈ s, c * f i := by
  classical
  induction s using Finset.induction_on with
  | empty => simp
  | insert a s ha ih => rw [Finset.sum_insert ha, Finset.sum_insert ha, EReal.left_distrib_of_nonneg_of_ne_top h0 ht, ih]

theorem fold_max_ne_top {ι : Type} (s : Finset ι) (t : ι → EReal) (ht : ∀ x ∈ s, t x ≠ ⊤) : s.fold max ⊥ t ≠ ⊤ := by
  classical
  induction s using Finset.induction_on with
  | empty => simp
  | insert a s ha ih =>
    rw [Finset.fold_insert ha]
    rcases max_choice (t a) (s.fold max ⊥ t) with h | h <;> rw [h]
    · exact ht a (Finset.mem_insert_self _ _)
    · exact ih fun x hx => ht x (Finset.mem_insert_of_mem hx)

theorem le_fold_max {ι : Type} (s : Finset ι) (t : ι → EReal) (x : ι) (hx : x ∈ s) : t x ≤ s.fold max ⊥ t :=
  Finset.le_fold_max (t x) |>.mpr (Or.inr ⟨x, hx, le_rfl⟩)

theorem real_of {x : EReal} (h1 : x ≠ ⊥) (h2 : x ≠ ⊤) : ∃ r : ℝ, x = (r : EReal) :=
  ⟨x.toReal, (EReal.coe_toReal h2 h1).symm⟩

/-- After at least one block the maximum is a real, and the two sums are the plain sums of the terms against it. -/
theorem closed (T V : ℕ → EReal) (h0 : T 0 ≠ ⊥) (n : ℕ) (ht : ∀ k < 512 * (n + 1), T k ≠ ⊤) :
    ∃ M : ℝ, foldM T (n + 1) = (M : EReal)
      ∧ foldL T (n + 1) = ∑ k ∈ Finset.range (512 * (n + 1)), Ideal.exp2 (T k - (M : EReal))
      ∧ foldA T V (n + 1) = ∑ k ∈ Finset.range (512 * (n + 1)), V k * Ideal.exp2 (T k - (M : EReal)) := by
  induction n with
  | zero =>
    have hM : foldM T 1 ≠ ⊥ := by
      have h1 := le_fold_max Finset.univ (fun x : Fin 512 => T (512 * 0 + x.val)) 0 (Finset.mem_univ _)
      have h2 : T 0 ≤ foldM T 1 := le_trans (by simpa using h1) (le_max_right _ _)
      intro h; rw [h] at h2; exact h0 (le_bot_iff.mp h2)
    have hM' : foldM T 1 ≠ ⊤ := by
      show max ⊥ _ ≠ ⊤
      rw [bot_sup_eq]
      exact fold_max_ne_top _ _ fun x _ => ht _ (by have := x.isLt; simp only [Nat.mul_zero, Nat.zero_add, Nat.mul_one]; exact this)
    obtain ⟨M, hm⟩ := real_of hM hM'
    refine ⟨M, hm, ?_, ?_⟩
    · show Ideal.exp2 (⊥ - foldM T 1) * 0 + ∑ x : Fin 512, Ideal.exp2 (T (512 * 0 + x.val) - foldM T 1) = _
      rw [hm, mul_zero, zero_add, Finset.sum_range]
      simp
    · show Ideal.exp2 (⊥ - foldM T 1) * 0
        + ∑ x : Fin 512, V (512 * 0 + x.val) * Ideal.exp2 (T (512 * 0 + x.val) - foldM T 1) = _
      rw [hm, mul_zero, zero_add, Finset.sum_range]
      simp
  | succ n ih =>
    obtain ⟨M, h1, h2, h3⟩ := ih fun k hk => ht k (by omega)
    have hM' : foldM T (n + 2) ≠ ⊤ := by
      show max (foldM T (n + 1)) _ ≠ ⊤
      rcases max_choice (foldM T (n + 1)) (Finset.univ.fold max ⊥ fun x : Fin 512 => T (512 * (n + 1) + x.val)) with h | h <;> rw [h]
      · rw [h1]; exact EReal.coe_ne_top _
      · exact fold_max_ne_top _ _ fun x _ => ht _ (by omega)
    have hM : foldM T (n + 2) ≠ ⊥ := by
      have : foldM T (n + 1) ≤ foldM T (n + 2) := le_max_left _ _
      intro h; rw [h, h1] at this; exact EReal.coe_ne_bot _ (le_bot_iff.mp this)
    obtain ⟨M', hm⟩ := real_of hM hM'
    have hc : Ideal.exp2 ((M : EReal) - (M' : EReal)) ≠ ⊤ := by
      rw [← EReal.coe_sub, exp2_real]; exact EReal.coe_ne_top _
    have hr : 512 * (n + 1 + 1) = 512 * (n + 1) + 512 := by ring
    refine ⟨M', hm, ?_, ?_⟩
    · show Ideal.exp2 (foldM T (n + 1) - foldM T (n + 2)) * foldL T (n + 1)
        + ∑ x : Fin 512, Ideal.exp2 (T (512 * (n + 1) + x.val) - foldM T (n + 2)) = _
      rw [hm, h1, h2, mul_sum_nonneg _ _ _ (exp2_nonneg _) hc, hr, Finset.sum_range_add _ (512 * (n + 1)) 512,
        Finset.sum_range (n := 512)]
      congr 1
      exact Finset.sum_congr rfl fun k hk => rescale _ (ht k (by have := Finset.mem_range.mp hk; omega)) _ _
    · show Ideal.exp2 (foldM T (n + 1) - foldM T (n + 2)) * foldA T V (n + 1)
        + ∑ x : Fin 512, V (512 * (n + 1) + x.val) * Ideal.exp2 (T (512 * (n + 1) + x.val) - foldM T (n + 2)) = _
      rw [hm, h1, h3, mul_sum_nonneg _ _ _ (exp2_nonneg _) hc, hr, Finset.sum_range_add _ (512 * (n + 1)) 512,
        Finset.sum_range (n := 512)]
      congr 1
      refine Finset.sum_congr rfl fun k hk => ?_
      rw [mul_left_comm, rescale _ (ht k (by have := Finset.mem_range.mp hk; omega))]

/-! ## The quotient is the softmax-weighted sum -/

/-- The score the streamed form uses: masked past the query `s`, base two, without the query's own gate. -/
def scoreK (q : Fin 64 → EReal) (k : ℕ → Fin 64 → EReal) (L : ℕ → EReal) (s : ℕ) (j : ℕ) : EReal :=
  if j ≤ s then (∑ d, k j d * (q d * ((1 / 8 / Real.log 2 : ℝ) : EReal))) - L j * (((Real.log 2)⁻¹ : ℝ) : EReal) else ⊥

/-- The score of the plain form. -/
def scoreR (q : Fin 64 → EReal) (k : ℕ → Fin 64 → EReal) (L : ℕ → EReal) (s : ℕ) (j : ℕ) : EReal :=
  if j ≤ s then (∑ d, q d * k j d) * ((1 / 8 : ℝ) : EReal) + L s - L j else ⊥

/-- The plain form: every key's value weighted by the softmax of the scores. -/
def plain (S V : ℕ → EReal) : EReal :=
  ∑ j : Fin 4096, V j.val * Ideal.div (Ideal.exp (S j.val - max ⊥ (Finset.univ.fold max ⊥ fun i : Fin 4096 => S i.val)))
    (∑ i : Fin 4096, Ideal.exp (S i.val - max ⊥ (Finset.univ.fold max ⊥ fun i : Fin 4096 => S i.val)))

theorem coe_sum' {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem exp_real (r : ℝ) : Ideal.exp ((r : ℝ) : EReal) = ((Real.exp r : ℝ) : EReal) := by
  simp

theorem div_real (x : EReal) (r : ℝ) (h : r ≠ 0) : Ideal.div x (r : EReal) = x * ((r⁻¹ : ℝ) : EReal) := by
  rw [Ideal.div, if_neg (by exact_mod_cast h), EReal.coe_inv]

set_option maxHeartbeats 800000 in
theorem softmax_eq (q : Fin 64 → EReal) (k : ℕ → Fin 64 → EReal) (L V : ℕ → EReal) (n s : ℕ)
    (hs : s < 512 * (n + 1)) (hn : 512 * (n + 1) ≤ 4096)
    (hq : ∀ d, ∃ r : ℝ, q d = r) (hk : ∀ j d, ∃ r : ℝ, k j d = r) (hL : ∀ j, ∃ r : ℝ, L j = r) :
    Ideal.div (foldA (scoreK q k L s) V (n + 1)) (foldL (scoreK q k L s) (n + 1)) = plain (scoreR q k L s) V := by
  choose q' hq using hq
  choose k' hk using hk
  choose L' hL using hL
  obtain rfl : q = fun d => (q' d : EReal) := funext hq
  obtain rfl : k = fun j d => (k' j d : EReal) := funext fun j => funext (hk j)
  obtain rfl : L = fun j => (L' j : EReal) := funext hL
  have hln : Real.log 2 ≠ 0 := (Real.log_pos (by norm_num)).ne'
  -- the real scores
  set σ : ℕ → ℝ := fun j => (∑ d, q' d * k' j d) * (1 / 8) + L' s - L' j with hσ
  set τ : ℕ → ℝ := fun j => (∑ d, k' j d * (q' d * (1 / 8 / Real.log 2))) - L' j * (Real.log 2)⁻¹ with hτ
  have eR : ∀ j, scoreR (fun d => (q' d : EReal)) (fun j d => (k' j d : EReal)) (fun j => (L' j : EReal)) s j
      = if j ≤ s then ((σ j : ℝ) : EReal) else ⊥ := by
    intro j
    simp only [scoreR, hσ, EReal.coe_sub, EReal.coe_add, EReal.coe_mul, coe_sum']
  have eK : ∀ j, scoreK (fun d => (q' d : EReal)) (fun j d => (k' j d : EReal)) (fun j => (L' j : EReal)) s j
      = if j ≤ s then ((τ j : ℝ) : EReal) else ⊥ := by
    intro j
    simp only [scoreK, hτ, EReal.coe_sub, EReal.coe_mul, coe_sum']
  have hτσ : ∀ j, Real.log 2 * τ j = σ j - L' s := by
    intro j
    have h1 : Real.log 2 * (∑ d, k' j d * (q' d * (1 / 8 / Real.log 2))) = (∑ d, q' d * k' j d) * (1 / 8) := by
      rw [Finset.mul_sum, Finset.sum_mul]
      refine Finset.sum_congr rfl fun d _ => ?_
      field_simp
    simp only [hσ, hτ, mul_sub, h1]
    field_simp
    ring
  obtain ⟨M, -, h2, h3⟩ := closed (scoreK (fun d => (q' d : EReal)) (fun j d => (k' j d : EReal)) (fun j => (L' j : EReal)) s) V
    (by rw [eK]; simp) n (fun k _ => by rw [eK]; split <;> simp)
  rw [h2, h3]
  unfold plain
  have hMx : ∃ R : ℝ, max ⊥ (Finset.univ.fold max ⊥ fun i : Fin 4096 =>
      scoreR (fun d => (q' d : EReal)) (fun j d => (k' j d : EReal)) (fun j => (L' j : EReal)) s i.val) = (R : EReal) := by
    rw [bot_sup_eq]
    refine real_of ?_ (fold_max_ne_top _ _ fun i _ => by rw [eR]; split <;> simp)
    intro h
    have h1 := le_fold_max Finset.univ (fun i : Fin 4096 =>
      scoreR (fun d => (q' d : EReal)) (fun j d => (k' j d : EReal)) (fun j => (L' j : EReal)) s i.val) 0 (Finset.mem_univ _)
    rw [h, le_bot_iff, eR] at h1
    simp at h1
  obtain ⟨R, hR⟩ := hMx
  rw [hR]
  -- the terms as reals
  have tK : ∀ j, Ideal.exp2 (scoreK (fun d => (q' d : EReal)) (fun j d => (k' j d : EReal)) (fun j => (L' j : EReal)) s j - (M : EReal))
      = (((if j ≤ s then Real.exp (σ j) * Real.exp (-(L' s + Real.log 2 * M)) else 0) : ℝ) : EReal) := by
    intro j
    rw [eK]
    split
    · rw [← EReal.coe_sub, exp2_real]
      congr 1
      show (2 : ℝ) ^ (τ j - M) = _
      rw [Real.rpow_def_of_pos (by norm_num), ← Real.exp_add, mul_sub, hτσ]
      congr 1; ring
    · rw [bot_sub_real, Ideal.exp2_bot, EReal.coe_zero]
  have tR : ∀ j, Ideal.exp (scoreR (fun d => (q' d : EReal)) (fun j d => (k' j d : EReal)) (fun j => (L' j : EReal)) s j - (R : EReal))
      = (((if j ≤ s then Real.exp (σ j) * Real.exp (-R) else 0) : ℝ) : EReal) := by
    intro j
    rw [eR]
    split
    · rw [← EReal.coe_sub, exp_real, ← Real.exp_add]
      congr 1
    · rw [bot_sub_real, Ideal.exp_bot, EReal.coe_zero]
  simp only [tK, tR]
  -- both sums run over the keys up to the query
  set Z : ℝ := ∑ j ∈ Finset.range (512 * (n + 1)), (if j ≤ s then Real.exp (σ j) else 0) with hZ
  have hZpos : 0 < Z := by
    refine Finset.sum_pos' (fun j _ => by split <;> positivity) ⟨0, Finset.mem_range.mpr (by omega), by simp [Real.exp_pos]⟩
  have sub : Finset.range (512 * (n + 1)) ⊆ Finset.range 4096 := Finset.range_subset_range.mpr hn
  have zK : ∑ j ∈ Finset.range (512 * (n + 1)), (((if j ≤ s then Real.exp (σ j) * Real.exp (-(L' s + Real.log 2 * M)) else 0) : ℝ) : EReal)
      = ((Z * Real.exp (-(L' s + Real.log 2 * M)) : ℝ) : EReal) := by
    rw [← coe_sum', hZ, Finset.sum_mul]
    congr 1
    exact Finset.sum_congr rfl fun j _ => by split <;> simp
  have zR : ∑ i : Fin 4096, (((if i.val ≤ s then Real.exp (σ i.val) * Real.exp (-R) else 0) : ℝ) : EReal)
      = ((Z * Real.exp (-R) : ℝ) : EReal) := by
    rw [← coe_sum', hZ, Finset.sum_mul, ← Finset.sum_range (fun i => if i ≤ s then Real.exp (σ i) * Real.exp (-R) else 0)]
    congr 1
    rw [← Finset.sum_subset sub fun j _ hj => if_neg (by have := Finset.mem_range.not.mp hj; omega)]
    exact Finset.sum_congr rfl fun j _ => by split <;> simp
  rw [zK, zR]
  have e1 : Real.exp (-(L' s + Real.log 2 * M)) ≠ 0 := (Real.exp_pos _).ne'
  have e2 : Real.exp (-R) ≠ 0 := (Real.exp_pos _).ne'
  have nK : Z * Real.exp (-(L' s + Real.log 2 * M)) ≠ 0 := mul_ne_zero hZpos.ne' e1
  have nR : Z * Real.exp (-R) ≠ 0 := mul_ne_zero hZpos.ne' e2
  rw [div_real _ _ nK, mul_comm, mul_sum_nonneg _ _ _ (EReal.coe_nonneg.mpr (by positivity)) (EReal.coe_ne_top _),
    ← Finset.sum_range (fun j => V j * Ideal.div (((if j ≤ s then Real.exp (σ j) * Real.exp (-R) else 0) : ℝ) : EReal) ((Z * Real.exp (-R) : ℝ) : EReal)),
    ← Finset.sum_subset sub]
  · refine Finset.sum_congr rfl fun j _ => ?_
    rw [mul_left_comm, div_real _ _ nR, ← EReal.coe_mul, ← EReal.coe_mul]
    refine congrArg (V j * ·) (congrArg Real.toEReal ?_)
    rw [← div_eq_inv_mul, ← div_eq_mul_inv]
    split
    · rw [mul_div_mul_right _ _ e1, mul_div_mul_right _ _ e2]
    · rw [zero_div, zero_div]
  · intro j _ hj
    have hj' : ¬j ≤ s := fun h => hj (Finset.mem_range.mpr (by omega))
    simp only [div_real _ _ nR, if_neg hj', EReal.coe_zero, zero_mul, mul_zero]

end Fox.Math

end
-- ==== Proof.Fox.Pay.lean ====
/- The payloads of `fox_prompt` read at an index, at the ideal instance: the scores of a block, the updates of the
   running maximum, sum and weighted sum, the masked queries and the final quotient. -/
module

public import proofs.«01_k».proof.Proof.Gen.KernelIdeal.Value
public import proofs.«01_k».proof.Proof.Fox.Math
public import Idealize.ShloMosaic.Lib.Pointwise

@[expose] public section

set_option maxRecDepth 16384

noncomputable section

namespace Cert.KernelIdeal.Fox

open Idealize.ShloMosaic Idealize.ShloMosaic.WordCmp Cert.KernelIdeal Cert.KernelIdeal.Gen _root_.Fox.Math

/-- The pattern of minus infinity denotes the bottom. -/
theorem neg_inf : Ideal.ofBits .f32 4286578688#32 = (⊥ : EReal) := by
  simp [Ideal.ofBits, Ideal.ieee]

/-- The lane of the gate column a query column reads. -/
def lane (j : Fin 512) : Fin 128 := ⟨j.val % 128, Nat.mod_lt _ (by norm_num)⟩

/-- A block's unmasked scores. -/
theorem sc_apply (q : FVec Ideal S128x512 .bf16) (kt : Vec Ideal S1x512x128 .bf16) (lc : Vec Ideal S1x512x128 .f32)
    (r j : Fin 512) :
    k0_pay80 q kt lc (ix2 r j) = (∑ x : Fin 128, kt (ix3 0 r x) * q (ix2 x j)) - lc (ix3 0 r (lane j)) := by
  pointwise [k0_pay80, k0_pay78]
  congr 1
  unfold lane
  split_ifs <;> (congr 2; apply Fin.ext; simp only []; omega)

/-- The diagonal block's masked scores. -/
theorem scM_apply (q : FVec Ideal S128x512 .bf16) (kt : Vec Ideal S1x512x128 .bf16) (lc : Vec Ideal S1x512x128 .f32)
    (r j : Fin 512) :
    k0_pay127 q kt lc (ix2 r j) = if r.val ≤ j.val then k0_pay80 q kt lc (ix2 r j) else ⊥ := by
  rw [sc_apply]
  pointwise [k0_pay127, k0_pay125]
  rw [neg_inf]
  rw [cmpi_sle_ofNat (by have := r.isLt; norm_num; omega) (by have := j.isLt; norm_num; omega)]
  by_cases h : r.val ≤ j.val
  · simp only [h, decide_true, if_true]
    show _ - _ = _
    congr 1
    unfold lane
    split_ifs <;> (congr 2; apply Fin.ext; simp only []; omega)
  · simp only [h, decide_false, if_false]; rfl

theorem mS_apply (t : FVec Ideal S512x512 .f32) (m : Vec Ideal S1x1x512 .f32) (j : Fin 512) :
    k0_pay142 t (k0_pay136 m) (ix3 0 0 j) = stepM (fun x => t (ix2 x j)) (m (ix3 0 0 j)) := by
  pointwise [k0_pay142, k0_pay137, k0_pay136]
  rw [neg_inf]; rfl

theorem lS_apply (t : FVec Ideal S512x512 .f32) (m l : Vec Ideal S1x1x512 .f32) (j : Fin 512) :
    k0_pay140 t (k0_pay136 m) l (ix3 0 0 j) = stepL (fun x => t (ix2 x j)) (m (ix3 0 0 j)) (l (ix3 0 0 j)) := by
  pointwise [k0_pay140, k0_pay138, k0_pay139, k0_pay137, k0_pay136]
  rw [neg_inf]; rfl

theorem aS1_apply (v : FVec Ideal S128x512 .bf16) (t : FVec Ideal S512x512 .f32) (m : Vec Ideal S1x1x512 .f32) (a : Vec Ideal S1x64x512 .f32) (d : Fin 64) (j : Fin 512) :
    k0_pay141 v t (k0_pay136 m) a (ix3 0 d j) = stepA (fun x => t (ix2 x j)) (fun x => v (ix2 ⟨64 + d.val, by omega⟩ x)) (m (ix3 0 0 j)) (a (ix3 0 d j)) := by
  pointwise [k0_pay141, k0_pay138, k0_pay139, k0_pay137, k0_pay136]
  rw [neg_inf]; rfl

theorem aS0_apply (v : FVec Ideal S128x512 .bf16) (t : FVec Ideal S512x512 .f32) (m : Vec Ideal S1x1x512 .f32) (a : Vec Ideal S1x64x512 .f32) (d : Fin 64) (j : Fin 512) :
    k0_pay133 v (k0_pay138 t (k0_pay136 m)) (k0_pay139 t (k0_pay136 m)) a (ix3 0 d j) = stepA (fun x => t (ix2 x j)) (fun x => v (ix2 ⟨d.val, by omega⟩ x)) (m (ix3 0 0 j)) (a (ix3 0 d j)) := by
  pointwise [k0_pay133, k0_pay138, k0_pay139, k0_pay137, k0_pay136]
  rw [neg_inf]; rfl

/-- The queries masked to the first head of the pair. -/
theorem q0_apply (x : Vec Ideal S1x128x512 .bf16) (d : Fin 128) (j : Fin 512) :
    k0_pay115 x (ix2 d j) = if d.val < 64 then x (ix3 0 d j) else 0 := by
  pointwise [k0_pay115, k0_pay113, k0_pay114]
  rw [cmpi_sge_ofNat (by have := d.isLt; norm_num; omega) (by norm_num), cmpi_slt_ofNat (by have := d.isLt; norm_num; omega) (by norm_num)]
  by_cases h : d.val < 64
  · simp only [h, decide_true, if_true, Nat.zero_le]; rfl
  · simp only [h, decide_false, if_false, Nat.zero_le, decide_true]; rfl

/-- The queries masked to the second head of the pair. -/
theorem q1_apply (x : Vec Ideal S1x128x512 .bf16) (d : Fin 128) (j : Fin 512) :
    k0_pay116 x (ix2 d j) = if d.val < 64 then 0 else x (ix3 0 d j) := by
  pointwise [k0_pay116, k0_pay113, k0_pay114]
  rw [cmpi_sge_ofNat (by have := d.isLt; norm_num; omega) (by norm_num), cmpi_slt_ofNat (by have := d.isLt; norm_num; omega) (by norm_num)]
  have h2 := d.isLt
  by_cases h : d.val < 64
  · have h1 : ¬ 64 ≤ d.val := by omega
    simp only [h, h1, h2, decide_true, decide_false, if_true]; rfl
  · have h1 : 64 ≤ d.val := by omega
    simp only [h, h1, h2, decide_false, if_false, decide_true]; rfl

theorem fin_apply (a0 : Vec Ideal S1x64x512 .f32) (l0 : Vec Ideal S1x1x512 .f32) (a1 : Vec Ideal S1x64x512 .f32) (l1 : Vec Ideal S1x1x512 .f32) (d : Fin 128) (j : Fin 512) :
    k0_pay1 (k0_pay143 a0) l0 a1 l1 (ix3 0 j d) = if h : d.val < 64 then Ideal.div (a0 (ix3 0 ⟨d.val, h⟩ j)) (l0 (ix3 0 0 j)) else Ideal.div (a1 (ix3 0 ⟨d.val - 64, by omega⟩ j)) (l1 (ix3 0 0 j)) := by
  pointwise [k0_pay1, k0_pay143]

theorem v_apply (v : Vec Ideal S1x128x512 .bf16) (d : Fin 128) (x : Fin 512) : k0_pay126 v (ix2 d x) = v (ix3 0 d x) := by
  pointwise [k0_pay126]

theorem m0_apply (a : Fin 2) (j : Fin 512) : k0_pay117 (F := Ideal) (ix3 a 0 j) = ⊥ := by
  pointwise [k0_pay117]
  rw [neg_inf]

theorem l0_apply (a : Fin 2) (j : Fin 512) : k0_pay118 (F := Ideal) (ix3 a 0 j) = 0 := by
  pointwise [k0_pay118]

theorem a0_apply (a : Fin 2) (d : Fin 64) (j : Fin 512) : k0_pay120 (F := Ideal) k0_pay119 (ix3 a d j) = 0 := by
  pointwise [k0_pay120, k0_pay119]

end Cert.KernelIdeal.Fox
-- ==== Proof.Fox.Trip.lean ====
/- One trip of the loop over the key blocks, and the whole loop: what the running maximum, sum and weighted sum read
   afterwards, of what they read before. -/
module

public import proofs.«01_k».proof.Proof.Fox.Pay
public import Idealize.ShloMosaic.Lib.VecWindow
public import Idealize.ShloMosaic.Lib.WritesUnit

@[expose] public section

set_option maxRecDepth 16384

noncomputable section

namespace Cert.KernelIdeal.Fox

open Idealize.ShloMosaic Cert.KernelIdeal Cert.KernelIdeal.Gen _root_.Fox.Math

/-- A query column's masked query of head `h`. -/
def qsel (Q0 Q1 : FVec Ideal S128x512 .bf16) (h : Fin 2) : FVec Ideal S128x512 .bf16 := if h = 0 then Q0 else Q1

/-- The unmasked score of key `κ` for query column `j` in head `h`. -/
def Tk (Q0 Q1 : FVec Ideal S128x512 .bf16) (K : Vec Ideal S1x4096x128 .bf16) (LC : Vec Ideal S2x4096x128 .f32)
    (h : Fin 2) (j : Fin 512) (κ : ℕ) : EReal :=
  if hκ : κ < 4096 then (∑ x : Fin 128, K (ix3 0 ⟨κ, hκ⟩ x) * qsel Q0 Q1 h (ix2 x j)) - LC (ix3 h ⟨κ, hκ⟩ (lane j)) else ⊥

/-- The value entry `d` of head `h` at key `κ`. -/
def Vk (V : Vec Ideal S1x128x4096 .bf16) (h : Fin 2) (d : Fin 64) (κ : ℕ) : EReal :=
  if hκ : κ < 4096 then V (ix3 0 ⟨64 * h.val + d.val, by omega⟩ ⟨κ, hκ⟩) else 0

theorem emb_ok {n0 n1 n2 m0 m1 m2 : ℕ} (a : Fin n0) (b : Fin n1) (e : Fin n2) (a' : Fin m0) (b' : Fin m1) (e' : Fin m2) (o0 o1 o2 : ℕ)
    (h0 : a.val = o0 + a'.val) (h1 : b.val = o1 + b'.val) (h2 : e.val = o2 + e'.val) :
    ∀ x : Fin 3, (ix3 a b e x).val = (![o0, o1, o2] : Fin 3 → ℕ) x + (ix3 a' b' e' x).val := by
  intro x
  fin_cases x
  · exact h0
  · exact h1
  · exact h2

theorem readAt_at {κ : Kind} {sp : Space} {s : Shape} {e : EltTy} (v : View sig κ sp s e) (f : v.ty.Contents (Elt Ideal)) {off off' size : Fin s.rank → ℕ} (inb : ∀ a, off a + size a ≤ s.size a)
    (h : off = off') (x : (Rect.unit off size inb).shape.Idx) (y : s.Idx) (hy : ∀ a, (y a).val = off' a + (x a).val) :
    v.readAt (Elt Ideal) (Rect.unit off size inb).toLoadRect f x = v.read (Elt Ideal) f y := by
  have inb' : ∀ a, off' a + size a ≤ s.size a := h ▸ inb
  rw [View.readAt_unit v f inb h inb']
  show v.read (Elt Ideal) f _ = _
  congr 1
  funext a
  apply Fin.ext
  show off' a + 1 * (x a).val = _
  rw [one_mul]
  exact (hy a).symm

/-- A block's scores are the scores of its keys. -/
theorem score_block (v4 : View sig .tc .vmem S1x4096x128 .bf16) (v8 : View sig .tc .vmem S2x4096x128 .f32) (X4 : v4.ty.Contents (Elt Ideal)) (X8 : v8.ty.Contents (Elt Ideal))
    (Q0 Q1 : FVec Ideal S128x512 .bf16) (h : Fin 2) (n : ℕ) (hn : n < 8) {off4 off8 : Fin 3 → ℕ} (inb4 : ∀ a, off4 a + S1x512x128.size a ≤ S1x4096x128.size a) (inb8 : ∀ a, off8 a + S1x512x128.size a ≤ S2x4096x128.size a)
    (e4 : off4 = ![0, 512 * n, 0]) (e8 : off8 = ![h.val, 512 * n, 0]) (r j : Fin 512) :
    k0_pay80 (qsel Q0 Q1 h) (v4.readAt (Elt Ideal) (Rect.unit (s := S1x4096x128) off4 S1x512x128.size inb4).toLoadRect X4)
      (v8.readAt (Elt Ideal) (Rect.unit (s := S2x4096x128) off8 S1x512x128.size inb8).toLoadRect X8) (ix2 r j)
      = Tk Q0 Q1 (v4.read (Elt Ideal) X4) (v8.read (Elt Ideal) X8) h j (512 * n + r.val) := by
  have hr := r.isLt
  have hκ : 512 * n + r.val < 4096 := by omega
  rw [sc_apply, Tk, dif_pos hκ]
  congr 1
  · refine Finset.sum_congr rfl fun x _ => ?_
    congr 1
    exact readAt_at v4 X4 inb4 e4 (ix3 0 r x) (ix3 0 ⟨_, hκ⟩ x) (emb_ok _ _ _ _ _ _ _ _ _ rfl rfl (by simp))
  · exact readAt_at v8 X8 inb8 e8 (ix3 0 r (lane j)) (ix3 h ⟨_, hκ⟩ (lane j)) (emb_ok _ _ _ _ _ _ _ _ _ rfl rfl (by simp))

/-- A block's values are the values of its keys. -/
theorem value_block (v5 : View sig .tc .vmem S1x128x4096 .bf16) (X5 : v5.ty.Contents (Elt Ideal))
    (h : Fin 2) (d : Fin 64) (n : ℕ) (hn : n < 8) {off5 : Fin 3 → ℕ} (inb5 : ∀ a, off5 a + S1x128x512.size a ≤ S1x128x4096.size a)
    (e5 : off5 = ![0, 0, 512 * n]) (dd : Fin 128) (hd : dd.val = 64 * h.val + d.val) (x : Fin 512) :
    k0_pay126 (v5.readAt (Elt Ideal) (Rect.unit (s := S1x128x4096) off5 S1x128x512.size inb5).toLoadRect X5) (ix2 dd x)
      = Vk (v5.read (Elt Ideal) X5) h d (512 * n + x.val) := by
  have hx := x.isLt
  have hκ : 512 * n + x.val < 4096 := by omega
  rw [v_apply, Vk, dif_pos hκ]
  exact readAt_at v5 X5 inb5 e5 (ix3 0 dd x) (ix3 0 _ ⟨_, hκ⟩) (emb_ok _ _ _ _ _ _ _ _ _ rfl (by simp [hd]) rfl)

theorem stepM_congr {t t' : Fin 512 → EReal} {m m' : EReal} (h1 : t = t') (h2 : m = m') : stepM t m = stepM t' m' := by
  rw [h1, h2]

theorem stepL_congr {t t' : Fin 512 → EReal} {m m' l l' : EReal} (h1 : t = t') (h2 : m = m') (h3 : l = l') : stepL t m l = stepL t' m' l' := by
  rw [h1, h2, h3]

theorem stepA_congr {t t' v v' : Fin 512 → EReal} {m m' a a' : EReal} (h1 : t = t') (h2 : v = v') (h3 : m = m') (h4 : a = a') : stepA t v m a = stepA t' v' m' a' := by
  rw [h1, h2, h3, h4]

section
variable (c : Dev nD) (i : grid0.Coords) (arg3 : Memref sig .tc .vmem S1x128x512 .bf16) (harg3 : arg3.IsWhole) (arg4 : Memref sig .tc .vmem S1x4096x128 .bf16) (harg4 : arg4.IsWhole) (arg5 : Memref sig .tc .vmem S1x128x4096 .bf16) (harg5 : arg5.IsWhole) (arg6 : Memref sig .tc .vmem S1x1x2x4096 .f32) (harg6 : arg6.IsWhole) (arg7 : Memref sig .tc .vmem S1x512x128 .bf16) (harg7 : arg7.IsWhole) (arg8 : Memref sig .tc .vmem S2x4096x128 .f32) (harg8 : arg8.IsWhole) (arg9 : Memref sig .tc .vmem S2x1x512 .f32) (harg9 : arg9.IsWhole) (arg10 : Memref sig .tc .vmem S2x1x512 .f32) (harg10 : arg10.IsWhole) (arg11 : Memref sig .tc .vmem S2x64x512 .f32) (harg11 : arg11.IsWhole) (arg2 : BitVec 32) (v14 : FVec Ideal S128x512 .bf16) (v22 : FVec Ideal S128x512 .bf16) (v31 : FVec Ideal S2x64x512 .f32) (X_arg4 : BufTy.Contents (Elt Ideal) arg4.view.ty) (X_arg5 : BufTy.Contents (Elt Ideal) arg5.view.ty) (X_arg8 : BufTy.Contents (Elt Ideal) arg8.view.ty)

/-- The block of the keys a trip reads. -/
abbrev Kb (k : Fin (k0_t1_loop i).trips) : Vec Ideal S1x512x128 .bf16 :=
  arg4.view.readAt (Elt Ideal) (Rect.unit (s := S1x4096x128) (k0_off1 i k) S1x512x128.size (k0_off1_inb i k)).toLoadRect X_arg4

abbrev Vb (k : Fin (k0_t1_loop i).trips) : Vec Ideal S1x128x512 .bf16 :=
  arg5.view.readAt (Elt Ideal) (Rect.unit (s := S1x128x4096) (k0_off2 i k) S1x128x512.size (k0_off2_inb i k)).toLoadRect X_arg5

abbrev LCb0 (k : Fin (k0_t1_loop i).trips) : Vec Ideal S1x512x128 .f32 :=
  arg8.view.readAt (Elt Ideal) (Rect.unit (s := S2x4096x128) (k0_off3 i k) S1x512x128.size (k0_off3_inb i k)).toLoadRect X_arg8

abbrev LCb1 (k : Fin (k0_t1_loop i).trips) : Vec Ideal S1x512x128 .f32 :=
  arg8.view.readAt (Elt Ideal) (Rect.unit (s := S2x4096x128) (k0_off4 i k) S1x512x128.size (k0_off4_inb i k)).toLoadRect X_arg8

theorem hk (i : grid0.Coords) (k : Fin (k0_t1_loop i).trips) : k.val < 8 := by
  have h1 := (k0_t1_abs i).2.1
  have h2 := k.isLt
  omega

theorem trip_m0 (k : Fin (k0_t1_loop i).trips) (f9 : BufTy.Contents (Elt Ideal) arg9.view.ty) (f10 : BufTy.Contents (Elt Ideal) arg10.view.ty) (f11 : BufTy.Contents (Elt Ideal) arg11.view.ty) (j : Fin 512) :
    arg9.view.read (Elt Ideal) (arg9.view.writes (Elt Ideal) f9 ((tripL_k0_t1 (F := Ideal) Variants.none c none i arg3 harg3 arg4 harg4 arg5 harg5 arg6 harg6 arg7 harg7 arg8 harg8 arg9 harg9 arg10 harg10 arg11 harg11 arg2 v14 v22 v31 X_arg4 X_arg5 X_arg8) k f9 f10 f11).1) (ix3 0 0 j)
      = stepM (fun x => Tk v14 v22 (arg4.view.read (Elt Ideal) X_arg4) (arg8.view.read (Elt Ideal) X_arg8) 0 j (512 * k.val + x.val)) (arg9.view.read (Elt Ideal) f9 (ix3 0 0 j)) := by
  unfold tripL_k0_t1 trip_k0_t1
  dsimp only
  refine (View.read_writes_cons_unit_of_not_mem arg9.view f9 _ _ _ (ix3 0 0 j) rfl 0 (Or.inl (show (0 : ℕ) < 1 by norm_num))).trans ?_
  refine (View.read_writes_cons_unit_of_mem arg9.view f9 _ _ _ (ix3 0 0 j) (ix3 0 0 j) rfl (emb_ok _ _ _ _ _ _ _ _ _ rfl (by simp) (by simp))).trans ?_
  refine (show _ = k0_pay142 (k0_pay80 v14 (Kb i arg4 X_arg4 k) (LCb0 i arg8 X_arg8 k)) (k0_pay136 (arg9.view.readAt (Elt Ideal) (Rect.unit (s := S2x1x512) ![0, 0, 0] S1x1x512.size inb_S2x1x512_S1x1x512_0_0_0).toLoadRect f9)) (ix3 0 0 j) from rfl).trans ?_
  rw [mS_apply]
  exact stepM_congr (funext fun r => score_block arg4.view arg8.view X_arg4 X_arg8 v14 v22 0 k.val (hk i k) (k0_off1_inb i k) (k0_off3_inb i k) (k0_off1_eq i k) (k0_off3_eq i k) r j) (readAt_at _ _ _ rfl _ _ (emb_ok _ _ _ _ _ _ _ _ _ rfl (by simp) (by simp)))

theorem trip_m1 (k : Fin (k0_t1_loop i).trips) (f9 : BufTy.Contents (Elt Ideal) arg9.view.ty) (f10 : BufTy.Contents (Elt Ideal) arg10.view.ty) (f11 : BufTy.Contents (Elt Ideal) arg11.view.ty) (j : Fin 512) :
    arg9.view.read (Elt Ideal) (arg9.view.writes (Elt Ideal) f9 ((tripL_k0_t1 (F := Ideal) Variants.none c none i arg3 harg3 arg4 harg4 arg5 harg5 arg6 harg6 arg7 harg7 arg8 harg8 arg9 harg9 arg10 harg10 arg11 harg11 arg2 v14 v22 v31 X_arg4 X_arg5 X_arg8) k f9 f10 f11).1) (ix3 1 0 j)
      = stepM (fun x => Tk v14 v22 (arg4.view.read (Elt Ideal) X_arg4) (arg8.view.read (Elt Ideal) X_arg8) 1 j (512 * k.val + x.val)) (arg9.view.read (Elt Ideal) f9 (ix3 1 0 j)) := by
  unfold tripL_k0_t1 trip_k0_t1
  dsimp only
  refine (View.read_writes_cons_unit_of_mem arg9.view f9 _ _ _ (ix3 1 0 j) (ix3 0 0 j) rfl (emb_ok _ _ _ _ _ _ _ _ _ rfl (by simp) (by simp))).trans ?_
  refine (show _ = k0_pay142 (k0_pay80 v22 (Kb i arg4 X_arg4 k) (LCb1 i arg8 X_arg8 k)) (k0_pay136 (arg9.view.readAt (Elt Ideal) (Rect.unit (s := S2x1x512) ![1, 0, 0] S1x1x512.size inb_S2x1x512_S1x1x512_1_0_0).toLoadRect f9)) (ix3 0 0 j) from rfl).trans ?_
  rw [mS_apply]
  exact stepM_congr (funext fun r => score_block arg4.view arg8.view X_arg4 X_arg8 v14 v22 1 k.val (hk i k) (k0_off1_inb i k) (k0_off4_inb i k) (k0_off1_eq i k) (k0_off4_eq i k) r j) (readAt_at _ _ _ rfl _ _ (emb_ok _ _ _ _ _ _ _ _ _ rfl (by simp) (by simp)))

theorem trip_l0 (k : Fin (k0_t1_loop i).trips) (f9 : BufTy.Contents (Elt Ideal) arg9.view.ty) (f10 : BufTy.Contents (Elt Ideal) arg10.view.ty) (f11 : BufTy.Contents (Elt Ideal) arg11.view.ty) (j : Fin 512) :
    arg10.view.read (Elt Ideal) (arg10.view.writes (Elt Ideal) f10 ((tripL_k0_t1 (F := Ideal) Variants.none c none i arg3 harg3 arg4 harg4 arg5 harg5 arg6 harg6 arg7 harg7 arg8 harg8 arg9 harg9 arg10 harg10 arg11 harg11 arg2 v14 v22 v31 X_arg4 X_arg5 X_arg8) k f9 f10 f11).2.1) (ix3 0 0 j)
      = stepL (fun x => Tk v14 v22 (arg4.view.read (Elt Ideal) X_arg4) (arg8.view.read (Elt Ideal) X_arg8) 0 j (512 * k.val + x.val)) (arg9.view.read (Elt Ideal) f9 (ix3 0 0 j)) (arg10.view.read (Elt Ideal) f10 (ix3 0 0 j)) := by
  unfold tripL_k0_t1 trip_k0_t1
  dsimp only
  refine (View.read_writes_cons_unit_of_not_mem arg10.view f10 _ _ _ (ix3 0 0 j) rfl 0 (Or.inl (show (0 : ℕ) < 1 by norm_num))).trans ?_
  refine (View.read_writes_cons_unit_of_mem arg10.view f10 _ _ _ (ix3 0 0 j) (ix3 0 0 j) rfl (emb_ok _ _ _ _ _ _ _ _ _ rfl (by simp) (by simp))).trans ?_
  refine (show _ = k0_pay140 (k0_pay80 v14 (Kb i arg4 X_arg4 k) (LCb0 i arg8 X_arg8 k)) (k0_pay136 (arg9.view.readAt (Elt Ideal) (Rect.unit (s := S2x1x512) ![0, 0, 0] S1x1x512.size inb_S2x1x512_S1x1x512_0_0_0).toLoadRect f9)) (arg10.view.readAt (Elt Ideal) (Rect.unit (s := S2x1x512) ![0, 0, 0] S1x1x512.size inb_S2x1x512_S1x1x512_0_0_0).toLoadRect f10) (ix3 0 0 j) from rfl).trans ?_
  rw [lS_apply]
  exact stepL_congr (funext fun r => score_block arg4.view arg8.view X_arg4 X_arg8 v14 v22 0 k.val (hk i k) (k0_off1_inb i k) (k0_off3_inb i k) (k0_off1_eq i k) (k0_off3_eq i k) r j) (readAt_at _ _ _ rfl _ _ (emb_ok _ _ _ _ _ _ _ _ _ rfl (by simp) (by simp))) (readAt_at _ _ _ rfl _ _ (emb_ok _ _ _ _ _ _ _ _ _ rfl (by simp) (by simp)))

theorem trip_l1 (k : Fin (k0_t1_loop i).trips) (f9 : BufTy.Contents (Elt Ideal) arg9.view.ty) (f10 : BufTy.Contents (Elt Ideal) arg10.view.ty) (f11 : BufTy.Contents (Elt Ideal) arg11.view.ty) (j : Fin 512) :
    arg10.view.read (Elt Ideal) (arg10.view.writes (Elt Ideal) f10 ((tripL_k0_t1 (F := Ideal) Variants.none c none i arg3 harg3 arg4 harg4 arg5 harg5 arg6 harg6 arg7 harg7 arg8 harg8 arg9 harg9 arg10 harg10 arg11 harg11 arg2 v14 v22 v31 X_arg4 X_arg5 X_arg8) k f9 f10 f11).2.1) (ix3 1 0 j)
      = stepL (fun x => Tk v14 v22 (arg4.view.read (Elt Ideal) X_arg4) (arg8.view.read (Elt Ideal) X_arg8) 1 j (512 * k.val + x.val)) (arg9.view.read (Elt Ideal) f9 (ix3 1 0 j)) (arg10.view.read (Elt Ideal) f10 (ix3 1 0 j)) := by
  unfold tripL_k0_t1 trip_k0_t1
  dsimp only
  refine (View.read_writes_cons_unit_of_mem arg10.view f10 _ _ _ (ix3 1 0 j) (ix3 0 0 j) rfl (emb_ok _ _ _ _ _ _ _ _ _ rfl (by simp) (by simp))).trans ?_
  refine (show _ = k0_pay140 (k0_pay80 v22 (Kb i arg4 X_arg4 k) (LCb1 i arg8 X_arg8 k)) (k0_pay136 (arg9.view.readAt (Elt Ideal) (Rect.unit (s := S2x1x512) ![1, 0, 0] S1x1x512.size inb_S2x1x512_S1x1x512_1_0_0).toLoadRect f9)) (arg10.view.readAt (Elt Ideal) (Rect.unit (s := S2x1x512) ![1, 0, 0] S1x1x512.size inb_S2x1x512_S1x1x512_1_0_0).toLoadRect f10) (ix3 0 0 j) from rfl).trans ?_
  rw [lS_apply]
  exact stepL_congr (funext fun r => score_block arg4.view arg8.view X_arg4 X_arg8 v14 v22 1 k.val (hk i k) (k0_off1_inb i k) (k0_off4_inb i k) (k0_off1_eq i k) (k0_off4_eq i k) r j) (readAt_at _ _ _ rfl _ _ (emb_ok _ _ _ _ _ _ _ _ _ rfl (by simp) (by simp))) (readAt_at _ _ _ rfl _ _ (emb_ok _ _ _ _ _ _ _ _ _ rfl (by simp) (by simp)))

theorem trip_a0 (k : Fin (k0_t1_loop i).trips) (f9 : BufTy.Contents (Elt Ideal) arg9.view.ty) (f10 : BufTy.Contents (Elt Ideal) arg10.view.ty) (f11 : BufTy.Contents (Elt Ideal) arg11.view.ty) (d : Fin 64) (j : Fin 512) :
    arg11.view.read (Elt Ideal) (arg11.view.writes (Elt Ideal) f11 ((tripL_k0_t1 (F := Ideal) Variants.none c none i arg3 harg3 arg4 harg4 arg5 harg5 arg6 harg6 arg7 harg7 arg8 harg8 arg9 harg9 arg10 harg10 arg11 harg11 arg2 v14 v22 v31 X_arg4 X_arg5 X_arg8) k f9 f10 f11).2.2) (ix3 0 d j)
      = stepA (fun x => Tk v14 v22 (arg4.view.read (Elt Ideal) X_arg4) (arg8.view.read (Elt Ideal) X_arg8) 0 j (512 * k.val + x.val)) (fun x => Vk (arg5.view.read (Elt Ideal) X_arg5) 0 d (512 * k.val + x.val)) (arg9.view.read (Elt Ideal) f9 (ix3 0 0 j)) (arg11.view.read (Elt Ideal) f11 (ix3 0 d j)) := by
  unfold tripL_k0_t1 trip_k0_t1
  dsimp only
  refine (View.read_writes_cons_unit_of_not_mem arg11.view f11 _ _ _ (ix3 0 d j) rfl 0 (Or.inl (show (0 : ℕ) < 1 by norm_num))).trans ?_
  refine (View.read_writes_cons_unit_of_mem arg11.view f11 _ _ _ (ix3 0 d j) (ix3 0 d j) rfl (emb_ok _ _ _ _ _ _ _ _ _ rfl (by simp) (by simp))).trans ?_
  refine (show _ = k0_pay133 (k0_pay126 (Vb i arg5 X_arg5 k)) (k0_pay138 (k0_pay80 v14 (Kb i arg4 X_arg4 k) (LCb0 i arg8 X_arg8 k)) (k0_pay136 (arg9.view.readAt (Elt Ideal) (Rect.unit (s := S2x1x512) ![0, 0, 0] S1x1x512.size inb_S2x1x512_S1x1x512_0_0_0).toLoadRect f9))) (k0_pay139 (k0_pay80 v14 (Kb i arg4 X_arg4 k) (LCb0 i arg8 X_arg8 k)) (k0_pay136 (arg9.view.readAt (Elt Ideal) (Rect.unit (s := S2x1x512) ![0, 0, 0] S1x1x512.size inb_S2x1x512_S1x1x512_0_0_0).toLoadRect f9))) (arg11.view.readAt (Elt Ideal) (Rect.unit (s := S2x64x512) ![0, 0, 0] S1x64x512.size inb_S2x64x512_S1x64x512_0_0_0).toLoadRect f11) (ix3 0 d j) from rfl).trans ?_
  rw [aS0_apply]
  exact stepA_congr (funext fun r => score_block arg4.view arg8.view X_arg4 X_arg8 v14 v22 0 k.val (hk i k) (k0_off1_inb i k) (k0_off3_inb i k) (k0_off1_eq i k) (k0_off3_eq i k) r j) (funext fun x => value_block arg5.view X_arg5 0 d k.val (hk i k) (k0_off2_inb i k) (k0_off2_eq i k) _ (by simp) x) (readAt_at _ _ _ rfl _ _ (emb_ok _ _ _ _ _ _ _ _ _ rfl (by simp) (by simp))) (readAt_at _ _ _ rfl _ _ (emb_ok _ _ _ _ _ _ _ _ _ rfl (by simp) (by simp)))

theorem trip_a1 (k : Fin (k0_t1_loop i).trips) (f9 : BufTy.Contents (Elt Ideal) arg9.view.ty) (f10 : BufTy.Contents (Elt Ideal) arg10.view.ty) (f11 : BufTy.Contents (Elt Ideal) arg11.view.ty) (d : Fin 64) (j : Fin 512) :
    arg11.view.read (Elt Ideal) (arg11.view.writes (Elt Ideal) f11 ((tripL_k0_t1 (F := Ideal) Variants.none c none i arg3 harg3 arg4 harg4 arg5 harg5 arg6 harg6 arg7 harg7 arg8 harg8 arg9 harg9 arg10 harg10 arg11 harg11 arg2 v14 v22 v31 X_arg4 X_arg5 X_arg8) k f9 f10 f11).2.2) (ix3 1 d j)
      = stepA (fun x => Tk v14 v22 (arg4.view.read (Elt Ideal) X_arg4) (arg8.view.read (Elt Ideal) X_arg8) 1 j (512 * k.val + x.val)) (fun x => Vk (arg5.view.read (Elt Ideal) X_arg5) 1 d (512 * k.val + x.val)) (arg9.view.read (Elt Ideal) f9 (ix3 1 0 j)) (arg11.view.read (Elt Ideal) f11 (ix3 1 d j)) := by
  unfold tripL_k0_t1 trip_k0_t1
  dsimp only
  refine (View.read_writes_cons_unit_of_mem arg11.view f11 _ _ _ (ix3 1 d j) (ix3 0 d j) rfl (emb_ok _ _ _ _ _ _ _ _ _ rfl (by simp) (by simp))).trans ?_
  refine (show _ = k0_pay141 (k0_pay126 (Vb i arg5 X_arg5 k)) (k0_pay80 v22 (Kb i arg4 X_arg4 k) (LCb1 i arg8 X_arg8 k)) (k0_pay136 (arg9.view.readAt (Elt Ideal) (Rect.unit (s := S2x1x512) ![1, 0, 0] S1x1x512.size inb_S2x1x512_S1x1x512_1_0_0).toLoadRect f9)) (arg11.view.readAt (Elt Ideal) (Rect.unit (s := S2x64x512) ![1, 0, 0] S1x64x512.size inb_S2x64x512_S1x64x512_1_0_0).toLoadRect f11) (ix3 0 d j) from rfl).trans ?_
  rw [aS1_apply]
  exact stepA_congr (funext fun r => score_block arg4.view arg8.view X_arg4 X_arg8 v14 v22 1 k.val (hk i k) (k0_off1_inb i k) (k0_off4_inb i k) (k0_off1_eq i k) (k0_off4_eq i k) r j) (funext fun x => value_block arg5.view X_arg5 1 d k.val (hk i k) (k0_off2_inb i k) (k0_off2_eq i k) _ (by simp) x) (readAt_at _ _ _ rfl _ _ (emb_ok _ _ _ _ _ _ _ _ _ rfl (by simp) (by simp))) (readAt_at _ _ _ rfl _ _ (emb_ok _ _ _ _ _ _ _ _ _ rfl (by simp) (by simp)))

/-- After `n` trips the three scratch buffers read the streamed state of `n` blocks. -/
theorem loop_read (G9 : BufTy.Contents (Elt Ideal) arg9.view.ty) (G10 : BufTy.Contents (Elt Ideal) arg10.view.ty) (G11 : BufTy.Contents (Elt Ideal) arg11.view.ty)
    (h : Fin 2) (j : Fin 512)
    (e9 : arg9.view.read (Elt Ideal) G9 (ix3 h 0 j) = ⊥) (e10 : arg10.view.read (Elt Ideal) G10 (ix3 h 0 j) = 0)
    (e11 : ∀ d, arg11.view.read (Elt Ideal) G11 (ix3 h d j) = 0) (n : ℕ) (hn : n ≤ (k0_t1_loop i).trips) :
    arg9.view.read (Elt Ideal) (arg9.view.writes (Elt Ideal) G9 ((pb_k0_t1 (F := Ideal) Variants.none c none i arg3 harg3 arg4 harg4 arg5 harg5 arg6 harg6 arg7 harg7 arg8 harg8 arg9 harg9 arg10 harg10 arg11 harg11 arg2 v14 v22 v31 X_arg4 X_arg5 X_arg8) G9 G10 G11 n).1) (ix3 h 0 j)
        = foldM (Tk v14 v22 (arg4.view.read (Elt Ideal) X_arg4) (arg8.view.read (Elt Ideal) X_arg8) h j) n
      ∧ arg10.view.read (Elt Ideal) (arg10.view.writes (Elt Ideal) G10 ((pb_k0_t1 (F := Ideal) Variants.none c none i arg3 harg3 arg4 harg4 arg5 harg5 arg6 harg6 arg7 harg7 arg8 harg8 arg9 harg9 arg10 harg10 arg11 harg11 arg2 v14 v22 v31 X_arg4 X_arg5 X_arg8) G9 G10 G11 n).2.1) (ix3 h 0 j)
        = foldL (Tk v14 v22 (arg4.view.read (Elt Ideal) X_arg4) (arg8.view.read (Elt Ideal) X_arg8) h j) n
      ∧ ∀ d, arg11.view.read (Elt Ideal) (arg11.view.writes (Elt Ideal) G11 ((pb_k0_t1 (F := Ideal) Variants.none c none i arg3 harg3 arg4 harg4 arg5 harg5 arg6 harg6 arg7 harg7 arg8 harg8 arg9 harg9 arg10 harg10 arg11 harg11 arg2 v14 v22 v31 X_arg4 X_arg5 X_arg8) G9 G10 G11 n).2.2) (ix3 h d j)
        = foldA (Tk v14 v22 (arg4.view.read (Elt Ideal) X_arg4) (arg8.view.read (Elt Ideal) X_arg8) h j)
            (Vk (arg5.view.read (Elt Ideal) X_arg5) h d) n := by
  induction n with
  | zero => exact ⟨e9, e10, e11⟩
  | succ n ih =>
    obtain ⟨h1, h2, h3⟩ := ih (by omega)
    have hs := pb_k0_t1_succ (F := Ideal) Variants.none c none i arg3 harg3 arg4 harg4 arg5 harg5 arg6 harg6 arg7 harg7 arg8 harg8 arg9 harg9 arg10 harg10 arg11 harg11 arg2 v14 v22 v31 X_arg4 X_arg5 X_arg8 G9 G10 G11 ⟨n, by omega⟩
    simp only [] at hs
    rw [hs]
    simp only [View.writes_append]
    fin_cases h
    · refine ⟨(trip_m0 c i arg3 harg3 arg4 harg4 arg5 harg5 arg6 harg6 arg7 harg7 arg8 harg8 arg9 harg9 arg10 harg10 arg11 harg11 arg2 v14 v22 v31 X_arg4 X_arg5 X_arg8 ⟨n, by omega⟩ _ _ _ j).trans ?_,
        (trip_l0 c i arg3 harg3 arg4 harg4 arg5 harg5 arg6 harg6 arg7 harg7 arg8 harg8 arg9 harg9 arg10 harg10 arg11 harg11 arg2 v14 v22 v31 X_arg4 X_arg5 X_arg8 ⟨n, by omega⟩ _ _ _ j).trans ?_,
        fun d => (trip_a0 c i arg3 harg3 arg4 harg4 arg5 harg5 arg6 harg6 arg7 harg7 arg8 harg8 arg9 harg9 arg10 harg10 arg11 harg11 arg2 v14 v22 v31 X_arg4 X_arg5 X_arg8 ⟨n, by omega⟩ _ _ _ d j).trans ?_⟩
      · exact stepM_congr rfl h1
      · exact stepL_congr rfl h1 h2
      · exact stepA_congr rfl rfl h1 (h3 d)
    · refine ⟨(trip_m1 c i arg3 harg3 arg4 harg4 arg5 harg5 arg6 harg6 arg7 harg7 arg8 harg8 arg9 harg9 arg10 harg10 arg11 harg11 arg2 v14 v22 v31 X_arg4 X_arg5 X_arg8 ⟨n, by omega⟩ _ _ _ j).trans ?_,
        (trip_l1 c i arg3 harg3 arg4 harg4 arg5 harg5 arg6 harg6 arg7 harg7 arg8 harg8 arg9 harg9 arg10 harg10 arg11 harg11 arg2 v14 v22 v31 X_arg4 X_arg5 X_arg8 ⟨n, by omega⟩ _ _ _ j).trans ?_,
        fun d => (trip_a1 c i arg3 harg3 arg4 harg4 arg5 harg5 arg6 harg6 arg7 harg7 arg8 harg8 arg9 harg9 arg10 harg10 arg11 harg11 arg2 v14 v22 v31 X_arg4 X_arg5 X_arg8 ⟨n, by omega⟩ _ _ _ d j).trans ?_⟩
      · exact stepM_congr rfl h1
      · exact stepL_congr rfl h1 h2
      · exact stepA_congr rfl rfl h1 (h3 d)

/-- The loop over the full blocks runs once per block before the query block; the remainder loop never runs. -/
theorem trips1 : (k0_t1_loop i).trips = (i 2).val := by
  have h : (i 2).val < 8 := (i 2).isLt
  generalize hx : (i 2).val = x at h
  show Scf.trips (k0_t1_loop i).lb (k0_t1_loop i).ub (k0_t1_loop i).st = x
  simp only [k0_t1_loop, hx]
  interval_cases x <;> decide +kernel

theorem trips2 : (k0_t2_loop i).trips = 0 := Nat.le_zero.mp (k0_t2_abs i).2.1

end

end Cert.KernelIdeal.Fox
-- ==== Proof.Fox.Block.lean ====
/- The diagonal block of a grid step and the step's result, of what the scratch buffers read after the loop. -/
module

public import proofs.«01_k».proof.Proof.Fox.Trip

@[expose] public section

set_option maxRecDepth 16384

noncomputable section

namespace Cert.KernelIdeal.Fox

open Idealize.ShloMosaic Cert.KernelIdeal Cert.KernelIdeal.Gen _root_.Fox.Math

section
variable (i : grid0.Coords) (v4 : View sig .tc .vmem S1x4096x128 .bf16) (v5 : View sig .tc .vmem S1x128x4096 .bf16) (v8 : View sig .tc .vmem S2x4096x128 .f32)
  (v9 v10 : View sig .tc .vmem S2x1x512 .f32) (v11 : View sig .tc .vmem S2x64x512 .f32)
  (Q0 Q1 : FVec Ideal S128x512 .bf16)
  (X4 : v4.ty.Contents (Elt Ideal)) (X5 : v5.ty.Contents (Elt Ideal)) (X8 : v8.ty.Contents (Elt Ideal))
  (L9 L10 : List (View.Piece (Elt Ideal) S2x1x512 .f32)) (L11 : List (View.Piece (Elt Ideal) S2x64x512 .f32))

/-- The keys of the diagonal block. -/
abbrev dK : Vec Ideal S1x512x128 .bf16 :=
  v4.readAt (Elt Ideal) (Rect.unit (s := S1x4096x128) (k0_off9 i) S1x512x128.size (k0_off9_inb i)).toLoadRect X4

/-- The values of the diagonal block. -/
abbrev dV : FVec Ideal S128x512 .bf16 :=
  k0_pay126 (v5.readAt (Elt Ideal) (Rect.unit (s := S1x128x4096) (k0_off10 i) S1x128x512.size (k0_off10_inb i)).toLoadRect X5)

/-- The masked scores of the diagonal block, first head. -/
abbrev dT0 : FVec Ideal S512x512 .f32 :=
  k0_pay127 Q0 (dK i v4 X4) (v8.readAt (Elt Ideal) (Rect.unit (s := S2x4096x128) (k0_off11 i) S1x512x128.size (k0_off11_inb i)).toLoadRect X8)

/-- The masked scores of the diagonal block, second head. -/
abbrev dT1 : FVec Ideal S512x512 .f32 :=
  k0_pay127 Q1 (dK i v4 X4) (v8.readAt (Elt Ideal) (Rect.unit (s := S2x4096x128) (k0_off12 i) S1x512x128.size (k0_off12_inb i)).toLoadRect X8)

/-- The maxima after the first head's update. -/
abbrev H9 : List (View.Piece (Elt Ideal) S2x1x512 .f32) := ⟨(Rect.unit (s := S2x1x512) ![0, 0, 0] S1x1x512.size inb_S2x1x512_S1x1x512_0_0_0), k0_pay142 (dT0 i v4 v8 Q0 X4 X8) (k0_pay136 (v9.readCov (Val := Elt Ideal) (L9) (Rect.unit (s := S2x1x512) ![0, 0, 0] S1x1x512.size inb_S2x1x512_S1x1x512_0_0_0).toLoadRect))⟩ :: L9

/-- The sums after the first head's update. -/
abbrev H10 : List (View.Piece (Elt Ideal) S2x1x512 .f32) := ⟨(Rect.unit (s := S2x1x512) ![0, 0, 0] S1x1x512.size inb_S2x1x512_S1x1x512_0_0_0), k0_pay140 (dT0 i v4 v8 Q0 X4 X8) (k0_pay136 (v9.readCov (Val := Elt Ideal) (L9) (Rect.unit (s := S2x1x512) ![0, 0, 0] S1x1x512.size inb_S2x1x512_S1x1x512_0_0_0).toLoadRect)) (v10.readCov (Val := Elt Ideal) (L10) (Rect.unit (s := S2x1x512) ![0, 0, 0] S1x1x512.size inb_S2x1x512_S1x1x512_0_0_0).toLoadRect)⟩ :: L10

/-- The weighted sums after the first head's update. -/
abbrev H11 : List (View.Piece (Elt Ideal) S2x64x512 .f32) := ⟨(Rect.unit (s := S2x64x512) ![0, 0, 0] S1x64x512.size inb_S2x64x512_S1x64x512_0_0_0), k0_pay133 (dV i v5 X5) (k0_pay138 (dT0 i v4 v8 Q0 X4 X8) (k0_pay136 (v9.readCov (Val := Elt Ideal) (L9) (Rect.unit (s := S2x1x512) ![0, 0, 0] S1x1x512.size inb_S2x1x512_S1x1x512_0_0_0).toLoadRect))) (k0_pay139 (dT0 i v4 v8 Q0 X4 X8) (k0_pay136 (v9.readCov (Val := Elt Ideal) (L9) (Rect.unit (s := S2x1x512) ![0, 0, 0] S1x1x512.size inb_S2x1x512_S1x1x512_0_0_0).toLoadRect))) (v11.readCov (Val := Elt Ideal) (L11) (Rect.unit (s := S2x64x512) ![0, 0, 0] S1x64x512.size inb_S2x64x512_S1x64x512_0_0_0).toLoadRect)⟩ :: L11

/-- The sums after both heads' updates. -/
abbrev J10 : List (View.Piece (Elt Ideal) S2x1x512 .f32) := ⟨(Rect.unit (s := S2x1x512) ![1, 0, 0] S1x1x512.size inb_S2x1x512_S1x1x512_1_0_0), k0_pay140 (dT1 i v4 v8 Q1 X4 X8) (k0_pay136 (v9.readCov (Val := Elt Ideal) (H9 i v4 v8 v9 Q0 X4 X8 L9) (Rect.unit (s := S2x1x512) ![1, 0, 0] S1x1x512.size inb_S2x1x512_S1x1x512_1_0_0).toLoadRect)) (v10.readCov (Val := Elt Ideal) (H10 i v4 v8 v9 v10 Q0 X4 X8 L9 L10) (Rect.unit (s := S2x1x512) ![1, 0, 0] S1x1x512.size inb_S2x1x512_S1x1x512_1_0_0).toLoadRect)⟩ :: H10 i v4 v8 v9 v10 Q0 X4 X8 L9 L10

/-- The weighted sums after both heads' updates. -/
abbrev J11 : List (View.Piece (Elt Ideal) S2x64x512 .f32) := ⟨(Rect.unit (s := S2x64x512) ![1, 0, 0] S1x64x512.size inb_S2x64x512_S1x64x512_1_0_0), k0_pay141 (dV i v5 X5) (dT1 i v4 v8 Q1 X4 X8) (k0_pay136 (v9.readCov (Val := Elt Ideal) (H9 i v4 v8 v9 Q0 X4 X8 L9) (Rect.unit (s := S2x1x512) ![1, 0, 0] S1x1x512.size inb_S2x1x512_S1x1x512_1_0_0).toLoadRect)) (v11.readCov (Val := Elt Ideal) (H11 i v4 v5 v8 v9 v11 Q0 X4 X5 X8 L9 L11) (Rect.unit (s := S2x64x512) ![1, 0, 0] S1x64x512.size inb_S2x64x512_S1x64x512_1_0_0).toLoadRect)⟩ :: H11 i v4 v5 v8 v9 v11 Q0 X4 X5 X8 L9 L11

/-- The block a step stores. -/
abbrev outB : FVec Ideal S1x512x128 .bf16 :=
  k0_pay1 (k0_pay143 (v11.readCov (Val := Elt Ideal) (J11 i v4 v5 v8 v9 v11 Q0 Q1 X4 X5 X8 L9 L11) (Rect.unit (s := S2x64x512) ![0, 0, 0] S1x64x512.size inb_S2x64x512_S1x64x512_0_0_0).toLoadRect)) (v10.readCov (Val := Elt Ideal) (J10 i v4 v8 v9 v10 Q0 Q1 X4 X8 L9 L10) (Rect.unit (s := S2x1x512) ![0, 0, 0] S1x1x512.size inb_S2x1x512_S1x1x512_0_0_0).toLoadRect) (v11.readCov (Val := Elt Ideal) (J11 i v4 v5 v8 v9 v11 Q0 Q1 X4 X5 X8 L9 L11) (Rect.unit (s := S2x64x512) ![1, 0, 0] S1x64x512.size inb_S2x64x512_S1x64x512_1_0_0).toLoadRect) (v10.readCov (Val := Elt Ideal) (J10 i v4 v8 v9 v10 Q0 Q1 X4 X8 L9 L10) (Rect.unit (s := S2x1x512) ![1, 0, 0] S1x1x512.size inb_S2x1x512_S1x1x512_1_0_0).toLoadRect)

/-- The score of a key of the diagonal block, masked past the query. -/
def Tm (K : Vec Ideal S1x4096x128 .bf16) (LC : Vec Ideal S2x4096x128 .f32) (h : Fin 2) (j : Fin 512) (x : Fin 512) : EReal :=
  if x.val ≤ j.val then Tk Q0 Q1 K LC h j (512 * (i 2).val + x.val) else ⊥

theorem dT0_eq (j : Fin 512) : (fun x => dT0 i v4 v8 Q0 X4 X8 (ix2 x j)) = Tm i Q0 Q1 (v4.read (Elt Ideal) X4) (v8.read (Elt Ideal) X8) 0 j := by
  funext x
  have hs := score_block v4 v8 X4 X8 Q0 Q1 0 (i 2).val (i 2).isLt (k0_off9_inb i) (k0_off11_inb i) (k0_off9_eq i) (k0_off11_eq i) x j
  exact (scM_apply _ _ _ x j).trans (by unfold Tm; split; exacts [hs, rfl])

theorem dT1_eq (j : Fin 512) : (fun x => dT1 i v4 v8 Q1 X4 X8 (ix2 x j)) = Tm i Q0 Q1 (v4.read (Elt Ideal) X4) (v8.read (Elt Ideal) X8) 1 j := by
  funext x
  have hs := score_block v4 v8 X4 X8 Q0 Q1 1 (i 2).val (i 2).isLt (k0_off9_inb i) (k0_off12_inb i) (k0_off9_eq i) (k0_off12_eq i) x j
  exact (scM_apply _ _ _ x j).trans (by unfold Tm; split; exacts [hs, rfl])

theorem dV_eq (h : Fin 2) (d : Fin 64) (dd : Fin 128) (hd : dd.val = 64 * h.val + d.val) :
    (fun x => dV i v5 X5 (ix2 dd x)) = fun x => Vk (v5.read (Elt Ideal) X5) h d (512 * (i 2).val + x.val) :=
  funext fun x => value_block v5 X5 h d (i 2).val (i 2).isLt (k0_off10_inb i) (k0_off10_eq i) dd hd x

/-- A load of one head's row of a scratch buffer reads the buffer. -/
theorem cov_at {s : Shape} {e : EltTy} (v : View sig .tc .vmem s e) (L : List (View.Piece (Elt Ideal) s e)) {off size : Fin s.rank → ℕ} (inb : ∀ a, off a + size a ≤ s.size a)
    (x : (Rect.unit off size inb).shape.Idx) (y : s.Idx) (hy : ∀ a, (y a).val = off a + (x a).val) :
    v.readCov (Val := Elt Ideal) L (Rect.unit off size inb).toLoadRect x = v.read (Elt Ideal) (v.writes (Elt Ideal) v.junk L) y :=
  readAt_at v _ inb rfl x y hy

variable (j : Fin 512)

theorem H9_1 : v9.read (Elt Ideal) (v9.writes (Elt Ideal) v9.junk (H9 i v4 v8 v9 Q0 X4 X8 L9)) (ix3 1 0 j) = v9.read (Elt Ideal) (v9.writes (Elt Ideal) v9.junk (L9)) (ix3 1 0 j) :=
  View.read_writes_cons_unit_of_not_mem v9 _ _ _ _ (ix3 1 0 j) rfl 0 (Or.inr (show (0 : ℕ) + 1 ≤ 1 by norm_num))

theorem H10_1 : v10.read (Elt Ideal) (v10.writes (Elt Ideal) v10.junk (H10 i v4 v8 v9 v10 Q0 X4 X8 L9 L10)) (ix3 1 0 j) = v10.read (Elt Ideal) (v10.writes (Elt Ideal) v10.junk (L10)) (ix3 1 0 j) :=
  View.read_writes_cons_unit_of_not_mem v10 _ _ _ _ (ix3 1 0 j) rfl 0 (Or.inr (show (0 : ℕ) + 1 ≤ 1 by norm_num))

theorem H11_1 (d : Fin 64) : v11.read (Elt Ideal) (v11.writes (Elt Ideal) v11.junk (H11 i v4 v5 v8 v9 v11 Q0 X4 X5 X8 L9 L11)) (ix3 1 d j) = v11.read (Elt Ideal) (v11.writes (Elt Ideal) v11.junk (L11)) (ix3 1 d j) :=
  View.read_writes_cons_unit_of_not_mem v11 _ _ _ _ (ix3 1 d j) rfl 0 (Or.inr (show (0 : ℕ) + 1 ≤ 1 by norm_num))

theorem J10_0 : v10.read (Elt Ideal) (v10.writes (Elt Ideal) v10.junk (J10 i v4 v8 v9 v10 Q0 Q1 X4 X8 L9 L10)) (ix3 0 0 j) = stepL (Tm i Q0 Q1 (v4.read (Elt Ideal) X4) (v8.read (Elt Ideal) X8) 0 j) (v9.read (Elt Ideal) (v9.writes (Elt Ideal) v9.junk (L9)) (ix3 0 0 j)) (v10.read (Elt Ideal) (v10.writes (Elt Ideal) v10.junk (L10)) (ix3 0 0 j)) := by
  refine (View.read_writes_cons_unit_of_not_mem v10 _ _ _ _ (ix3 0 0 j) rfl 0 (Or.inl (show (0 : ℕ) < 1 by norm_num))).trans ?_
  refine (View.read_writes_cons_unit_of_mem v10 _ _ _ _ (ix3 0 0 j) (ix3 0 0 j) rfl (emb_ok _ _ _ _ _ _ _ _ _ rfl (by simp) (by simp))).trans ?_
  refine (lS_apply _ _ _ j).trans ?_
  exact stepL_congr (dT0_eq i v4 v8 Q0 Q1 X4 X8 j) (cov_at _ _ _ _ _ (emb_ok _ _ _ _ _ _ _ _ _ rfl (by simp) (by simp))) (cov_at _ _ _ _ _ (emb_ok _ _ _ _ _ _ _ _ _ rfl (by simp) (by simp)))

theorem J10_1 : v10.read (Elt Ideal) (v10.writes (Elt Ideal) v10.junk (J10 i v4 v8 v9 v10 Q0 Q1 X4 X8 L9 L10)) (ix3 1 0 j) = stepL (Tm i Q0 Q1 (v4.read (Elt Ideal) X4) (v8.read (Elt Ideal) X8) 1 j) (v9.read (Elt Ideal) (v9.writes (Elt Ideal) v9.junk (L9)) (ix3 1 0 j)) (v10.read (Elt Ideal) (v10.writes (Elt Ideal) v10.junk (L10)) (ix3 1 0 j)) := by
  refine (View.read_writes_cons_unit_of_mem v10 _ _ _ _ (ix3 1 0 j) (ix3 0 0 j) rfl (emb_ok _ _ _ _ _ _ _ _ _ rfl (by simp) (by simp))).trans ?_
  refine (lS_apply _ _ _ j).trans ?_
  exact stepL_congr (dT1_eq i v4 v8 Q0 Q1 X4 X8 j) ((cov_at _ _ _ _ _ (emb_ok _ _ _ _ _ _ _ _ _ rfl (by simp) (by simp))).trans (H9_1 i v4 v8 v9 Q0 X4 X8 L9 j)) ((cov_at _ _ _ _ _ (emb_ok _ _ _ _ _ _ _ _ _ rfl (by simp) (by simp))).trans (H10_1 i v4 v8 v9 v10 Q0 X4 X8 L9 L10 j))

theorem J11_0 (d : Fin 64) : v11.read (Elt Ideal) (v11.writes (Elt Ideal) v11.junk (J11 i v4 v5 v8 v9 v11 Q0 Q1 X4 X5 X8 L9 L11)) (ix3 0 d j) = stepA (Tm i Q0 Q1 (v4.read (Elt Ideal) X4) (v8.read (Elt Ideal) X8) 0 j) (fun x => Vk (v5.read (Elt Ideal) X5) 0 d (512 * (i 2).val + x.val)) (v9.read (Elt Ideal) (v9.writes (Elt Ideal) v9.junk (L9)) (ix3 0 0 j)) (v11.read (Elt Ideal) (v11.writes (Elt Ideal) v11.junk (L11)) (ix3 0 d j)) := by
  refine (View.read_writes_cons_unit_of_not_mem v11 _ _ _ _ (ix3 0 d j) rfl 0 (Or.inl (show (0 : ℕ) < 1 by norm_num))).trans ?_
  refine (View.read_writes_cons_unit_of_mem v11 _ _ _ _ (ix3 0 d j) (ix3 0 d j) rfl (emb_ok _ _ _ _ _ _ _ _ _ rfl (by simp) (by simp))).trans ?_
  refine (aS0_apply _ _ _ _ d j).trans ?_
  exact stepA_congr (dT0_eq i v4 v8 Q0 Q1 X4 X8 j) (dV_eq i v5 X5 0 d _ (by simp)) (cov_at _ _ _ _ _ (emb_ok _ _ _ _ _ _ _ _ _ rfl (by simp) (by simp))) (cov_at _ _ _ _ _ (emb_ok _ _ _ _ _ _ _ _ _ rfl (by simp) (by simp)))

theorem J11_1 (d : Fin 64) : v11.read (Elt Ideal) (v11.writes (Elt Ideal) v11.junk (J11 i v4 v5 v8 v9 v11 Q0 Q1 X4 X5 X8 L9 L11)) (ix3 1 d j) = stepA (Tm i Q0 Q1 (v4.read (Elt Ideal) X4) (v8.read (Elt Ideal) X8) 1 j) (fun x => Vk (v5.read (Elt Ideal) X5) 1 d (512 * (i 2).val + x.val)) (v9.read (Elt Ideal) (v9.writes (Elt Ideal) v9.junk (L9)) (ix3 1 0 j)) (v11.read (Elt Ideal) (v11.writes (Elt Ideal) v11.junk (L11)) (ix3 1 d j)) := by
  refine (View.read_writes_cons_unit_of_mem v11 _ _ _ _ (ix3 1 d j) (ix3 0 d j) rfl (emb_ok _ _ _ _ _ _ _ _ _ rfl (by simp) (by simp))).trans ?_
  refine (aS1_apply _ _ _ _ d j).trans ?_
  exact stepA_congr (dT1_eq i v4 v8 Q0 Q1 X4 X8 j) (dV_eq i v5 X5 1 d _ (by simp)) ((cov_at _ _ _ _ _ (emb_ok _ _ _ _ _ _ _ _ _ rfl (by simp) (by simp))).trans (H9_1 i v4 v8 v9 Q0 X4 X8 L9 j)) ((cov_at _ _ _ _ _ (emb_ok _ _ _ _ _ _ _ _ _ rfl (by simp) (by simp))).trans (H11_1 i v4 v5 v8 v9 v11 Q0 X4 X5 X8 L9 L11 j d))

/-- What a step stores, at an index of head `h`. -/
theorem outB_apply (h : Fin 2) (d : Fin 64) (dd : Fin 128) (hd : dd.val = 64 * h.val + d.val) :
    outB i v4 v5 v8 v9 v10 v11 Q0 Q1 X4 X5 X8 L9 L10 L11 (ix3 0 j dd)
      = Ideal.div (stepA (Tm i Q0 Q1 (v4.read (Elt Ideal) X4) (v8.read (Elt Ideal) X8) h j) (fun x => Vk (v5.read (Elt Ideal) X5) h d (512 * (i 2).val + x.val)) (v9.read (Elt Ideal) (v9.writes (Elt Ideal) v9.junk (L9)) (ix3 h 0 j)) (v11.read (Elt Ideal) (v11.writes (Elt Ideal) v11.junk (L11)) (ix3 h d j)))
          (stepL (Tm i Q0 Q1 (v4.read (Elt Ideal) X4) (v8.read (Elt Ideal) X8) h j) (v9.read (Elt Ideal) (v9.writes (Elt Ideal) v9.junk (L9)) (ix3 h 0 j)) (v10.read (Elt Ideal) (v10.writes (Elt Ideal) v10.junk (L10)) (ix3 h 0 j))) := by
  refine (fin_apply _ _ _ _ dd j).trans ?_
  have hlt := d.isLt
  fin_cases h
  · have hd' : dd.val = d.val := by simpa using hd
    have hd64 : dd.val < 64 := by omega
    rw [dif_pos hd64]
    obtain rfl : d = ⟨dd.val, hd64⟩ := Fin.ext hd'.symm
    exact congrArg₂ Ideal.div ((cov_at _ _ _ _ _ (emb_ok _ _ _ _ _ _ _ _ _ rfl (by simp) (by simp))).trans (J11_0 i v4 v5 v8 v9 v11 Q0 Q1 X4 X5 X8 L9 L11 j _)) ((cov_at _ _ _ _ _ (emb_ok _ _ _ _ _ _ _ _ _ rfl (by simp) (by simp))).trans (J10_0 i v4 v8 v9 v10 Q0 Q1 X4 X8 L9 L10 j))
  · have hd' : dd.val = 64 + d.val := by simpa using hd
    have hd64 : ¬dd.val < 64 := by omega
    rw [dif_neg hd64]
    rw [show (⟨dd.val - 64, by omega⟩ : Fin 64) = d from Fin.ext (by simp only []; omega)]
    exact congrArg₂ Ideal.div ((cov_at _ _ _ _ _ (emb_ok _ _ _ _ _ _ _ _ _ rfl (by simp) (by simp))).trans (J11_1 i v4 v5 v8 v9 v11 Q0 Q1 X4 X5 X8 L9 L11 j _)) ((cov_at _ _ _ _ _ (emb_ok _ _ _ _ _ _ _ _ _ rfl (by simp) (by simp))).trans (J10_1 i v4 v8 v9 v10 Q0 Q1 X4 X8 L9 L10 j))

end

end Cert.KernelIdeal.Fox
-- ==== Proof.Fox.Out.lean ====
/- The block a grid step stores, of its input blocks and of the scratch column of forget sums. -/
module

public import proofs.«01_k».proof.Proof.Fox.Block
public import proofs.«01_k».proof.Proof.Gen.KernelIdeal.Value

@[expose] public section

set_option maxRecDepth 16384

noncomputable section

namespace Cert.KernelIdeal.Fox

open Idealize.ShloMosaic Cert.KernelIdeal Cert.KernelIdeal.Gen _root_.Fox.Math

/-- The score of key `κ` for row `j` of query block `b`, masked past the query. -/
def Tq (Q0 Q1 : FVec Ideal S128x512 .bf16) (K : Vec Ideal S1x4096x128 .bf16) (LC : Vec Ideal S2x4096x128 .f32) (h : Fin 2) (j : Fin 512) (b κ : ℕ) : EReal :=
  if κ ≤ 512 * b + j.val then Tk Q0 Q1 K LC h j κ else ⊥

/-- The attention row a grid step computes. -/
def rowB (i : grid0.Coords) (Q0 Q1 : FVec Ideal S128x512 .bf16) (x1 : Vec Ideal S1x4096x128 .bf16) (x2 : Vec Ideal S1x128x4096 .bf16) (xs : Vec Ideal S2x4096x128 .f32) (h : Fin 2) (d : Fin 64) (j : Fin 512) : EReal :=
  Ideal.div (foldA (Tq Q0 Q1 x1 xs h j (i 2).val) (Vk x2 h d) ((i 2).val + 1))
    (foldL (Tq Q0 Q1 x1 xs h j (i 2).val) ((i 2).val + 1))

section
variable (c : Dev nD) (i : grid0.Coords) (arg3 : Memref sig .tc .vmem S1x128x512 .bf16) (harg3 : arg3.IsWhole) (arg4 : Memref sig .tc .vmem S1x4096x128 .bf16) (harg4 : arg4.IsWhole) (arg5 : Memref sig .tc .vmem S1x128x4096 .bf16) (harg5 : arg5.IsWhole) (arg6 : Memref sig .tc .vmem S1x1x2x4096 .f32) (harg6 : arg6.IsWhole) (arg7 : Memref sig .tc .vmem S1x512x128 .bf16) (harg7 : arg7.IsWhole) (arg8 : Memref sig .tc .vmem S2x4096x128 .f32) (harg8 : arg8.IsWhole) (arg9 : Memref sig .tc .vmem S2x1x512 .f32) (harg9 : arg9.IsWhole) (arg10 : Memref sig .tc .vmem S2x1x512 .f32) (harg10 : arg10.IsWhole) (arg11 : Memref sig .tc .vmem S2x64x512 .f32) (harg11 : arg11.IsWhole)

/-- The maxima's first store. -/
abbrev I9 : List (View.Piece (Elt Ideal) S2x1x512 .f32) := [⟨Rect.unit (s := S2x1x512) ![0, 0, 0] S2x1x512.size inb_S2x1x512_S2x1x512_0_0_0, k0_pay117 (F := Ideal)⟩]
/-- The sums' first store. -/
abbrev I10 : List (View.Piece (Elt Ideal) S2x1x512 .f32) := [⟨Rect.unit (s := S2x1x512) ![0, 0, 0] S2x1x512.size inb_S2x1x512_S2x1x512_0_0_0, k0_pay118 (F := Ideal)⟩]
/-- The weighted sums' first store. -/
abbrev I11 : List (View.Piece (Elt Ideal) S2x64x512 .f32) := [⟨Rect.unit (s := S2x64x512) ![0, 0, 0] S2x64x512.size inb_S2x64x512_S2x64x512_0_0_0, k0_pay120 (F := Ideal) k0_pay119⟩]

section
variable (Q0 Q1 : FVec Ideal S128x512 .bf16) (v31 : FVec Ideal S2x64x512 .f32) (v41 : BitVec 32)
  (X4 : BufTy.Contents (Elt Ideal) arg4.view.ty) (X5 : BufTy.Contents (Elt Ideal) arg5.view.ty) (X8 : BufTy.Contents (Elt Ideal) arg8.view.ty)

/-- The stores of the loop over full blocks. -/
abbrev P1 := pb_k0_t1 (F := Ideal) Variants.none c none i arg3 harg3 arg4 harg4 arg5 harg5 arg6 harg6 arg7 harg7 arg8 harg8 arg9 harg9 arg10 harg10 arg11 harg11 (BitVec.ofNat 32 (i 2)) Q0 Q1 k0_pay119 X4 X5 X8
  (arg9.view.writes (Elt Ideal) arg9.view.junk I9) (arg10.view.writes (Elt Ideal) arg10.view.junk I10) (arg11.view.writes (Elt Ideal) arg11.view.junk I11)
  (Scf.trips (k0_t1_loop i).lb (k0_t1_loop i).ub (k0_t1_loop i).st)

/-- The stores of the remainder loop. -/
abbrev P2 := pb_k0_t2 (F := Ideal) Variants.none c none i arg3 harg3 arg4 harg4 arg5 harg5 arg6 harg6 arg7 harg7 arg8 harg8 arg9 harg9 arg10 harg10 arg11 harg11 (BitVec.ofNat 32 (i 2)) Q0 Q1 k0_pay119 v41 X4 X5 X8
  (arg9.view.writes (Elt Ideal) arg9.view.junk ((P1 c i arg3 harg3 arg4 harg4 arg5 harg5 arg6 harg6 arg7 harg7 arg8 harg8 arg9 harg9 arg10 harg10 arg11 harg11 Q0 Q1 X4 X5 X8).1 ++ I9))
  (arg10.view.writes (Elt Ideal) arg10.view.junk ((P1 c i arg3 harg3 arg4 harg4 arg5 harg5 arg6 harg6 arg7 harg7 arg8 harg8 arg9 harg9 arg10 harg10 arg11 harg11 Q0 Q1 X4 X5 X8).2.1 ++ I10))
  (arg11.view.writes (Elt Ideal) arg11.view.junk ((P1 c i arg3 harg3 arg4 harg4 arg5 harg5 arg6 harg6 arg7 harg7 arg8 harg8 arg9 harg9 arg10 harg10 arg11 harg11 Q0 Q1 X4 X5 X8).2.2 ++ I11))
  (Scf.trips (k0_t2_loop i).lb (k0_t2_loop i).ub (k0_t2_loop i).st)

theorem P2_eq : P2 c i arg3 harg3 arg4 harg4 arg5 harg5 arg6 harg6 arg7 harg7 arg8 harg8 arg9 harg9 arg10 harg10 arg11 harg11 Q0 Q1 v41 X4 X5 X8 = ([], [], []) := by
  have h : Scf.trips (k0_t2_loop i).lb (k0_t2_loop i).ub (k0_t2_loop i).st = 0 := trips2 i
  unfold P2
  rw [h]
  rfl

theorem step_apply (h : Fin 2) (d : Fin 64) (j : Fin 512) (dd : Fin 128) (hd : dd.val = 64 * h.val + d.val) :
    outB i arg4.view arg5.view arg8.view arg9.view arg10.view arg11.view Q0 Q1 X4 X5 X8
      ((P2 c i arg3 harg3 arg4 harg4 arg5 harg5 arg6 harg6 arg7 harg7 arg8 harg8 arg9 harg9 arg10 harg10 arg11 harg11 Q0 Q1 v41 X4 X5 X8).1 ++ ((P1 c i arg3 harg3 arg4 harg4 arg5 harg5 arg6 harg6 arg7 harg7 arg8 harg8 arg9 harg9 arg10 harg10 arg11 harg11 Q0 Q1 X4 X5 X8).1 ++ I9))
      ((P2 c i arg3 harg3 arg4 harg4 arg5 harg5 arg6 harg6 arg7 harg7 arg8 harg8 arg9 harg9 arg10 harg10 arg11 harg11 Q0 Q1 v41 X4 X5 X8).2.1 ++ ((P1 c i arg3 harg3 arg4 harg4 arg5 harg5 arg6 harg6 arg7 harg7 arg8 harg8 arg9 harg9 arg10 harg10 arg11 harg11 Q0 Q1 X4 X5 X8).2.1 ++ I10))
      ((P2 c i arg3 harg3 arg4 harg4 arg5 harg5 arg6 harg6 arg7 harg7 arg8 harg8 arg9 harg9 arg10 harg10 arg11 harg11 Q0 Q1 v41 X4 X5 X8).2.2 ++ ((P1 c i arg3 harg3 arg4 harg4 arg5 harg5 arg6 harg6 arg7 harg7 arg8 harg8 arg9 harg9 arg10 harg10 arg11 harg11 Q0 Q1 X4 X5 X8).2.2 ++ I11)) (ix3 0 j dd)
      = rowB i Q0 Q1 (arg4.view.read (Elt Ideal) X4) (arg5.view.read (Elt Ideal) X5) (arg8.view.read (Elt Ideal) X8) h d j := by
  rw [P2_eq]
  refine (outB_apply i _ _ _ _ _ _ _ _ _ _ _ _ _ _ j h d dd hd).trans ?_
  simp only [List.nil_append, View.writes_append]
  have e9 : arg9.view.read (Elt Ideal) (arg9.view.writes (Elt Ideal) arg9.view.junk I9) (ix3 h 0 j) = ⊥ :=
    (View.read_writes_cons_unit_of_mem (Val := Elt Ideal) arg9.view arg9.view.junk inb_S2x1x512_S2x1x512_0_0_0 (k0_pay117 (F := Ideal)) [] (ix3 h 0 j) (ix3 h 0 j) rfl (emb_ok _ _ _ _ _ _ _ _ _ (by simp) (by simp) (by simp))).trans (m0_apply h j)
  have e10 : arg10.view.read (Elt Ideal) (arg10.view.writes (Elt Ideal) arg10.view.junk I10) (ix3 h 0 j) = 0 :=
    (View.read_writes_cons_unit_of_mem (Val := Elt Ideal) arg10.view arg10.view.junk inb_S2x1x512_S2x1x512_0_0_0 (k0_pay118 (F := Ideal)) [] (ix3 h 0 j) (ix3 h 0 j) rfl (emb_ok _ _ _ _ _ _ _ _ _ (by simp) (by simp) (by simp))).trans (l0_apply h j)
  have e11 : ∀ d, arg11.view.read (Elt Ideal) (arg11.view.writes (Elt Ideal) arg11.view.junk I11) (ix3 h d j) = 0 := fun d =>
    (View.read_writes_cons_unit_of_mem (Val := Elt Ideal) arg11.view arg11.view.junk inb_S2x64x512_S2x64x512_0_0_0 (k0_pay120 (F := Ideal) k0_pay119) [] (ix3 h d j) (ix3 h d j) rfl (emb_ok _ _ _ _ _ _ _ _ _ (by simp) (by simp) (by simp))).trans (a0_apply h d j)
  obtain ⟨h1, h2, h3⟩ := loop_read c i arg3 harg3 arg4 harg4 arg5 harg5 arg6 harg6 arg7 harg7 arg8 harg8 arg9 harg9 arg10 harg10 arg11 harg11 (BitVec.ofNat 32 (i 2)) Q0 Q1 k0_pay119 X4 X5 X8 _ _ _ h j e9 e10 e11 (k0_t1_loop i).trips le_rfl
  rw [show (P1 c i arg3 harg3 arg4 harg4 arg5 harg5 arg6 harg6 arg7 harg7 arg8 harg8 arg9 harg9 arg10 harg10 arg11 harg11 Q0 Q1 X4 X5 X8) = pb_k0_t1 (F := Ideal) Variants.none c none i arg3 harg3 arg4 harg4 arg5 harg5 arg6 harg6 arg7 harg7 arg8 harg8 arg9 harg9 arg10 harg10 arg11 harg11 (BitVec.ofNat 32 (i 2)) Q0 Q1 k0_pay119 X4 X5 X8 _ _ _ (k0_t1_loop i).trips from rfl]
  rw [h1, h2, h3 d, trips1]
  have hlt : ∀ κ < 512 * (i 2).val, Tk Q0 Q1 (arg4.view.read (Elt Ideal) X4) (arg8.view.read (Elt Ideal) X8) h j κ
      = Tq Q0 Q1 (arg4.view.read (Elt Ideal) X4) (arg8.view.read (Elt Ideal) X8) h j (i 2).val κ := fun κ hκ => by
    unfold Tq; rw [if_pos (by omega)]
  obtain ⟨f1, f2, f3⟩ := fold_congr (i 2).val (V := Vk (arg5.view.read (Elt Ideal) X5) h d) hlt (fun _ _ => rfl)
  rw [f1, f2, f3]
  have ht : Tm i Q0 Q1 (arg4.view.read (Elt Ideal) X4) (arg8.view.read (Elt Ideal) X8) h j
      = fun x : Fin 512 => Tq Q0 Q1 (arg4.view.read (Elt Ideal) X4) (arg8.view.read (Elt Ideal) X8) h j (i 2).val (512 * (i 2).val + x.val) := by
    funext x; unfold Tm Tq; simp only [Nat.add_le_add_iff_left]
  rw [ht]
  rfl

end

variable (x0 : Vec Ideal S1x128x512 .bf16) (x1 : Vec Ideal S1x4096x128 .bf16) (x2 : Vec Ideal S1x128x4096 .bf16) (x3 : Vec Ideal S1x1x2x4096 .f32)

theorem hz3 : (![0, 0, 0] : Fin 3 → ℕ) = fun _ => 0 := by funext a; fin_cases a <;> rfl

/-- What a later step of a head pair stores. -/
theorem outB_row (hc0 : _) (xs0 : Vec Ideal S2x4096x128 .f32) (h : Fin 2) (d : Fin 64) (j : Fin 512) (dd : Fin 128) (hd : dd.val = 64 * h.val + d.val) :
    out0_B_4 (F := Ideal) c i arg3 harg3 arg4 harg4 arg5 harg5 arg6 harg6 arg7 harg7 arg8 harg8 arg9 harg9 arg10 harg10 arg11 harg11 hc0 x0 x1 x2 x3 xs0 (ix3 0 j dd) = rowB i (k0_pay115 x0) (k0_pay116 x0) x1 x2 xs0 h d j := by
  have hx : View.readAt (Elt Ideal) arg3.view (Rect.unit (s := S1x128x512) ![0, 0, 0] S1x128x512.size inb_S1x128x512_S1x128x512_0_0_0).toLoadRect (harg3.unread x0) = x0 :=
    (View.readAt_full _ _ _).trans (harg3.read_unread x0)
  have key := step_apply c i arg3 harg3 arg4 harg4 arg5 harg5 arg6 harg6 arg7 harg7 arg8 harg8 arg9 harg9 arg10 harg10 arg11 harg11 (k0_pay115 (View.readAt (Elt Ideal) arg3.view (Rect.unit (s := S1x128x512) ![0, 0, 0] S1x128x512.size inb_S1x128x512_S1x128x512_0_0_0).toLoadRect (harg3.unread x0)))
    (k0_pay116 (View.readAt (Elt Ideal) arg3.view (Rect.unit (s := S1x128x512) ![0, 0, 0] S1x128x512.size inb_S1x128x512_S1x128x512_0_0_0).toLoadRect (harg3.unread x0))) (kernelRun0_B.sl.v41 i) (harg4.unread x1) (harg5.unread x2) (harg8.unread xs0) h d j dd hd
  refine Eq.trans ?_ (key.trans (by rw [hx, harg4.read_unread, harg5.read_unread, harg8.read_unread]))
  unfold out0_B_4
  rw [View.read_writes_eq_canon _ _ _ (cover0_B_4 (F := Ideal) c i arg3 harg3 arg4 harg4 arg5 harg5 arg6 harg6 arg7 harg7 arg8 harg8 arg9 harg9 arg10 harg10 arg11 harg11 hc0 x0 x1 x2 x3 xs0)]
  unfold kernelRun0_B
  dsimp only
  rw [View.canon_unit_zero hz3]
  rfl

/-- What the first step of a head pair stores. -/
theorem outA_row (hc0 : _) (h : Fin 2) (d : Fin 64) (j : Fin 512) (dd : Fin 128) (hd : dd.val = 64 * h.val + d.val) :
    out0_A_4 (F := Ideal) c i arg3 harg3 arg4 harg4 arg5 harg5 arg6 harg6 arg7 harg7 arg8 harg8 arg9 harg9 arg10 harg10 arg11 harg11 hc0 x0 x1 x2 x3 (ix3 0 j dd) = rowB i (k0_pay115 x0) (k0_pay116 x0) x1 x2
      (arg8.view.read (Elt Ideal) (arg8.view.writes (Elt Ideal) arg8.view.junk (kernelRun0_A.sl.HS0_64 c arg6 harg6 x3))) h d j := by
  have hx : View.readAt (Elt Ideal) arg3.view (Rect.unit (s := S1x128x512) ![0, 0, 0] S1x128x512.size inb_S1x128x512_S1x128x512_0_0_0).toLoadRect (harg3.unread x0) = x0 :=
    (View.readAt_full _ _ _).trans (harg3.read_unread x0)
  have key := step_apply c i arg3 harg3 arg4 harg4 arg5 harg5 arg6 harg6 arg7 harg7 arg8 harg8 arg9 harg9 arg10 harg10 arg11 harg11 (k0_pay115 (View.readAt (Elt Ideal) arg3.view (Rect.unit (s := S1x128x512) ![0, 0, 0] S1x128x512.size inb_S1x128x512_S1x128x512_0_0_0).toLoadRect (harg3.unread x0)))
    (k0_pay116 (View.readAt (Elt Ideal) arg3.view (Rect.unit (s := S1x128x512) ![0, 0, 0] S1x128x512.size inb_S1x128x512_S1x128x512_0_0_0).toLoadRect (harg3.unread x0))) (kernelRun0_A.sl.v41 i) (harg4.unread x1) (harg5.unread x2)
    (arg8.view.writes (Elt Ideal) arg8.view.junk (kernelRun0_A.sl.HS0_64 c arg6 harg6 x3)) h d j dd hd
  refine Eq.trans ?_ (key.trans (by rw [hx, harg4.read_unread, harg5.read_unread]))
  unfold out0_A_4
  rw [View.read_writes_eq_canon _ _ _ (cover0_A_4 (F := Ideal) c i arg3 harg3 arg4 harg4 arg5 harg5 arg6 harg6 arg7 harg7 arg8 harg8 arg9 harg9 arg10 harg10 arg11 harg11 hc0 x0 x1 x2 x3)]
  unfold kernelRun0_A
  dsimp only
  rw [View.canon_unit_zero hz3]
  rfl

end

end Cert.KernelIdeal.Fox
-- ==== Proof.Fox.Col.lean ====
/- The scratch column of forget sums after the fill of a head pair's first step. -/
module

public import proofs.«01_k».proof.Proof.Fox.Out
public import Idealize.ShloMosaic.Lib.StableHlo.ReadAt
public import Idealize.ShloMosaic.Lib.Pointwise

@[expose] public section

set_option maxRecDepth 16384

noncomputable section

namespace Cert.KernelIdeal.Fox

open Idealize.ShloMosaic Idealize.ShloMosaic.TcCoe Idealize.SL.Sem Cert.KernelIdeal Cert.KernelIdeal.Gen _root_.Fox.Math

/-- The column of forget sums, scaled, that the first step of a head pair leaves in the scratch. -/
def colOf (x3 : Vec Ideal S1x1x2x4096 .f32) : Vec Ideal S2x4096x128 .f32 := fun y =>
  x3 (ix4 0 0 (y 0) (y 1)) * (((Real.log 2)⁻¹ : ℝ) : EReal)

theorem log2e_eq : Named.named (F := Ideal) Cert.KernelIdeal.κ "log2e" (φ := .f32) 0x3FB8AA3B#32 = (((Real.log 2)⁻¹ : ℝ) : EReal) :=
  IdealRules.named_const.ideal_named_scalar _ _ _ _ rfl

theorem pay2_apply (x : Vec Ideal S1x1x1x128 .f32) (a : Fin 1) (r l : Fin 128) :
    k0_pay2 x (ix3 a r l) = x (ix4 0 0 0 r) * (((Real.log 2)⁻¹ : ℝ) : EReal) := by
  rw [← log2e_eq]
  pointwise [k0_pay2]

section
variable (c : Dev nD) (arg6 : Memref sig .tc .vmem S1x1x2x4096 .f32) (harg6 : arg6.IsWhole) (x3 : Vec Ideal S1x1x2x4096 .f32)

/-- One stored piece is the column at its place. -/
theorem piece_ok (h b : ℕ) (inb : ∀ a, (![h, b, 0] : Fin 3 → ℕ) a + S1x128x128.size a ≤ S2x4096x128.size a)
    (inb' : ∀ a, (![0, 0, h, b] : Fin 4 → ℕ) a + S1x1x1x128.size a ≤ S1x1x2x4096.size a) (x : S1x128x128.Idx) :
    k0_pay2 (View.readAt (Elt Ideal) arg6.view (Rect.unit (s := S1x1x2x4096) ![0, 0, h, b] S1x1x1x128.size inb').toLoadRect (harg6.unread x3)) x
      = colOf x3 ((Rect.unit (s := S2x4096x128) ![h, b, 0] S1x128x128.size inb).emb x) := by
  obtain ⟨a, r, l, rfl⟩ : ∃ (a : Fin 1) (r l : Fin 128), x = ix3 a r l := ⟨x 0, x 1, x 2, by funext k; fin_cases k <;> rfl⟩
  refine (pay2_apply _ a r l).trans ?_
  unfold colOf
  refine congrArg (· * (((Real.log 2)⁻¹ : ℝ) : EReal)) ?_
  show arg6.view.read (Elt Ideal) (harg6.unread x3) _ = _
  rw [harg6.read_unread]
  congr 1
  funext k
  apply Fin.ext
  fin_cases k
  · rfl
  · rfl
  · show h + 1 * 0 = h + 1 * a.val
    omega
  · rfl

/-- A property of a list's pieces from that of its head and of its tail. -/
theorem pieces_cons {s : Shape} {e : EltTy} {Val : EltTy → Type} (G : s.Idx → Val e) (p : View.Piece Val s e) (L : List (View.Piece Val s e))
    (hp : ∀ x : p.1.shape.Idx, p.2 x = G (p.1.emb x)) (hL : ∀ q ∈ L, ∀ x : q.1.shape.Idx, q.2 x = G (q.1.emb x)) :
    ∀ q ∈ p :: L, ∀ x : q.1.shape.Idx, q.2 x = G (q.1.emb x) := fun q hq => by
  rcases List.mem_cons.mp hq with rfl | hq
  exacts [hp, hL q hq]

theorem pieces_ok : ∀ p ∈ kernelRun0_A.sl.HS0_64 (F := Ideal) c arg6 harg6 x3, ∀ x : p.1.shape.Idx, p.2 x = colOf x3 (p.1.emb x) := by
  unfold kernelRun0_A.sl.HS0_64
  apply pieces_cons (s := S2x4096x128) (e := .f32) (Val := Elt Ideal) (colOf x3)
  · exact fun x => piece_ok arg6 harg6 x3 1 3968 inb_S2x4096x128_S1x128x128_1_3968_0 inb_S1x1x2x4096_S1x1x1x128_0_0_1_3968 x
  apply pieces_cons (s := S2x4096x128) (e := .f32) (Val := Elt Ideal) (colOf x3)
  · exact fun x => piece_ok arg6 harg6 x3 1 3840 inb_S2x4096x128_S1x128x128_1_3840_0 inb_S1x1x2x4096_S1x1x1x128_0_0_1_3840 x
  apply pieces_cons (s := S2x4096x128) (e := .f32) (Val := Elt Ideal) (colOf x3)
  · exact fun x => piece_ok arg6 harg6 x3 1 3712 inb_S2x4096x128_S1x128x128_1_3712_0 inb_S1x1x2x4096_S1x1x1x128_0_0_1_3712 x
  apply pieces_cons (s := S2x4096x128) (e := .f32) (Val := Elt Ideal) (colOf x3)
  · exact fun x => piece_ok arg6 harg6 x3 1 3584 inb_S2x4096x128_S1x128x128_1_3584_0 inb_S1x1x2x4096_S1x1x1x128_0_0_1_3584 x
  apply pieces_cons (s := S2x4096x128) (e := .f32) (Val := Elt Ideal) (colOf x3)
  · exact fun x => piece_ok arg6 harg6 x3 1 3456 inb_S2x4096x128_S1x128x128_1_3456_0 inb_S1x1x2x4096_S1x1x1x128_0_0_1_3456 x
  apply pieces_cons (s := S2x4096x128) (e := .f32) (Val := Elt Ideal) (colOf x3)
  · exact fun x => piece_ok arg6 harg6 x3 1 3328 inb_S2x4096x128_S1x128x128_1_3328_0 inb_S1x1x2x4096_S1x1x1x128_0_0_1_3328 x
  apply pieces_cons (s := S2x4096x128) (e := .f32) (Val := Elt Ideal) (colOf x3)
  · exact fun x => piece_ok arg6 harg6 x3 1 3200 inb_S2x4096x128_S1x128x128_1_3200_0 inb_S1x1x2x4096_S1x1x1x128_0_0_1_3200 x
  apply pieces_cons (s := S2x4096x128) (e := .f32) (Val := Elt Ideal) (colOf x3)
  · exact fun x => piece_ok arg6 harg6 x3 1 3072 inb_S2x4096x128_S1x128x128_1_3072_0 inb_S1x1x2x4096_S1x1x1x128_0_0_1_3072 x
  apply pieces_cons (s := S2x4096x128) (e := .f32) (Val := Elt Ideal) (colOf x3)
  · exact fun x => piece_ok arg6 harg6 x3 1 2944 inb_S2x4096x128_S1x128x128_1_2944_0 inb_S1x1x2x4096_S1x1x1x128_0_0_1_2944 x
  apply pieces_cons (s := S2x4096x128) (e := .f32) (Val := Elt Ideal) (colOf x3)
  · exact fun x => piece_ok arg6 harg6 x3 1 2816 inb_S2x4096x128_S1x128x128_1_2816_0 inb_S1x1x2x4096_S1x1x1x128_0_0_1_2816 x
  apply pieces_cons (s := S2x4096x128) (e := .f32) (Val := Elt Ideal) (colOf x3)
  · exact fun x => piece_ok arg6 harg6 x3 1 2688 inb_S2x4096x128_S1x128x128_1_2688_0 inb_S1x1x2x4096_S1x1x1x128_0_0_1_2688 x
  apply pieces_cons (s := S2x4096x128) (e := .f32) (Val := Elt Ideal) (colOf x3)
  · exact fun x => piece_ok arg6 harg6 x3 1 2560 inb_S2x4096x128_S1x128x128_1_2560_0 inb_S1x1x2x4096_S1x1x1x128_0_0_1_2560 x
  apply pieces_cons (s := S2x4096x128) (e := .f32) (Val := Elt Ideal) (colOf x3)
  · exact fun x => piece_ok arg6 harg6 x3 1 2432 inb_S2x4096x128_S1x128x128_1_2432_0 inb_S1x1x2x4096_S1x1x1x128_0_0_1_2432 x
  apply pieces_cons (s := S2x4096x128) (e := .f32) (Val := Elt Ideal) (colOf x3)
  · exact fun x => piece_ok arg6 harg6 x3 1 2304 inb_S2x4096x128_S1x128x128_1_2304_0 inb_S1x1x2x4096_S1x1x1x128_0_0_1_2304 x
  apply pieces_cons (s := S2x4096x128) (e := .f32) (Val := Elt Ideal) (colOf x3)
  · exact fun x => piece_ok arg6 harg6 x3 1 2176 inb_S2x4096x128_S1x128x128_1_2176_0 inb_S1x1x2x4096_S1x1x1x128_0_0_1_2176 x
  apply pieces_cons (s := S2x4096x128) (e := .f32) (Val := Elt Ideal) (colOf x3)
  · exact fun x => piece_ok arg6 harg6 x3 1 2048 inb_S2x4096x128_S1x128x128_1_2048_0 inb_S1x1x2x4096_S1x1x1x128_0_0_1_2048 x
  apply pieces_cons (s := S2x4096x128) (e := .f32) (Val := Elt Ideal) (colOf x3)
  · exact fun x => piece_ok arg6 harg6 x3 1 1920 inb_S2x4096x128_S1x128x128_1_1920_0 inb_S1x1x2x4096_S1x1x1x128_0_0_1_1920 x
  apply pieces_cons (s := S2x4096x128) (e := .f32) (Val := Elt Ideal) (colOf x3)
  · exact fun x => piece_ok arg6 harg6 x3 1 1792 inb_S2x4096x128_S1x128x128_1_1792_0 inb_S1x1x2x4096_S1x1x1x128_0_0_1_1792 x
  apply pieces_cons (s := S2x4096x128) (e := .f32) (Val := Elt Ideal) (colOf x3)
  · exact fun x => piece_ok arg6 harg6 x3 1 1664 inb_S2x4096x128_S1x128x128_1_1664_0 inb_S1x1x2x4096_S1x1x1x128_0_0_1_1664 x
  apply pieces_cons (s := S2x4096x128) (e := .f32) (Val := Elt Ideal) (colOf x3)
  · exact fun x => piece_ok arg6 harg6 x3 1 1536 inb_S2x4096x128_S1x128x128_1_1536_0 inb_S1x1x2x4096_S1x1x1x128_0_0_1_1536 x
  apply pieces_cons (s := S2x4096x128) (e := .f32) (Val := Elt Ideal) (colOf x3)
  · exact fun x => piece_ok arg6 harg6 x3 1 1408 inb_S2x4096x128_S1x128x128_1_1408_0 inb_S1x1x2x4096_S1x1x1x128_0_0_1_1408 x
  apply pieces_cons (s := S2x4096x128) (e := .f32) (Val := Elt Ideal) (colOf x3)
  · exact fun x => piece_ok arg6 harg6 x3 1 1280 inb_S2x4096x128_S1x128x128_1_1280_0 inb_S1x1x2x4096_S1x1x1x128_0_0_1_1280 x
  apply pieces_cons (s := S2x4096x128) (e := .f32) (Val := Elt Ideal) (colOf x3)
  · exact fun x => piece_ok arg6 harg6 x3 1 1152 inb_S2x4096x128_S1x128x128_1_1152_0 inb_S1x1x2x4096_S1x1x1x128_0_0_1_1152 x
  apply pieces_cons (s := S2x4096x128) (e := .f32) (Val := Elt Ideal) (colOf x3)
  · exact fun x => piece_ok arg6 harg6 x3 1 1024 inb_S2x4096x128_S1x128x128_1_1024_0 inb_S1x1x2x4096_S1x1x1x128_0_0_1_1024 x
  apply pieces_cons (s := S2x4096x128) (e := .f32) (Val := Elt Ideal) (colOf x3)
  · exact fun x => piece_ok arg6 harg6 x3 1 896 inb_S2x4096x128_S1x128x128_1_896_0 inb_S1x1x2x4096_S1x1x1x128_0_0_1_896 x
  apply pieces_cons (s := S2x4096x128) (e := .f32) (Val := Elt Ideal) (colOf x3)
  · exact fun x => piece_ok arg6 harg6 x3 1 768 inb_S2x4096x128_S1x128x128_1_768_0 inb_S1x1x2x4096_S1x1x1x128_0_0_1_768 x
  apply pieces_cons (s := S2x4096x128) (e := .f32) (Val := Elt Ideal) (colOf x3)
  · exact fun x => piece_ok arg6 harg6 x3 1 640 inb_S2x4096x128_S1x128x128_1_640_0 inb_S1x1x2x4096_S1x1x1x128_0_0_1_640 x
  apply pieces_cons (s := S2x4096x128) (e := .f32) (Val := Elt Ideal) (colOf x3)
  · exact fun x => piece_ok arg6 harg6 x3 1 512 inb_S2x4096x128_S1x128x128_1_512_0 inb_S1x1x2x4096_S1x1x1x128_0_0_1_512 x
  apply pieces_cons (s := S2x4096x128) (e := .f32) (Val := Elt Ideal) (colOf x3)
  · exact fun x => piece_ok arg6 harg6 x3 1 384 inb_S2x4096x128_S1x128x128_1_384_0 inb_S1x1x2x4096_S1x1x1x128_0_0_1_384 x
  apply pieces_cons (s := S2x4096x128) (e := .f32) (Val := Elt Ideal) (colOf x3)
  · exact fun x => piece_ok arg6 harg6 x3 1 256 inb_S2x4096x128_S1x128x128_1_256_0 inb_S1x1x2x4096_S1x1x1x128_0_0_1_256 x
  apply pieces_cons (s := S2x4096x128) (e := .f32) (Val := Elt Ideal) (colOf x3)
  · exact fun x => piece_ok arg6 harg6 x3 1 128 inb_S2x4096x128_S1x128x128_1_128_0 inb_S1x1x2x4096_S1x1x1x128_0_0_1_128 x
  apply pieces_cons (s := S2x4096x128) (e := .f32) (Val := Elt Ideal) (colOf x3)
  · exact fun x => piece_ok arg6 harg6 x3 1 0 inb_S2x4096x128_S1x128x128_1_0_0 inb_S1x1x2x4096_S1x1x1x128_0_0_1_0 x
  apply pieces_cons (s := S2x4096x128) (e := .f32) (Val := Elt Ideal) (colOf x3)
  · exact fun x => piece_ok arg6 harg6 x3 0 3968 inb_S2x4096x128_S1x128x128_0_3968_0 inb_S1x1x2x4096_S1x1x1x128_0_0_0_3968 x
  apply pieces_cons (s := S2x4096x128) (e := .f32) (Val := Elt Ideal) (colOf x3)
  · exact fun x => piece_ok arg6 harg6 x3 0 3840 inb_S2x4096x128_S1x128x128_0_3840_0 inb_S1x1x2x4096_S1x1x1x128_0_0_0_3840 x
  apply pieces_cons (s := S2x4096x128) (e := .f32) (Val := Elt Ideal) (colOf x3)
  · exact fun x => piece_ok arg6 harg6 x3 0 3712 inb_S2x4096x128_S1x128x128_0_3712_0 inb_S1x1x2x4096_S1x1x1x128_0_0_0_3712 x
  apply pieces_cons (s := S2x4096x128) (e := .f32) (Val := Elt Ideal) (colOf x3)
  · exact fun x => piece_ok arg6 harg6 x3 0 3584 inb_S2x4096x128_S1x128x128_0_3584_0 inb_S1x1x2x4096_S1x1x1x128_0_0_0_3584 x
  apply pieces_cons (s := S2x4096x128) (e := .f32) (Val := Elt Ideal) (colOf x3)
  · exact fun x => piece_ok arg6 harg6 x3 0 3456 inb_S2x4096x128_S1x128x128_0_3456_0 inb_S1x1x2x4096_S1x1x1x128_0_0_0_3456 x
  apply pieces_cons (s := S2x4096x128) (e := .f32) (Val := Elt Ideal) (colOf x3)
  · exact fun x => piece_ok arg6 harg6 x3 0 3328 inb_S2x4096x128_S1x128x128_0_3328_0 inb_S1x1x2x4096_S1x1x1x128_0_0_0_3328 x
  apply pieces_cons (s := S2x4096x128) (e := .f32) (Val := Elt Ideal) (colOf x3)
  · exact fun x => piece_ok arg6 harg6 x3 0 3200 inb_S2x4096x128_S1x128x128_0_3200_0 inb_S1x1x2x4096_S1x1x1x128_0_0_0_3200 x
  apply pieces_cons (s := S2x4096x128) (e := .f32) (Val := Elt Ideal) (colOf x3)
  · exact fun x => piece_ok arg6 harg6 x3 0 3072 inb_S2x4096x128_S1x128x128_0_3072_0 inb_S1x1x2x4096_S1x1x1x128_0_0_0_3072 x
  apply pieces_cons (s := S2x4096x128) (e := .f32) (Val := Elt Ideal) (colOf x3)
  · exact fun x => piece_ok arg6 harg6 x3 0 2944 inb_S2x4096x128_S1x128x128_0_2944_0 inb_S1x1x2x4096_S1x1x1x128_0_0_0_2944 x
  apply pieces_cons (s := S2x4096x128) (e := .f32) (Val := Elt Ideal) (colOf x3)
  · exact fun x => piece_ok arg6 harg6 x3 0 2816 inb_S2x4096x128_S1x128x128_0_2816_0 inb_S1x1x2x4096_S1x1x1x128_0_0_0_2816 x
  apply pieces_cons (s := S2x4096x128) (e := .f32) (Val := Elt Ideal) (colOf x3)
  · exact fun x => piece_ok arg6 harg6 x3 0 2688 inb_S2x4096x128_S1x128x128_0_2688_0 inb_S1x1x2x4096_S1x1x1x128_0_0_0_2688 x
  apply pieces_cons (s := S2x4096x128) (e := .f32) (Val := Elt Ideal) (colOf x3)
  · exact fun x => piece_ok arg6 harg6 x3 0 2560 inb_S2x4096x128_S1x128x128_0_2560_0 inb_S1x1x2x4096_S1x1x1x128_0_0_0_2560 x
  apply pieces_cons (s := S2x4096x128) (e := .f32) (Val := Elt Ideal) (colOf x3)
  · exact fun x => piece_ok arg6 harg6 x3 0 2432 inb_S2x4096x128_S1x128x128_0_2432_0 inb_S1x1x2x4096_S1x1x1x128_0_0_0_2432 x
  apply pieces_cons (s := S2x4096x128) (e := .f32) (Val := Elt Ideal) (colOf x3)
  · exact fun x => piece_ok arg6 harg6 x3 0 2304 inb_S2x4096x128_S1x128x128_0_2304_0 inb_S1x1x2x4096_S1x1x1x128_0_0_0_2304 x
  apply pieces_cons (s := S2x4096x128) (e := .f32) (Val := Elt Ideal) (colOf x3)
  · exact fun x => piece_ok arg6 harg6 x3 0 2176 inb_S2x4096x128_S1x128x128_0_2176_0 inb_S1x1x2x4096_S1x1x1x128_0_0_0_2176 x
  apply pieces_cons (s := S2x4096x128) (e := .f32) (Val := Elt Ideal) (colOf x3)
  · exact fun x => piece_ok arg6 harg6 x3 0 2048 inb_S2x4096x128_S1x128x128_0_2048_0 inb_S1x1x2x4096_S1x1x1x128_0_0_0_2048 x
  apply pieces_cons (s := S2x4096x128) (e := .f32) (Val := Elt Ideal) (colOf x3)
  · exact fun x => piece_ok arg6 harg6 x3 0 1920 inb_S2x4096x128_S1x128x128_0_1920_0 inb_S1x1x2x4096_S1x1x1x128_0_0_0_1920 x
  apply pieces_cons (s := S2x4096x128) (e := .f32) (Val := Elt Ideal) (colOf x3)
  · exact fun x => piece_ok arg6 harg6 x3 0 1792 inb_S2x4096x128_S1x128x128_0_1792_0 inb_S1x1x2x4096_S1x1x1x128_0_0_0_1792 x
  apply pieces_cons (s := S2x4096x128) (e := .f32) (Val := Elt Ideal) (colOf x3)
  · exact fun x => piece_ok arg6 harg6 x3 0 1664 inb_S2x4096x128_S1x128x128_0_1664_0 inb_S1x1x2x4096_S1x1x1x128_0_0_0_1664 x
  apply pieces_cons (s := S2x4096x128) (e := .f32) (Val := Elt Ideal) (colOf x3)
  · exact fun x => piece_ok arg6 harg6 x3 0 1536 inb_S2x4096x128_S1x128x128_0_1536_0 inb_S1x1x2x4096_S1x1x1x128_0_0_0_1536 x
  apply pieces_cons (s := S2x4096x128) (e := .f32) (Val := Elt Ideal) (colOf x3)
  · exact fun x => piece_ok arg6 harg6 x3 0 1408 inb_S2x4096x128_S1x128x128_0_1408_0 inb_S1x1x2x4096_S1x1x1x128_0_0_0_1408 x
  apply pieces_cons (s := S2x4096x128) (e := .f32) (Val := Elt Ideal) (colOf x3)
  · exact fun x => piece_ok arg6 harg6 x3 0 1280 inb_S2x4096x128_S1x128x128_0_1280_0 inb_S1x1x2x4096_S1x1x1x128_0_0_0_1280 x
  apply pieces_cons (s := S2x4096x128) (e := .f32) (Val := Elt Ideal) (colOf x3)
  · exact fun x => piece_ok arg6 harg6 x3 0 1152 inb_S2x4096x128_S1x128x128_0_1152_0 inb_S1x1x2x4096_S1x1x1x128_0_0_0_1152 x
  apply pieces_cons (s := S2x4096x128) (e := .f32) (Val := Elt Ideal) (colOf x3)
  · exact fun x => piece_ok arg6 harg6 x3 0 1024 inb_S2x4096x128_S1x128x128_0_1024_0 inb_S1x1x2x4096_S1x1x1x128_0_0_0_1024 x
  apply pieces_cons (s := S2x4096x128) (e := .f32) (Val := Elt Ideal) (colOf x3)
  · exact fun x => piece_ok arg6 harg6 x3 0 896 inb_S2x4096x128_S1x128x128_0_896_0 inb_S1x1x2x4096_S1x1x1x128_0_0_0_896 x
  apply pieces_cons (s := S2x4096x128) (e := .f32) (Val := Elt Ideal) (colOf x3)
  · exact fun x => piece_ok arg6 harg6 x3 0 768 inb_S2x4096x128_S1x128x128_0_768_0 inb_S1x1x2x4096_S1x1x1x128_0_0_0_768 x
  apply pieces_cons (s := S2x4096x128) (e := .f32) (Val := Elt Ideal) (colOf x3)
  · exact fun x => piece_ok arg6 harg6 x3 0 640 inb_S2x4096x128_S1x128x128_0_640_0 inb_S1x1x2x4096_S1x1x1x128_0_0_0_640 x
  apply pieces_cons (s := S2x4096x128) (e := .f32) (Val := Elt Ideal) (colOf x3)
  · exact fun x => piece_ok arg6 harg6 x3 0 512 inb_S2x4096x128_S1x128x128_0_512_0 inb_S1x1x2x4096_S1x1x1x128_0_0_0_512 x
  apply pieces_cons (s := S2x4096x128) (e := .f32) (Val := Elt Ideal) (colOf x3)
  · exact fun x => piece_ok arg6 harg6 x3 0 384 inb_S2x4096x128_S1x128x128_0_384_0 inb_S1x1x2x4096_S1x1x1x128_0_0_0_384 x
  apply pieces_cons (s := S2x4096x128) (e := .f32) (Val := Elt Ideal) (colOf x3)
  · exact fun x => piece_ok arg6 harg6 x3 0 256 inb_S2x4096x128_S1x128x128_0_256_0 inb_S1x1x2x4096_S1x1x1x128_0_0_0_256 x
  apply pieces_cons (s := S2x4096x128) (e := .f32) (Val := Elt Ideal) (colOf x3)
  · exact fun x => piece_ok arg6 harg6 x3 0 128 inb_S2x4096x128_S1x128x128_0_128_0 inb_S1x1x2x4096_S1x1x1x128_0_0_0_128 x
  apply pieces_cons (s := S2x4096x128) (e := .f32) (Val := Elt Ideal) (colOf x3)
  · exact fun x => piece_ok arg6 harg6 x3 0 0 inb_S2x4096x128_S1x128x128_0_0_0 inb_S1x1x2x4096_S1x1x1x128_0_0_0_0 x
  exact fun _ h => absurd h List.not_mem_nil

end

end Cert.KernelIdeal.Fox
-- ==== Proof.Fox.Host.lean ====
/- The arrays the pipelined call reads, of the launch arguments. -/
module

public import proofs.«01_k».proof.Proof.Fox.Out
public import Idealize.ShloMosaic.Lib.StableHlo.ReadAt
public import Idealize.ShloMosaic.Lib.Pointwise

@[expose] public section

set_option maxRecDepth 16384

noncomputable section

namespace Cert.KernelIdeal.Fox

open Idealize.ShloMosaic Idealize.ShloMosaic.TcCoe Idealize.SL.Sem Cert.KernelIdeal Cert.KernelIdeal.Gen _root_.Fox.Math

variable (m : (ℓ : Loc nD τ sig) → Buf (Elt Ideal) ℓ) (c : Dev nD)

/-- The queries as launched. -/
abbrev aQ : Vec Ideal S8x4096x8x64 .f32 := m ((c : Thread nD τ).loc main_arg0)
/-- The keys as launched. -/
abbrev aK : Vec Ideal S8x4096x8x64 .f32 := m ((c : Thread nD τ).loc main_arg1)
/-- The values as launched. -/
abbrev aV : Vec Ideal S8x4096x8x64 .f32 := m ((c : Thread nD τ).loc main_arg2)
/-- The forget sums as launched. -/
abbrev aL : Vec Ideal S8x8x4096 .f32 := m ((c : Thread nD τ).loc main_arg3)

theorem two_eq : Ideal.ofBits .f32 0x40000000#32 = ((2 : ℝ) : EReal) := by
  simp [Ideal.ofBits, Ideal.ieee, -EReal.coe_mul]; norm_num

theorem eighth_eq : Ideal.ofBits .f32 0x3E000000#32 = ((1 / 8 : ℝ) : EReal) := by
  simp [Ideal.ofBits, Ideal.ieee, -EReal.coe_mul]; norm_num

theorem V7_apply (b : Fin 8) (f : Fin 512) (s : Fin 4096) (H : Fin 8) (d : Fin 64) (hf : f.val = 64 * H.val + d.val) :
    (V m c main_v7 : Vec Ideal S8x512x4096 .bf16) (ix3 b f s)
      = aQ m c (ix4 b s H d) * ((1 / 8 / Real.log 2 : ℝ) : EReal) := by
  unfold V hostOps0
  after_reads_at
  have e1 : (⟨f.val / 64, by omega⟩ : Fin 8) = H := Fin.ext (by simp only []; omega)
  have e2 : (⟨f.val % 64, by omega⟩ : Fin 64) = d := Fin.ext (by simp only []; omega)
  rw [e1, e2]
  refine congrArg (aQ m c (ix4 b s H d) * ·) ?_
  show Ideal.div (Ideal.ofBits .f32 0x3E000000#32) (Ideal.log (Ideal.ofBits .f32 0x40000000#32)) = _
  have hl : Ideal.log ((2 : ℝ) : EReal) = ((Real.log 2 : ℝ) : EReal) := by
    show (if (2 : ℝ) ≤ 0 then ⊥ else ((Real.log 2 : ℝ) : EReal)) = _
    rw [if_neg (by norm_num)]
  rw [two_eq, eighth_eq, hl, div_real _ _ (Real.log_pos (by norm_num)).ne', ← EReal.coe_mul, div_eq_mul_inv (1 / 8 : ℝ)]

theorem V9_apply (b : Fin 8) (f : Fin 512) (s : Fin 4096) (H : Fin 8) (d : Fin 64) (hf : f.val = 64 * H.val + d.val) :
    (V m c main_v9 : Vec Ideal S8x4096x512 .bf16) (ix3 b s f)
      = aK m c (ix4 b s H d) := by
  unfold V hostOps0
  after_reads_at
  have e1 : (⟨f.val / 64, by omega⟩ : Fin 8) = H := Fin.ext (by simp only []; omega)
  have e2 : (⟨f.val % 64, by omega⟩ : Fin 64) = d := Fin.ext (by simp only []; omega)
  rw [e1, e2]

theorem V12_apply (b : Fin 8) (f : Fin 512) (s : Fin 4096) (H : Fin 8) (d : Fin 64) (hf : f.val = 64 * H.val + d.val) :
    (V m c main_v12 : Vec Ideal S8x512x4096 .bf16) (ix3 b f s)
      = aV m c (ix4 b s H d) := by
  unfold V hostOps0
  after_reads_at
  have e1 : (⟨f.val / 64, by omega⟩ : Fin 8) = H := Fin.ext (by simp only []; omega)
  have e2 : (⟨f.val % 64, by omega⟩ : Fin 64) = d := Fin.ext (by simp only []; omega)
  rw [e1, e2]

theorem V13_apply (b : Fin 8) (p : Fin 4) (h : Fin 2) (s : Fin 4096) (H : Fin 8) (hH : H.val = 2 * p.val + h.val) :
    (V m c main_v13 : Vec Ideal S8x4x2x4096 .f32) (ix4 b p h s)
      = aL m c (ix3 b H s) := by
  unfold V hostOps0
  after_reads_at
  rw [show (⟨p.val * 2 + h.val, by omega⟩ : Fin 8) = H from Fin.ext (by simp only []; omega)]

end Cert.KernelIdeal.Fox
-- ==== Proof.Fox.Blk.lean ====
/- The blocks of a grid step, of the arrays the call reads; the scratch column at every step. -/
module

public import proofs.«01_k».proof.Proof.Fox.Col
public import proofs.«01_k».proof.Proof.Fox.Host

@[expose] public section

set_option maxRecDepth 16384

noncomputable section

namespace Cert.KernelIdeal.Fox

open Idealize.ShloMosaic Idealize.ShloMosaic.TcCoe Idealize.SL.Sem Cert.KernelIdeal Cert.KernelIdeal.Gen _root_.Fox.Math

variable (m : (ℓ : Loc nD τ sig) → Buf (Elt Ideal) ℓ) (c : Dev nD) (t : Fin cfg0.N)

theorem lt0 : (grid0.coords t 0).val < 8 := (grid0.coords t 0).isLt
theorem lt1 : (grid0.coords t 1).val < 4 := (grid0.coords t 1).isLt
theorem lt2 : (grid0.coords t 2).val < 8 := (grid0.coords t 2).isLt

/-- The batch of a step. -/
abbrev cb : Fin 8 := ⟨(grid0.coords t 0).val, lt0 t⟩
/-- The head pair of a step. -/
abbrev cp : Fin 4 := ⟨(grid0.coords t 1).val, lt1 t⟩
/-- The query block of a step. -/
abbrev cq : Fin 8 := ⟨(grid0.coords t 2).val, lt2 t⟩

theorem cb_eq : (cb t).val = t.val / 32 % 8 := Pipeline.Grid.coords_val t 0 (by decide) rfl
theorem cp_eq : (cp t).val = t.val / 8 % 4 := Pipeline.Grid.coords_val t 1 (by decide) rfl
theorem cq_eq : (cq t).val = t.val % 8 := by
  have h : (cq t).val = t.val / 1 % 8 := Pipeline.Grid.coords_val t 2 (by decide) rfl
  rw [h, Nat.div_one]

theorem word_small (x : ℕ) (h : x < 8) : (BitVec.ofNat 32 x).toNat = x := by
  rw [BitVec.toNat_ofNat]; exact Nat.mod_eq_of_lt (by omega)

theorem iblk0_apply (d : Fin 128) (j : Fin 512) :
    (iblk m c 0 t : Vec Ideal S1x128x512 .bf16) (ix3 0 d j)
      = (V m c main_v7 : Vec Ideal S8x512x4096 .bf16) (ix3 (cb t) ⟨128 * (cp t).val + d.val, by have := lt1 t; omega⟩ ⟨512 * (cq t).val + j.val, by have := lt2 t; omega⟩) := by
  show V m c main_v7 (((cfg0.win 0).blk t).view.emb (ix3 0 d j)) = _
  congr 1
  funext a
  apply Fin.ext
  have h0 := word_small _ (lt0 t)
  have h1 := word_small _ (by have := lt1 t; omega : (grid0.coords t 1).val < 8)
  have h2 := word_small _ (lt2 t)
  match a with
  | ⟨0, _⟩ => show (BitVec.ofNat 32 (grid0.coords t 0).val).toNat * 1 + 1 * 0 = (grid0.coords t 0).val; omega
  | ⟨1, _⟩ => show (BitVec.ofNat 32 (grid0.coords t 1).val).toNat * 128 + 1 * d.val = 128 * (grid0.coords t 1).val + d.val; omega
  | ⟨2, _⟩ => show (BitVec.ofNat 32 (grid0.coords t 2).val).toNat * 512 + 1 * j.val = 512 * (grid0.coords t 2).val + j.val; omega

theorem iblk1_apply (κ : Fin 4096) (d : Fin 128) :
    (iblk m c 1 t : Vec Ideal S1x4096x128 .bf16) (ix3 0 κ d)
      = (V m c main_v9 : Vec Ideal S8x4096x512 .bf16) (ix3 (cb t) κ ⟨128 * (cp t).val + d.val, by have := lt1 t; omega⟩) := by
  show V m c main_v9 (((cfg0.win 1).blk t).view.emb (ix3 0 κ d)) = _
  congr 1
  funext a
  apply Fin.ext
  have h0 := word_small _ (lt0 t)
  have h1 := word_small _ (by have := lt1 t; omega : (grid0.coords t 1).val < 8)
  match a with
  | ⟨0, _⟩ => show (BitVec.ofNat 32 (grid0.coords t 0).val).toNat * 1 + 1 * 0 = (grid0.coords t 0).val; omega
  | ⟨1, _⟩ => show 0 * 4096 + 1 * κ.val = κ.val; omega
  | ⟨2, _⟩ => show (BitVec.ofNat 32 (grid0.coords t 1).val).toNat * 128 + 1 * d.val = 128 * (grid0.coords t 1).val + d.val; omega

theorem iblk2_apply (d : Fin 128) (κ : Fin 4096) :
    (iblk m c 2 t : Vec Ideal S1x128x4096 .bf16) (ix3 0 d κ)
      = (V m c main_v12 : Vec Ideal S8x512x4096 .bf16) (ix3 (cb t) ⟨128 * (cp t).val + d.val, by have := lt1 t; omega⟩ κ) := by
  show V m c main_v12 (((cfg0.win 2).blk t).view.emb (ix3 0 d κ)) = _
  congr 1
  funext a
  apply Fin.ext
  have h0 := word_small _ (lt0 t)
  have h1 := word_small _ (by have := lt1 t; omega : (grid0.coords t 1).val < 8)
  match a with
  | ⟨0, _⟩ => show (BitVec.ofNat 32 (grid0.coords t 0).val).toNat * 1 + 1 * 0 = (grid0.coords t 0).val; omega
  | ⟨1, _⟩ => show (BitVec.ofNat 32 (grid0.coords t 1).val).toNat * 128 + 1 * d.val = 128 * (grid0.coords t 1).val + d.val; omega
  | ⟨2, _⟩ => show 0 * 4096 + 1 * κ.val = κ.val; omega

theorem iblk3_apply (h : Fin 2) (κ : Fin 4096) :
    (iblk m c 3 t : Vec Ideal S1x1x2x4096 .f32) (ix4 0 0 h κ)
      = (V m c main_v13 : Vec Ideal S8x4x2x4096 .f32) (ix4 (cb t) (cp t) h κ) := by
  show V m c main_v13 (((cfg0.win 3).blk t).view.emb (ix4 0 0 h κ)) = _
  congr 1
  funext a
  apply Fin.ext
  have h0 := word_small _ (lt0 t)
  have h1 := word_small _ (by have := lt1 t; omega : (grid0.coords t 1).val < 8)
  match a with
  | ⟨0, _⟩ => show (BitVec.ofNat 32 (grid0.coords t 0).val).toNat * 1 + 1 * 0 = (grid0.coords t 0).val; omega
  | ⟨1, _⟩ => show (BitVec.ofNat 32 (grid0.coords t 1).val).toNat * 1 + 1 * 0 = (grid0.coords t 1).val; omega
  | ⟨2, _⟩ => show 0 * 2 + 1 * h.val = h.val; omega
  | ⟨3, _⟩ => show 0 * 4096 + 1 * κ.val = κ.val; omega

/-- Where an element of the result block of a step lies. -/
theorem emb4 (j : Fin 512) (d : Fin 128) :
    ((cfg0.win 4).blk t).view.emb (ix3 0 j d)
      = (ix3 (cb t) ⟨512 * (cq t).val + j.val, by have := lt2 t; omega⟩ ⟨128 * (cp t).val + d.val, by have := lt1 t; omega⟩ : S8x4096x512.Idx) := by
  funext a
  apply Fin.ext
  have h0 := word_small _ (lt0 t)
  have h1 := word_small _ (by have := lt1 t; omega : (grid0.coords t 1).val < 8)
  have h2 := word_small _ (lt2 t)
  match a with
  | ⟨0, _⟩ => show (BitVec.ofNat 32 (grid0.coords t 0).val).toNat * 1 + 1 * 0 = (grid0.coords t 0).val; omega
  | ⟨1, _⟩ => show (BitVec.ofNat 32 (grid0.coords t 2).val).toNat * 512 + 1 * j.val = 512 * (grid0.coords t 2).val + j.val; omega
  | ⟨2, _⟩ => show (BitVec.ofNat 32 (grid0.coords t 1).val).toNat * 128 + 1 * d.val = 128 * (grid0.coords t 1).val + d.val; omega

/-- The forget sums as the call reads them. -/
abbrev A13 : Vec Ideal S8x4x2x4096 .f32 := V m c main_v13

/-- The column a step of the call has in its scratch. -/
def colAt : Vec Ideal S2x4096x128 .f32 := fun y =>
  A13 m c (ix4 (cb t) (cp t) (y 0) (y 1)) * (((Real.log 2)⁻¹ : ℝ) : EReal)

theorem colOf_iblk : colOf (iblk m c 3 t) = colAt m c t := by
  funext y
  exact congrArg (· * (((Real.log 2)⁻¹ : ℝ) : EReal)) (iblk3_apply m c t (y 0) (y 1))

theorem colAt_prev (t' : Fin cfg0.N) (h : t'.val + 1 = t.val) (h0 : ¬t.val % 8 = 0) : colAt m c t' = colAt m c t := by
  have e0 : cb t' = cb t := Fin.ext (by rw [cb_eq, cb_eq]; omega)
  have e1 : cp t' = cp t := Fin.ext (by rw [cp_eq, cp_eq]; omega)
  unfold colAt
  rw [e0, e1]

/-- The fill's stores leave the column. -/
theorem fill_eq (v : View sig .tc .vmem S2x4096x128 .f32) (f : v.ty.Contents (Elt Ideal)) (arg6 : Memref sig .tc .vmem S1x1x2x4096 .f32) (harg6 : arg6.IsWhole)
    (x3 : Vec Ideal S1x1x2x4096 .f32) (hcov : ∀ y : S2x4096x128.Idx, ∃ p ∈ kernelRun0_A.sl.HS0_64 (F := Ideal) c arg6 harg6 x3, y ∈ p.1.set) :
    v.read (Elt Ideal) (v.writes (Elt Ideal) f (kernelRun0_A.sl.HS0_64 (F := Ideal) c arg6 harg6 x3)) = colOf x3 :=
  funext fun y => View.read_writes_apply_of_pieces v f (colOf x3) _ (pieces_ok c arg6 harg6 x3) y (hcov y)

section
variable (i : grid0.Coords) (arg3 : Memref sig .tc .vmem S1x128x512 .bf16) (harg3 : arg3.IsWhole) (arg4 : Memref sig .tc .vmem S1x4096x128 .bf16) (harg4 : arg4.IsWhole) (arg5 : Memref sig .tc .vmem S1x128x4096 .bf16) (harg5 : arg5.IsWhole) (arg6 : Memref sig .tc .vmem S1x1x2x4096 .f32) (harg6 : arg6.IsWhole) (arg7 : Memref sig .tc .vmem S1x512x128 .bf16) (harg7 : arg7.IsWhole) (arg8 : Memref sig .tc .vmem S2x4096x128 .f32) (harg8 : arg8.IsWhole) (arg9 : Memref sig .tc .vmem S2x1x512 .f32) (harg9 : arg9.IsWhole) (arg10 : Memref sig .tc .vmem S2x1x512 .f32) (harg10 : arg10.IsWhole) (arg11 : Memref sig .tc .vmem S2x64x512 .f32) (harg11 : arg11.IsWhole) (hc0 : cond0_0 i)
  (x0 : Vec Ideal S1x128x512 .bf16) (x1 : Vec Ideal S1x4096x128 .bf16) (x2 : Vec Ideal S1x128x4096 .bf16) (x3 : Vec Ideal S1x1x2x4096 .f32)

include i arg3 harg3 arg4 harg4 arg5 harg5 arg6 harg6 arg7 harg7 arg8 harg8 arg9 harg9 arg10 harg10 arg11 harg11 hc0 x0 x1 x2 in
theorem cov_fill (y : S2x4096x128.Idx) : ∃ p ∈ kernelRun0_A.sl.HS0_64 (F := Ideal) c arg6 harg6 x3, y ∈ p.1.set :=
  scover0_A_0 (F := Ideal) c i arg3 harg3 arg4 harg4 arg5 harg5 arg6 harg6 arg7 harg7 arg8 harg8 arg9 harg9 arg10 harg10 arg11 harg11 hc0 x0 x1 x2 x3 y

theorem soutA_eq : sout0_A_0 (F := Ideal) c i arg3 harg3 arg4 harg4 arg5 harg5 arg6 harg6 arg7 harg7 arg8 harg8 arg9 harg9 arg10 harg10 arg11 harg11 hc0 x0 x1 x2 x3 = colOf x3 := by
  unfold sout0_A_0 kernelRun0_A
  exact fill_eq c VS0_0 VS0_0.junk arg6 harg6 x3 (cov_fill c i arg3 harg3 arg4 harg4 arg5 harg5 arg6 harg6 arg7 harg7 arg8 harg8 arg9 harg9 arg10 harg10 arg11 harg11 hc0 x0 x1 x2 x3)

theorem outA_col (h : Fin 2) (d : Fin 64) (j : Fin 512) (dd : Fin 128) (hd : dd.val = 64 * h.val + d.val) :
    out0_A_4 (F := Ideal) c i arg3 harg3 arg4 harg4 arg5 harg5 arg6 harg6 arg7 harg7 arg8 harg8 arg9 harg9 arg10 harg10 arg11 harg11 hc0 x0 x1 x2 x3 (ix3 0 j dd) = rowB i (k0_pay115 x0) (k0_pay116 x0) x1 x2 (colOf x3) h d j := by
  rw [← fill_eq c arg8.view arg8.view.junk arg6 harg6 x3 (cov_fill c i arg3 harg3 arg4 harg4 arg5 harg5 arg6 harg6 arg7 harg7 arg8 harg8 arg9 harg9 arg10 harg10 arg11 harg11 hc0 x0 x1 x2 x3)]
  exact outA_row c i arg3 harg3 arg4 harg4 arg5 harg5 arg6 harg6 arg7 harg7 arg8 harg8 arg9 harg9 arg10 harg10 arg11 harg11 x0 x1 x2 x3 hc0 h d j dd hd

end

theorem col_A (h0 : t.val % 8 = 0) : (outsAt0 m c t.val t.isLt).2 = colAt m c t := by
  rw [outsAt0_A m c t h0]
  dsimp only
  rw [← colOf_iblk]
  exact soutA_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t)

theorem col_B (h0 : ¬t.val % 8 = 0) : (outsAt0 m c t.val t.isLt).2 = (outsAt0 m c (t.val - 1) (Nat.lt_of_le_of_lt (Nat.sub_le _ _) t.isLt)).2 := by
  rw [outsAt0_B m c t h0]
  rfl

/-- Every step leaves its column in the scratch. -/
theorem col_after : ∀ (n : ℕ) (hn : n < cfg0.N), (outsAt0 m c n hn).2 = colAt m c ⟨n, hn⟩ := by
  intro n
  induction n with
  | zero => exact fun hn => col_A m c ⟨0, hn⟩ rfl
  | succ n ih =>
    intro hn
    by_cases h0 : (n + 1) % 8 = 0
    · exact col_A m c ⟨n + 1, hn⟩ h0
    · exact (col_B m c ⟨n + 1, hn⟩ h0).trans ((ih (by omega)).trans (colAt_prev m c ⟨n + 1, hn⟩ ⟨n, by omega⟩ rfl h0))

/-- What a step writes back, at an index of head `h` of its pair. -/
theorem out_at (h : Fin 2) (d : Fin 64) (j : Fin 512) (dd : Fin 128) (hd : dd.val = 64 * h.val + d.val) :
    (outsAt0 m c t.val t.isLt).1 (ix3 0 j dd)
      = rowB (grid0.coords t) (k0_pay115 (iblk m c 0 t)) (k0_pay116 (iblk m c 0 t)) (iblk m c 1 t) (iblk m c 2 t) (colAt m c t) h d j := by
  by_cases h0 : t.val % 8 = 0
  · rw [outsAt0_A m c t h0]
    dsimp only
    rw [← colOf_iblk]
    exact outA_col c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) h d j dd hd
  · have hc := (col_after m c (t.val - 1) (Nat.lt_of_le_of_lt (Nat.sub_le _ _) t.isLt)).trans
      (colAt_prev m c t ⟨t.val - 1, Nat.lt_of_le_of_lt (Nat.sub_le _ _) t.isLt⟩ (by show t.val - 1 + 1 = t.val; omega) h0)
    rw [outsAt0_B m c t h0]
    dsimp only
    rw [← hc]
    exact outB_row c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (fun h => h0 ((hcond0_0 t).mp h)) _ h d j dd hd

end Cert.KernelIdeal.Fox
-- ==== Proof.Fox.Arr.lean ====
/- The result array of the call: the attention of the launch arguments, in its plain form. -/
module

public import proofs.«01_k».proof.Proof.Fox.Blk
public import Idealize.ShloMosaic.Lib.Pipeline.Covers

@[expose] public section

set_option maxRecDepth 16384

noncomputable section

namespace Fox.Math

open Idealize.ShloMosaic

/-- The keys of a batch and head. -/
def kF (K : (⟨4, ![8, 4096, 8, 64]⟩ : Shape).Idx → EReal) (b H : Fin 8) (j : ℕ) (d : Fin 64) : EReal :=
  if hj : j < 4096 then K (ix4 b ⟨j, hj⟩ H d) else 0

/-- The forget sums of a batch and head. -/
def lF (L : (⟨3, ![8, 8, 4096]⟩ : Shape).Idx → EReal) (b H : Fin 8) (j : ℕ) : EReal :=
  if hj : j < 4096 then L (ix3 b H ⟨j, hj⟩) else 0

/-- The attention of one query position, one output channel. -/
def attn (Q K V : (⟨4, ![8, 4096, 8, 64]⟩ : Shape).Idx → EReal) (L : (⟨3, ![8, 8, 4096]⟩ : Shape).Idx → EReal)
    (b H : Fin 8) (s : Fin 4096) (d : Fin 64) : EReal :=
  plain (scoreR (fun e => Q (ix4 b s H e)) (kF K b H) (lF L b H) s.val) (fun j => kF V b H j d)

/-- The attention as the result array lays it out. -/
def attnArr (Q K V : (⟨4, ![8, 4096, 8, 64]⟩ : Shape).Idx → EReal) (L : (⟨3, ![8, 8, 4096]⟩ : Shape).Idx → EReal) :
    (⟨3, ![8, 4096, 512]⟩ : Shape).Idx → EReal := fun y =>
  attn Q K V L (y 0) ⟨(y 2).val / 64, by have : (y 2).val < 512 := (y 2).isLt; omega⟩ (y 1) ⟨(y 2).val % 64, by omega⟩

end Fox.Math

namespace Cert.KernelIdeal.Fox

open Idealize.ShloMosaic Idealize.ShloMosaic.TcCoe Idealize.SL.Sem Cert.KernelIdeal Cert.KernelIdeal.Gen _root_.Fox.Math

variable (m : (ℓ : Loc nD τ sig) → Buf (Elt Ideal) ℓ) (c : Dev nD) (t : Fin cfg0.N)

theorem sum_half0 (f : Fin 128 → EReal) (g : Fin 64 → EReal) (h0 : ∀ d : Fin 64, f ⟨d.val, by omega⟩ = g d) (h1 : ∀ d : Fin 64, f ⟨64 + d.val, by omega⟩ = 0) :
    ∑ x, f x = ∑ d, g d := by
  refine (Fin.sum_univ_add (a := 64) (b := 64) f).trans ?_
  have e0 : ∀ d : Fin 64, f (Fin.castAdd 64 d) = g d := h0
  have e1 : ∀ d : Fin 64, f (Fin.natAdd 64 d) = 0 := h1
  simp only [e0, e1, Finset.sum_const_zero, add_zero]

theorem sum_half1 (f : Fin 128 → EReal) (g : Fin 64 → EReal) (h0 : ∀ d : Fin 64, f ⟨d.val, by omega⟩ = 0) (h1 : ∀ d : Fin 64, f ⟨64 + d.val, by omega⟩ = g d) :
    ∑ x, f x = ∑ d, g d := by
  refine (Fin.sum_univ_add (a := 64) (b := 64) f).trans ?_
  have e0 : ∀ d : Fin 64, f (Fin.castAdd 64 d) = 0 := h0
  have e1 : ∀ d : Fin 64, f (Fin.natAdd 64 d) = g d := h1
  simp only [e0, e1, Finset.sum_const_zero, zero_add]

/-- The head a step's half `h` works on. -/
abbrev hd (h : Fin 2) : Fin 8 := ⟨2 * (cp t).val + h.val, by have := lt1 t; omega⟩

/-- The sequence position of row `j` of a step. -/
abbrev pos (j : Fin 512) : Fin 4096 := ⟨512 * (cq t).val + j.val, by have := lt2 t; omega⟩

/-- The step's blocks, as plain vectors. -/
abbrev bQ : Vec Ideal S1x128x512 .bf16 := iblk m c 0 t
abbrev bK : Vec Ideal S1x4096x128 .bf16 := iblk m c 1 t

theorem bK_eq (h : Fin 2) (κ : Fin 4096) (x : Fin 128) (d : Fin 64) (hx : x.val = 64 * h.val + d.val) :
    bK m c t (ix3 0 κ x) = aK m c (ix4 (cb t) κ (hd t h) d) :=
  (iblk1_apply m c t κ x).trans (V9_apply m c _ _ _ _ _ (by show 128 * (cp t).val + x.val = 64 * (2 * (cp t).val + h.val) + d.val; omega))

theorem bQ_eq (h : Fin 2) (j : Fin 512) (x : Fin 128) (d : Fin 64) (hx : x.val = 64 * h.val + d.val) :
    bQ m c t (ix3 0 x j) = aQ m c (ix4 (cb t) (pos t j) (hd t h) d) * ((1 / 8 / Real.log 2 : ℝ) : EReal) :=
  (iblk0_apply m c t x j).trans (V7_apply m c _ _ _ _ _ (by show 128 * (cp t).val + x.val = 64 * (2 * (cp t).val + h.val) + d.val; omega))

theorem dot_eq (h : Fin 2) (j : Fin 512) (κ : Fin 4096) :
    (∑ x : Fin 128, bK m c t (ix3 0 κ x) * qsel (k0_pay115 (bQ m c t)) (k0_pay116 (bQ m c t)) h (ix2 x j))
      = ∑ d : Fin 64, aK m c (ix4 (cb t) κ (hd t h) d) * (aQ m c (ix4 (cb t) (pos t j) (hd t h) d) * ((1 / 8 / Real.log 2 : ℝ) : EReal)) := by
  obtain rfl | rfl : h = 0 ∨ h = 1 := by fin_cases h <;> simp
  · refine sum_half0 _ _ (fun d => ?_) (fun d => ?_)
    · rw [bK_eq m c t 0 κ ⟨d.val, by omega⟩ d (by simp)]
      refine congrArg _ (((q0_apply (bQ m c t) ⟨d.val, by omega⟩ j).trans (if_pos d.isLt)).trans ?_)
      exact bQ_eq m c t 0 j ⟨d.val, by omega⟩ d (by simp)
    · refine (congrArg _ ((q0_apply (bQ m c t) ⟨64 + d.val, by omega⟩ j).trans (if_neg (by show ¬(64 + d.val < 64); omega)))).trans (mul_zero _)
  · refine sum_half1 _ _ (fun d => ?_) (fun d => ?_)
    · refine (congrArg _ ((q1_apply (bQ m c t) ⟨d.val, by omega⟩ j).trans (if_pos d.isLt))).trans (mul_zero _)
    · rw [bK_eq m c t 1 κ ⟨64 + d.val, by omega⟩ d (by simp)]
      refine congrArg _ (((q1_apply (bQ m c t) ⟨64 + d.val, by omega⟩ j).trans (if_neg (by show ¬(64 + d.val < 64); omega))).trans ?_)
      exact bQ_eq m c t 1 j ⟨64 + d.val, by omega⟩ d (by simp)

theorem score_eq (h : Fin 2) (j : Fin 512) :
    Tq (k0_pay115 (iblk m c 0 t)) (k0_pay116 (iblk m c 0 t)) (iblk m c 1 t) (colAt m c t) h j (grid0.coords t 2).val
      = scoreK (fun e => aQ m c (ix4 (cb t) (pos t j) (hd t h) e)) (kF (aK m c) (cb t) (hd t h)) (lF (aL m c) (cb t) (hd t h)) (pos t j).val := by
  funext κ
  unfold Tq scoreK
  by_cases hs : κ ≤ 512 * (grid0.coords t 2).val + j.val
  · have hκ : κ < 4096 := by have := lt2 t; omega
    rw [if_pos hs, if_pos (show κ ≤ (pos t j).val from hs)]
    unfold Tk
    rw [dif_pos hκ]
    unfold kF lF colAt
    simp only [dif_pos hκ]
    refine congrArg₂ (· - ·) (dot_eq m c t h j ⟨κ, hκ⟩) (congrArg (· * (((Real.log 2)⁻¹ : ℝ) : EReal)) ?_)
    exact V13_apply m c (cb t) (cp t) h ⟨κ, hκ⟩ (hd t h) rfl
  · rw [if_neg hs, if_neg (show ¬κ ≤ (pos t j).val from hs)]

theorem val_eq (h : Fin 2) (d : Fin 64) : Vk (iblk m c 2 t) h d = fun j => kF (aV m c) (cb t) (hd t h) j d := by
  funext κ
  unfold Vk kF
  by_cases hκ : κ < 4096
  · rw [dif_pos hκ, dif_pos hκ]
    exact (iblk2_apply m c t _ _).trans (V12_apply m c _ _ _ _ _ (by show 128 * (cp t).val + (64 * h.val + d.val) = 64 * (2 * (cp t).val + h.val) + d.val; omega))
  · rw [dif_neg hκ, dif_neg hκ]

section
variable (hQ : ∀ i, ∃ r : ℝ, aQ m c i = (r : EReal)) (hK : ∀ i, ∃ r : ℝ, aK m c i = (r : EReal)) (hL : ∀ i, ∃ r : ℝ, aL m c i = (r : EReal))
include hQ hK hL

theorem row_eq (h : Fin 2) (d : Fin 64) (j : Fin 512) :
    rowB (grid0.coords t) (k0_pay115 (iblk m c 0 t)) (k0_pay116 (iblk m c 0 t)) (iblk m c 1 t) (iblk m c 2 t) (colAt m c t) h d j
      = attn (aQ m c) (aK m c) (aV m c) (aL m c) (cb t) (hd t h) (pos t j) d := by
  unfold rowB
  rw [score_eq, val_eq]
  refine softmax_eq _ _ _ _ _ _ ?_ ?_ ?_ ?_ ?_
  · show 512 * (grid0.coords t 2).val + j.val < _
    omega
  · have := lt2 t
    omega
  · exact fun d => hQ _
  · intro j d
    unfold kF
    split
    exacts [hK _, ⟨0, rfl⟩]
  · intro j
    unfold lF
    split
    exacts [hL _, ⟨0, rfl⟩]

/-- What a step writes back is its block of the attention. -/
theorem flushed_eq : (dats m 0 c).flushed 4 t = ((cfg0.win 4).blk t).view.read (Elt Ideal) (attnArr (aQ m c) (aK m c) (aV m c) (aL m c)) := by
  rw [Value.flushed4]
  funext y
  obtain ⟨a, j, dd, rfl⟩ : ∃ (a : Fin 1) (j : Fin 512) (dd : Fin 128), y = ix3 a j dd := ⟨y 0, y 1, y 2, by funext k; fin_cases k <;> rfl⟩
  obtain rfl : a = 0 := Subsingleton.elim _ _
  show (outsAt0 m c t.val t.isLt).1 (ix3 0 j dd) = attnArr (aQ m c) (aK m c) (aV m c) (aL m c) (((cfg0.win 4).blk t).view.emb (ix3 0 j dd))
  rw [emb4]
  have hdd := dd.isLt
  refine (out_at m c t ⟨dd.val / 64, by omega⟩ ⟨dd.val % 64, by omega⟩ j dd (by show dd.val = 64 * (dd.val / 64) + dd.val % 64; omega)).trans ?_
  refine (row_eq m c t hQ hK hL _ _ j).trans ?_
  have e1 : hd t ⟨dd.val / 64, by omega⟩ = ⟨(128 * (cp t).val + dd.val) / 64, by have := lt1 t; omega⟩ := Fin.ext (by show 2 * (cp t).val + dd.val / 64 = (128 * (cp t).val + dd.val) / 64; omega)
  have e2 : (⟨dd.val % 64, by omega⟩ : Fin 64) = ⟨(128 * (cp t).val + dd.val) % 64, by omega⟩ := Fin.ext (by show dd.val % 64 = (128 * (cp t).val + dd.val) % 64; omega)
  rw [e1, e2]
  rfl

end

theorem covered (i : S8x4096x512.Idx) : ∃ t : Fin cfg0.N, (cfg0.win 4).flush t = true ∧ i ∈ ((cfg0.win 4).blk t).view.set := by
  obtain ⟨b, s, f, rfl⟩ : ∃ (b : Fin 8) (s : Fin 4096) (f : Fin 512), i = ix3 b s f := ⟨i 0, i 1, i 2, by funext k; fin_cases k <;> rfl⟩
  have hs := s.isLt
  have hf := f.isLt
  obtain ⟨t, ht⟩ := Pipeline.Grid.coords_surjective grid0 (fun a => match a with
    | ⟨0, _⟩ => (b : Fin 8) | ⟨1, _⟩ => (⟨f.val / 128, by omega⟩ : Fin 4) | ⟨2, _⟩ => (⟨s.val / 512, by omega⟩ : Fin 8))
  have h0 : (cb t).val = b.val := congrArg Fin.val (congrFun ht 0)
  have h1 : (cp t).val = f.val / 128 := congrArg Fin.val (congrFun ht 1)
  have h2 : (cq t).val = s.val / 512 := congrArg Fin.val (congrFun ht 2)
  refine ⟨t, flush0_4 t, ?_⟩
  have hm := ((cfg0.win 4).blk t).view.emb_mem_set (ix3 0 ⟨s.val % 512, by omega⟩ ⟨f.val % 128, by omega⟩)
  rw [emb4] at hm
  have e1 : (⟨512 * (cq t).val + s.val % 512, by have := lt2 t; omega⟩ : Fin 4096) = s := Fin.ext (by show 512 * (cq t).val + s.val % 512 = s.val; omega)
  have e2 : (⟨128 * (cp t).val + f.val % 128, by have := lt1 t; omega⟩ : Fin 512) = f := Fin.ext (by show 128 * (cp t).val + f.val % 128 = f.val; omega)
  have e0 : cb t = b := Fin.ext h0
  rwa [e0, e1, e2] at hm

/-- The result array of the call is the attention of the launch arguments. -/
theorem final (hQ : ∀ i, ∃ r : ℝ, aQ m c i = (r : EReal)) (hK : ∀ i, ∃ r : ℝ, aK m c i = (r : EReal)) (hL : ∀ i, ∃ r : ℝ, aL m c i = (r : EReal)) :
    (dats m 0 c).arrAt 4 cfg0.N = attnArr (aQ m c) (aK m c) (aV m c) (aL m c) :=
  (dats m 0 c).arrAt_eq_of_cover 4 (attnArr (aQ m c) (aK m c) (aV m c) (aL m c)) (fun t _ => flushed_eq m c t hQ hK hL) covered

end Cert.KernelIdeal.Fox
-- ==== Proof.Fox.Ref.lean ====
/- The attention as plainly written, read at one position. -/
module

public import proofs.«01_k».proof.Proof.Fox.Arr
public import proofs.«01_k».proof.Proof.Gen.ReferenceIdeal.Run

@[expose] public section

set_option maxRecDepth 16384

noncomputable section

namespace Cert.ReferenceIdeal.Fox

open Idealize.ShloMosaic Idealize.ShloMosaic.TcCoe Idealize.SL.Sem Cert.ReferenceIdeal Cert.ReferenceIdeal.Gen Facts _root_.Fox.Math

/-- The masked scores. -/
def scoreT (Q K : FVec Ideal S8x4096x8x64 .f32) (L : FVec Ideal S8x8x4096 .f32) : FVec Ideal S8x8x4096x4096 .f32 :=
  (select (broadcastInDim S8x8x4096x4096 ![2, 3] bcast_S4096x4096_S8x8x4096x4096_2_3 (cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0))))) (subf (addf (mulf (Host.dotGeneral dot_S8x4096x8x64_S8x4096x8x64_S8x8x4096x4096_3_3_1_1_02_02 none Q K) (broadcastInDim S8x8x4096x4096 ![] bcast_S_S8x8x4096x4096 (constant S_ .f32 0x3E000000#32))) (broadcastInDim S8x8x4096x4096 ![0, 1, 2, 3] bcast_S8x8x4096x1_S8x8x4096x4096_0_1_2_3 (broadcastInDim S8x8x4096x1 ![0, 1, 2] bcast_S8x8x4096_S8x8x4096x1_0_1_2 L))) (broadcastInDim S8x8x4096x4096 ![0, 1, 2, 3] bcast_S8x8x1x4096_S8x8x4096x4096_0_1_2_3 (broadcastInDim S8x8x1x4096 ![0, 1, 3] bcast_S8x8x4096_S8x8x1x4096_0_1_3 L))) (broadcastInDim S8x8x4096x4096 ![] bcast_S_S8x8x4096x4096 (id (constant S_ .f32 0xFF800000#32))))

/-- The row maxima. -/
def mT (X : FVec Ideal S8x8x4096x4096 .f32) : FVec Ideal S8x8x4096 .f32 :=
  (maximumf (broadcastInDim S8x8x4096 ![] bcast_S_S8x8x4096 (constant S_ .f32 0xFF800000#32)) (Host.reduce FloatOps.maximumf X (constant S_ .f32 0xFF800000#32) reducesTo_S8x8x4096x4096_S8x8x4096_d3 h_S_))

/-- The shifted exponentials. -/
def eT (X : FVec Ideal S8x8x4096x4096 .f32) : FVec Ideal S8x8x4096x4096 .f32 :=
  (Host.exp (subf X (broadcastInDim S8x8x4096x4096 ![0, 1, 2, 3] bcast_S8x8x4096x1_S8x8x4096x4096_0_1_2_3 (broadcastInDim S8x8x4096x1 ![0, 1, 2] bcast_S8x8x4096_S8x8x4096x1_0_1_2 (mT X)))))

/-- The softmax of each row. -/
def softT (X : FVec Ideal S8x8x4096x4096 .f32) : FVec Ideal S8x8x4096x4096 .f32 :=
  (Host.divf (eT X) (broadcastInDim S8x8x4096x4096 ![0, 1, 2, 3] bcast_S8x8x4096x1_S8x8x4096x4096_0_1_2_3 (broadcastInDim S8x8x4096x1 ![0, 1, 2] bcast_S8x8x4096_S8x8x4096x1_0_1_2 (Host.reduceAdd (eT X) (constant S_ .f32 0x00000000#32) reducesTo_S8x8x4096x4096_S8x8x4096_d3 h_S_))))

theorem res_eq (m : (ℓ : Loc nD τ sig) → Buf (Elt Ideal) ℓ) (c : Dev nD) : Value.res_main_v30 m c =
  truncf .bf16 (shapeCast _ (transpose S8x4096x8x64 [0, 3, 1, 2] (Host.dotGeneral dot_S8x4096x8x64_S8x8x4096x4096_S8x8x64x4096_1_3_3_2_02_01 none (φ₁ := .f32) (m ((c.tc : Thread nD τ).loc main_arg2)) (softT (scoreT (m ((c.tc : Thread nD τ).loc main_arg0)) (m ((c.tc : Thread nD τ).loc main_arg1)) (m ((c.tc : Thread nD τ).loc main_arg3))))) transposes_S8x8x64x4096_S8x4096x8x64_0_3_1_2) shapeCasts_S8x4096x8x64_S8x4096x512) bitsLt_bf16_f32 := rfl

theorem iota_toInt (j : Fin 4096) : (BitVec.ofNat 32 j.val).toInt = j.val := by
  rw [BitVec.toInt_eq_toNat_of_lt] <;> rw [BitVec.toNat_ofNat] <;> omega

theorem iota_le (j s : Fin 4096) : IntOp.cmpi .sle (BitVec.ofNat 32 j.val) (BitVec.ofNat 32 s.val) = if j.val ≤ s.val then 1#1 else 0#1 := by
  show BitVec.ofBool ((BitVec.ofNat 32 j.val).sle (BitVec.ofNat 32 s.val)) = _
  rw [BitVec.sle, iota_toInt, iota_toInt]
  by_cases h : j.val ≤ s.val <;> simp [h]

theorem bot_eq : Ideal.ofBits .f32 0xFF800000#32 = ⊥ := by
  simp [Ideal.ofBits, Ideal.ieee]

theorem scoreT_apply (Q K : FVec Ideal S8x4096x8x64 .f32) (L : FVec Ideal S8x8x4096 .f32) (b H : Fin 8) (s j : Fin 4096) :
    scoreT Q K L (ix4 b H s j) = scoreR (fun e => Q (ix4 b s H e)) (kF K b H) (lF L b H) s.val j.val := by
  pointwise [scoreT]
  rw [iota_le]
  unfold scoreR kF lF
  simp only [dif_pos j.isLt, dif_pos s.isLt]
  by_cases h : j.val ≤ s.val
  · rw [if_pos h, if_pos h, KernelIdeal.Fox.eighth_eq]
    rfl
  · rw [if_neg h, if_neg h]
    exact bot_eq

theorem reduce_last {a b c n : ℕ} {u : Shape} (X : (⟨4, ![a, b, c, n]⟩ : Shape).Idx → EReal) (v : u.Idx → EReal)
    (h' : (⟨4, ![a, b, c, n]⟩ : Shape).ReducesTo [3] ⟨3, ![a, b, c]⟩) (h : (⟨4, ![a, b, c, n]⟩ : Shape).Reduces [3] ⟨3, ![a, b, c]⟩) (hu : 0 < u.numel)
    (i : Fin a) (j : Fin b) (k : Fin c) :
    Host.reduce (FloatOps.maximumf (F := Ideal) (φ := .f32)) X v h' hu (ix3 i j k) = Finset.univ.fold max (v (Shape.Idx.first hu)) fun l : Fin n => X (ix4 i j k l) := by
  refine (Host.reduce_eq_fold_single (max : EReal → EReal → EReal) X v h' h hu (ix3 i j k)).trans ?_
  refine congrArg (Finset.univ.fold max (v (Shape.Idx.first hu))) ?_
  funext l
  refine congrArg X ?_
  funext y
  fin_cases y <;> rfl

theorem maxf_apply {s : Shape} (A B : FVec Ideal s .f32) (i : s.Idx) : maximumf A B i = max (A i) (B i) := rfl

theorem mT_apply (X : FVec Ideal S8x8x4096x4096 .f32) (b H : Fin 8) (s : Fin 4096) :
    mT X (ix3 b H s) = max ⊥ (Finset.univ.fold max ⊥ fun i : Fin 4096 => X (ix4 b H s i)) := by
  have hR : S8x8x4096x4096.Reduces [3] S8x8x4096 := ⟨rfl, by decide, (reducesTo_S8x8x4096x4096_S8x8x4096_d3).2⟩
  rw [mT, maxf_apply, reduce_last X _ _ hR]
  exact congrArg₂ (fun y z => max y (Finset.univ.fold max z fun i : Fin 4096 => X (ix4 b H s i))) bot_eq bot_eq

theorem eT_apply (X : FVec Ideal S8x8x4096x4096 .f32) (b H : Fin 8) (s j : Fin 4096) :
    eT X (ix4 b H s j) = Ideal.exp (X (ix4 b H s j) - mT X (ix3 b H s)) := by
  pointwise [eT]

theorem softT_apply (X : FVec Ideal S8x8x4096x4096 .f32) (b H : Fin 8) (s j : Fin 4096) :
    softT X (ix4 b H s j) = Ideal.div (eT X (ix4 b H s j)) (∑ i : Fin 4096, eT X (ix4 b H s i)) := by
  pointwise [softT]

/-- The reference's result is the attention of its arguments. -/
theorem res_attn (m : (ℓ : Loc nD τ sig) → Buf (Elt Ideal) ℓ) (c : Dev nD) (Q K V : FVec Ideal S8x4096x8x64 .f32) (L : FVec Ideal S8x8x4096 .f32)
    (hQ : m ((c.tc : Thread nD τ).loc main_arg0) = Q) (hK : m ((c.tc : Thread nD τ).loc main_arg1) = K)
    (hV : m ((c.tc : Thread nD τ).loc main_arg2) = V) (hL : m ((c.tc : Thread nD τ).loc main_arg3) = L) :
    Value.res_main_v30 m c = attnArr Q K V L := by
  rw [res_eq, hQ, hK, hV, hL]
  funext y
  obtain ⟨b, s, f, rfl⟩ : ∃ (b : Fin 8) (s : Fin 4096) (f : Fin 512), y = ix3 b s f := ⟨y 0, y 1, y 2, by funext k; fin_cases k <;> rfl⟩
  refine Eq.trans (b := ∑ j : Fin 4096, V (ix4 b j ⟨f.val / 64, by omega⟩ ⟨f.val % 64, by omega⟩) * softT (scoreT Q K L) (ix4 b ⟨f.val / 64, by omega⟩ s j)) ?_ ?_
  · pointwise
  · unfold attnArr attn plain
    refine Finset.sum_congr rfl fun j _ => congrArg₂ (· * ·) ?_ ?_
    · show V (ix4 b j ⟨f.val / 64, by omega⟩ ⟨f.val % 64, by omega⟩) = kF V b ⟨f.val / 64, by omega⟩ j.val ⟨f.val % 64, by omega⟩
      unfold kF
      rw [dif_pos j.isLt]
    · rw [softT_apply]
      simp only [eT_apply, mT_apply, scoreT_apply]
      rfl

end Cert.ReferenceIdeal.Fox
-- ==== Proof.Fox.Claims.lean ====
/- The claims about the attention call. -/
module

public import proofs.«01_k».proof.Defs
public import proofs.«01_k».proof.Proof.Fox.Arr
public import proofs.«01_k».proof.Proof.Fox.Ref
public import proofs.«01_k».proof.Proof.Gen.Kernel.Frame
public import proofs.«01_k».proof.Proof.Gen.KernelIdeal.Frame
public import proofs.«01_k».proof.Proof.Gen.Pre_finite_scores
public import Idealize.ShloMosaic.Lib.Quiescent

@[expose] public section

noncomputable section

open Idealize.ShloMosaic Idealize.ShloMosaic.TcCoe Idealize.SL.Sem

namespace Cert.Proof.Fox

/-- An extended real whose absolute value lies under infinity is a real. -/
theorem real_of_abs (x : EReal) (h : (if max x (-x) < (⊤ : EReal) then 1#1 else 0#1) = (1#1 : BitVec 1)) : ∃ r : ℝ, x = (r : EReal) := by
  induction x using EReal.rec with
  | bot => exact absurd h (by simp)
  | coe r => exact ⟨r, rfl⟩
  | top => exact absurd h (by simp)

theorem top_eq : Ideal.ofBits .f32 0x7F800000#32 = ⊤ := by
  simp [Ideal.ofBits, Ideal.ieee]

/-- What the comparison of an array's absolute values with infinity says. -/
theorem reals {s : Shape} (x : FVec Ideal s .f32) (h0 : (⟨0, ![]⟩ : Shape).BroadcastsInDim s (![] : Fin 0 → Fin s.rank))
    (h : cmpf .olt (Host.absf x) (broadcastInDim s ![] h0 (constant (F := Ideal) ⟨0, ![]⟩ .f32 0x7F800000#32)) = fun _ => 1#1) (i : s.Idx) :
    ∃ r : ℝ, x i = (r : EReal) := by
  refine real_of_abs (x i) ?_
  rw [← top_eq]
  have e := congrFun h i
  refine Eq.trans ?_ e
  show _ = BitVec.ofBool (decide _)
  by_cases hx : max (x i) (-(x i)) < Ideal.ofBits .f32 0x7F800000#32
  · rw [if_pos hx]; exact (congrArg BitVec.ofBool (decide_eq_true hx)).symm
  · rw [if_neg hx]; exact (congrArg BitVec.ofBool (decide_eq_false hx)).symm

theorem frame_p : Cert.quiescent_Kernel := fun m ρ _ => Cert.Kernel.Gen.frame m ρ
theorem frame_pi : Cert.quiescent_KernelIdeal := fun m ρ _ => Cert.KernelIdeal.Gen.frame m ρ
theorem frame_pi' : Cert.quiescent_KernelIdeal_pre_finite_scores := fun m ρ _ => Cert.KernelIdeal.Gen.frame m ρ
theorem frame_ri : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)
theorem frame_ri' : Cert.quiescent_ReferenceIdeal_pre_finite_scores := fun m ρ _ => frame_ri m ρ trivial

theorem preserves : Cert.preserves_Kernel_KernelIdeal :=
  IdealRules.named_const.statement Cert.KernelIdeal.κ "log2e" .f32 0x3FB8AA3B#32 (((Real.log 2)⁻¹ : ℝ) : EReal) rfl

theorem algebraic : Cert.algebraic_KernelIdeal_ReferenceIdeal_pre_finite_scores := by
  intro m ρ m' ρ' hpre hagree
  refine ⟨_, Cert.KernelIdeal.Value.run_blocks (F := Ideal) m ρ, ?_⟩
  refine (θ_run Cert.ReferenceIdeal.defs _ _).mono (fun _ h c => ⟨(h c).1.trans ?_, (h c).2⟩) (Cert.ReferenceIdeal.Value.run (F := Ideal) m' ρ')
  rw [Cert.KernelIdeal.Fox.final m c (reals _ _ (hpre c).1) (reals _ _ (hpre c).2.1) (reals _ _ (hpre c).2.2)]
  exact Cert.ReferenceIdeal.Fox.res_attn m' c _ _ _ _ (hagree c).1 (hagree c).2.1 (hagree c).2.2.1 (hagree c).2.2.2

end Cert.Proof.Fox

end
-- ==== Proof.Mlp.Math.lean ====
/- One row of the output projection and the feed-forward layer with their norms, on extended reals. -/
module

public import Idealize.ShloMosaic.PureOps
public import Idealize.ShloMosaic.Lib.Pointwise

@[expose] public section

noncomputable section

namespace Mlp.Math

open Idealize.ShloMosaic

/-- The layer norm of a row. -/
def lnorm (u g b : Fin 1024 → EReal) (j : Fin 1024) : EReal :=
  (u j - Ideal.div (∑ k, u k) (Ideal.ofBits .f32 0x44800000#32))
    * Ideal.rsqrt (Ideal.div (∑ k, (u k - Ideal.div (∑ k, u k) (Ideal.ofBits .f32 0x44800000#32)) * (u k - Ideal.div (∑ k, u k) (Ideal.ofBits .f32 0x44800000#32)))
        (Ideal.ofBits .f32 0x44800000#32) + Ideal.ofBits .f32 0x3727C5AC#32)
    * g j + b j

theorem lnorm_congr {u u' g g' b b' : Fin 1024 → EReal} (hu : ∀ k, u k = u' k) (hg : ∀ k, g k = g' k) (hb : ∀ k, b k = b' k) (j : Fin 1024) :
    lnorm u g b j = lnorm u' g' b' j := by
  rw [funext hu, funext hg, funext hb]

/-- The projected mixture of a row. -/
def mix (f n : Fin 512 → EReal) (wo : Fin 1024 → Fin 1024 → EReal) (j : Fin 1024) : EReal :=
  (∑ k : Fin 512, f k * wo ⟨k.val, by omega⟩ j) + ∑ k : Fin 512, n k * wo ⟨512 + k.val, by omega⟩ j

/-- A hidden unit: the square of the positive part. -/
def hid (x : Fin 1024 → EReal) (w : Fin 1024 → EReal) : EReal :=
  max (∑ k, x k * w k) 0 * max (∑ k, x k * w k) 0

/-- The feed-forward layer of a row. -/
def ffn (x : Fin 1024 → EReal) (w1 : Fin 1024 → Fin 4096 → EReal) (w2 : Fin 4096 → Fin 1024 → EReal) (j : Fin 1024) : EReal :=
  ∑ i, hid x (fun k => w1 k i) * w2 i j

/-- The row after the first norm. -/
def mid (x : Fin 1024 → EReal) (f n : Fin 512 → EReal) (wo : Fin 1024 → Fin 1024 → EReal) (g1 b1 : Fin 1024 → EReal) : Fin 1024 → EReal :=
  lnorm (fun j => Ideal.ofBits .f32 0x3F9837F0#32 * x j + mix f n wo j) g1 b1

/-- The row after the second norm. -/
def row (x : Fin 1024 → EReal) (f n : Fin 512 → EReal) (wo : Fin 1024 → Fin 1024 → EReal) (g1 b1 : Fin 1024 → EReal)
    (w1 : Fin 1024 → Fin 4096 → EReal) (w2 : Fin 4096 → Fin 1024 → EReal) (g2 b2 : Fin 1024 → EReal) : Fin 1024 → EReal :=
  lnorm (fun j => Ideal.ofBits .f32 0x3F9837F0#32 * mid x f n wo g1 b1 j + ffn (mid x f n wo g1 b1) w1 w2 j) g2 b2

theorem row_congr {x x' : Fin 1024 → EReal} {f f' n n' : Fin 512 → EReal} {wo wo' : Fin 1024 → Fin 1024 → EReal} {g1 g1' b1 b1' : Fin 1024 → EReal}
    {w1 w1' : Fin 1024 → Fin 4096 → EReal} {w2 w2' : Fin 4096 → Fin 1024 → EReal} {g2 g2' b2 b2' : Fin 1024 → EReal}
    (hx : ∀ k, x k = x' k) (hf : ∀ k, f k = f' k) (hn : ∀ k, n k = n' k) (hwo : ∀ k j, wo k j = wo' k j) (hg1 : ∀ k, g1 k = g1' k) (hb1 : ∀ k, b1 k = b1' k)
    (hw1 : ∀ k j, w1 k j = w1' k j) (hw2 : ∀ k j, w2 k j = w2' k j) (hg2 : ∀ k, g2 k = g2' k) (hb2 : ∀ k, b2 k = b2' k) (j : Fin 1024) :
    row x f n wo g1 b1 w1 w2 g2 b2 j = row x' f' n' wo' g1' b1' w1' w2' g2' b2' j := by
  rw [funext hx, funext hf, funext hn, funext fun k => funext (hwo k), funext hg1, funext hb1, funext fun k => funext (hw1 k), funext fun k => funext (hw2 k), funext hg2, funext hb2]

/-- A sum over the hidden units, a quarter at a time. -/
theorem sum_quarters (f : Fin 4096 → EReal) :
    ∑ i, f i = (∑ i : Fin 1024, f ⟨i.val, by omega⟩) + (∑ i : Fin 1024, f ⟨1024 + i.val, by omega⟩)
      + (∑ i : Fin 1024, f ⟨2048 + i.val, by omega⟩) + ∑ i : Fin 1024, f ⟨3072 + i.val, by omega⟩ := by
  refine (Fin.sum_univ_add (a := 3072) (b := 1024) f).trans ?_
  refine congrArg₂ (· + ·) ?_ rfl
  refine (Fin.sum_univ_add (a := 2048) (b := 1024) fun i : Fin 3072 => f ⟨i.val, by omega⟩).trans ?_
  refine congrArg₂ (· + ·) ?_ rfl
  exact Fin.sum_univ_add (a := 1024) (b := 1024) fun i : Fin 2048 => f ⟨i.val, by omega⟩

/-- The product of a row of two halves joined. -/
theorem sum_joined (f n : Fin 512 → EReal) (wo : Fin 1024 → Fin 1024 → EReal) (j : Fin 1024) (z : Fin 1024 → EReal)
    (hf : ∀ k : Fin 512, z ⟨k.val, by omega⟩ = f k) (hn : ∀ k : Fin 512, z ⟨512 + k.val, by omega⟩ = n k) :
    ∑ k, z k * wo k j = mix f n wo j := by
  refine (Fin.sum_univ_add (a := 512) (b := 512) fun k => z k * wo k j).trans ?_
  refine congrArg₂ (· + ·) (Finset.sum_congr rfl fun k _ => ?_) (Finset.sum_congr rfl fun k _ => ?_)
  · exact congrArg (· * wo ⟨k.val, by omega⟩ j) (hf k)
  · exact congrArg (· * wo ⟨512 + k.val, by omega⟩ j) (hn k)

end Mlp.Math
-- ==== Proof.Mlp.Pay.lean ====
/- What a step of the block's call stores, element by element. -/
module

public import proofs.«01_k».proof.Proof.Mlp.Math
public import proofs.«01_k».proof.Proof.Gen.Kernel2Ideal.Frame

@[expose] public section

set_option maxRecDepth 16384

noncomputable section

namespace Cert.Kernel2Ideal.Mlp

open Idealize.ShloMosaic Idealize.ShloMosaic.TcCoe Idealize.SL.Sem Cert.Kernel2Ideal Cert.Kernel2Ideal.Gen Facts _root_.Mlp.Math

/-- A row less its mean. -/
def cenT (u : FVec Ideal S512x1024 .f32) : FVec Ideal S512x1024 .f32 :=
  subf u (broadcastTo S512x1024 (divf (shapeCast S512x1 (multiReduction .add [1] S512 u 0x00000000#32 reduces_S512x1024_S512 (.inl rfl) rfl) shapeCasts_S512_S512x1)
    (broadcast S512x1 (Scalar.ofBits .f32 0x44800000#32))) broadcasts_S512x1_S512x1024)

/-- A row less its mean over its deviation. -/
def lnT (u : FVec Ideal S512x1024 .f32) : FVec Ideal S512x1024 .f32 :=
  mulf (cenT u) (broadcastTo S512x1024 (rsqrt (addf (divf (shapeCast S512x1
    (multiReduction .add [1] S512 (mulf (cenT u) (cenT u)) 0x00000000#32 reduces_S512x1024_S512 (.inl rfl) rfl) shapeCasts_S512_S512x1)
    (broadcast S512x1 (Scalar.ofBits .f32 0x44800000#32))) (broadcast S512x1 (Scalar.ofBits .f32 0x3727C5AC#32)))) broadcasts_S512x1_S512x1024)

/-- A row scaled and shifted. -/
def affT (u : FVec Ideal S512x1024 .f32) (g b : FVec Ideal S1x1024 .f32) : FVec Ideal S512x1024 .f32 :=
  addf (mulf (lnT u) (broadcastTo S512x1024 g broadcasts_S1x1024_S512x1024)) (broadcastTo S512x1024 b broadcasts_S1x1024_S512x1024)

theorem cenT_apply (u : FVec Ideal S512x1024 .f32) (r : Fin 512) (j : Fin 1024) :
    cenT u (ix2 r j) = u (ix2 r j) - Ideal.div (∑ k : Fin 1024, u (ix2 r k)) (Ideal.ofBits .f32 0x44800000#32) := by
  pointwise [cenT]

theorem affT_apply (u : FVec Ideal S512x1024 .f32) (g b : FVec Ideal S1x1024 .f32) (r : Fin 512) (j : Fin 1024) :
    affT u g b (ix2 r j) = lnorm (fun k => u (ix2 r k)) (fun k => g (ix2 0 k)) (fun k => b (ix2 0 k)) j := by
  pointwise [affT, lnT]
  simp only [cenT_apply]
  rfl

/-- The row that the first norm reads. -/
def preT (v1 : FVec Ideal S512x1024 .f32) (v3 v8 : FVec Ideal S512x512 .bf16) (v5 v10 : FVec Ideal S512x1024 .bf16) : FVec Ideal S512x1024 .f32 :=
  addf (mulf (broadcast S512x1024 (Scalar.ofBits .f32 0x3F9837F0#32)) v1)
    (addf (matmul dot_S512x512_S512x1024_S512x1024_1_0_0_1_n_n none v3 v5 (constant S512x1024 .f32 0x00000000#32))
      (matmul dot_S512x512_S512x1024_S512x1024_1_0_0_1_n_n none v8 v10 (constant S512x1024 .f32 0x00000000#32)))

theorem preT_apply (v1 : FVec Ideal S512x1024 .f32) (v3 v8 : FVec Ideal S512x512 .bf16) (v5 v10 : FVec Ideal S512x1024 .bf16) (r : Fin 512) (j : Fin 1024) :
    preT v1 v3 v8 v5 v10 (ix2 r j) = Ideal.ofBits .f32 0x3F9837F0#32 * v1 (ix2 r j)
      + ((∑ k : Fin 512, v3 (ix2 r k) * v5 (ix2 k j)) + ∑ k : Fin 512, v8 (ix2 r k) * v10 (ix2 k j)) := by
  pointwise [preT]

/-- A quarter of the hidden units. -/
def hidT (x : FVec Ideal S512x1024 .bf16) (w : FVec Ideal S1024x1024 .bf16) : FVec Ideal S512x1024 .bf16 :=
  truncf .bf16 (mulf (maximumf (matmul dot_S512x1024_S1024x1024_S512x1024_1_0_0_1_n_n none x w (constant S512x1024 .f32 0x00000000#32)) (broadcast S512x1024 (Scalar.ofBits .f32 0x00000000#32)))
    (maximumf (matmul dot_S512x1024_S1024x1024_S512x1024_1_0_0_1_n_n none x w (constant S512x1024 .f32 0x00000000#32)) (broadcast S512x1024 (Scalar.ofBits .f32 0x00000000#32)))) bitsLt_bf16_f32

theorem hidT_apply (x : FVec Ideal S512x1024 .bf16) (w : FVec Ideal S1024x1024 .bf16) (r : Fin 512) (i : Fin 1024) :
    hidT x w (ix2 r i) = hid (fun k => x (ix2 r k)) (fun k => w (ix2 k i)) := by
  pointwise [hidT]
  rfl

/-- A quarter's share of the feed-forward sum. -/
def partT (x : FVec Ideal S512x1024 .bf16) (w v : FVec Ideal S1024x1024 .bf16) : FVec Ideal S512x1024 .f32 :=
  matmul dot_S512x1024_S1024x1024_S512x1024_1_0_0_1_n_n none (hidT x w) v (constant S512x1024 .f32 0x00000000#32)

theorem partT_apply (x : FVec Ideal S512x1024 .bf16) (w v : FVec Ideal S1024x1024 .bf16) (r : Fin 512) (j : Fin 1024) :
    partT x w v (ix2 r j) = ∑ i : Fin 1024, hid (fun k => x (ix2 r k)) (fun k => w (ix2 k i)) * v (ix2 i j) := by
  pointwise [partT]
  simp only [hidT_apply]

theorem cast_id {s : Shape} {e : Type} (h : s.ShapeCasts s) (x : s.Idx → e) : shapeCast s x h = x := by
  funext i
  pointwise

theorem mid_eq (v0 : FVec Ideal S512x1024 .f32) (v2 v7 : FVec Ideal S512x512 .bf16) (v4 v9 : FVec Ideal S512x1024 .bf16) (v16 v18 : FVec Ideal S1x1024 .f32) :
    k0_pay4 (F := Ideal) (k0_pay1 v18) (k0_pay2 v0 v2 v4 v7 v9) (k0_pay3 v16) = affT (preT v0 v2 v7 v4 v9) v16 v18 := by
  unfold k0_pay4 k0_pay1 k0_pay2 k0_pay3
  simp only [cast_id]
  rfl

theorem acc_eq (v19 : FVec Ideal S1x1024 .f32) (v35 v36 : FVec Ideal S512x1024 .f32) (a0 b0 a1 b1 a2 b2 : FVec Ideal S1024x1024 .bf16) :
    k0_pay6 (F := Ideal) v19 v35 v36 a0 b0 a1 b1 a2 b2
      = addf (addf (addf (broadcast S512x1024 (Scalar.ofBits (F := Ideal) .f32 0x00000000#32)) (partT (k0_pay5 v19 v35 v36) a0 b0)) (partT (k0_pay5 v19 v35 v36) a1 b1)) (partT (k0_pay5 v19 v35 v36) a2 b2) := by
  unfold k0_pay6
  simp only [cast_id]
  rfl

theorem last_eq (v39 : FVec Ideal S512x1024 .f32) (v40 : FVec Ideal S512x1024 .bf16) (v74 : FVec Ideal S512x1024 .f32) (a3 b3 : FVec Ideal S1024x1024 .bf16) (g b : FVec Ideal S1x1024 .f32) :
    k0_pay7 (F := Ideal) v39 v40 v74 a3 b3 g b
      = affT (addf (mulf (broadcast S512x1024 (Scalar.ofBits (F := Ideal) .f32 0x3F9837F0#32)) v39) (addf v74 (partT v40 a3 b3))) g b := by
  unfold k0_pay7
  simp only [cast_id]
  rfl

theorem narrow_eq (v19 : FVec Ideal S1x1024 .f32) (v35 v36 : FVec Ideal S512x1024 .f32) (i : S512x1024.Idx) :
    k0_pay5 (F := Ideal) v19 v35 v36 i = k0_pay4 (F := Ideal) v19 v35 v36 i := rfl

end Cert.Kernel2Ideal.Mlp
-- ==== Proof.Mlp.Arr.lean ====
/- The array the block's call leaves: the row formula of the launch arguments. -/
module

public import proofs.«01_k».proof.Proof.Mlp.Pay
public import proofs.«01_k».proof.Proof.Gen.Kernel2Ideal.Value
public import Idealize.ShloMosaic.Lib.StableHlo.ReadAt
public import Idealize.ShloMosaic.Lib.Pointwise
public import Idealize.ShloMosaic.Lib.Pipeline.Covers

@[expose] public section

set_option maxRecDepth 16384

noncomputable section

namespace Cert.Kernel2Ideal.Mlp

open Idealize.ShloMosaic Idealize.ShloMosaic.TcCoe Idealize.SL.Sem Cert.Kernel2Ideal Cert.Kernel2Ideal.Gen _root_.Mlp.Math

theorem hz2 : (![0, 0] : Fin 2 → ℕ) = fun _ => 0 := by funext a; fin_cases a <;> rfl

theorem ld_at {sr sc or oc nr nc : ℕ} {e : EltTy} (x : Vec Ideal ⟨2, ![sr, sc]⟩ e)
    (inb : ∀ a, (![or, oc] : Fin 2 → ℕ) a + (⟨2, ![nr, nc]⟩ : Shape).size a ≤ (⟨2, ![sr, sc]⟩ : Shape).size a)
    (i : Fin nr) (j : Fin nc) (hi : or + i.val < sr) (hj : oc + j.val < sc) :
    View.ld x (Rect.unit (s := ⟨2, ![sr, sc]⟩) ![or, oc] (⟨2, ![nr, nc]⟩ : Shape).size inb) (ix2 i j) = x (ix2 ⟨or + i.val, hi⟩ ⟨oc + j.val, hj⟩) := by
  refine congrArg x (funext fun a => Fin.ext ?_)
  match a with
  | ⟨0, _⟩ => show or + 1 * i.val = or + i.val; omega
  | ⟨1, _⟩ => show oc + 1 * j.val = oc + j.val; omega

theorem ld_vec (x : Vec Ideal S1x1024 .f32) : View.ld x r0_4 = x := View.ld_unit_zero (S := S1x1024) hz2 _ x

theorem out_apply (x0 : Vec Ideal S512x1024 .f32) (x1 x2 : Vec Ideal S512x512 .bf16) (x3 : Vec Ideal S1024x1024 .bf16) (x4 x5 : Vec Ideal S1x1024 .f32)
    (x6 : Vec Ideal S1024x4096 .bf16) (x7 : Vec Ideal S4096x1024 .bf16) (x8 x9 : Vec Ideal S1x1024 .f32) (r : Fin 512) (j : Fin 1024) :
    out0_10 (F := Ideal) x0 x1 x2 x3 x4 x5 x6 x7 x8 x9 (ix2 r j)
      = row (fun k => x0 (ix2 r k)) (fun k => x1 (ix2 r k)) (fun k => x2 (ix2 r k)) (fun k j => x3 (ix2 k j)) (fun k => x4 (ix2 0 k)) (fun k => x5 (ix2 0 k))
          (fun k i => x6 (ix2 k i)) (fun i k => x7 (ix2 i k)) (fun k => x8 (ix2 0 k)) (fun k => x9 (ix2 0 k)) j := by
  have hmid : ∀ k, k0_pay4 (F := Ideal) (k0_pay8 x0 x1 x2 x3 x4 x5 x6 x7 x8 x9) (k0_pay9 x0 x1 x2 x3 x4 x5 x6 x7 x8 x9) (k0_pay10 x0 x1 x2 x3 x4 x5 x6 x7 x8 x9) (ix2 r k)
      = mid (fun k => x0 (ix2 r k)) (fun k => x1 (ix2 r k)) (fun k => x2 (ix2 r k)) (fun k j => x3 (ix2 k j)) (fun k => x4 (ix2 0 k)) (fun k => x5 (ix2 0 k)) k := by
    intro k
    unfold k0_pay8 k0_pay9 k0_pay10
    rw [mid_eq, affT_apply]
    simp only [preT_apply, View.ld_unit_zero (S := S512x1024) hz2, View.ld_unit_zero (S := S512x512) hz2]
    unfold mid mix
    refine lnorm_congr (fun q => ?_) (fun q => congrFun (ld_vec x4) _) (fun q => congrFun (ld_vec x5) _) k
    refine congrArg (Ideal.ofBits .f32 0x3F9837F0#32 * x0 (ix2 r q) + ·) (congrArg₂ (· + ·) (Finset.sum_congr rfl fun k _ => congrArg (x1 (ix2 r k) * ·) ?_) (Finset.sum_congr rfl fun k _ => congrArg (x2 (ix2 r k) * ·) ?_))
    · refine (ld_at x3 _ k q (by omega) (by omega)).trans ?_
      simp only [Nat.zero_add]
    · refine (ld_at x3 _ k q (by omega) (by omega)).trans ?_
      simp only [Nat.zero_add]
  unfold out0_10
  rw [View.canon_unit_zero hz2, last_eq, affT_apply, acc_eq]
  unfold row
  refine lnorm_congr (fun q => ?_) (fun q => congrFun (ld_vec x8) _) (fun q => congrFun (ld_vec x9) _) j
  pointwise
  rw [hmid]
  refine congrArg₂ (· + ·) rfl ?_
  simp only [partT_apply, narrow_eq, hmid]
  unfold ffn
  rw [sum_quarters]
  refine congrArg₂ (· + ·) (congrArg₂ (· + ·) (congrArg₂ (· + ·) ?_ ?_) ?_) ?_
  · refine Finset.sum_congr rfl fun i _ => congrArg₂ (· * ·) (congrArg (hid _) (funext fun k => ?_)) ?_
    · refine (ld_at x6 _ k i (by omega) (by omega)).trans ?_
      simp only [Nat.zero_add]
    · refine (ld_at x7 _ i q (by omega) (by omega)).trans ?_
      simp only [Nat.zero_add]
  · refine Finset.sum_congr rfl fun i _ => congrArg₂ (· * ·) (congrArg (hid _) (funext fun k => ?_)) ?_
    · refine (ld_at x6 _ k i (by omega) (by omega)).trans ?_
      simp only [Nat.zero_add]
    · refine (ld_at x7 _ i q (by omega) (by omega)).trans ?_
      simp only [Nat.zero_add]
  · refine Finset.sum_congr rfl fun i _ => congrArg₂ (· * ·) (congrArg (hid _) (funext fun k => ?_)) ?_
    · refine (ld_at x6 _ k i (by omega) (by omega)).trans ?_
      simp only [Nat.zero_add]
    · refine (ld_at x7 _ i q (by omega) (by omega)).trans ?_
      simp only [Nat.zero_add]
  · refine Finset.sum_congr rfl fun i _ => congrArg₂ (· * ·) (congrArg (hid _) (funext fun k => ?_)) ?_
    · refine (ld_at x6 _ k i (by omega) (by omega)).trans ?_
      simp only [Nat.zero_add]
    · refine (ld_at x7 _ i q (by omega) (by omega)).trans ?_
      simp only [Nat.zero_add]

variable (m : (ℓ : Loc nD τ sig) → Buf (Elt Ideal) ℓ) (c : Dev nD) (t : Fin cfg0.N)

/-- The layer's input. -/
abbrev a0 : Vec Ideal S8x4096x1024 .f32 := m ((c : Thread nD τ).loc main_arg0)
/-- The attention's rows. -/
abbrev a1 : Vec Ideal S8x4096x512 .f32 := m ((c : Thread nD τ).loc main_arg1)
/-- The mLSTM's rows. -/
abbrev a2 : Vec Ideal S8x4096x512 .f32 := m ((c : Thread nD τ).loc main_arg2)
/-- The output projection. -/
abbrev a3 : Vec Ideal S1024x1024 .f32 := m ((c : Thread nD τ).loc main_arg3)
abbrev a4 : Vec Ideal S1024 .f32 := m ((c : Thread nD τ).loc main_arg4)
abbrev a5 : Vec Ideal S1024 .f32 := m ((c : Thread nD τ).loc main_arg5)
abbrev a6 : Vec Ideal S1024x4096 .f32 := m ((c : Thread nD τ).loc main_arg6)
abbrev a7 : Vec Ideal S4096x1024 .f32 := m ((c : Thread nD τ).loc main_arg7)
abbrev a8 : Vec Ideal S1024 .f32 := m ((c : Thread nD τ).loc main_arg8)
abbrev a9 : Vec Ideal S1024 .f32 := m ((c : Thread nD τ).loc main_arg9)

/-- The batch of a row. -/
abbrev rb (R : Fin 32768) : Fin 8 := ⟨R.val / 4096, by omega⟩
/-- The position of a row. -/
abbrev rs (R : Fin 32768) : Fin 4096 := ⟨R.val % 4096, by omega⟩

theorem V0_apply (R : Fin 32768) (k : Fin 1024) : (V m c main_v0 : Vec Ideal S32768x1024 .f32) (ix2 R k) = a0 m c (ix3 (rb R) (rs R) k) := by
  unfold V hostOps0
  after_reads_at
theorem V2_apply (R : Fin 32768) (k : Fin 512) : (V m c main_v2 : Vec Ideal S32768x512 .bf16) (ix2 R k) = a1 m c (ix3 (rb R) (rs R) k) := by
  unfold V hostOps0
  after_reads_at
theorem V4_apply (R : Fin 32768) (k : Fin 512) : (V m c main_v4 : Vec Ideal S32768x512 .bf16) (ix2 R k) = a2 m c (ix3 (rb R) (rs R) k) := by
  unfold V hostOps0
  after_reads_at
theorem V5_apply (i : Fin 1024) (j : Fin 1024) : (V m c main_v5 : Vec Ideal S1024x1024 .bf16) (ix2 i j) = a3 m c (ix2 i j) := by
  unfold V hostOps0
  after_reads_at
theorem V6_apply (j : Fin 1024) : (V m c main_v6 : Vec Ideal S1x1024 .f32) (ix2 0 j) = a4 m c (ix1 j) := by
  unfold V hostOps0
  after_reads_at
theorem V7_apply (j : Fin 1024) : (V m c main_v7 : Vec Ideal S1x1024 .f32) (ix2 0 j) = a5 m c (ix1 j) := by
  unfold V hostOps0
  after_reads_at
theorem V8_apply (i : Fin 1024) (j : Fin 4096) : (V m c main_v8 : Vec Ideal S1024x4096 .bf16) (ix2 i j) = a6 m c (ix2 i j) := by
  unfold V hostOps0
  after_reads_at
theorem V9_apply (i : Fin 4096) (j : Fin 1024) : (V m c main_v9 : Vec Ideal S4096x1024 .bf16) (ix2 i j) = a7 m c (ix2 i j) := by
  unfold V hostOps0
  after_reads_at
theorem V10_apply (j : Fin 1024) : (V m c main_v10 : Vec Ideal S1x1024 .f32) (ix2 0 j) = a8 m c (ix1 j) := by
  unfold V hostOps0
  after_reads_at
theorem V11_apply (j : Fin 1024) : (V m c main_v11 : Vec Ideal S1x1024 .f32) (ix2 0 j) = a9 m c (ix1 j) := by
  unfold V hostOps0
  after_reads_at

theorem lt0 : (grid0.coords t 0).val < 64 := (grid0.coords t 0).isLt

/-- The row of the arrays that row `r` of a step is. -/
abbrev rowAt (r : Fin 512) : Fin 32768 := ⟨512 * (grid0.coords t 0).val + r.val, by have := lt0 t; omega⟩

theorem word_small (x : ℕ) (h : x < 64) : (BitVec.ofNat 32 x).toNat = x := by
  rw [BitVec.toNat_ofNat]; exact Nat.mod_eq_of_lt (by omega)

theorem iblk0_apply (r : Fin 512) (k : Fin 1024) : (iblk m c 0 t : Vec Ideal S512x1024 .f32) (ix2 r k) = (V m c main_v0 : Vec Ideal S32768x1024 .f32) (ix2 (rowAt t r) k) := by
  show V m c main_v0 (((cfg0.win 0).blk t).view.emb (ix2 r k)) = _
  congr 1
  funext a
  apply Fin.ext
  have h0 := word_small _ (lt0 t)
  match a with
  | ⟨0, _⟩ => show (BitVec.ofNat 32 (grid0.coords t 0).val).toNat * 512 + 1 * r.val = 512 * (grid0.coords t 0).val + r.val; omega
  | ⟨1, _⟩ => show 0 * 1024 + 1 * k.val = k.val; omega
theorem iblk1_apply (r : Fin 512) (k : Fin 512) : (iblk m c 1 t : Vec Ideal S512x512 .bf16) (ix2 r k) = (V m c main_v2 : Vec Ideal S32768x512 .bf16) (ix2 (rowAt t r) k) := by
  show V m c main_v2 (((cfg0.win 1).blk t).view.emb (ix2 r k)) = _
  congr 1
  funext a
  apply Fin.ext
  have h0 := word_small _ (lt0 t)
  match a with
  | ⟨0, _⟩ => show (BitVec.ofNat 32 (grid0.coords t 0).val).toNat * 512 + 1 * r.val = 512 * (grid0.coords t 0).val + r.val; omega
  | ⟨1, _⟩ => show 0 * 512 + 1 * k.val = k.val; omega
theorem iblk2_apply (r : Fin 512) (k : Fin 512) : (iblk m c 2 t : Vec Ideal S512x512 .bf16) (ix2 r k) = (V m c main_v4 : Vec Ideal S32768x512 .bf16) (ix2 (rowAt t r) k) := by
  show V m c main_v4 (((cfg0.win 2).blk t).view.emb (ix2 r k)) = _
  congr 1
  funext a
  apply Fin.ext
  have h0 := word_small _ (lt0 t)
  match a with
  | ⟨0, _⟩ => show (BitVec.ofNat 32 (grid0.coords t 0).val).toNat * 512 + 1 * r.val = 512 * (grid0.coords t 0).val + r.val; omega
  | ⟨1, _⟩ => show 0 * 512 + 1 * k.val = k.val; omega
theorem iblk3_apply (i : Fin 1024) (j : Fin 1024) : (iblk m c 3 t : Vec Ideal S1024x1024 .bf16) (ix2 i j) = (V m c main_v5 : Vec Ideal S1024x1024 .bf16) (ix2 i j) := by
  show V m c main_v5 (((cfg0.win 3).blk t).view.emb (ix2 i j)) = _
  congr 1
  funext a
  apply Fin.ext
  match a with
  | ⟨0, _⟩ => show 0 * 1024 + 1 * i.val = i.val; omega
  | ⟨1, _⟩ => show 0 * 1024 + 1 * j.val = j.val; omega
theorem iblk4_apply (i : Fin 1) (j : Fin 1024) : (iblk m c 4 t : Vec Ideal S1x1024 .f32) (ix2 i j) = (V m c main_v6 : Vec Ideal S1x1024 .f32) (ix2 i j) := by
  show V m c main_v6 (((cfg0.win 4).blk t).view.emb (ix2 i j)) = _
  congr 1
  funext a
  apply Fin.ext
  match a with
  | ⟨0, _⟩ => show 0 * 1 + 1 * i.val = i.val; omega
  | ⟨1, _⟩ => show 0 * 1024 + 1 * j.val = j.val; omega
theorem iblk5_apply (i : Fin 1) (j : Fin 1024) : (iblk m c 5 t : Vec Ideal S1x1024 .f32) (ix2 i j) = (V m c main_v7 : Vec Ideal S1x1024 .f32) (ix2 i j) := by
  show V m c main_v7 (((cfg0.win 5).blk t).view.emb (ix2 i j)) = _
  congr 1
  funext a
  apply Fin.ext
  match a with
  | ⟨0, _⟩ => show 0 * 1 + 1 * i.val = i.val; omega
  | ⟨1, _⟩ => show 0 * 1024 + 1 * j.val = j.val; omega
theorem iblk6_apply (i : Fin 1024) (j : Fin 4096) : (iblk m c 6 t : Vec Ideal S1024x4096 .bf16) (ix2 i j) = (V m c main_v8 : Vec Ideal S1024x4096 .bf16) (ix2 i j) := by
  show V m c main_v8 (((cfg0.win 6).blk t).view.emb (ix2 i j)) = _
  congr 1
  funext a
  apply Fin.ext
  match a with
  | ⟨0, _⟩ => show 0 * 1024 + 1 * i.val = i.val; omega
  | ⟨1, _⟩ => show 0 * 4096 + 1 * j.val = j.val; omega
theorem iblk7_apply (i : Fin 4096) (j : Fin 1024) : (iblk m c 7 t : Vec Ideal S4096x1024 .bf16) (ix2 i j) = (V m c main_v9 : Vec Ideal S4096x1024 .bf16) (ix2 i j) := by
  show V m c main_v9 (((cfg0.win 7).blk t).view.emb (ix2 i j)) = _
  congr 1
  funext a
  apply Fin.ext
  match a with
  | ⟨0, _⟩ => show 0 * 4096 + 1 * i.val = i.val; omega
  | ⟨1, _⟩ => show 0 * 1024 + 1 * j.val = j.val; omega
theorem iblk8_apply (i : Fin 1) (j : Fin 1024) : (iblk m c 8 t : Vec Ideal S1x1024 .f32) (ix2 i j) = (V m c main_v10 : Vec Ideal S1x1024 .f32) (ix2 i j) := by
  show V m c main_v10 (((cfg0.win 8).blk t).view.emb (ix2 i j)) = _
  congr 1
  funext a
  apply Fin.ext
  match a with
  | ⟨0, _⟩ => show 0 * 1 + 1 * i.val = i.val; omega
  | ⟨1, _⟩ => show 0 * 1024 + 1 * j.val = j.val; omega
theorem iblk9_apply (i : Fin 1) (j : Fin 1024) : (iblk m c 9 t : Vec Ideal S1x1024 .f32) (ix2 i j) = (V m c main_v11 : Vec Ideal S1x1024 .f32) (ix2 i j) := by
  show V m c main_v11 (((cfg0.win 9).blk t).view.emb (ix2 i j)) = _
  congr 1
  funext a
  apply Fin.ext
  match a with
  | ⟨0, _⟩ => show 0 * 1 + 1 * i.val = i.val; omega
  | ⟨1, _⟩ => show 0 * 1024 + 1 * j.val = j.val; omega

theorem emb10 (r : Fin 512) (j : Fin 1024) : ((cfg0.win 10).blk t).view.emb (ix2 r j) = (ix2 (rowAt t r) j : S32768x1024.Idx) := by
  funext a
  apply Fin.ext
  have h0 := word_small _ (lt0 t)
  match a with
  | ⟨0, _⟩ => show (BitVec.ofNat 32 (grid0.coords t 0).val).toNat * 512 + 1 * r.val = 512 * (grid0.coords t 0).val + r.val; omega
  | ⟨1, _⟩ => show 0 * 1024 + 1 * j.val = j.val; omega

/-- The rows of the result. -/
def rowsArr (x : S8x4096x1024.Idx → EReal) (f n : S8x4096x512.Idx → EReal) (wo : S1024x1024.Idx → EReal) (g1 b1 : S1024.Idx → EReal)
    (w1 : S1024x4096.Idx → EReal) (w2 : S4096x1024.Idx → EReal) (g2 b2 : S1024.Idx → EReal) : S32768x1024.Idx → EReal := fun y =>
  row (fun k => x (ix3 (rb (y 0)) (rs (y 0)) k)) (fun k => f (ix3 (rb (y 0)) (rs (y 0)) k)) (fun k => n (ix3 (rb (y 0)) (rs (y 0)) k))
    (fun k j => wo (ix2 k j)) (fun k => g1 (ix1 k)) (fun k => b1 (ix1 k)) (fun k i => w1 (ix2 k i)) (fun i k => w2 (ix2 i k)) (fun k => g2 (ix1 k)) (fun k => b2 (ix1 k)) (y 1)

/-- The rows of the launch arguments. -/
abbrev G := rowsArr (a0 m c) (a1 m c) (a2 m c) (a3 m c) (a4 m c) (a5 m c) (a6 m c) (a7 m c) (a8 m c) (a9 m c)

/-- What a step writes back is its block of rows. -/
theorem flushed_eq : (dats m 0 c).flushed 10 t = ((cfg0.win 10).blk t).view.read (Elt Ideal) (G m c) := by
  rw [Value.flushed10]
  funext y
  obtain ⟨r, j, rfl⟩ : ∃ (r : Fin 512) (j : Fin 1024), y = ix2 r j := ⟨y 0, y 1, by funext k; fin_cases k <;> rfl⟩
  show out0_10 (F := Ideal) (iblk m c 0 t) (iblk m c 1 t) (iblk m c 2 t) (iblk m c 3 t) (iblk m c 4 t) (iblk m c 5 t) (iblk m c 6 t) (iblk m c 7 t) (iblk m c 8 t) (iblk m c 9 t) (ix2 r j)
    = G m c (((cfg0.win 10).blk t).view.emb (ix2 r j))
  rw [emb10]
  refine (out_apply (iblk m c 0 t) (iblk m c 1 t) (iblk m c 2 t) (iblk m c 3 t) (iblk m c 4 t) (iblk m c 5 t) (iblk m c 6 t) (iblk m c 7 t) (iblk m c 8 t) (iblk m c 9 t) r j).trans ?_
  exact row_congr (fun k => (iblk0_apply m c t r k).trans (V0_apply m c _ k)) (fun k => (iblk1_apply m c t r k).trans (V2_apply m c _ k)) (fun k => (iblk2_apply m c t r k).trans (V4_apply m c _ k))
    (fun i j => (iblk3_apply m c t i j).trans (V5_apply m c i j)) (fun k => (iblk4_apply m c t 0 k).trans (V6_apply m c k)) (fun k => (iblk5_apply m c t 0 k).trans (V7_apply m c k))
    (fun i j => (iblk6_apply m c t i j).trans (V8_apply m c i j)) (fun i j => (iblk7_apply m c t i j).trans (V9_apply m c i j)) (fun k => (iblk8_apply m c t 0 k).trans (V10_apply m c k)) (fun k => (iblk9_apply m c t 0 k).trans (V11_apply m c k)) j

theorem covered (i : S32768x1024.Idx) : ∃ t : Fin cfg0.N, (cfg0.win 10).flush t = true ∧ i ∈ ((cfg0.win 10).blk t).view.set := by
  obtain ⟨R, j, rfl⟩ : ∃ (R : Fin 32768) (j : Fin 1024), i = ix2 R j := ⟨i 0, i 1, by funext k; fin_cases k <;> rfl⟩
  have hR := R.isLt
  obtain ⟨t, ht⟩ := Pipeline.Grid.coords_surjective grid0 (fun a => match a with
    | ⟨0, _⟩ => (⟨R.val / 512, by omega⟩ : Fin 64))
  have h0 : (grid0.coords t 0).val = R.val / 512 := congrArg Fin.val (congrFun ht 0)
  refine ⟨t, flush0_10 t, ?_⟩
  have hm := ((cfg0.win 10).blk t).view.emb_mem_set (ix2 ⟨R.val % 512, by omega⟩ j)
  rw [emb10] at hm
  have e0 : rowAt t ⟨R.val % 512, by omega⟩ = R := Fin.ext (by show 512 * (grid0.coords t 0).val + R.val % 512 = R.val; omega)
  rwa [e0] at hm

/-- The result array of the call is the row formula of the launch arguments. -/
theorem final : (dats m 0 c).arrAt 10 cfg0.N = G m c :=
  (dats m 0 c).arrAt_eq_of_cover 10 (G m c) (fun t _ => flushed_eq m c t) covered

end Cert.Kernel2Ideal.Mlp
-- ==== Proof.Mlp.Ref.lean ====
/- The output projection and the feed-forward layer as plainly written, read at one row. -/
module

public import proofs.«01_k».proof.Proof.Mlp.Arr
public import proofs.«01_k».proof.Proof.Gen.Reference2Ideal.Run

@[expose] public section

set_option maxRecDepth 16384

noncomputable section

namespace Cert.Reference2Ideal.Mlp

open Idealize.ShloMosaic Idealize.ShloMosaic.TcCoe Idealize.SL.Sem Cert.Reference2Ideal Cert.Reference2Ideal.Gen Facts _root_.Mlp.Math

/-- The rows less their means. -/
def cT (U : FVec Ideal S8x4096x1024 .f32) : FVec Ideal S8x4096x1024 .f32 :=
  (subf U (broadcastInDim S8x4096x1024 ![0, 1, 2] bcast_S8x4096x1_S8x4096x1024_0_1_2 (Host.divf (broadcastInDim S8x4096x1 ![0, 1] bcast_S8x4096_S8x4096x1_0_1 (Host.reduceAdd U (constant S_ .f32 0x00000000#32) reducesTo_S8x4096x1024_S8x4096_d2 h_S_)) (broadcastInDim S8x4096x1 ![] bcast_S_S8x4096x1 (constant S_ .f32 0x44800000#32)))))

/-- The layer norm of every row. -/
def lT (U : FVec Ideal S8x4096x1024 .f32) (g b : FVec Ideal S1024 .f32) : FVec Ideal S8x4096x1024 .f32 :=
  (addf (mulf (mulf (cT U) (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf (cT U) (cT U)) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x3727C5AC#32)))))) (broadcastInDim S8x4096x1024 ![0, 1, 2] bcast_S1x1x1024_S8x4096x1024_0_1_2 (broadcastInDim S1x1x1024 ![2] bcast_S1024_S1x1x1024_2 g))) (broadcastInDim S8x4096x1024 ![0, 1, 2] bcast_S1x1x1024_S8x4096x1024_0_1_2 (broadcastInDim S1x1x1024 ![2] bcast_S1024_S1x1x1024_2 b)))

/-- The two branches joined. -/
def catT (A1 A2 : FVec Ideal S8x4096x512 .f32) : FVec Ideal S8x4096x1024 .f32 :=
  (concatenate S8x4096x1024 2 [⟨S8x4096x512, A1⟩, ⟨S8x4096x512, A2⟩] concatenates_S8x4096x512_S8x4096x512_S8x4096x1024_d2)

/-- What the first norm reads. -/
def uT (A0 : FVec Ideal S8x4096x1024 .f32) (A1 A2 : FVec Ideal S8x4096x512 .f32) (A3 : FVec Ideal S1024x1024 .f32) : FVec Ideal S8x4096x1024 .f32 :=
  (addf (mulf (broadcastInDim S8x4096x1024 ![] bcast_S_S8x4096x1024 (constant S_ .f32 0x3F9837F0#32)) A0) (Host.dotGeneral dot_S8x4096x1024_S1024x1024_S8x4096x1024_2_0_01_1_n_n none (catT A1 A2) A3))

/-- The hidden units. -/
def hT (x : FVec Ideal S8x4096x1024 .f32) (w : FVec Ideal S1024x4096 .f32) : FVec Ideal S8x4096x4096 .f32 :=
  (mulf (maximumf (Host.dotGeneral dot_S8x4096x1024_S1024x4096_S8x4096x4096_2_0_01_1_n_n none x w) (broadcastInDim S8x4096x4096 ![] bcast_S_S8x4096x4096 (constant S_ .f32 0x00000000#32))) (maximumf (Host.dotGeneral dot_S8x4096x1024_S1024x4096_S8x4096x4096_2_0_01_1_n_n none x w) (broadcastInDim S8x4096x4096 ![] bcast_S_S8x4096x4096 (constant S_ .f32 0x00000000#32))))

/-- What the second norm reads. -/
def wT (M : FVec Ideal S8x4096x1024 .f32) (w1 : FVec Ideal S1024x4096 .f32) (w2 : FVec Ideal S4096x1024 .f32) : FVec Ideal S8x4096x1024 .f32 :=
  (addf (mulf (broadcastInDim S8x4096x1024 ![] bcast_S_S8x4096x1024 (constant S_ .f32 0x3F9837F0#32)) M) (Host.dotGeneral dot_S8x4096x4096_S4096x1024_S8x4096x1024_2_0_01_1_n_n none (hT M w1) w2))

variable (m : (ℓ : Loc nD τ sig) → Buf (Elt Ideal) ℓ) (c : Dev nD)

theorem res_eq : Value.res_main_v60 m c =
  shapeCast _ (lT (wT (lT (uT (m ((c.tc : Thread nD τ).loc main_arg0)) (m ((c.tc : Thread nD τ).loc main_arg1)) (m ((c.tc : Thread nD τ).loc main_arg2)) (m ((c.tc : Thread nD τ).loc main_arg3)))
    (m ((c.tc : Thread nD τ).loc main_arg4)) (m ((c.tc : Thread nD τ).loc main_arg5))) (m ((c.tc : Thread nD τ).loc main_arg6)) (m ((c.tc : Thread nD τ).loc main_arg7)))
    (m ((c.tc : Thread nD τ).loc main_arg8)) (m ((c.tc : Thread nD τ).loc main_arg9))) shapeCasts_S8x4096x1024_S32768x1024 := rfl

theorem cT_apply (U : FVec Ideal S8x4096x1024 .f32) (b : Fin 8) (s : Fin 4096) (j : Fin 1024) :
    cT U (ix3 b s j) = U (ix3 b s j) - Ideal.div (∑ k : Fin 1024, U (ix3 b s k)) (Ideal.ofBits .f32 0x44800000#32) := by
  pointwise [cT]

theorem lT_apply (U : FVec Ideal S8x4096x1024 .f32) (g b : FVec Ideal S1024 .f32) (B : Fin 8) (s : Fin 4096) (j : Fin 1024) :
    lT U g b (ix3 B s j) = lnorm (fun k => U (ix3 B s k)) (fun k => g (ix1 k)) (fun k => b (ix1 k)) j := by
  pointwise [lT]
  simp only [cT_apply]
  rfl

theorem cat_l (A1 A2 : FVec Ideal S8x4096x512 .f32) (b : Fin 8) (s : Fin 4096) (k : Fin 512) :
    catT A1 A2 (ix3 b s ⟨k.val, by omega⟩) = A1 (ix3 b s k) := by
  pointwise [catT]

theorem cat_r (A1 A2 : FVec Ideal S8x4096x512 .f32) (b : Fin 8) (s : Fin 4096) (k : Fin 512) :
    catT A1 A2 (ix3 b s ⟨512 + k.val, by omega⟩) = A2 (ix3 b s k) := by
  pointwise [catT]

theorem uT_apply (A0 : FVec Ideal S8x4096x1024 .f32) (A1 A2 : FVec Ideal S8x4096x512 .f32) (A3 : FVec Ideal S1024x1024 .f32) (b : Fin 8) (s : Fin 4096) (j : Fin 1024) :
    uT A0 A1 A2 A3 (ix3 b s j) = Ideal.ofBits .f32 0x3F9837F0#32 * A0 (ix3 b s j)
      + mix (fun k => A1 (ix3 b s k)) (fun k => A2 (ix3 b s k)) (fun k j => A3 (ix2 k j)) j := by
  pointwise [uT]
  refine congrArg₂ (· + ·) rfl ?_
  exact sum_joined _ _ (fun k j => A3 (ix2 k j)) j (fun k => catT A1 A2 (ix3 b s k)) (cat_l A1 A2 b s) (cat_r A1 A2 b s)

theorem hT_apply (x : FVec Ideal S8x4096x1024 .f32) (w : FVec Ideal S1024x4096 .f32) (b : Fin 8) (s : Fin 4096) (i : Fin 4096) :
    hT x w (ix3 b s i) = hid (fun k => x (ix3 b s k)) (fun k => w (ix2 k i)) := by
  pointwise [hT]
  rfl

theorem wT_apply (M : FVec Ideal S8x4096x1024 .f32) (w1 : FVec Ideal S1024x4096 .f32) (w2 : FVec Ideal S4096x1024 .f32) (b : Fin 8) (s : Fin 4096) (j : Fin 1024) :
    wT M w1 w2 (ix3 b s j) = Ideal.ofBits .f32 0x3F9837F0#32 * M (ix3 b s j) + ffn (fun k => M (ix3 b s k)) (fun k i => w1 (ix2 k i)) (fun i k => w2 (ix2 i k)) j := by
  pointwise [wT]
  refine congrArg₂ (· + ·) rfl ?_
  simp only [hT_apply]
  rfl

theorem rest_apply (x : FVec Ideal S8x4096x1024 .f32) (R : Fin 32768) (j : Fin 1024) :
    shapeCast S32768x1024 x shapeCasts_S8x4096x1024_S32768x1024 (ix2 R j) = x (ix3 (⟨R.val / 4096, by omega⟩ : Fin 8) (⟨R.val % 4096, by omega⟩ : Fin 4096) j) := by
  pointwise

theorem plain_apply (x : FVec Ideal S8x4096x1024 .f32) (f n : FVec Ideal S8x4096x512 .f32) (wo : FVec Ideal S1024x1024 .f32) (g1 b1 : FVec Ideal S1024 .f32)
    (w1 : FVec Ideal S1024x4096 .f32) (w2 : FVec Ideal S4096x1024 .f32) (g2 b2 : FVec Ideal S1024 .f32) :
    shapeCast S32768x1024 (lT (wT (lT (uT x f n wo) g1 b1) w1 w2) g2 b2) shapeCasts_S8x4096x1024_S32768x1024 = Cert.Kernel2Ideal.Mlp.rowsArr x f n wo g1 b1 w1 w2 g2 b2 := by
  funext y
  obtain ⟨R, j, rfl⟩ : ∃ (R : Fin 32768) (j : Fin 1024), y = ix2 R j := ⟨y 0, y 1, by funext k; fin_cases k <;> rfl⟩
  rw [rest_apply, lT_apply]
  unfold Cert.Kernel2Ideal.Mlp.rowsArr row
  refine lnorm_congr (fun q => ?_) (fun _ => rfl) (fun _ => rfl) j
  rw [wT_apply]
  have hm : ∀ k, lT (uT x f n wo) g1 b1 (ix3 (⟨R.val / 4096, by omega⟩ : Fin 8) (⟨R.val % 4096, by omega⟩ : Fin 4096) k)
      = mid (fun k => x (ix3 (⟨R.val / 4096, by omega⟩ : Fin 8) (⟨R.val % 4096, by omega⟩ : Fin 4096) k)) (fun k => f (ix3 (⟨R.val / 4096, by omega⟩ : Fin 8) (⟨R.val % 4096, by omega⟩ : Fin 4096) k))
          (fun k => n (ix3 (⟨R.val / 4096, by omega⟩ : Fin 8) (⟨R.val % 4096, by omega⟩ : Fin 4096) k)) (fun k j => wo (ix2 k j)) (fun k => g1 (ix1 k)) (fun k => b1 (ix1 k)) k := by
    intro k
    rw [lT_apply]
    unfold mid
    exact lnorm_congr (fun q => uT_apply x f n wo _ _ q) (fun _ => rfl) (fun _ => rfl) k
  simp only [hm]
  rfl

/-- The result of the plain formula from arguments that agree. -/
theorem res_rows (x : FVec Ideal S8x4096x1024 .f32) (f n : FVec Ideal S8x4096x512 .f32) (wo : FVec Ideal S1024x1024 .f32) (g1 b1 : FVec Ideal S1024 .f32)
    (w1 : FVec Ideal S1024x4096 .f32) (w2 : FVec Ideal S4096x1024 .f32) (g2 b2 : FVec Ideal S1024 .f32)
    (h0 : m ((c.tc : Thread nD τ).loc main_arg0) = x) (h1 : m ((c.tc : Thread nD τ).loc main_arg1) = f) (h2 : m ((c.tc : Thread nD τ).loc main_arg2) = n)
    (h3 : m ((c.tc : Thread nD τ).loc main_arg3) = wo) (h4 : m ((c.tc : Thread nD τ).loc main_arg4) = g1) (h5 : m ((c.tc : Thread nD τ).loc main_arg5) = b1)
    (h6 : m ((c.tc : Thread nD τ).loc main_arg6) = w1) (h7 : m ((c.tc : Thread nD τ).loc main_arg7) = w2) (h8 : m ((c.tc : Thread nD τ).loc main_arg8) = g2)
    (h9 : m ((c.tc : Thread nD τ).loc main_arg9) = b2) :
    Value.res_main_v60 m c = Cert.Kernel2Ideal.Mlp.rowsArr x f n wo g1 b1 w1 w2 g2 b2 := by
  subst h0 h1 h2 h3 h4 h5 h6 h7 h8 h9
  exact (res_eq m c).trans (plain_apply _ _ _ _ _ _ _ _ _ _)

end Cert.Reference2Ideal.Mlp
-- ==== Proof.Mlp.Claims.lean ====
/- The claims about the block's call. -/
module

public import proofs.«01_k».proof.Defs
public import proofs.«01_k».proof.Proof.Mlp.Arr
public import proofs.«01_k».proof.Proof.Mlp.Ref
public import proofs.«01_k».proof.Proof.Gen.Kernel2.Frame
public import Idealize.ShloMosaic.Lib.Quiescent

@[expose] public section

noncomputable section

open Idealize.ShloMosaic Idealize.ShloMosaic.TcCoe Idealize.SL.Sem

namespace Cert.Proof.Mlp

theorem frame_p : Cert.quiescent_Kernel2 := fun m ρ _ => Cert.Kernel2.Gen.frame m ρ
theorem frame_pi : Cert.quiescent_Kernel2Ideal := fun m ρ _ => Cert.Kernel2Ideal.Gen.frame m ρ
theorem frame_ri : Cert.quiescent_Reference2Ideal := fun m ρ _ =>
  (θ_run Cert.Reference2Ideal.defs _ _).mono (fun r h => ⟨fun c => (h c).2, Idealize.ShloMosaic.sem_eq_zero_of_no_sems (by decide) r.2⟩)
    (Cert.Reference2Ideal.Value.run (F := Ideal) m ρ)

theorem preserves : Cert.preserves_Kernel2_Kernel2Ideal := trivial

theorem algebraic : Cert.algebraic_Kernel2Ideal_Reference2Ideal := by
  intro m ρ m' ρ' hpre hagree
  refine ⟨_, Cert.Kernel2Ideal.Value.run_blocks (F := Ideal) m ρ, ?_⟩
  refine (θ_run Cert.Reference2Ideal.defs _ _).mono (fun _ h c => ⟨(h c).1.trans ?_, (h c).2⟩) (Cert.Reference2Ideal.Value.run (F := Ideal) m' ρ')
  rw [Cert.Kernel2Ideal.Mlp.final m c]
  obtain ⟨h0, h1, h2, h3, h4, h5, h6, h7, h8, h9⟩ := hagree c
  exact Cert.Reference2Ideal.Mlp.res_rows m' c _ _ _ _ _ _ _ _ _ _ h0 h1 h2 h3 h4 h5 h6 h7 h8 h9

end Cert.Proof.Mlp

end
-- ==== Proof.Inp.Math.lean ====
/- The scalar functions of the projection and the two ways they are written. -/
module

public import Idealize.ShloMosaic.PureOps.Ideal
public import Mathlib.Algebra.BigOperators.Fin
public import Mathlib.Analysis.SpecialFunctions.Log.Basic

@[expose] public section

noncomputable section

namespace Inp.Math

open Idealize.ShloMosaic

/-- The logarithm of the logistic function, in the kernel's form. -/
def lsig (z : EReal) : EReal := min z 0 - Ideal.log1p (Ideal.exp (0 - FloatOps.absf (F := Ideal) (φ := .f32) z))

/-- What a column of the gates holds: columns 8 to 11 as they are, the others through the logistic's logarithm. -/
def gate (g : ℕ) (z : EReal) : EReal := if 8 ≤ g ∧ g < 12 then z else lsig z

def silu (u : EReal) : EReal := u * Ideal.logistic u

theorem neg_max (z : EReal) : -(max (-z) 0) = min z 0 := by
  rcases le_total z 0 with h | h
  · rw [min_eq_left h, max_eq_left (by simpa using EReal.neg_le_neg_iff.mpr h), neg_neg]
  · rw [min_eq_right h, max_eq_right (by simpa using EReal.neg_le_neg_iff.mpr h), neg_zero]

/-- The reference's form, of the negated argument. -/
theorem lsig_eq (z : EReal) :
    -(max (-z) 0 + Ideal.log1p (Ideal.exp (-FloatOps.absf (F := Ideal) (φ := .f32) (-z - 0)))) = lsig z := by
  unfold lsig
  show -(max (-z) 0 + Ideal.log1p (Ideal.exp (-(max (-z - 0) (-(-z - 0)))))) = min z 0 - Ideal.log1p (Ideal.exp (0 - max z (-z)))
  rw [sub_zero, neg_neg, zero_sub, max_comm (-z) z, ← neg_max z]
  rw [sub_eq_add_neg]
  refine EReal.neg_add (Or.inl ?_) ?_
  · exact (lt_of_lt_of_le EReal.bot_lt_zero (le_max_right _ _)).ne'
  · by_cases hz : z = ⊥
    · subst hz
      right
      show Ideal.log1p (Ideal.exp (-(max ⊥ (- ⊥)))) ≠ ⊥
      rw [EReal.neg_bot, max_eq_right bot_le, EReal.neg_top]
      show Ideal.log (1 + 0) ≠ ⊥
      rw [add_zero]
      show (if (1 : ℝ) ≤ 0 then ⊥ else ((Real.log 1 : ℝ) : EReal)) ≠ ⊥
      rw [if_neg (by norm_num)]
      exact EReal.coe_ne_bot _
    · left
      refine (max_lt ?_ EReal.zero_lt_top).ne
      exact Ne.lt_top (fun h => hz (by rw [← neg_neg z, h, EReal.neg_top]))

/-- A projected position. -/
def prj (X : Fin 8 → Fin 4096 → Fin 1024 → EReal) (W : Fin 1024 → Fin 3600 → EReal) (b : Fin 8) (s : Fin 4096) (k : Fin 3600) : EReal :=
  ∑ d : Fin 1024, X b s d * W d k

/-- The convolved columns of a batch's positions, eight rows of zeros before them. -/
def hist (X : Fin 8 → Fin 4096 → Fin 1024 → EReal) (W : Fin 1024 → Fin 3600 → EReal) (b : Fin 8) (n : ℕ) (j : Fin 1024) : EReal :=
  if h : 8 ≤ n ∧ n < 4104 then prj X W b ⟨n - 8, by omega⟩ ⟨1544 + j.val, by omega⟩ else 0

theorem hist_hi (X : Fin 8 → Fin 4096 → Fin 1024 → EReal) (W : Fin 1024 → Fin 3600 → EReal) (b : Fin 8) (n : ℕ) (j : Fin 1024) (s : Fin 4096) (h : n = s.val + 8) :
    hist X W b n j = prj X W b s ⟨1544 + j.val, by omega⟩ := by
  unfold hist
  subst h
  rw [dif_pos ⟨by omega, by omega⟩]
  rfl

theorem hist_lo (X : Fin 8 → Fin 4096 → Fin 1024 → EReal) (W : Fin 1024 → Fin 3600 → EReal) (b : Fin 8) (n : ℕ) (j : Fin 1024) (h : n < 8) :
    hist X W b n j = 0 := by
  unfold hist
  rw [dif_neg (by omega)]

/-- The convolution over the last four positions, through the activation. -/
def cnv (H : ℕ → Fin 1024 → EReal) (CW : Fin 4 → Fin 1024 → EReal) (CB : Fin 1024 → EReal) (s : ℕ) (j : Fin 1024) : EReal :=
  silu (CB j + H (s + 5) j * CW 0 j + H (s + 6) j * CW 1 j + H (s + 7) j * CW 2 j + H (s + 8) j * CW 3 j)

/-- The kernel adds the newest position first. -/
theorem cnv_eq (a k0 k1 k2 k3 : EReal) : silu (a + k3 + k0 + k1 + k2) = silu (a + k0 + k1 + k2 + k3) := by
  refine congrArg silu ?_
  rw [add_right_comm a k3 k0, add_right_comm (a + k0) k3 k1, add_right_comm (a + k0 + k1) k3 k2]

/-- The gates of a position: eight and four through the logistic's logarithm, four as they are between them, the rest unused. -/
def gts (X : Fin 8 → Fin 4096 → Fin 1024 → EReal) (W : Fin 1024 → Fin 3600 → EReal) (bf : Fin 8 → EReal) (bi bm : Fin 4 → EReal) (b : Fin 8) (s : Fin 4096) (g : Fin 128) : EReal :=
  if h : g.val < 8 then lsig (prj X W b s ⟨1536 + g.val, by omega⟩ + bf ⟨g.val, h⟩)
  else if h' : g.val < 12 then prj X W b s ⟨3080 + (g.val - 8), by omega⟩ + bi ⟨g.val - 8, by omega⟩
  else if h'' : g.val < 16 then lsig (prj X W b s ⟨3084 + (g.val - 12), by omega⟩ + bm ⟨g.val - 12, by omega⟩)
  else lsig 0

/-- A row of gates is known by its four parts. -/
theorem gts_cases (X : Fin 8 → Fin 4096 → Fin 1024 → EReal) (W : Fin 1024 → Fin 3600 → EReal) (bf : Fin 8 → EReal) (bi bm : Fin 4 → EReal) (b : Fin 8) (s : Fin 4096)
    (G : Fin 128 → EReal)
    (h0 : ∀ k : Fin 8, G ⟨k.val, by omega⟩ = lsig (prj X W b s ⟨1536 + k.val, by omega⟩ + bf k))
    (h1 : ∀ k : Fin 4, G ⟨8 + k.val, by omega⟩ = prj X W b s ⟨3080 + k.val, by omega⟩ + bi k)
    (h2 : ∀ k : Fin 4, G ⟨12 + k.val, by omega⟩ = lsig (prj X W b s ⟨3084 + k.val, by omega⟩ + bm k))
    (h3 : ∀ k : Fin 112, G ⟨16 + k.val, by omega⟩ = lsig 0) (g : Fin 128) : G g = gts X W bf bi bm b s g := by
  unfold gts
  by_cases a0 : g.val < 8
  · rw [dif_pos a0]; exact h0 ⟨g.val, a0⟩
  rw [dif_neg a0]
  by_cases a1 : g.val < 12
  · rw [dif_pos a1]
    refine Eq.trans ?_ (h1 ⟨g.val - 8, by omega⟩)
    exact congrArg G (Fin.ext (by simp only []; omega))
  rw [dif_neg a1]
  by_cases a2 : g.val < 16
  · rw [dif_pos a2]
    refine Eq.trans ?_ (h2 ⟨g.val - 12, by omega⟩)
    exact congrArg G (Fin.ext (by simp only []; omega))
  rw [dif_neg a2]
  refine Eq.trans ?_ (h3 ⟨g.val - 16, by omega⟩)
  exact congrArg G (Fin.ext (by simp only []; omega))

end Inp.Math
-- ==== Proof.Inp.Pay.lean ====
/- What a step of the projection's call stores, element by element. -/
module

public import proofs.«01_k».proof.Proof.Gen.Kernel3Ideal.Skeleton
public import proofs.«01_k».proof.Proof.Inp.Math
public import Idealize.ShloMosaic.Lib.Pointwise
public import Idealize.ShloMosaic.Lib.Pipeline.Value

@[expose] public section

set_option maxRecDepth 16384

noncomputable section

namespace Cert.Kernel3Ideal.Inp

open Idealize.ShloMosaic Idealize.ShloMosaic.TcCoe Idealize.SL.Sem Cert.Kernel3Ideal Cert.Kernel3Ideal.Gen Facts Inp.Math

theorem pay4_apply (x : Vec Ideal S1x512x1024 .f32) (w : Vec Ideal S1024x512 .bf16) (f r : Fin 512) :
    k0_pay4 (F := Ideal) x w (ix3 0 f r) = (∑ d : Fin 1024, x (ix3 0 r d) * w (ix2 d f)) * Named.named (F := Ideal) κ "qscale" (φ := .f32) 0x3E38AA3B#32 := by
  pointwise [k0_pay4, k0_pay2]

theorem pay5_apply (x : Vec Ideal S1x512x1024 .f32) (w : Vec Ideal S1024x512 .bf16) (r f : Fin 512) :
    k0_pay5 (F := Ideal) x w (ix3 0 r f) = ∑ d : Fin 1024, x (ix3 0 r d) * w (ix2 d f) := by
  pointwise [k0_pay5, k0_pay3, k0_pay2]

theorem pay6_apply (x : Vec Ideal S1x512x1024 .f32) (w : Vec Ideal S1024x512 .bf16) (f r : Fin 512) :
    k0_pay6 (F := Ideal) x w (ix3 0 f r) = ∑ d : Fin 1024, x (ix3 0 r d) * w (ix2 d f) := by
  pointwise [k0_pay6, k0_pay3, k0_pay2]

theorem pay8_apply (x : Vec Ideal S1x512x1024 .f32) (w : Vec Ideal S1024x512 .bf16) (f r : Fin 512) :
    k0_pay8 (F := Ideal) x w (ix3 0 f r) = ∑ d : Fin 1024, x (ix3 0 r d) * w (ix2 d f) := by
  pointwise [k0_pay8, k0_pay7, k0_pay2]

theorem pay9_apply (x : Vec Ideal S1x512x1024 .f32) (w : Vec Ideal S1024x512 .bf16) (f r : Fin 512) :
    k0_pay9 (F := Ideal) (k0_pay7 x w) (ix3 0 f r) = ∑ d : Fin 1024, x (ix3 0 r d) * w (ix2 d f) := by
  pointwise [k0_pay9, k0_pay7, k0_pay2]

theorem pay10_apply (x : Vec Ideal S1x512x1024 .f32) (w : Vec Ideal S1024x512 .bf16) (r f : Fin 512) :
    k0_pay10 (F := Ideal) (k0_pay2 x) w (ix3 0 r f) = ∑ d : Fin 1024, x (ix3 0 r d) * w (ix2 d f) := by
  pointwise [k0_pay10, k0_pay2]

theorem pay11_apply (x : Vec Ideal S1x512x1024 .f32) (w : Vec Ideal S1024x512 .bf16) (b : Vec Ideal S1x512 .f32) (r f : Fin 512) :
    k0_pay11 (F := Ideal) (k0_pay2 x) w b (ix3 0 r f) = Ideal.logistic ((∑ d : Fin 1024, x (ix3 0 r d) * w (ix2 d f)) + b (ix2 0 f)) := by
  pointwise [k0_pay11, k0_pay2]

theorem mid_eq : ∀ g : Fin 128, IntOp.andi (IntOp.cmpi CmpIPredicate.sge (BitVec.ofNat 32 ↑g) 8#32)
    (IntOp.cmpi CmpIPredicate.slt (BitVec.ofNat 32 ↑g) 12#32) = if 8 ≤ g.val ∧ g.val < 12 then 1#1 else 0#1 := by decide

theorem pay15_apply (x : Vec Ideal S1x512x1024 .f32) (w : Vec Ideal S1024x128 .bf16) (b : Vec Ideal S1x128 .f32) (r : Fin 512) (g : Fin 128) :
    k0_pay15 (F := Ideal) (k0_pay12 (k0_pay2 x) w b) (iota .tc S1x128 32 [1] iota_S1x128_d1_w32) k0_pay13 k0_pay14 (ix3 0 r g) =
      gate g.val ((∑ d : Fin 1024, x (ix3 0 r d) * w (ix2 d g)) + b (ix2 0 g)) := by
  pointwise [k0_pay15, k0_pay12, k0_pay13, k0_pay14, k0_pay2]
  rw [mid_eq g]
  unfold gate
  by_cases h : 8 ≤ g.val ∧ g.val < 12
  · rw [if_pos h, if_pos h]; rfl
  · rw [if_neg h, if_neg h]; rfl

theorem pay18_apply (x : Vec Ideal S1x512x1024 .f32) (w : Vec Ideal S1024x1024 .bf16) (r : Fin 512) (f : Fin 1024) :
    k0_pay18 (F := Ideal) (k0_pay2 x) w (ix3 0 r f) = ∑ d : Fin 1024, x (ix3 0 r d) * w (ix2 d f) := by
  pointwise [k0_pay18, k0_pay16, k0_pay2]

theorem pay19_apply (x : Vec Ideal S1x512x1024 .f32) (w : Vec Ideal S1024x1024 .bf16) (cb cw : Vec Ideal S1x1024 .f32) (r : Fin 512) (f : Fin 1024) :
    k0_pay19 (F := Ideal) (k0_pay2 x) w cb cw (ix3 0 r f) = cb (ix2 0 f) + (∑ d : Fin 1024, x (ix3 0 r d) * w (ix2 d f)) * cw (ix2 0 f) := by
  pointwise [k0_pay19, k0_pay16, k0_pay2]

theorem pay20_apply (z : FVec Ideal S1x512x1024 .f32) (y0 y1 y2 : Vec Ideal S1x512x1024 .f32) (c0 c1 c2 : Vec Ideal S1x1024 .f32) (r : Fin 512) (f : Fin 1024) :
    k0_pay20 (F := Ideal) z y0 c0 y1 c1 y2 c2 (ix3 0 r f) =
      silu (z (ix3 0 r f) + y0 (ix3 0 r f) * c0 (ix2 0 f) + y1 (ix3 0 r f) * c1 (ix2 0 f) + y2 (ix3 0 r f) * c2 (ix2 0 f)) := by
  pointwise [k0_pay20]
  rfl

theorem pay21_apply (z : FVec Ideal S1x512x1024 .f32) (y0 y1 y2 : Vec Ideal S1x512x1024 .f32) (c0 c1 c2 : Vec Ideal S1x1024 .f32) (r f : Fin 512) :
    k0_pay21 (F := Ideal) z y0 c0 y1 c1 y2 c2 (ix3 0 r f) = k0_pay20 (F := Ideal) z y0 c0 y1 c1 y2 c2 (ix3 0 r ⟨f.val, by omega⟩) := by
  pointwise [k0_pay21]

theorem pay22_apply (z : FVec Ideal S1x512x1024 .f32) (y0 y1 y2 : Vec Ideal S1x512x1024 .f32) (c0 c1 c2 : Vec Ideal S1x1024 .f32) (r f : Fin 512) :
    k0_pay22 (F := Ideal) z y0 c0 y1 c1 y2 c2 (ix3 0 r f) = k0_pay20 (F := Ideal) z y0 c0 y1 c1 y2 c2 (ix3 0 r ⟨512 + f.val, by omega⟩) * Ideal.ofBits .f32 0x3DB504F3#32 := by
  pointwise [k0_pay22]

theorem pay17_eq (v : Vec Ideal S1x8x1024 .f32) : k0_pay17 (F := Ideal) v = v := by
  unfold k0_pay17
  dsimp only
  rw [shapeCast_self, shapeCast_self]

theorem pay1_eq (v : Vec Ideal S1x8x1024 .f32) : k0_pay1 (F := Ideal) v = v := by
  unfold k0_pay1
  dsimp only
  rw [shapeCast_self]

end Cert.Kernel3Ideal.Inp
-- ==== Proof.Inp.Out.lean ====
/- What a step of the projection's call leaves in each of its blocks, element by element, and in the rows it carries on. -/
module

public import proofs.«01_k».proof.Proof.Inp.Pay
public import proofs.«01_k».proof.Proof.Gen.Kernel3Ideal.Value
public import Idealize.ShloMosaic.Lib.WritesUnit
public import Idealize.ShloMosaic.Lib.VecWindow

@[expose] public section

set_option maxRecDepth 16384

noncomputable section

namespace Cert.Kernel3Ideal.Inp

open Idealize.ShloMosaic Idealize.ShloMosaic.TcCoe Idealize.SL.Sem Cert.Kernel3Ideal Cert.Kernel3Ideal.Gen _root_.Inp.Math

theorem hz3 : (![0, 0, 0] : Fin 3 → ℕ) = fun _ => 0 := by funext a; fin_cases a <;> rfl

theorem hz2 : (![0, 0] : Fin 2 → ℕ) = fun _ => 0 := by funext a; fin_cases a <;> rfl

/-- A load of a rectangle, at an index: the buffer at the index moved by the rectangle's offset. -/
theorem readAt_at {sg : RefSig} {κ : Kind} {sp : Space} {s : Shape} {e : EltTy} (v : View sg κ sp s e) (f : v.ty.Contents (Elt Ideal)) {off size : Fin s.rank → ℕ} (inb : ∀ a, off a + size a ≤ s.size a)
    (x : (Rect.unit off size inb).shape.Idx) (y : s.Idx) (hy : ∀ a, (y a).val = off a + (x a).val) :
    v.readAt (Elt Ideal) (Rect.unit off size inb).toLoadRect f x = v.read (Elt Ideal) f y := by
  rw [View.readAt_unit v f inb rfl inb]
  show v.read (Elt Ideal) f _ = _
  congr 1
  funext a
  apply Fin.ext
  show off a + 1 * (x a).val = _
  rw [one_mul]
  exact (hy a).symm

/-- A row of a block against a column of the weights. -/
def bp (x0 : Vec Ideal S1x512x1024 .f32) (x1 : Vec Ideal S1024x3712 .bf16) (r : Fin 512) (k : Fin 3712) : EReal :=
  ∑ d : Fin 1024, x0 (ix3 0 r d) * x1 (ix2 d k)

/-- The convolution's rows of a block: eight earlier ones, then the block's own. -/
def zr (H : Vec Ideal S1x8x1024 .f32) (x0 : Vec Ideal S1x512x1024 .f32) (x1 : Vec Ideal S1024x3712 .bf16) (p : ℕ) (j : Fin 1024) : EReal :=
  if h : p < 8 then H (ix3 0 ⟨p, h⟩ j) else if h' : p < 520 then bp x0 x1 ⟨p - 8, by omega⟩ ⟨1536 + j.val, by omega⟩ else 0

/-- The first eight rows of the carried ones. -/
def pre (xs0 : Vec Ideal S1x520x1024 .f32) : Vec Ideal S1x8x1024 .f32 := fun i => xs0 (ix3 0 ⟨(i 1).val, lt_of_lt_of_le (i 1).isLt (by decide)⟩ (i 2))

theorem ix3_ok {n0 n1 n2 m0 m1 m2 : ℕ} (a : Fin n0) (b : Fin n1) (e : Fin n2) (a' : Fin m0) (b' : Fin m1) (e' : Fin m2) (o0 o1 o2 : ℕ)
    (h0 : a.val = o0 + a'.val) (h1 : b.val = o1 + b'.val) (h2 : e.val = o2 + e'.val) :
    ∀ x : Fin 3, (ix3 a b e x).val = (![o0, o1, o2] : Fin 3 → ℕ) x + (ix3 a' b' e' x).val := by
  intro x
  match x with
  | ⟨0, _⟩ => exact h0
  | ⟨1, _⟩ => exact h1
  | ⟨2, _⟩ => exact h2

theorem ix2_ok {n0 n1 m0 m1 : ℕ} (a : Fin n0) (b : Fin n1) (a' : Fin m0) (b' : Fin m1) (o0 o1 : ℕ)
    (h0 : a.val = o0 + a'.val) (h1 : b.val = o1 + b'.val) :
    ∀ x : Fin 2, (ix2 a b x).val = (![o0, o1] : Fin 2 → ℕ) x + (ix2 a' b' x).val := by
  intro x
  match x with
  | ⟨0, _⟩ => exact h0
  | ⟨1, _⟩ => exact h1

variable (c : Dev nD) (i : grid0.Coords) {arg2 : Memref sig .tc .vmem S1x512x1024 .f32} {harg2 : arg2.IsWhole} {arg3 : Memref sig .tc .vmem S1024x3712 .bf16} {harg3 : arg3.IsWhole} {arg4 : Memref sig .tc .vmem S1x128 .f32} {harg4 : arg4.IsWhole} {arg5 : Memref sig .tc .vmem S1x512 .f32} {harg5 : arg5.IsWhole} {arg6 : Memref sig .tc .vmem S4x1024 .f32} {harg6 : arg6.IsWhole} {arg7 : Memref sig .tc .vmem S1x1024 .f32} {harg7 : arg7.IsWhole} {arg8 : Memref sig .tc .vmem S1x8x1024 .f32} {harg8 : arg8.IsWhole} {arg9 : Memref sig .tc .vmem S1x512x512 .bf16} {harg9 : arg9.IsWhole} {arg10 : Memref sig .tc .vmem S1x512x512 .bf16} {harg10 : arg10.IsWhole} {arg11 : Memref sig .tc .vmem S1x512x512 .f32} {harg11 : arg11.IsWhole} {arg12 : Memref sig .tc .vmem S1x512x512 .f32} {harg12 : arg12.IsWhole} {arg13 : Memref sig .tc .vmem S1x512x512 .bf16} {harg13 : arg13.IsWhole} {arg14 : Memref sig .tc .vmem S1x512x128 .f32} {harg14 : arg14.IsWhole} {arg15 : Memref sig .tc .vmem S1x512x512 .bf16} {harg15 : arg15.IsWhole} {arg16 : Memref sig .tc .vmem S1x512x512 .bf16} {harg16 : arg16.IsWhole} {arg17 : Memref sig .tc .vmem S1x512x512 .bf16} {harg17 : arg17.IsWhole} {arg18 : Memref sig .tc .vmem S1x512x512 .bf16} {harg18 : arg18.IsWhole} {arg19 : Memref sig .tc .vmem S1x8x1024 .f32} {harg19 : arg19.IsWhole} {arg20 : Memref sig .tc .vmem S1x520x1024 .f32} {harg20 : arg20.IsWhole}
  (x0 : Vec Ideal S1x512x1024 .f32) (x1 : Vec Ideal S1024x3712 .bf16) (x2 : Vec Ideal S1x128 .f32) (x3 : Vec Ideal S1x512 .f32) (x4 : Vec Ideal S4x1024 .f32) (x5 : Vec Ideal S1x1024 .f32) (x6 : Vec Ideal S1x8x1024 .f32) (xs0 : Vec Ideal S1x520x1024 .f32)

theorem rdX (inb : ∀ a, (![0, 0, 0] : Fin 3 → ℕ) a + S1x512x1024.size a ≤ S1x512x1024.size a) :
    View.readAt (Elt Ideal) arg2.view (Rect.unit (s := S1x512x1024) ![0, 0, 0] S1x512x1024.size inb).toLoadRect (harg2.unread x0) = x0 :=
  (View.readAt_full _ _ _).trans (harg2.read_unread x0)

theorem rdW (o n : ℕ) (inb : ∀ a, (![0, o] : Fin 2 → ℕ) a + (⟨2, ![1024, n]⟩ : Shape).size a ≤ S1024x3712.size a) (d : Fin 1024) (j : Fin n) (h : o + j.val < 3712) :
    View.readAt (Elt Ideal) arg3.view (Rect.unit (s := S1024x3712) ![0, o] (⟨2, ![1024, n]⟩ : Shape).size inb).toLoadRect (harg3.unread x1) (ix2 d j) = x1 (ix2 d ⟨o + j.val, h⟩) := by
  refine (readAt_at arg3.view _ inb (ix2 d j) (ix2 d ⟨o + j.val, h⟩) (ix2_ok _ _ _ _ _ _ (Nat.zero_add _).symm rfl)).trans ?_
  rw [harg3.read_unread]

theorem rdC (o : ℕ) (inb : ∀ a, (![o, 0] : Fin 2 → ℕ) a + S1x1024.size a ≤ S4x1024.size a) (j : Fin 1024) (h : o < 4) :
    View.readAt (Elt Ideal) arg6.view (Rect.unit (s := S4x1024) ![o, 0] S1x1024.size inb).toLoadRect (harg6.unread x4) (ix2 0 j) = x4 (ix2 ⟨o, h⟩ j) := by
  refine (readAt_at arg6.view _ inb (ix2 0 j) (ix2 ⟨o, h⟩ j) (ix2_ok _ _ _ _ _ _ rfl (Nat.zero_add _).symm)).trans ?_
  rw [harg6.read_unread]

theorem sumW (o n : ℕ) (inb : ∀ a, (![0, o] : Fin 2 → ℕ) a + (⟨2, ![1024, n]⟩ : Shape).size a ≤ S1024x3712.size a) (r : Fin 512) (j : Fin n) (h : o + j.val < 3712) :
    (∑ d : Fin 1024, x0 (ix3 0 r d) * View.readAt (Elt Ideal) arg3.view (Rect.unit (s := S1024x3712) ![0, o] (⟨2, ![1024, n]⟩ : Shape).size inb).toLoadRect (harg3.unread x1) (ix2 d j)) = bp x0 x1 r ⟨o + j.val, h⟩ := by
  unfold bp
  exact Finset.sum_congr rfl fun d _ => congrArg (x0 (ix3 0 r d) * ·) (rdW (harg3 := harg3) x1 o n inb d j h)

theorem oA7 (hc0 : cond0_0 i) (f r : Fin 512) : out0_A_7 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 (ix3 0 f r) = bp x0 x1 r ⟨0 + f.val, by omega⟩ * Named.named (F := Ideal) κ "qscale" (φ := .f32) 0x3E38AA3B#32 := by
  unfold out0_A_7
  rw [View.read_writes_eq_canon _ _ _ (cover0_A_7 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6)]
  unfold kernelRun0_A
  dsimp only
  rw [View.canon_unit_zero hz3]
  refine (pay4_apply _ _ _ _).trans ?_
  exact congrArg (· * _) ((Finset.sum_congr rfl fun d _ => congrArg (· * _) (congrFun (rdX (harg2 := harg2) x0 inb_S1x512x1024_S1x512x1024_0_0_0) _)).trans (sumW (harg3 := harg3) x0 x1 0 512 _ _ _ (by omega)))

theorem oA8 (hc0 : cond0_0 i) (r f : Fin 512) : out0_A_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 (ix3 0 r f) = bp x0 x1 r ⟨512 + f.val, by omega⟩ := by
  unfold out0_A_8
  rw [View.read_writes_eq_canon _ _ _ (cover0_A_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6)]
  unfold kernelRun0_A
  dsimp only
  rw [View.canon_unit_zero hz3]
  refine (pay5_apply _ _ _ _).trans ?_
  exact (Finset.sum_congr rfl fun d _ => congrArg (· * _) (congrFun (rdX (harg2 := harg2) x0 inb_S1x512x1024_S1x512x1024_0_0_0) _)).trans (sumW (harg3 := harg3) x0 x1 512 512 _ _ _ (by omega))

theorem oA9 (hc0 : cond0_0 i) (f r : Fin 512) : out0_A_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 (ix3 0 f r) = bp x0 x1 r ⟨512 + f.val, by omega⟩ := by
  unfold out0_A_9
  rw [View.read_writes_eq_canon _ _ _ (cover0_A_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6)]
  unfold kernelRun0_A
  dsimp only
  rw [View.canon_unit_zero hz3]
  refine (pay6_apply _ _ _ _).trans ?_
  exact (Finset.sum_congr rfl fun d _ => congrArg (· * _) (congrFun (rdX (harg2 := harg2) x0 inb_S1x512x1024_S1x512x1024_0_0_0) _)).trans (sumW (harg3 := harg3) x0 x1 512 512 _ _ _ (by omega))

theorem oA10 (hc0 : cond0_0 i) (f r : Fin 512) : out0_A_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 (ix3 0 f r) = bp x0 x1 r ⟨1024 + f.val, by omega⟩ := by
  unfold out0_A_10
  rw [View.read_writes_eq_canon _ _ _ (cover0_A_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6)]
  unfold kernelRun0_A
  dsimp only
  rw [View.canon_unit_zero hz3]
  refine (pay8_apply _ _ _ _).trans ?_
  exact (Finset.sum_congr rfl fun d _ => congrArg (· * _) (congrFun (rdX (harg2 := harg2) x0 inb_S1x512x1024_S1x512x1024_0_0_0) _)).trans (sumW (harg3 := harg3) x0 x1 1024 512 _ _ _ (by omega))

theorem oA11 (hc0 : cond0_0 i) (f r : Fin 512) : out0_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 (ix3 0 f r) = bp x0 x1 r ⟨1024 + f.val, by omega⟩ := by
  unfold out0_A_11
  rw [View.read_writes_eq_canon _ _ _ (cover0_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6)]
  unfold kernelRun0_A
  dsimp only
  rw [View.canon_unit_zero hz3]
  refine (pay9_apply _ _ _ _).trans ?_
  exact (Finset.sum_congr rfl fun d _ => congrArg (· * _) (congrFun (rdX (harg2 := harg2) x0 inb_S1x512x1024_S1x512x1024_0_0_0) _)).trans (sumW (harg3 := harg3) x0 x1 1024 512 _ _ _ (by omega))

theorem oA12 (hc0 : cond0_0 i) (r : Fin 512) (f : Fin 128) : out0_A_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 (ix3 0 r f) = gate f.val (bp x0 x1 r ⟨3584 + f.val, by omega⟩ + x2 (ix2 0 f)) := by
  unfold out0_A_12
  rw [View.read_writes_eq_canon _ _ _ (cover0_A_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6)]
  unfold kernelRun0_A
  dsimp only
  rw [View.canon_unit_zero hz3]
  refine (pay15_apply _ _ _ _ _).trans ?_
  exact congrArg (gate _) (congrArg₂ (· + ·) ((Finset.sum_congr rfl fun d _ => congrArg (· * _) (congrFun (rdX (harg2 := harg2) x0 inb_S1x512x1024_S1x512x1024_0_0_0) _)).trans (sumW (harg3 := harg3) x0 x1 3584 128 _ _ _ (by omega))) (congrFun ((View.readAt_full _ _ _).trans (harg4.read_unread x2)) _))

theorem oA15 (hc0 : cond0_0 i) (r f : Fin 512) : out0_A_15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 (ix3 0 r f) = bp x0 x1 r ⟨2560 + f.val, by omega⟩ := by
  unfold out0_A_15
  rw [View.read_writes_eq_canon _ _ _ (cover0_A_15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6)]
  unfold kernelRun0_A
  dsimp only
  rw [View.canon_unit_zero hz3]
  refine (pay10_apply _ _ _ _).trans ?_
  exact (Finset.sum_congr rfl fun d _ => congrArg (· * _) (congrFun (rdX (harg2 := harg2) x0 inb_S1x512x1024_S1x512x1024_0_0_0) _)).trans (sumW (harg3 := harg3) x0 x1 2560 512 _ _ _ (by omega))

theorem oA16 (hc0 : cond0_0 i) (r f : Fin 512) : out0_A_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 (ix3 0 r f) = Ideal.logistic (bp x0 x1 r ⟨3072 + f.val, by omega⟩ + x3 (ix2 0 f)) := by
  unfold out0_A_16
  rw [View.read_writes_eq_canon _ _ _ (cover0_A_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6)]
  unfold kernelRun0_A
  dsimp only
  rw [View.canon_unit_zero hz3]
  refine (pay11_apply _ _ _ _ _).trans ?_
  exact congrArg Ideal.logistic (congrArg₂ (· + ·) ((Finset.sum_congr rfl fun d _ => congrArg (· * _) (congrFun (rdX (harg2 := harg2) x0 inb_S1x512x1024_S1x512x1024_0_0_0) _)).trans (sumW (harg3 := harg3) x0 x1 3072 512 _ _ _ (by omega))) (congrFun ((View.readAt_full _ _ _).trans (harg5.read_unread x3)) _))

theorem oB7 (hc0 : ¬cond0_0 i) (f r : Fin 512) : out0_B_7 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 xs0 (ix3 0 f r) = bp x0 x1 r ⟨0 + f.val, by omega⟩ * Named.named (F := Ideal) κ "qscale" (φ := .f32) 0x3E38AA3B#32 := by
  unfold out0_B_7
  rw [View.read_writes_eq_canon _ _ _ (cover0_B_7 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 xs0)]
  unfold kernelRun0_B
  dsimp only
  rw [View.canon_unit_zero hz3]
  refine (pay4_apply _ _ _ _).trans ?_
  exact congrArg (· * _) ((Finset.sum_congr rfl fun d _ => congrArg (· * _) (congrFun (rdX (harg2 := harg2) x0 inb_S1x512x1024_S1x512x1024_0_0_0) _)).trans (sumW (harg3 := harg3) x0 x1 0 512 _ _ _ (by omega)))

theorem oB8 (hc0 : ¬cond0_0 i) (r f : Fin 512) : out0_B_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 xs0 (ix3 0 r f) = bp x0 x1 r ⟨512 + f.val, by omega⟩ := by
  unfold out0_B_8
  rw [View.read_writes_eq_canon _ _ _ (cover0_B_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 xs0)]
  unfold kernelRun0_B
  dsimp only
  rw [View.canon_unit_zero hz3]
  refine (pay5_apply _ _ _ _).trans ?_
  exact (Finset.sum_congr rfl fun d _ => congrArg (· * _) (congrFun (rdX (harg2 := harg2) x0 inb_S1x512x1024_S1x512x1024_0_0_0) _)).trans (sumW (harg3 := harg3) x0 x1 512 512 _ _ _ (by omega))

theorem oB9 (hc0 : ¬cond0_0 i) (f r : Fin 512) : out0_B_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 xs0 (ix3 0 f r) = bp x0 x1 r ⟨512 + f.val, by omega⟩ := by
  unfold out0_B_9
  rw [View.read_writes_eq_canon _ _ _ (cover0_B_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 xs0)]
  unfold kernelRun0_B
  dsimp only
  rw [View.canon_unit_zero hz3]
  refine (pay6_apply _ _ _ _).trans ?_
  exact (Finset.sum_congr rfl fun d _ => congrArg (· * _) (congrFun (rdX (harg2 := harg2) x0 inb_S1x512x1024_S1x512x1024_0_0_0) _)).trans (sumW (harg3 := harg3) x0 x1 512 512 _ _ _ (by omega))

theorem oB10 (hc0 : ¬cond0_0 i) (f r : Fin 512) : out0_B_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 xs0 (ix3 0 f r) = bp x0 x1 r ⟨1024 + f.val, by omega⟩ := by
  unfold out0_B_10
  rw [View.read_writes_eq_canon _ _ _ (cover0_B_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 xs0)]
  unfold kernelRun0_B
  dsimp only
  rw [View.canon_unit_zero hz3]
  refine (pay8_apply _ _ _ _).trans ?_
  exact (Finset.sum_congr rfl fun d _ => congrArg (· * _) (congrFun (rdX (harg2 := harg2) x0 inb_S1x512x1024_S1x512x1024_0_0_0) _)).trans (sumW (harg3 := harg3) x0 x1 1024 512 _ _ _ (by omega))

theorem oB11 (hc0 : ¬cond0_0 i) (f r : Fin 512) : out0_B_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 xs0 (ix3 0 f r) = bp x0 x1 r ⟨1024 + f.val, by omega⟩ := by
  unfold out0_B_11
  rw [View.read_writes_eq_canon _ _ _ (cover0_B_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 xs0)]
  unfold kernelRun0_B
  dsimp only
  rw [View.canon_unit_zero hz3]
  refine (pay9_apply _ _ _ _).trans ?_
  exact (Finset.sum_congr rfl fun d _ => congrArg (· * _) (congrFun (rdX (harg2 := harg2) x0 inb_S1x512x1024_S1x512x1024_0_0_0) _)).trans (sumW (harg3 := harg3) x0 x1 1024 512 _ _ _ (by omega))

theorem oB12 (hc0 : ¬cond0_0 i) (r : Fin 512) (f : Fin 128) : out0_B_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 xs0 (ix3 0 r f) = gate f.val (bp x0 x1 r ⟨3584 + f.val, by omega⟩ + x2 (ix2 0 f)) := by
  unfold out0_B_12
  rw [View.read_writes_eq_canon _ _ _ (cover0_B_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 xs0)]
  unfold kernelRun0_B
  dsimp only
  rw [View.canon_unit_zero hz3]
  refine (pay15_apply _ _ _ _ _).trans ?_
  exact congrArg (gate _) (congrArg₂ (· + ·) ((Finset.sum_congr rfl fun d _ => congrArg (· * _) (congrFun (rdX (harg2 := harg2) x0 inb_S1x512x1024_S1x512x1024_0_0_0) _)).trans (sumW (harg3 := harg3) x0 x1 3584 128 _ _ _ (by omega))) (congrFun ((View.readAt_full _ _ _).trans (harg4.read_unread x2)) _))

theorem oB15 (hc0 : ¬cond0_0 i) (r f : Fin 512) : out0_B_15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 xs0 (ix3 0 r f) = bp x0 x1 r ⟨2560 + f.val, by omega⟩ := by
  unfold out0_B_15
  rw [View.read_writes_eq_canon _ _ _ (cover0_B_15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 xs0)]
  unfold kernelRun0_B
  dsimp only
  rw [View.canon_unit_zero hz3]
  refine (pay10_apply _ _ _ _).trans ?_
  exact (Finset.sum_congr rfl fun d _ => congrArg (· * _) (congrFun (rdX (harg2 := harg2) x0 inb_S1x512x1024_S1x512x1024_0_0_0) _)).trans (sumW (harg3 := harg3) x0 x1 2560 512 _ _ _ (by omega))

theorem oB16 (hc0 : ¬cond0_0 i) (r f : Fin 512) : out0_B_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 xs0 (ix3 0 r f) = Ideal.logistic (bp x0 x1 r ⟨3072 + f.val, by omega⟩ + x3 (ix2 0 f)) := by
  unfold out0_B_16
  rw [View.read_writes_eq_canon _ _ _ (cover0_B_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 xs0)]
  unfold kernelRun0_B
  dsimp only
  rw [View.canon_unit_zero hz3]
  refine (pay11_apply _ _ _ _ _).trans ?_
  exact congrArg Ideal.logistic (congrArg₂ (· + ·) ((Finset.sum_congr rfl fun d _ => congrArg (· * _) (congrFun (rdX (harg2 := harg2) x0 inb_S1x512x1024_S1x512x1024_0_0_0) _)).trans (sumW (harg3 := harg3) x0 x1 3072 512 _ _ _ (by omega))) (congrFun ((View.readAt_full _ _ _).trans (harg5.read_unread x3)) _))

theorem bp_pay (w : Vec Ideal S1024x1024 .bf16) (hw : ∀ (d : Fin 1024) (j : Fin 1024), w (ix2 d j) = x1 (ix2 d ⟨1536 + j.val, by omega⟩)) (x : Vec Ideal S1x512x1024 .f32) (hx : x = x0) (r : Fin 512) (j : Fin 1024) :
    k0_pay18 (F := Ideal) (k0_pay2 x) w (ix3 0 r j) = bp x0 x1 r ⟨1536 + j.val, by omega⟩ := by
  subst hx
  rw [pay18_apply]
  unfold bp
  exact Finset.sum_congr rfl fun d _ => congrArg (x (ix3 0 r d) * ·) (hw d j)

/-- A row of the carried buffer after the block's rows were stored from the eighth on. -/
theorem sc_hi {sg : RefSig} {κ : Kind} {sp : Space} (v : View sg κ sp S1x520x1024 .f32) (f : v.ty.Contents (Elt Ideal)) (inb : ∀ a, (![0, 8, 0] : Fin 3 → ℕ) a + S1x512x1024.size a ≤ S1x520x1024.size a)
    (w : Vec Ideal S1x512x1024 .f32) (L : List (View.Piece (Elt Ideal) S1x520x1024 .f32)) (p : Fin 520) (hp : 8 ≤ p.val) (j : Fin 1024) :
    v.read (Elt Ideal) (v.writes (Elt Ideal) f ((⟨Rect.unit (s := S1x520x1024) ![0, 8, 0] S1x512x1024.size inb, w⟩ : View.Piece (Elt Ideal) S1x520x1024 .f32) :: L)) (ix3 0 p j) = w (ix3 0 ⟨p.val - 8, by omega⟩ j) :=
  View.read_writes_cons_unit_of_mem v f inb w L (ix3 0 p j) (ix3 0 ⟨p.val - 8, by omega⟩ j) rfl (ix3_ok _ _ _ _ _ _ _ _ _ rfl (by show p.val = 8 + (p.val - 8); omega) (Nat.zero_add _).symm)

theorem sc_lo {sg : RefSig} {κ : Kind} {sp : Space} (v : View sg κ sp S1x520x1024 .f32) (f : v.ty.Contents (Elt Ideal)) (inb : ∀ a, (![0, 8, 0] : Fin 3 → ℕ) a + S1x512x1024.size a ≤ S1x520x1024.size a)
    (w : Vec Ideal S1x512x1024 .f32) (L : List (View.Piece (Elt Ideal) S1x520x1024 .f32)) (p : Fin 520) (hp : p.val < 8) (j : Fin 1024) :
    v.read (Elt Ideal) (v.writes (Elt Ideal) f ((⟨Rect.unit (s := S1x520x1024) ![0, 8, 0] S1x512x1024.size inb, w⟩ : View.Piece (Elt Ideal) S1x520x1024 .f32) :: L)) (ix3 0 p j) = v.read (Elt Ideal) (v.writes (Elt Ideal) f L) (ix3 0 p j) :=
  View.read_writes_cons_unit_of_not_mem v f inb w L (ix3 0 p j) rfl 1 (Or.inl hp)

theorem sc_top {sg : RefSig} {κ : Kind} {sp : Space} (v : View sg κ sp S1x520x1024 .f32) (f : v.ty.Contents (Elt Ideal)) (inb : ∀ a, (![0, 0, 0] : Fin 3 → ℕ) a + S1x8x1024.size a ≤ S1x520x1024.size a)
    (w : Vec Ideal S1x8x1024 .f32) (L : List (View.Piece (Elt Ideal) S1x520x1024 .f32)) (p : Fin 520) (hp : p.val < 8) (j : Fin 1024) :
    v.read (Elt Ideal) (v.writes (Elt Ideal) f ((⟨Rect.unit (s := S1x520x1024) ![0, 0, 0] S1x8x1024.size inb, w⟩ : View.Piece (Elt Ideal) S1x520x1024 .f32) :: L)) (ix3 0 p j) = w (ix3 0 ⟨p.val, hp⟩ j) :=
  View.read_writes_cons_unit_of_mem v f inb w L (ix3 0 p j) (ix3 0 ⟨p.val, hp⟩ j) rfl (ix3_ok _ _ _ _ _ _ _ _ _ rfl (Nat.zero_add _).symm (Nat.zero_add _).symm)

theorem zr_hi (H : Vec Ideal S1x8x1024 .f32) (p : Fin 520) (hp : 8 ≤ p.val) (j : Fin 1024) : zr H x0 x1 p.val j = bp x0 x1 ⟨p.val - 8, by omega⟩ ⟨1536 + j.val, by omega⟩ := by
  unfold zr
  rw [dif_neg (by omega), dif_pos p.isLt]

theorem zr_lo (H : Vec Ideal S1x8x1024 .f32) (p : Fin 520) (hp : p.val < 8) (j : Fin 1024) : zr H x0 x1 p.val j = H (ix3 0 ⟨p.val, hp⟩ j) := by
  unfold zr
  rw [dif_pos hp]

theorem scA {sg : RefSig} {κ : Kind} {sp : Space} (v : View sg κ sp S1x520x1024 .f32) (f : v.ty.Contents (Elt Ideal)) (p : Fin 520) (j : Fin 1024) :
    v.read (Elt Ideal) (v.writes (Elt Ideal) f (kernelRun0_A.sl.HS0_2 c arg2 harg2 arg3 harg3 arg8 harg8 x0 x1 x6)) (ix3 0 p j) = zr x6 x0 x1 p.val j := by
  unfold kernelRun0_A.sl.HS0_2
  by_cases hp : p.val < 8
  · refine (sc_lo v f _ _ _ p hp j).trans ?_
    refine (sc_top v f _ _ _ p hp j).trans ?_
    rw [zr_lo x0 x1 x6 p hp j, pay17_eq]
    exact congrFun ((View.readAt_full _ _ _).trans (harg8.read_unread x6)) _
  · refine (sc_hi v f _ _ _ p (by omega) j).trans ?_
    rw [zr_hi x0 x1 x6 p (by omega) j]
    exact bp_pay x0 x1 _ (fun d j => rdW (harg3 := harg3) x1 1536 1024 _ d j (by omega)) _ (rdX (harg2 := harg2) x0 _) _ j

theorem scB {sg : RefSig} {κ : Kind} {sp : Space} (v : View sg κ sp S1x520x1024 .f32) (f : v.ty.Contents (Elt Ideal)) (hf : v.read (Elt Ideal) f = xs0) (p : Fin 520) (j : Fin 1024) :
    v.read (Elt Ideal) (v.writes (Elt Ideal) f (kernelRun0_B.sl.HS0_1 c arg2 harg2 arg3 harg3 x0 x1)) (ix3 0 p j) = zr (pre xs0) x0 x1 p.val j := by
  unfold kernelRun0_B.sl.HS0_1
  by_cases hp : p.val < 8
  · refine (sc_lo v f _ _ _ p hp j).trans ?_
    rw [zr_lo x0 x1 _ p hp j]
    exact congrFun hf _
  · refine (sc_hi v f _ _ _ p (by omega) j).trans ?_
    rw [zr_hi x0 x1 _ p (by omega) j]
    exact bp_pay x0 x1 _ (fun d j => rdW (harg3 := harg3) x1 1536 1024 _ d j (by omega)) _ (rdX (harg2 := harg2) x0 _) _ j

theorem v96A (r : Fin 512) (j : Fin 1024) : kernelRun0_A.sl.v96 (F := Ideal) c arg2 harg2 arg3 harg3 arg8 harg8 arg20 x0 x1 x6 (ix3 0 r j) = zr x6 x0 x1 (r.val + 5) j := by
  unfold kernelRun0_A.sl.v96
  refine (readAt_at arg20.view _ inb_S1x520x1024_S1x512x1024_0_5_0 (ix3 0 r j) (ix3 0 ⟨r.val + 5, by omega⟩ j) (ix3_ok _ _ _ _ _ _ _ _ _ rfl (Nat.add_comm _ _) (Nat.zero_add _).symm)).trans ?_
  exact scA (harg2 := harg2) (harg3 := harg3) (harg8 := harg8) c x0 x1 x6 arg20.view _ ⟨r.val + 5, by omega⟩ j

theorem v102A (r : Fin 512) (j : Fin 1024) : kernelRun0_A.sl.v102 (F := Ideal) c arg2 harg2 arg3 harg3 arg8 harg8 arg20 x0 x1 x6 (ix3 0 r j) = zr x6 x0 x1 (r.val + 6) j := by
  unfold kernelRun0_A.sl.v102
  refine (readAt_at arg20.view _ inb_S1x520x1024_S1x512x1024_0_6_0 (ix3 0 r j) (ix3 0 ⟨r.val + 6, by omega⟩ j) (ix3_ok _ _ _ _ _ _ _ _ _ rfl (Nat.add_comm _ _) (Nat.zero_add _).symm)).trans ?_
  exact scA (harg2 := harg2) (harg3 := harg3) (harg8 := harg8) c x0 x1 x6 arg20.view _ ⟨r.val + 6, by omega⟩ j

theorem v108A (r : Fin 512) (j : Fin 1024) : kernelRun0_A.sl.v108 (F := Ideal) c arg2 harg2 arg3 harg3 arg8 harg8 arg20 x0 x1 x6 (ix3 0 r j) = zr x6 x0 x1 (r.val + 7) j := by
  unfold kernelRun0_A.sl.v108
  refine (readAt_at arg20.view _ inb_S1x520x1024_S1x512x1024_0_7_0 (ix3 0 r j) (ix3 0 ⟨r.val + 7, by omega⟩ j) (ix3_ok _ _ _ _ _ _ _ _ _ rfl (Nat.add_comm _ _) (Nat.zero_add _).symm)).trans ?_
  exact scA (harg2 := harg2) (harg3 := harg3) (harg8 := harg8) c x0 x1 x6 arg20.view _ ⟨r.val + 7, by omega⟩ j

theorem v124A (p : Fin 8) (j : Fin 1024) : kernelRun0_A.sl.v124 (F := Ideal) c arg2 harg2 arg3 harg3 arg8 harg8 arg20 x0 x1 x6 (ix3 0 p j) = bp x0 x1 ⟨504 + p.val, by omega⟩ ⟨1536 + j.val, by omega⟩ := by
  unfold kernelRun0_A.sl.v124
  refine (readAt_at arg20.view _ inb_S1x520x1024_S1x8x1024_0_512_0 (ix3 0 p j) (ix3 0 ⟨512 + p.val, by omega⟩ j) (ix3_ok _ _ _ _ _ _ _ _ _ rfl rfl (Nat.zero_add _).symm)).trans ?_
  refine (scA (harg2 := harg2) (harg3 := harg3) (harg8 := harg8) c x0 x1 x6 arg20.view _ ⟨512 + p.val, by omega⟩ j).trans ?_
  rw [zr_hi x0 x1 x6 ⟨512 + p.val, by omega⟩ (by show 8 ≤ 512 + p.val; omega) j]
  exact congrArg (fun q => bp x0 x1 q _) (Fin.ext (by show 512 + p.val - 8 = 504 + p.val; omega))

theorem r4A (r : Fin 512) (j : Fin 1024) : kernelRun0_A.sl.r_4 (F := Ideal) c arg2 harg2 arg3 harg3 arg6 harg6 arg7 harg7 x0 x1 x4 x5 (ix3 0 r j) = x5 (ix2 0 j) + zr x6 x0 x1 (r.val + 8) j * x4 (ix2 3 j) := by
  unfold kernelRun0_A.sl.r_4
  refine (pay19_apply _ _ _ _ _ _).trans ?_
  refine congrArg₂ (· + ·) (congrFun ((View.readAt_full _ _ _).trans (harg7.read_unread x5)) _) (congrArg₂ (· * ·) ?_ (rdC (harg6 := harg6) x4 3 _ j (by decide)))
  rw [zr_hi x0 x1 x6 ⟨r.val + 8, by omega⟩ (by show 8 ≤ r.val + 8; omega) j]
  exact (Finset.sum_congr rfl fun d _ => congrArg (· * _) (congrFun (rdX (harg2 := harg2) x0 inb_S1x512x1024_S1x512x1024_0_0_0) _)).trans (sumW (harg3 := harg3) x0 x1 1536 1024 _ _ _ (by omega))

theorem oA13 (hc0 : cond0_0 i) (r f : Fin 512) : out0_A_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 (ix3 0 r f) = cnv (zr x6 x0 x1) (fun k j => x4 (ix2 k j)) (fun j => x5 (ix2 0 j)) r.val ⟨f.val, by omega⟩ := by
  unfold out0_A_13
  rw [View.read_writes_eq_canon _ _ _ (cover0_A_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6)]
  unfold kernelRun0_A
  dsimp only
  rw [View.canon_unit_zero hz3]
  refine (pay21_apply _ _ _ _ _ _ _ _ _).trans ?_
  exact (pay20_apply _ _ _ _ _ _ _ r ⟨f.val, by omega⟩).trans ((congrArg silu (congrArg₂ (· + ·) (congrArg₂ (· + ·) (congrArg₂ (· + ·) (r4A c x0 x1 x4 x5 x6 r ⟨f.val, by omega⟩) (congrArg₂ (· * ·) (v96A c x0 x1 x6 r ⟨f.val, by omega⟩) (rdC (harg6 := harg6) x4 0 _ ⟨f.val, by omega⟩ (by decide)))) (congrArg₂ (· * ·) (v102A c x0 x1 x6 r ⟨f.val, by omega⟩) (rdC (harg6 := harg6) x4 1 _ ⟨f.val, by omega⟩ (by decide)))) (congrArg₂ (· * ·) (v108A c x0 x1 x6 r ⟨f.val, by omega⟩) (rdC (harg6 := harg6) x4 2 _ ⟨f.val, by omega⟩ (by decide))))).trans (cnv_eq _ _ _ _ _))

theorem oA14 (hc0 : cond0_0 i) (r f : Fin 512) : out0_A_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 (ix3 0 r f) = cnv (zr x6 x0 x1) (fun k j => x4 (ix2 k j)) (fun j => x5 (ix2 0 j)) r.val ⟨512 + f.val, by omega⟩ * Ideal.ofBits .f32 0x3DB504F3#32 := by
  unfold out0_A_14
  rw [View.read_writes_eq_canon _ _ _ (cover0_A_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6)]
  unfold kernelRun0_A
  dsimp only
  rw [View.canon_unit_zero hz3]
  refine (pay22_apply _ _ _ _ _ _ _ _ _).trans ?_
  exact congrArg (· * Ideal.ofBits .f32 0x3DB504F3#32) ((pay20_apply _ _ _ _ _ _ _ r ⟨512 + f.val, by omega⟩).trans ((congrArg silu (congrArg₂ (· + ·) (congrArg₂ (· + ·) (congrArg₂ (· + ·) (r4A c x0 x1 x4 x5 x6 r ⟨512 + f.val, by omega⟩) (congrArg₂ (· * ·) (v96A c x0 x1 x6 r ⟨512 + f.val, by omega⟩) (rdC (harg6 := harg6) x4 0 _ ⟨512 + f.val, by omega⟩ (by decide)))) (congrArg₂ (· * ·) (v102A c x0 x1 x6 r ⟨512 + f.val, by omega⟩) (rdC (harg6 := harg6) x4 1 _ ⟨512 + f.val, by omega⟩ (by decide)))) (congrArg₂ (· * ·) (v108A c x0 x1 x6 r ⟨512 + f.val, by omega⟩) (rdC (harg6 := harg6) x4 2 _ ⟨512 + f.val, by omega⟩ (by decide))))).trans (cnv_eq _ _ _ _ _)))

theorem oA17 (hc0 : cond0_0 i) (p : Fin 8) (j : Fin 1024) : out0_A_17 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 (ix3 0 p j) = bp x0 x1 ⟨504 + p.val, by omega⟩ ⟨1536 + j.val, by omega⟩ := by
  unfold out0_A_17
  rw [View.read_writes_eq_canon _ _ _ (cover0_A_17 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6)]
  unfold kernelRun0_A
  dsimp only
  rw [View.canon_unit_zero hz3]
  exact v124A c x0 x1 x6 p j

theorem sA (hc0 : cond0_0 i) (p : Fin 8) (j : Fin 1024) : pre (sout0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6) (ix3 0 p j) = bp x0 x1 ⟨504 + p.val, by omega⟩ ⟨1536 + j.val, by omega⟩ := by
  unfold sout0_A_0
  unfold kernelRun0_A
  dsimp only
  refine (sc_top VS0_0 _ _ _ _ ⟨p.val, by omega⟩ p.isLt j).trans ?_
  rw [pay1_eq]
  exact v124A c x0 x1 x6 p j

theorem v96B (r : Fin 512) (j : Fin 1024) : kernelRun0_B.sl.v96 (F := Ideal) c arg2 harg2 arg3 harg3 arg20 harg20 x0 x1 xs0 (ix3 0 r j) = zr (pre xs0) x0 x1 (r.val + 5) j := by
  unfold kernelRun0_B.sl.v96
  refine (readAt_at arg20.view _ inb_S1x520x1024_S1x512x1024_0_5_0 (ix3 0 r j) (ix3 0 ⟨r.val + 5, by omega⟩ j) (ix3_ok _ _ _ _ _ _ _ _ _ rfl (Nat.add_comm _ _) (Nat.zero_add _).symm)).trans ?_
  exact scB (harg2 := harg2) (harg3 := harg3) c x0 x1 xs0 arg20.view _ (harg20.read_unread xs0) ⟨r.val + 5, by omega⟩ j

theorem v102B (r : Fin 512) (j : Fin 1024) : kernelRun0_B.sl.v102 (F := Ideal) c arg2 harg2 arg3 harg3 arg20 harg20 x0 x1 xs0 (ix3 0 r j) = zr (pre xs0) x0 x1 (r.val + 6) j := by
  unfold kernelRun0_B.sl.v102
  refine (readAt_at arg20.view _ inb_S1x520x1024_S1x512x1024_0_6_0 (ix3 0 r j) (ix3 0 ⟨r.val + 6, by omega⟩ j) (ix3_ok _ _ _ _ _ _ _ _ _ rfl (Nat.add_comm _ _) (Nat.zero_add _).symm)).trans ?_
  exact scB (harg2 := harg2) (harg3 := harg3) c x0 x1 xs0 arg20.view _ (harg20.read_unread xs0) ⟨r.val + 6, by omega⟩ j

theorem v108B (r : Fin 512) (j : Fin 1024) : kernelRun0_B.sl.v108 (F := Ideal) c arg2 harg2 arg3 harg3 arg20 harg20 x0 x1 xs0 (ix3 0 r j) = zr (pre xs0) x0 x1 (r.val + 7) j := by
  unfold kernelRun0_B.sl.v108
  refine (readAt_at arg20.view _ inb_S1x520x1024_S1x512x1024_0_7_0 (ix3 0 r j) (ix3 0 ⟨r.val + 7, by omega⟩ j) (ix3_ok _ _ _ _ _ _ _ _ _ rfl (Nat.add_comm _ _) (Nat.zero_add _).symm)).trans ?_
  exact scB (harg2 := harg2) (harg3 := harg3) c x0 x1 xs0 arg20.view _ (harg20.read_unread xs0) ⟨r.val + 7, by omega⟩ j

theorem v124B (p : Fin 8) (j : Fin 1024) : kernelRun0_B.sl.v124 (F := Ideal) c arg2 harg2 arg3 harg3 arg20 x0 x1 (ix3 0 p j) = bp x0 x1 ⟨504 + p.val, by omega⟩ ⟨1536 + j.val, by omega⟩ := by
  unfold kernelRun0_B.sl.v124
  refine (readAt_at arg20.view _ inb_S1x520x1024_S1x8x1024_0_512_0 (ix3 0 p j) (ix3 0 ⟨512 + p.val, by omega⟩ j) (ix3_ok _ _ _ _ _ _ _ _ _ rfl rfl (Nat.zero_add _).symm)).trans ?_
  unfold kernelRun0_B.sl.HS0_1
  refine (sc_hi arg20.view _ _ _ _ ⟨512 + p.val, by omega⟩ (by show 8 ≤ 512 + p.val; omega) j).trans ?_
  refine (bp_pay x0 x1 _ (fun d j => rdW (harg3 := harg3) x1 1536 1024 _ d j (by omega)) _ (rdX (harg2 := harg2) x0 _) _ j).trans ?_
  exact congrArg (fun q => bp x0 x1 q _) (Fin.ext (by show 512 + p.val - 8 = 504 + p.val; omega))

theorem r4B (r : Fin 512) (j : Fin 1024) : kernelRun0_B.sl.r_4 (F := Ideal) c arg2 harg2 arg3 harg3 arg6 harg6 arg7 harg7 x0 x1 x4 x5 (ix3 0 r j) = x5 (ix2 0 j) + zr (pre xs0) x0 x1 (r.val + 8) j * x4 (ix2 3 j) := by
  unfold kernelRun0_B.sl.r_4
  refine (pay19_apply _ _ _ _ _ _).trans ?_
  refine congrArg₂ (· + ·) (congrFun ((View.readAt_full _ _ _).trans (harg7.read_unread x5)) _) (congrArg₂ (· * ·) ?_ (rdC (harg6 := harg6) x4 3 _ j (by decide)))
  rw [zr_hi x0 x1 (pre xs0) ⟨r.val + 8, by omega⟩ (by show 8 ≤ r.val + 8; omega) j]
  exact (Finset.sum_congr rfl fun d _ => congrArg (· * _) (congrFun (rdX (harg2 := harg2) x0 inb_S1x512x1024_S1x512x1024_0_0_0) _)).trans (sumW (harg3 := harg3) x0 x1 1536 1024 _ _ _ (by omega))

theorem oB13 (hc0 : ¬cond0_0 i) (r f : Fin 512) : out0_B_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 xs0 (ix3 0 r f) = cnv (zr (pre xs0) x0 x1) (fun k j => x4 (ix2 k j)) (fun j => x5 (ix2 0 j)) r.val ⟨f.val, by omega⟩ := by
  unfold out0_B_13
  rw [View.read_writes_eq_canon _ _ _ (cover0_B_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 xs0)]
  unfold kernelRun0_B
  dsimp only
  rw [View.canon_unit_zero hz3]
  refine (pay21_apply _ _ _ _ _ _ _ _ _).trans ?_
  exact (pay20_apply _ _ _ _ _ _ _ r ⟨f.val, by omega⟩).trans ((congrArg silu (congrArg₂ (· + ·) (congrArg₂ (· + ·) (congrArg₂ (· + ·) (r4B c x0 x1 x4 x5 xs0 r ⟨f.val, by omega⟩) (congrArg₂ (· * ·) (v96B c x0 x1 xs0 r ⟨f.val, by omega⟩) (rdC (harg6 := harg6) x4 0 _ ⟨f.val, by omega⟩ (by decide)))) (congrArg₂ (· * ·) (v102B c x0 x1 xs0 r ⟨f.val, by omega⟩) (rdC (harg6 := harg6) x4 1 _ ⟨f.val, by omega⟩ (by decide)))) (congrArg₂ (· * ·) (v108B c x0 x1 xs0 r ⟨f.val, by omega⟩) (rdC (harg6 := harg6) x4 2 _ ⟨f.val, by omega⟩ (by decide))))).trans (cnv_eq _ _ _ _ _))

theorem oB14 (hc0 : ¬cond0_0 i) (r f : Fin 512) : out0_B_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 xs0 (ix3 0 r f) = cnv (zr (pre xs0) x0 x1) (fun k j => x4 (ix2 k j)) (fun j => x5 (ix2 0 j)) r.val ⟨512 + f.val, by omega⟩ * Ideal.ofBits .f32 0x3DB504F3#32 := by
  unfold out0_B_14
  rw [View.read_writes_eq_canon _ _ _ (cover0_B_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 xs0)]
  unfold kernelRun0_B
  dsimp only
  rw [View.canon_unit_zero hz3]
  refine (pay22_apply _ _ _ _ _ _ _ _ _).trans ?_
  exact congrArg (· * Ideal.ofBits .f32 0x3DB504F3#32) ((pay20_apply _ _ _ _ _ _ _ r ⟨512 + f.val, by omega⟩).trans ((congrArg silu (congrArg₂ (· + ·) (congrArg₂ (· + ·) (congrArg₂ (· + ·) (r4B c x0 x1 x4 x5 xs0 r ⟨512 + f.val, by omega⟩) (congrArg₂ (· * ·) (v96B c x0 x1 xs0 r ⟨512 + f.val, by omega⟩) (rdC (harg6 := harg6) x4 0 _ ⟨512 + f.val, by omega⟩ (by decide)))) (congrArg₂ (· * ·) (v102B c x0 x1 xs0 r ⟨512 + f.val, by omega⟩) (rdC (harg6 := harg6) x4 1 _ ⟨512 + f.val, by omega⟩ (by decide)))) (congrArg₂ (· * ·) (v108B c x0 x1 xs0 r ⟨512 + f.val, by omega⟩) (rdC (harg6 := harg6) x4 2 _ ⟨512 + f.val, by omega⟩ (by decide))))).trans (cnv_eq _ _ _ _ _)))

theorem oB17 (hc0 : ¬cond0_0 i) (p : Fin 8) (j : Fin 1024) : out0_B_17 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 xs0 (ix3 0 p j) = bp x0 x1 ⟨504 + p.val, by omega⟩ ⟨1536 + j.val, by omega⟩ := by
  unfold out0_B_17
  rw [View.read_writes_eq_canon _ _ _ (cover0_B_17 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 xs0)]
  unfold kernelRun0_B
  dsimp only
  rw [View.canon_unit_zero hz3]
  exact v124B c x0 x1 p j

theorem sB (hc0 : ¬cond0_0 i) (p : Fin 8) (j : Fin 1024) : pre (sout0_B_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 xs0) (ix3 0 p j) = bp x0 x1 ⟨504 + p.val, by omega⟩ ⟨1536 + j.val, by omega⟩ := by
  unfold sout0_B_0
  unfold kernelRun0_B
  dsimp only
  refine (sc_top VS0_0 _ _ _ _ ⟨p.val, by omega⟩ p.isLt j).trans ?_
  rw [pay1_eq]
  exact v124B c x0 x1 p j

end Cert.Kernel3Ideal.Inp
-- ==== Proof.Inp.Host.lean ====
/- The arrays the projection's call reads, of the launch arguments. -/
module

public import proofs.«01_k».proof.Proof.Inp.Pay
public import proofs.«01_k».proof.Proof.Gen.Kernel3Ideal.Frame
public import Idealize.ShloMosaic.Lib.StableHlo.ReadAt
public import Idealize.ShloMosaic.Lib.Pointwise

@[expose] public section

set_option maxRecDepth 16384

noncomputable section

namespace Cert.Kernel3Ideal.Inp

open Idealize.ShloMosaic Idealize.ShloMosaic.TcCoe Idealize.SL.Sem Cert.Kernel3Ideal Cert.Kernel3Ideal.Gen _root_.Inp.Math

variable (m : (ℓ : Loc nD τ sig) → Buf (Elt Ideal) ℓ) (c : Dev nD)

abbrev aX : Vec Ideal S8x4096x1024 .f32 := m ((c : Thread nD τ).loc main_arg0)
abbrev aW : Vec Ideal S1024x3600 .f32 := m ((c : Thread nD τ).loc main_arg1)
abbrev aF : Vec Ideal S8 .f32 := m ((c : Thread nD τ).loc main_arg2)
abbrev aI : Vec Ideal S4 .f32 := m ((c : Thread nD τ).loc main_arg3)
abbrev aM : Vec Ideal S4 .f32 := m ((c : Thread nD τ).loc main_arg4)
abbrev aO : Vec Ideal S512 .f32 := m ((c : Thread nD τ).loc main_arg5)
abbrev aC : Vec Ideal S4x1024 .f32 := m ((c : Thread nD τ).loc main_arg6)
abbrev aB : Vec Ideal S1024 .f32 := m ((c : Thread nD τ).loc main_arg7)

/-- The weights' columns in the kernel's order. -/
def wcat (A : Vec Ideal S1024x1536 .f32) (B : Vec Ideal S1024x1536 .f32) (C : Vec Ideal S1024x512 .f32) (D : Vec Ideal S1024x128 .f32) : Vec Ideal S1024x3712 .f32 :=
  concatenate S1024x3712 1 [⟨S1024x1536, A⟩, ⟨S1024x1536, B⟩, ⟨S1024x512, C⟩, ⟨S1024x128, D⟩] concatenates_S1024x1536_S1024x1536_S1024x512_S1024x128_S1024x3712_d1
/-- The gates' columns, filled up with zeros. -/
def gcat (A B : Vec Ideal S1024x8 .f32) (C : Vec Ideal S1024x112 .f32) : Vec Ideal S1024x128 .f32 :=
  concatenate S1024x128 1 [⟨S1024x8, A⟩, ⟨S1024x8, B⟩, ⟨S1024x112, C⟩] concatenates_S1024x8_S1024x8_S1024x112_S1024x128_d1
/-- The gates' offsets, filled up with zeros. -/
def bcat (A : Vec Ideal S8 .f32) (B C : Vec Ideal S4 .f32) (D : Vec Ideal S112 .f32) : Vec Ideal S128 .f32 :=
  concatenate S128 0 [⟨S8, A⟩, ⟨S4, B⟩, ⟨S4, C⟩, ⟨S112, D⟩] concatenates_S8_S4_S4_S112_S128_d0

theorem wcat_congr {A A' B B' : Vec Ideal S1024x1536 .f32} {C C' : Vec Ideal S1024x512 .f32} {D D' : Vec Ideal S1024x128 .f32} (a : A = A') (b : B = B') (c : C = C') (d : D = D') :
    wcat A B C D = wcat A' B' C' D' := by rw [a, b, c, d]
theorem gcat_congr {A A' B B' : Vec Ideal S1024x8 .f32} {C C' : Vec Ideal S1024x112 .f32} (a : A = A') (b : B = B') (c : C = C') :
    gcat A B C = gcat A' B' C' := by rw [a, b, c]
theorem bcat_congr {A A' : Vec Ideal S8 .f32} {B B' C C' : Vec Ideal S4 .f32} {D D' : Vec Ideal S112 .f32} (a : A = A') (b : B = B') (c : C = C') (d : D = D') :
    bcat A B C D = bcat A' B' C' D' := by rw [a, b, c, d]

theorem wcat_a (A : Vec Ideal S1024x1536 .f32) (B : Vec Ideal S1024x1536 .f32) (C : Vec Ideal S1024x512 .f32) (D : Vec Ideal S1024x128 .f32) (d : Fin 1024) (k : Fin 1536) :
    wcat A B C D (ix2 d ⟨k.val, by omega⟩) = A (ix2 d k) := by
  pointwise [wcat]

theorem wcat_b (A : Vec Ideal S1024x1536 .f32) (B : Vec Ideal S1024x1536 .f32) (C : Vec Ideal S1024x512 .f32) (D : Vec Ideal S1024x128 .f32) (d : Fin 1024) (k : Fin 1536) :
    wcat A B C D (ix2 d ⟨1536 + k.val, by omega⟩) = B (ix2 d k) := by
  pointwise [wcat]

theorem wcat_c (A : Vec Ideal S1024x1536 .f32) (B : Vec Ideal S1024x1536 .f32) (C : Vec Ideal S1024x512 .f32) (D : Vec Ideal S1024x128 .f32) (d : Fin 1024) (k : Fin 512) :
    wcat A B C D (ix2 d ⟨3072 + k.val, by omega⟩) = C (ix2 d k) := by
  pointwise [wcat]
  refine (dif_neg (by omega)).trans ?_
  refine (dif_neg (by omega)).trans ?_
  refine (dif_pos (by omega)).trans ?_
  exact congrArg (fun t => C (ix2 d t)) (Fin.ext (by simp only []; omega))

theorem wcat_d (A : Vec Ideal S1024x1536 .f32) (B : Vec Ideal S1024x1536 .f32) (C : Vec Ideal S1024x512 .f32) (D : Vec Ideal S1024x128 .f32) (d : Fin 1024) (k : Fin 128) :
    wcat A B C D (ix2 d ⟨3584 + k.val, by omega⟩) = D (ix2 d k) := by
  pointwise [wcat]
  refine (dif_neg (by omega)).trans ?_
  refine (dif_neg (by omega)).trans ?_
  refine (dif_neg (by omega)).trans ?_
  exact congrArg (fun t => D (ix2 d t)) (Fin.ext (by simp only []; omega))

theorem gcat_a (A B : Vec Ideal S1024x8 .f32) (C : Vec Ideal S1024x112 .f32) (d : Fin 1024) (k : Fin 8) :
    gcat A B C (ix2 d ⟨k.val, by omega⟩) = A (ix2 d k) := by
  pointwise [gcat]

theorem gcat_b (A B : Vec Ideal S1024x8 .f32) (C : Vec Ideal S1024x112 .f32) (d : Fin 1024) (k : Fin 8) :
    gcat A B C (ix2 d ⟨8 + k.val, by omega⟩) = B (ix2 d k) := by
  pointwise [gcat]

theorem gcat_c (A B : Vec Ideal S1024x8 .f32) (C : Vec Ideal S1024x112 .f32) (d : Fin 1024) (k : Fin 112) :
    gcat A B C (ix2 d ⟨16 + k.val, by omega⟩) = C (ix2 d k) := by
  pointwise [gcat]
  refine (dif_neg (by omega)).trans ?_
  refine (dif_neg (by omega)).trans ?_
  exact congrArg (fun t => C (ix2 d t)) (Fin.ext (by simp only []; omega))

theorem bcat_a (A : Vec Ideal S8 .f32) (B C : Vec Ideal S4 .f32) (D : Vec Ideal S112 .f32) (k : Fin 8) :
    bcat A B C D (ix1 ⟨k.val, by omega⟩) = A (ix1 k) := by
  pointwise [bcat]

theorem bcat_b (A : Vec Ideal S8 .f32) (B C : Vec Ideal S4 .f32) (D : Vec Ideal S112 .f32) (k : Fin 4) :
    bcat A B C D (ix1 ⟨8 + k.val, by omega⟩) = B (ix1 k) := by
  pointwise [bcat]

theorem bcat_c (A : Vec Ideal S8 .f32) (B C : Vec Ideal S4 .f32) (D : Vec Ideal S112 .f32) (k : Fin 4) :
    bcat A B C D (ix1 ⟨12 + k.val, by omega⟩) = C (ix1 k) := by
  pointwise [bcat]
  refine (dif_neg (by omega)).trans ?_
  refine (dif_neg (by omega)).trans ?_
  refine (dif_pos (by omega)).trans ?_
  exact congrArg (fun t => C (ix1 t)) (Fin.ext (by simp only []; omega))

theorem bcat_d (A : Vec Ideal S8 .f32) (B C : Vec Ideal S4 .f32) (D : Vec Ideal S112 .f32) (k : Fin 112) :
    bcat A B C D (ix1 ⟨16 + k.val, by omega⟩) = D (ix1 k) := by
  pointwise [bcat]
  refine (dif_neg (by omega)).trans ?_
  refine (dif_neg (by omega)).trans ?_
  refine (dif_neg (by omega)).trans ?_
  exact congrArg (fun t => D (ix1 t)) (Fin.ext (by simp only []; omega))

open StableHlo in
theorem V8_eq : (V m c main_v8 : Vec Ideal S1024x3712 .bf16) = truncf (F := Ideal) .bf16 (wcat
    (extractStridedSlice S1024x1536 ![0, 0] (aW m c) slices_S1024x3600_S1024x1536_0_0)
    (extractStridedSlice S1024x1536 ![0, 1544] (aW m c) slices_S1024x3600_S1024x1536_0_1544)
    (extractStridedSlice S1024x512 ![0, 3088] (aW m c) slices_S1024x3600_S1024x512_0_3088)
    (gcat (extractStridedSlice S1024x8 ![0, 1536] (aW m c) slices_S1024x3600_S1024x8_0_1536)
      (extractStridedSlice S1024x8 ![0, 3080] (aW m c) slices_S1024x3600_S1024x8_0_3080)
      (broadcastInDim S1024x112 ![] bcast_S_S1024x112 (constant (F := Ideal) S_ .f32 0x00000000#32)))) bitsLt_bf16_f32 := by
  unfold V hostOps0
  after_reads_simp
  refine congrArg (fun u => truncf (F := Ideal) .bf16 u bitsLt_bf16_f32) (wcat_congr ?_ ?_ ?_ ?_)
  · after_reads_simp
    rfl
  · after_reads_simp
    rfl
  · after_reads_simp
    rfl
  · after_reads_simp
    refine gcat_congr ?_ ?_ ?_
    · after_reads_simp
      rfl
    · after_reads_simp
      rfl
    · show upto _ _ _ (Proc.devRef .tc main_v2) = _
      after_reads_simp

open StableHlo in
theorem V11_eq : (V m c main_v11 : Vec Ideal S1x128 .f32) = broadcastInDim S1x128 ![1] bcast_S128_S1x128_1 (bcat (aF m c) (aI m c) (aM m c) (broadcastInDim S112 ![] bcast_S_S112 (constant (F := Ideal) S_ .f32 0x00000000#32))) := by
  unfold V hostOps0
  after_reads_simp
  refine congrArg (fun u => broadcastInDim S1x128 ![1] bcast_S128_S1x128_1 u) (bcat_congr ?_ ?_ ?_ ?_)
  · after_reads_simp
    rfl
  · after_reads_simp
    rfl
  · after_reads_simp
    rfl
  · show upto _ _ _ (Proc.devRef .tc main_v9) = _
    after_reads_simp

theorem V8_a (d : Fin 1024) (k : Fin 1536) :
    (V m c main_v8 : Vec Ideal S1024x3712 .bf16) (ix2 d ⟨k.val, by omega⟩) = aW m c (ix2 d ⟨k.val, by omega⟩) := by
  rw [V8_eq]
  refine (wcat_a _ _ _ _ d k).trans ?_
  pointwise

theorem V8_b (d : Fin 1024) (k : Fin 1536) :
    (V m c main_v8 : Vec Ideal S1024x3712 .bf16) (ix2 d ⟨1536 + k.val, by omega⟩) = aW m c (ix2 d ⟨1544 + k.val, by omega⟩) := by
  rw [V8_eq]
  refine (wcat_b _ _ _ _ d k).trans ?_
  pointwise

theorem V8_c (d : Fin 1024) (k : Fin 512) :
    (V m c main_v8 : Vec Ideal S1024x3712 .bf16) (ix2 d ⟨3072 + k.val, by omega⟩) = aW m c (ix2 d ⟨3088 + k.val, by omega⟩) := by
  rw [V8_eq]
  refine (wcat_c _ _ _ _ d k).trans ?_
  pointwise

theorem V8_f (d : Fin 1024) (k : Fin 8) :
    (V m c main_v8 : Vec Ideal S1024x3712 .bf16) (ix2 d ⟨3584 + k.val, by omega⟩) = aW m c (ix2 d ⟨1536 + k.val, by omega⟩) := by
  rw [V8_eq]
  refine (wcat_d _ _ _ _ d ⟨k.val, by omega⟩).trans ((gcat_a _ _ _ d k).trans ?_)
  pointwise

theorem V8_g (d : Fin 1024) (k : Fin 8) :
    (V m c main_v8 : Vec Ideal S1024x3712 .bf16) (ix2 d ⟨3584 + (8 + k.val), by omega⟩) = aW m c (ix2 d ⟨3080 + k.val, by omega⟩) := by
  rw [V8_eq]
  refine (wcat_d _ _ _ _ d ⟨8 + k.val, by omega⟩).trans ((gcat_b _ _ _ d k).trans ?_)
  pointwise

theorem V8_z (d : Fin 1024) (k : Fin 112) :
    (V m c main_v8 : Vec Ideal S1024x3712 .bf16) (ix2 d ⟨3584 + (16 + k.val), by omega⟩) = (0 : EReal) := by
  rw [V8_eq]
  refine (wcat_d _ _ _ _ d ⟨16 + k.val, by omega⟩).trans ((gcat_c _ _ _ d k).trans ?_)
  pointwise

theorem V11_f (k : Fin 8) : (V m c main_v11 : Vec Ideal S1x128 .f32) (ix2 0 ⟨k.val, by omega⟩) = aF m c (ix1 k) := by
  rw [V11_eq]
  pointwise
  exact bcat_a _ _ _ _ k

theorem V11_i (k : Fin 4) : (V m c main_v11 : Vec Ideal S1x128 .f32) (ix2 0 ⟨8 + k.val, by omega⟩) = aI m c (ix1 k) := by
  rw [V11_eq]
  pointwise
  exact bcat_b _ _ _ _ k

theorem V11_m (k : Fin 4) : (V m c main_v11 : Vec Ideal S1x128 .f32) (ix2 0 ⟨12 + k.val, by omega⟩) = aM m c (ix1 k) := by
  rw [V11_eq]
  pointwise
  exact bcat_c _ _ _ _ k

theorem V11_z (k : Fin 112) : (V m c main_v11 : Vec Ideal S1x128 .f32) (ix2 0 ⟨16 + k.val, by omega⟩) = (0 : EReal) := by
  rw [V11_eq]
  pointwise
  refine (bcat_d _ _ _ _ k).trans ?_
  pointwise

theorem V12_apply (k : Fin 512) : (V m c main_v12 : Vec Ideal S1x512 .f32) (ix2 0 k) = aO m c (ix1 k) := by
  unfold V hostOps0
  after_reads_at

theorem V13_apply (k : Fin 1024) : (V m c main_v13 : Vec Ideal S1x1024 .f32) (ix2 0 k) = aB m c (ix1 k) := by
  unfold V hostOps0
  after_reads_at

theorem V14_apply (b p : Fin 8) (j : Fin 1024) : (V m c main_v14 : Vec Ideal S8x8x1024 .f32) (ix3 b p j) = (0 : EReal) := by
  unfold V hostOps0
  after_reads_at

theorem V0_apply (b : Fin 8) (s : Fin 4096) (d : Fin 1024) : (V m c main_arg0 : Vec Ideal S8x4096x1024 .f32) (ix3 b s d) = aX m c (ix3 b s d) := by
  unfold V hostOps0
  after_reads_at

theorem V6_apply (k : Fin 4) (j : Fin 1024) : (V m c main_arg6 : Vec Ideal S4x1024 .f32) (ix2 k j) = aC m c (ix2 k j) := by
  unfold V hostOps0
  after_reads_at

end Cert.Kernel3Ideal.Inp
-- ==== Proof.Inp.Blk.lean ====
/- The blocks of a step, of the launch arguments, and where the result blocks lie. -/
module

public import proofs.«01_k».proof.Proof.Inp.Out
public import proofs.«01_k».proof.Proof.Inp.Host

@[expose] public section

set_option maxRecDepth 16384

noncomputable section

namespace Cert.Kernel3Ideal.Inp

open Idealize.ShloMosaic Idealize.ShloMosaic.TcCoe Idealize.SL.Sem Cert.Kernel3Ideal Cert.Kernel3Ideal.Gen _root_.Inp.Math

variable (m : (ℓ : Loc nD τ sig) → Buf (Elt Ideal) ℓ) (c : Dev nD) (t : Fin cfg0.N)

theorem lt0 : (grid0.coords t 0).val < 8 := (grid0.coords t 0).isLt
theorem lt1 : (grid0.coords t 1).val < 8 := (grid0.coords t 1).isLt

/-- The batch of a step. -/
abbrev cb : Fin 8 := ⟨(grid0.coords t 0).val, lt0 t⟩
/-- The block of positions of a step. -/
abbrev cs : Fin 8 := ⟨(grid0.coords t 1).val, lt1 t⟩

theorem cb_eq : (cb t).val = t.val / 8 % 8 := Pipeline.Grid.coords_val t 0 (by decide) rfl
theorem cs_eq : (cs t).val = t.val % 8 := by
  have h : (cs t).val = t.val / 1 % 8 := Pipeline.Grid.coords_val t 1 (by decide) rfl
  rw [h, Nat.div_one]

/-- The position of a step's row. -/
abbrev pos (r : Fin 512) : Fin 4096 := ⟨512 * (cs t).val + r.val, by have := lt1 t; omega⟩

theorem word_small (x : ℕ) (h : x < 8) : (BitVec.ofNat 32 x).toNat = x := by
  rw [BitVec.toNat_ofNat]; exact Nat.mod_eq_of_lt (by omega)

/-- The input, as a function of batch, position and feature. -/
abbrev pX : Fin 8 → Fin 4096 → Fin 1024 → EReal := fun b s d => aX m c (ix3 b s d)
/-- The weights. -/
abbrev pW : Fin 1024 → Fin 3600 → EReal := fun d k => aW m c (ix2 d k)

/-- The step's blocks, as plain vectors. -/
abbrev b0 : Vec Ideal S1x512x1024 .f32 := iblk m c 0 t
abbrev b1 : Vec Ideal S1024x3712 .bf16 := iblk m c 1 t
abbrev b2 : Vec Ideal S1x128 .f32 := iblk m c 2 t
abbrev b3 : Vec Ideal S1x512 .f32 := iblk m c 3 t
abbrev b4 : Vec Ideal S4x1024 .f32 := iblk m c 4 t
abbrev b5 : Vec Ideal S1x1024 .f32 := iblk m c 5 t
abbrev b6 : Vec Ideal S1x8x1024 .f32 := iblk m c 6 t

theorem b0_apply (r : Fin 512) (d : Fin 1024) : b0 m c t (ix3 0 r d) = aX m c (ix3 (cb t) (pos t r) d) := by
  refine Eq.trans ?_ (V0_apply m c (cb t) (pos t r) d)
  show V m c main_arg0 (((cfg0.win 0).blk t).view.emb (ix3 0 r d)) = _
  congr 1
  funext a
  apply Fin.ext
  have h0 := word_small _ (lt0 t)
  have h1 := word_small _ (lt1 t)
  match a with
  | ⟨0, _⟩ => show (BitVec.ofNat 32 (grid0.coords t 0).val).toNat * 1 + 1 * 0 = (grid0.coords t 0).val; omega
  | ⟨1, _⟩ => show (BitVec.ofNat 32 (grid0.coords t 1).val).toNat * 512 + 1 * r.val = 512 * (grid0.coords t 1).val + r.val; omega
  | ⟨2, _⟩ => show 0 * 1024 + 1 * d.val = d.val; omega

theorem b6_apply (p : Fin 8) (j : Fin 1024) : b6 m c t (ix3 0 p j) = (0 : EReal) := by
  refine Eq.trans ?_ (V14_apply m c (cb t) p j)
  show V m c main_v14 (((cfg0.win 6).blk t).view.emb (ix3 0 p j)) = _
  congr 1
  funext a
  apply Fin.ext
  have h0 := word_small _ (lt0 t)
  match a with
  | ⟨0, _⟩ => show (BitVec.ofNat 32 (grid0.coords t 0).val).toNat * 1 + 1 * 0 = (grid0.coords t 0).val; omega
  | ⟨1, _⟩ => show 0 * 8 + 1 * p.val = p.val; omega
  | ⟨2, _⟩ => show 0 * 1024 + 1 * j.val = j.val; omega

theorem b1_apply (i : Fin 1024) (j : Fin 3712) : b1 m c t (ix2 i j) = (V m c main_v8 : Vec Ideal S1024x3712 .bf16) (ix2 i j) := by
  show V m c main_v8 (((cfg0.win 1).blk t).view.emb (ix2 i j)) = _
  congr 1
  funext a
  apply Fin.ext
  match a with
  | ⟨0, _⟩ => show 0 * 1024 + 1 * i.val = i.val; omega
  | ⟨1, _⟩ => show 0 * 3712 + 1 * j.val = j.val; omega

theorem b2_apply (i : Fin 1) (j : Fin 128) : b2 m c t (ix2 i j) = (V m c main_v11 : Vec Ideal S1x128 .f32) (ix2 i j) := by
  show V m c main_v11 (((cfg0.win 2).blk t).view.emb (ix2 i j)) = _
  congr 1
  funext a
  apply Fin.ext
  match a with
  | ⟨0, _⟩ => show 0 * 1 + 1 * i.val = i.val; omega
  | ⟨1, _⟩ => show 0 * 128 + 1 * j.val = j.val; omega

theorem b3_apply (i : Fin 1) (j : Fin 512) : b3 m c t (ix2 i j) = (V m c main_v12 : Vec Ideal S1x512 .f32) (ix2 i j) := by
  show V m c main_v12 (((cfg0.win 3).blk t).view.emb (ix2 i j)) = _
  congr 1
  funext a
  apply Fin.ext
  match a with
  | ⟨0, _⟩ => show 0 * 1 + 1 * i.val = i.val; omega
  | ⟨1, _⟩ => show 0 * 512 + 1 * j.val = j.val; omega

theorem b4_apply (i : Fin 4) (j : Fin 1024) : b4 m c t (ix2 i j) = (V m c main_arg6 : Vec Ideal S4x1024 .f32) (ix2 i j) := by
  show V m c main_arg6 (((cfg0.win 4).blk t).view.emb (ix2 i j)) = _
  congr 1
  funext a
  apply Fin.ext
  match a with
  | ⟨0, _⟩ => show 0 * 4 + 1 * i.val = i.val; omega
  | ⟨1, _⟩ => show 0 * 1024 + 1 * j.val = j.val; omega

theorem b5_apply (i : Fin 1) (j : Fin 1024) : b5 m c t (ix2 i j) = (V m c main_v13 : Vec Ideal S1x1024 .f32) (ix2 i j) := by
  show V m c main_v13 (((cfg0.win 5).blk t).view.emb (ix2 i j)) = _
  congr 1
  funext a
  apply Fin.ext
  match a with
  | ⟨0, _⟩ => show 0 * 1 + 1 * i.val = i.val; omega
  | ⟨1, _⟩ => show 0 * 1024 + 1 * j.val = j.val; omega

theorem emb7 (f r : Fin 512) : ((cfg0.win 7).blk t).view.emb (ix3 0 f r) = (ix3 (cb t) f (pos t r) : S8x512x4096.Idx) := by
  funext a
  apply Fin.ext
  have h0 := word_small _ (lt0 t)
  have h1 := word_small _ (lt1 t)
  match a with
  | ⟨0, _⟩ => show (BitVec.ofNat 32 (grid0.coords t 0).val).toNat * 1 + 1 * 0 = (grid0.coords t 0).val; omega
  | ⟨1, _⟩ => show 0 * 512 + 1 * f.val = f.val; omega
  | ⟨2, _⟩ => show (BitVec.ofNat 32 (grid0.coords t 1).val).toNat * 512 + 1 * r.val = 512 * (grid0.coords t 1).val + r.val; omega

theorem emb9 (f r : Fin 512) : ((cfg0.win 9).blk t).view.emb (ix3 0 f r) = (ix3 (cb t) f (pos t r) : S8x512x4096.Idx) := by
  funext a
  apply Fin.ext
  have h0 := word_small _ (lt0 t)
  have h1 := word_small _ (lt1 t)
  match a with
  | ⟨0, _⟩ => show (BitVec.ofNat 32 (grid0.coords t 0).val).toNat * 1 + 1 * 0 = (grid0.coords t 0).val; omega
  | ⟨1, _⟩ => show 0 * 512 + 1 * f.val = f.val; omega
  | ⟨2, _⟩ => show (BitVec.ofNat 32 (grid0.coords t 1).val).toNat * 512 + 1 * r.val = 512 * (grid0.coords t 1).val + r.val; omega

theorem emb10 (f r : Fin 512) : ((cfg0.win 10).blk t).view.emb (ix3 0 f r) = (ix3 (cb t) f (pos t r) : S8x512x4096.Idx) := by
  funext a
  apply Fin.ext
  have h0 := word_small _ (lt0 t)
  have h1 := word_small _ (lt1 t)
  match a with
  | ⟨0, _⟩ => show (BitVec.ofNat 32 (grid0.coords t 0).val).toNat * 1 + 1 * 0 = (grid0.coords t 0).val; omega
  | ⟨1, _⟩ => show 0 * 512 + 1 * f.val = f.val; omega
  | ⟨2, _⟩ => show (BitVec.ofNat 32 (grid0.coords t 1).val).toNat * 512 + 1 * r.val = 512 * (grid0.coords t 1).val + r.val; omega

theorem emb11 (f r : Fin 512) : ((cfg0.win 11).blk t).view.emb (ix3 0 f r) = (ix3 (cb t) f (pos t r) : S8x512x4096.Idx) := by
  funext a
  apply Fin.ext
  have h0 := word_small _ (lt0 t)
  have h1 := word_small _ (lt1 t)
  match a with
  | ⟨0, _⟩ => show (BitVec.ofNat 32 (grid0.coords t 0).val).toNat * 1 + 1 * 0 = (grid0.coords t 0).val; omega
  | ⟨1, _⟩ => show 0 * 512 + 1 * f.val = f.val; omega
  | ⟨2, _⟩ => show (BitVec.ofNat 32 (grid0.coords t 1).val).toNat * 512 + 1 * r.val = 512 * (grid0.coords t 1).val + r.val; omega

theorem emb8 (r : Fin 512) (f : Fin 512) : ((cfg0.win 8).blk t).view.emb (ix3 0 r f) = (ix3 (cb t) (pos t r) f : S8x4096x512.Idx) := by
  funext a
  apply Fin.ext
  have h0 := word_small _ (lt0 t)
  have h1 := word_small _ (lt1 t)
  match a with
  | ⟨0, _⟩ => show (BitVec.ofNat 32 (grid0.coords t 0).val).toNat * 1 + 1 * 0 = (grid0.coords t 0).val; omega
  | ⟨1, _⟩ => show (BitVec.ofNat 32 (grid0.coords t 1).val).toNat * 512 + 1 * r.val = 512 * (grid0.coords t 1).val + r.val; omega
  | ⟨2, _⟩ => show 0 * 512 + 1 * f.val = f.val; omega

theorem emb12 (r : Fin 512) (f : Fin 128) : ((cfg0.win 12).blk t).view.emb (ix3 0 r f) = (ix3 (cb t) (pos t r) f : S8x4096x128.Idx) := by
  funext a
  apply Fin.ext
  have h0 := word_small _ (lt0 t)
  have h1 := word_small _ (lt1 t)
  match a with
  | ⟨0, _⟩ => show (BitVec.ofNat 32 (grid0.coords t 0).val).toNat * 1 + 1 * 0 = (grid0.coords t 0).val; omega
  | ⟨1, _⟩ => show (BitVec.ofNat 32 (grid0.coords t 1).val).toNat * 512 + 1 * r.val = 512 * (grid0.coords t 1).val + r.val; omega
  | ⟨2, _⟩ => show 0 * 128 + 1 * f.val = f.val; omega

theorem emb13 (r : Fin 512) (f : Fin 512) : ((cfg0.win 13).blk t).view.emb (ix3 0 r f) = (ix3 (cb t) (pos t r) f : S8x4096x512.Idx) := by
  funext a
  apply Fin.ext
  have h0 := word_small _ (lt0 t)
  have h1 := word_small _ (lt1 t)
  match a with
  | ⟨0, _⟩ => show (BitVec.ofNat 32 (grid0.coords t 0).val).toNat * 1 + 1 * 0 = (grid0.coords t 0).val; omega
  | ⟨1, _⟩ => show (BitVec.ofNat 32 (grid0.coords t 1).val).toNat * 512 + 1 * r.val = 512 * (grid0.coords t 1).val + r.val; omega
  | ⟨2, _⟩ => show 0 * 512 + 1 * f.val = f.val; omega

theorem emb14 (r : Fin 512) (f : Fin 512) : ((cfg0.win 14).blk t).view.emb (ix3 0 r f) = (ix3 (cb t) (pos t r) f : S8x4096x512.Idx) := by
  funext a
  apply Fin.ext
  have h0 := word_small _ (lt0 t)
  have h1 := word_small _ (lt1 t)
  match a with
  | ⟨0, _⟩ => show (BitVec.ofNat 32 (grid0.coords t 0).val).toNat * 1 + 1 * 0 = (grid0.coords t 0).val; omega
  | ⟨1, _⟩ => show (BitVec.ofNat 32 (grid0.coords t 1).val).toNat * 512 + 1 * r.val = 512 * (grid0.coords t 1).val + r.val; omega
  | ⟨2, _⟩ => show 0 * 512 + 1 * f.val = f.val; omega

theorem emb15 (r : Fin 512) (f : Fin 512) : ((cfg0.win 15).blk t).view.emb (ix3 0 r f) = (ix3 (cb t) (pos t r) f : S8x4096x512.Idx) := by
  funext a
  apply Fin.ext
  have h0 := word_small _ (lt0 t)
  have h1 := word_small _ (lt1 t)
  match a with
  | ⟨0, _⟩ => show (BitVec.ofNat 32 (grid0.coords t 0).val).toNat * 1 + 1 * 0 = (grid0.coords t 0).val; omega
  | ⟨1, _⟩ => show (BitVec.ofNat 32 (grid0.coords t 1).val).toNat * 512 + 1 * r.val = 512 * (grid0.coords t 1).val + r.val; omega
  | ⟨2, _⟩ => show 0 * 512 + 1 * f.val = f.val; omega

theorem emb16 (r : Fin 512) (f : Fin 512) : ((cfg0.win 16).blk t).view.emb (ix3 0 r f) = (ix3 (cb t) (pos t r) f : S8x4096x512.Idx) := by
  funext a
  apply Fin.ext
  have h0 := word_small _ (lt0 t)
  have h1 := word_small _ (lt1 t)
  match a with
  | ⟨0, _⟩ => show (BitVec.ofNat 32 (grid0.coords t 0).val).toNat * 1 + 1 * 0 = (grid0.coords t 0).val; omega
  | ⟨1, _⟩ => show (BitVec.ofNat 32 (grid0.coords t 1).val).toNat * 512 + 1 * r.val = 512 * (grid0.coords t 1).val + r.val; omega
  | ⟨2, _⟩ => show 0 * 512 + 1 * f.val = f.val; omega

theorem emb17 (p : Fin 8) (j : Fin 1024) : ((cfg0.win 17).blk t).view.emb (ix3 0 p j) = (ix3 (cb t) p j : S8x8x1024.Idx) := by
  funext a
  apply Fin.ext
  have h0 := word_small _ (lt0 t)
  match a with
  | ⟨0, _⟩ => show (BitVec.ofNat 32 (grid0.coords t 0).val).toNat * 1 + 1 * 0 = (grid0.coords t 0).val; omega
  | ⟨1, _⟩ => show 0 * 8 + 1 * p.val = p.val; omega
  | ⟨2, _⟩ => show 0 * 1024 + 1 * j.val = j.val; omega

/-- A row of a step against a column of the rearranged weights: the projection at the column it came from. -/
theorem bp_eq (r : Fin 512) (k : Fin 3712) (k' : Fin 3600) (h : ∀ d : Fin 1024, (V m c main_v8 : Vec Ideal S1024x3712 .bf16) (ix2 d k) = aW m c (ix2 d k')) :
    bp (b0 m c t) (b1 m c t) r k = prj (pX m c) (pW m c) (cb t) (pos t r) k' := by
  unfold bp prj
  exact Finset.sum_congr rfl fun d _ => congrArg₂ (· * ·) (b0_apply m c t r d) ((b1_apply m c t d k).trans (h d))

theorem bp_a (r : Fin 512) (k : Fin 3712) (k' : Fin 3600) (h : k.val < 1536) (hk : k'.val = k.val) :
    bp (b0 m c t) (b1 m c t) r k = prj (pX m c) (pW m c) (cb t) (pos t r) k' :=
  bp_eq m c t r k k' fun d => (V8_a m c d ⟨k.val, h⟩).trans (congrArg (fun q => aW m c (ix2 d q)) (Fin.ext hk.symm))

theorem bp_b (r : Fin 512) (k : Fin 3712) (k' : Fin 3600) (h : 1536 ≤ k.val) (h' : k.val < 3072) (hk : k'.val = k.val + 8) :
    bp (b0 m c t) (b1 m c t) r k = prj (pX m c) (pW m c) (cb t) (pos t r) k' :=
  bp_eq m c t r k k' fun d => (congrArg (fun q => (V m c main_v8 : Vec Ideal S1024x3712 .bf16) (ix2 d q)) (Fin.ext (by show k.val = 1536 + (k.val - 1536); omega))).trans ((V8_b m c d ⟨k.val - 1536, by omega⟩).trans (congrArg (fun q => aW m c (ix2 d q)) (Fin.ext (by show 1544 + (k.val - 1536) = k'.val; omega))))

theorem bp_c (r : Fin 512) (k : Fin 512) :
    bp (b0 m c t) (b1 m c t) r ⟨3072 + k.val, by omega⟩ = prj (pX m c) (pW m c) (cb t) (pos t r) ⟨3088 + k.val, by omega⟩ :=
  bp_eq m c t r _ _ fun d => V8_c m c d k

/-- The gates of a row of a step. -/
theorem gates_eq (r : Fin 512) (g : Fin 128) :
    gate g.val (bp (b0 m c t) (b1 m c t) r ⟨3584 + g.val, by omega⟩ + b2 m c t (ix2 0 g))
      = gts (pX m c) (pW m c) (fun k => aF m c (ix1 k)) (fun k => aI m c (ix1 k)) (fun k => aM m c (ix1 k)) (cb t) (pos t r) g := by
  refine gts_cases _ _ _ _ _ (cb t) (pos t r) (fun g => gate g.val (bp (b0 m c t) (b1 m c t) r ⟨3584 + g.val, by omega⟩ + b2 m c t (ix2 0 g))) (fun k => ?_) (fun k => ?_) (fun k => ?_) (fun k => ?_) g
  · unfold gate
    refine (if_neg (by show ¬(8 ≤ k.val ∧ k.val < 12); omega)).trans (congrArg lsig (congrArg₂ (· + ·) ?_ ?_))
    · exact bp_eq m c t r _ _ fun d => V8_f m c d k
    · exact (b2_apply m c t 0 _).trans (V11_f m c k)
  · unfold gate
    refine (if_pos (by show 8 ≤ 8 + k.val ∧ 8 + k.val < 12; omega)).trans (congrArg₂ (· + ·) ?_ ?_)
    · exact bp_eq m c t r _ _ fun d => V8_g m c d ⟨k.val, by omega⟩
    · exact (b2_apply m c t 0 _).trans (V11_i m c k)
  · unfold gate
    refine (if_neg (by show ¬(8 ≤ 12 + k.val ∧ 12 + k.val < 12); omega)).trans (congrArg lsig (congrArg₂ (· + ·) ?_ ?_))
    · refine bp_eq m c t r _ _ fun d => (congrArg (fun q => (V m c main_v8 : Vec Ideal S1024x3712 .bf16) (ix2 d q)) (Fin.ext (by show 3584 + (12 + k.val) = 3584 + (8 + (4 + k.val)); omega))).trans ((V8_g m c d ⟨4 + k.val, by omega⟩).trans (congrArg (fun q => aW m c (ix2 d q)) (Fin.ext (by show 3080 + (4 + k.val) = 3084 + k.val; omega))))
    · exact (b2_apply m c t 0 _).trans (V11_m m c k)
  · unfold gate
    refine (if_neg (by show ¬(8 ≤ 16 + k.val ∧ 16 + k.val < 12); omega)).trans (congrArg lsig ?_)
    refine (congrArg₂ (· + ·) ?_ ((b2_apply m c t 0 _).trans (V11_z m c k))).trans (add_zero (0 : EReal))
    unfold bp
    refine (Finset.sum_congr rfl fun d _ => (congrArg (b0 m c t (ix3 0 r d) * ·) ((b1_apply m c t d _).trans (V8_z m c d k))).trans (mul_zero _)).trans ?_
    exact Finset.sum_const_zero

/-- The rows the convolution reads at a step, given the eight it carried in. -/
theorem zr_eq (H : Vec Ideal S1x8x1024 .f32) (hH : ∀ (p : Fin 8) (j : Fin 1024), H (ix3 0 p j) = hist (pX m c) (pW m c) (cb t) (512 * (cs t).val + p.val) j) (p : ℕ) (hp : p < 520) (j : Fin 1024) :
    zr H (b0 m c t) (b1 m c t) p j = hist (pX m c) (pW m c) (cb t) (512 * (cs t).val + p) j := by
  by_cases h : p < 8
  · exact (zr_lo (b0 m c t) (b1 m c t) H ⟨p, hp⟩ h j).trans (hH ⟨p, h⟩ j)
  · refine (zr_hi (b0 m c t) (b1 m c t) H ⟨p, hp⟩ (by show 8 ≤ p; omega) j).trans ?_
    rw [hist_hi _ _ _ _ _ (pos t ⟨p - 8, by omega⟩) (by show 512 * (cs t).val + p = 512 * (cs t).val + (p - 8) + 8; omega)]
    exact bp_b m c t _ _ _ (by show 1536 ≤ 1536 + j.val; omega) (by show 1536 + j.val < 3072; omega) (by show 1544 + j.val = 1536 + j.val + 8; omega)

/-- The convolution's result at a row of a step. -/
theorem cnv_at (H : Vec Ideal S1x8x1024 .f32) (hH : ∀ (p : Fin 8) (j : Fin 1024), H (ix3 0 p j) = hist (pX m c) (pW m c) (cb t) (512 * (cs t).val + p.val) j) (r : Fin 512) (j : Fin 1024) :
    cnv (zr H (b0 m c t) (b1 m c t)) (fun k j => b4 m c t (ix2 k j)) (fun j => b5 m c t (ix2 0 j)) r.val j
      = cnv (hist (pX m c) (pW m c) (cb t)) (fun k j => aC m c (ix2 k j)) (fun j => aB m c (ix1 j)) (pos t r).val j := by
  have hw : ∀ k : Fin 4, b4 m c t (ix2 k j) = aC m c (ix2 k j) := fun k => (b4_apply m c t k j).trans (V6_apply m c k j)
  have hb : b5 m c t (ix2 0 j) = aB m c (ix1 j) := (b5_apply m c t 0 j).trans (V13_apply m c j)
  have hz : ∀ o : ℕ, o ≤ 8 → zr H (b0 m c t) (b1 m c t) (r.val + o) j = hist (pX m c) (pW m c) (cb t) ((pos t r).val + o) j := fun o ho =>
    (zr_eq m c t H hH (r.val + o) (by omega) j).trans (congrArg (fun n => hist (pX m c) (pW m c) (cb t) n j) (by show 512 * (cs t).val + (r.val + o) = 512 * (cs t).val + r.val + o; omega))
  unfold cnv
  simp only [hw, hb, hz 5 (by omega), hz 6 (by omega), hz 7 (by omega), hz 8 (by omega)]

end Cert.Kernel3Ideal.Inp
-- ==== Proof.Inp.Arr.lean ====
/- The arrays the projection's call leaves: the projection, its gates and its convolution, of the launch arguments. -/
module

public import proofs.«01_k».proof.Proof.Inp.Blk
public import Idealize.ShloMosaic.Lib.Pipeline.Covers

@[expose] public section

set_option maxRecDepth 16384

noncomputable section

namespace Cert.Kernel3Ideal.Inp

open Idealize.ShloMosaic Idealize.ShloMosaic.TcCoe Idealize.SL.Sem Cert.Kernel3Ideal Cert.Kernel3Ideal.Gen _root_.Inp.Math

variable (m : (ℓ : Loc nD τ sig) → Buf (Elt Ideal) ℓ) (c : Dev nD) (t : Fin cfg0.N)

/-- An array of rank three, of its entries. -/
def arr3 {n0 n1 n2 : ℕ} (f : Fin n0 → Fin n1 → Fin n2 → EReal) : (⟨3, ![n0, n1, n2]⟩ : Shape).Idx → EReal := fun y => f (y 0) (y 1) (y 2)

/-- The scale of the queries. -/
abbrev qs : EReal := Named.named (F := Ideal) κ "qscale" (φ := .f32) 0x3E38AA3B#32

theorem qs_eq : qs = (((Real.log 256)⁻¹ : ℝ) : EReal) := IdealRules.named_const.ideal_named_scalar _ _ _ _ rfl

/-- What a step leaves in the rows it carries on: its own last eight. -/
theorem carry_at (p : Fin 8) (j : Fin 1024) : pre (outsAt0 m c t.val t.isLt).2.2.2.2.2.2.2.2.2.2.2 (ix3 0 p j) = bp (b0 m c t) (b1 m c t) ⟨504 + p.val, by omega⟩ ⟨1536 + j.val, by omega⟩ := by
  by_cases h0 : t.val % 8 = 0
  · rw [outsAt0_A m c t h0]
    dsimp only
    exact sA c (grid0.coords t) _ _ _ _ _ _ _ _ p j
  · rw [outsAt0_B m c t h0]
    dsimp only
    exact sB c (grid0.coords t) _ _ _ _ _ _ _ _ _ p j

/-- The rows a step finds: those before its own. -/
theorem head_B (h0 : ¬t.val % 8 = 0) (p : Fin 8) (j : Fin 1024) :
    pre (outsAt0 m c (t.val - 1) (Nat.lt_of_le_of_lt (Nat.sub_le _ _) t.isLt)).2.2.2.2.2.2.2.2.2.2.2 (ix3 0 p j) = hist (pX m c) (pW m c) (cb t) (512 * (cs t).val + p.val) j := by
  have hc := carry_at m c ⟨t.val - 1, Nat.lt_of_le_of_lt (Nat.sub_le _ _) t.isLt⟩ p j
  refine hc.trans ?_
  generalize ht : (⟨t.val - 1, Nat.lt_of_le_of_lt (Nat.sub_le _ _) t.isLt⟩ : Fin cfg0.N) = t'
  have hv : t'.val = t.val - 1 := by rw [← ht]
  have e0 : cb t' = cb t := Fin.ext (by rw [cb_eq, cb_eq]; omega)
  have e1 : (cs t').val + 1 = (cs t).val := by rw [cs_eq, cs_eq]; omega
  rw [hist_hi _ _ _ _ _ (pos t' ⟨504 + p.val, by omega⟩) (by show 512 * (cs t).val + p.val = 512 * (cs t').val + (504 + p.val) + 8; omega), ← e0]
  exact bp_b m c t' _ _ _ (by show 1536 ≤ 1536 + j.val; omega) (by show 1536 + j.val < 3072; omega) (by show 1544 + j.val = 1536 + j.val + 8; omega)

theorem head_A (h0 : t.val % 8 = 0) (p : Fin 8) (j : Fin 1024) :
    b6 m c t (ix3 0 p j) = hist (pX m c) (pW m c) (cb t) (512 * (cs t).val + p.val) j := by
  rw [hist_lo _ _ _ _ _ (by rw [cs_eq, h0]; omega)]
  exact b6_apply m c t p j

theorem cover_pt (b s : Fin 8) : ∃ t : Fin cfg0.N, cb t = b ∧ cs t = s := by
  obtain ⟨t, ht⟩ := Pipeline.Grid.coords_surjective grid0 (fun a => match a with
    | ⟨0, _⟩ => (b : Fin 8) | ⟨1, _⟩ => (s : Fin 8))
  exact ⟨t, Fin.ext (congrArg Fin.val (congrFun ht 0)), Fin.ext (congrArg Fin.val (congrFun ht 1))⟩

/-- Result 0 of the call. -/
def G7 : Vec Ideal S8x512x4096 .bf16 := arr3 (fun (b : Fin 8) (f : Fin 512) (s : Fin 4096) => prj (pX m c) (pW m c) b s ⟨f.val, by omega⟩ * qs)

theorem at7 (f r : Fin 512) : (outsAt0 m c t.val t.isLt).1 (ix3 0 f r) = G7 m c (ix3 (cb t) f (pos t r)) := by
  by_cases h0 : t.val % 8 = 0
  · rw [outsAt0_A m c t h0]
    dsimp only
    refine (oA7 c (grid0.coords t) _ _ _ _ _ _ _ _ f r).trans ?_
    exact congrArg (· * qs) (bp_a m c t r _ _ (by show 0 + f.val < 1536; omega) (by show f.val = 0 + f.val; omega))
  · rw [outsAt0_B m c t h0]
    dsimp only
    refine (oB7 c (grid0.coords t) _ _ _ _ _ _ _ _ _ f r).trans ?_
    exact congrArg (· * qs) (bp_a m c t r _ _ (by show 0 + f.val < 1536; omega) (by show f.val = 0 + f.val; omega))

theorem flushed7 : (dats m 0 c).flushed 7 t = ((cfg0.win 7).blk t).view.read (Elt Ideal) (G7 m c) := by
  rw [Value.flushed7]
  funext y
  obtain ⟨a, f, r, rfl⟩ : ∃ (a : Fin 1) (f : Fin 512) (r : Fin 512), y = ix3 a f r := ⟨y 0, y 1, y 2, by funext k; fin_cases k <;> rfl⟩
  obtain rfl : a = 0 := Subsingleton.elim _ _
  show (outsAt0 m c t.val t.isLt).1 (ix3 0 f r) = G7 m c (((cfg0.win 7).blk t).view.emb (ix3 0 f r))
  rw [emb7]
  exact at7 m c t f r

theorem covered7 (i : S8x512x4096.Idx) : ∃ t : Fin cfg0.N, (cfg0.win 7).flush t = true ∧ i ∈ ((cfg0.win 7).blk t).view.set := by
  obtain ⟨b, f, s, rfl⟩ : ∃ (b : Fin 8) (f : Fin 512) (s : Fin 4096), i = ix3 b f s := ⟨i 0, i 1, i 2, by funext k; fin_cases k <;> rfl⟩
  have hs := s.isLt
  obtain ⟨t, e0, hq⟩ := cover_pt b ⟨s.val / 512, by omega⟩
  have h1 : (cs t).val = s.val / 512 := congrArg Fin.val hq
  refine ⟨t, flush0_7 t, ?_⟩
  have hm := ((cfg0.win 7).blk t).view.emb_mem_set (ix3 0 f ⟨s.val % 512, by omega⟩)
  rw [emb7] at hm
  have e1 : pos t ⟨s.val % 512, by omega⟩ = s := Fin.ext (by show 512 * (cs t).val + s.val % 512 = s.val; omega)
  rwa [e0, e1] at hm

theorem final7 : (dats m 0 c).arrAt 7 cfg0.N = G7 m c :=
  (dats m 0 c).arrAt_eq_of_cover 7 (G7 m c) (fun t _ => flushed7 m c t) covered7

/-- Result 1 of the call. -/
def G8 : Vec Ideal S8x4096x512 .bf16 := arr3 (fun (b : Fin 8) (s : Fin 4096) (f : Fin 512) => prj (pX m c) (pW m c) b s ⟨512 + f.val, by omega⟩)

theorem at8 (r : Fin 512) (f : Fin 512) : (outsAt0 m c t.val t.isLt).2.1 (ix3 0 r f) = G8 m c (ix3 (cb t) (pos t r) f) := by
  by_cases h0 : t.val % 8 = 0
  · rw [outsAt0_A m c t h0]
    dsimp only
    refine (oA8 c (grid0.coords t) _ _ _ _ _ _ _ _ r f).trans ?_
    exact bp_a m c t r _ _ (by show 512 + f.val < 1536; omega) rfl
  · rw [outsAt0_B m c t h0]
    dsimp only
    refine (oB8 c (grid0.coords t) _ _ _ _ _ _ _ _ _ r f).trans ?_
    exact bp_a m c t r _ _ (by show 512 + f.val < 1536; omega) rfl

theorem flushed8 : (dats m 0 c).flushed 8 t = ((cfg0.win 8).blk t).view.read (Elt Ideal) (G8 m c) := by
  rw [Value.flushed8]
  funext y
  obtain ⟨a, r, f, rfl⟩ : ∃ (a : Fin 1) (r : Fin 512) (f : Fin 512), y = ix3 a r f := ⟨y 0, y 1, y 2, by funext k; fin_cases k <;> rfl⟩
  obtain rfl : a = 0 := Subsingleton.elim _ _
  show (outsAt0 m c t.val t.isLt).2.1 (ix3 0 r f) = G8 m c (((cfg0.win 8).blk t).view.emb (ix3 0 r f))
  rw [emb8]
  exact at8 m c t r f

theorem covered8 (i : S8x4096x512.Idx) : ∃ t : Fin cfg0.N, (cfg0.win 8).flush t = true ∧ i ∈ ((cfg0.win 8).blk t).view.set := by
  obtain ⟨b, s, f, rfl⟩ : ∃ (b : Fin 8) (s : Fin 4096) (f : Fin 512), i = ix3 b s f := ⟨i 0, i 1, i 2, by funext k; fin_cases k <;> rfl⟩
  have hs := s.isLt
  obtain ⟨t, e0, hq⟩ := cover_pt b ⟨s.val / 512, by omega⟩
  have h1 : (cs t).val = s.val / 512 := congrArg Fin.val hq
  refine ⟨t, flush0_8 t, ?_⟩
  have hm := ((cfg0.win 8).blk t).view.emb_mem_set (ix3 0 ⟨s.val % 512, by omega⟩ f)
  rw [emb8] at hm
  have e1 : pos t ⟨s.val % 512, by omega⟩ = s := Fin.ext (by show 512 * (cs t).val + s.val % 512 = s.val; omega)
  rwa [e0, e1] at hm

theorem final8 : (dats m 0 c).arrAt 8 cfg0.N = G8 m c :=
  (dats m 0 c).arrAt_eq_of_cover 8 (G8 m c) (fun t _ => flushed8 m c t) covered8

/-- Result 2 of the call. -/
def G9 : Vec Ideal S8x512x4096 .f32 := arr3 (fun (b : Fin 8) (f : Fin 512) (s : Fin 4096) => prj (pX m c) (pW m c) b s ⟨512 + f.val, by omega⟩)

theorem at9 (f r : Fin 512) : (outsAt0 m c t.val t.isLt).2.2.1 (ix3 0 f r) = G9 m c (ix3 (cb t) f (pos t r)) := by
  by_cases h0 : t.val % 8 = 0
  · rw [outsAt0_A m c t h0]
    dsimp only
    refine (oA9 c (grid0.coords t) _ _ _ _ _ _ _ _ f r).trans ?_
    exact bp_a m c t r _ _ (by show 512 + f.val < 1536; omega) rfl
  · rw [outsAt0_B m c t h0]
    dsimp only
    refine (oB9 c (grid0.coords t) _ _ _ _ _ _ _ _ _ f r).trans ?_
    exact bp_a m c t r _ _ (by show 512 + f.val < 1536; omega) rfl

theorem flushed9 : (dats m 0 c).flushed 9 t = ((cfg0.win 9).blk t).view.read (Elt Ideal) (G9 m c) := by
  rw [Value.flushed9]
  funext y
  obtain ⟨a, f, r, rfl⟩ : ∃ (a : Fin 1) (f : Fin 512) (r : Fin 512), y = ix3 a f r := ⟨y 0, y 1, y 2, by funext k; fin_cases k <;> rfl⟩
  obtain rfl : a = 0 := Subsingleton.elim _ _
  show (outsAt0 m c t.val t.isLt).2.2.1 (ix3 0 f r) = G9 m c (((cfg0.win 9).blk t).view.emb (ix3 0 f r))
  rw [emb9]
  exact at9 m c t f r

theorem covered9 (i : S8x512x4096.Idx) : ∃ t : Fin cfg0.N, (cfg0.win 9).flush t = true ∧ i ∈ ((cfg0.win 9).blk t).view.set := by
  obtain ⟨b, f, s, rfl⟩ : ∃ (b : Fin 8) (f : Fin 512) (s : Fin 4096), i = ix3 b f s := ⟨i 0, i 1, i 2, by funext k; fin_cases k <;> rfl⟩
  have hs := s.isLt
  obtain ⟨t, e0, hq⟩ := cover_pt b ⟨s.val / 512, by omega⟩
  have h1 : (cs t).val = s.val / 512 := congrArg Fin.val hq
  refine ⟨t, flush0_9 t, ?_⟩
  have hm := ((cfg0.win 9).blk t).view.emb_mem_set (ix3 0 f ⟨s.val % 512, by omega⟩)
  rw [emb9] at hm
  have e1 : pos t ⟨s.val % 512, by omega⟩ = s := Fin.ext (by show 512 * (cs t).val + s.val % 512 = s.val; omega)
  rwa [e0, e1] at hm

theorem final9 : (dats m 0 c).arrAt 9 cfg0.N = G9 m c :=
  (dats m 0 c).arrAt_eq_of_cover 9 (G9 m c) (fun t _ => flushed9 m c t) covered9

/-- Result 3 of the call. -/
def G10 : Vec Ideal S8x512x4096 .f32 := arr3 (fun (b : Fin 8) (f : Fin 512) (s : Fin 4096) => prj (pX m c) (pW m c) b s ⟨1024 + f.val, by omega⟩)

theorem at10 (f r : Fin 512) : (outsAt0 m c t.val t.isLt).2.2.2.1 (ix3 0 f r) = G10 m c (ix3 (cb t) f (pos t r)) := by
  by_cases h0 : t.val % 8 = 0
  · rw [outsAt0_A m c t h0]
    dsimp only
    refine (oA10 c (grid0.coords t) _ _ _ _ _ _ _ _ f r).trans ?_
    exact bp_a m c t r _ _ (by show 1024 + f.val < 1536; omega) rfl
  · rw [outsAt0_B m c t h0]
    dsimp only
    refine (oB10 c (grid0.coords t) _ _ _ _ _ _ _ _ _ f r).trans ?_
    exact bp_a m c t r _ _ (by show 1024 + f.val < 1536; omega) rfl

theorem flushed10 : (dats m 0 c).flushed 10 t = ((cfg0.win 10).blk t).view.read (Elt Ideal) (G10 m c) := by
  rw [Value.flushed10]
  funext y
  obtain ⟨a, f, r, rfl⟩ : ∃ (a : Fin 1) (f : Fin 512) (r : Fin 512), y = ix3 a f r := ⟨y 0, y 1, y 2, by funext k; fin_cases k <;> rfl⟩
  obtain rfl : a = 0 := Subsingleton.elim _ _
  show (outsAt0 m c t.val t.isLt).2.2.2.1 (ix3 0 f r) = G10 m c (((cfg0.win 10).blk t).view.emb (ix3 0 f r))
  rw [emb10]
  exact at10 m c t f r

theorem covered10 (i : S8x512x4096.Idx) : ∃ t : Fin cfg0.N, (cfg0.win 10).flush t = true ∧ i ∈ ((cfg0.win 10).blk t).view.set := by
  obtain ⟨b, f, s, rfl⟩ : ∃ (b : Fin 8) (f : Fin 512) (s : Fin 4096), i = ix3 b f s := ⟨i 0, i 1, i 2, by funext k; fin_cases k <;> rfl⟩
  have hs := s.isLt
  obtain ⟨t, e0, hq⟩ := cover_pt b ⟨s.val / 512, by omega⟩
  have h1 : (cs t).val = s.val / 512 := congrArg Fin.val hq
  refine ⟨t, flush0_10 t, ?_⟩
  have hm := ((cfg0.win 10).blk t).view.emb_mem_set (ix3 0 f ⟨s.val % 512, by omega⟩)
  rw [emb10] at hm
  have e1 : pos t ⟨s.val % 512, by omega⟩ = s := Fin.ext (by show 512 * (cs t).val + s.val % 512 = s.val; omega)
  rwa [e0, e1] at hm

theorem final10 : (dats m 0 c).arrAt 10 cfg0.N = G10 m c :=
  (dats m 0 c).arrAt_eq_of_cover 10 (G10 m c) (fun t _ => flushed10 m c t) covered10

/-- Result 4 of the call. -/
def G11 : Vec Ideal S8x512x4096 .bf16 := arr3 (fun (b : Fin 8) (f : Fin 512) (s : Fin 4096) => prj (pX m c) (pW m c) b s ⟨1024 + f.val, by omega⟩)

theorem at11 (f r : Fin 512) : (outsAt0 m c t.val t.isLt).2.2.2.2.1 (ix3 0 f r) = G11 m c (ix3 (cb t) f (pos t r)) := by
  by_cases h0 : t.val % 8 = 0
  · rw [outsAt0_A m c t h0]
    dsimp only
    refine (oA11 c (grid0.coords t) _ _ _ _ _ _ _ _ f r).trans ?_
    exact bp_a m c t r _ _ (by show 1024 + f.val < 1536; omega) rfl
  · rw [outsAt0_B m c t h0]
    dsimp only
    refine (oB11 c (grid0.coords t) _ _ _ _ _ _ _ _ _ f r).trans ?_
    exact bp_a m c t r _ _ (by show 1024 + f.val < 1536; omega) rfl

theorem flushed11 : (dats m 0 c).flushed 11 t = ((cfg0.win 11).blk t).view.read (Elt Ideal) (G11 m c) := by
  rw [Value.flushed11]
  funext y
  obtain ⟨a, f, r, rfl⟩ : ∃ (a : Fin 1) (f : Fin 512) (r : Fin 512), y = ix3 a f r := ⟨y 0, y 1, y 2, by funext k; fin_cases k <;> rfl⟩
  obtain rfl : a = 0 := Subsingleton.elim _ _
  show (outsAt0 m c t.val t.isLt).2.2.2.2.1 (ix3 0 f r) = G11 m c (((cfg0.win 11).blk t).view.emb (ix3 0 f r))
  rw [emb11]
  exact at11 m c t f r

theorem covered11 (i : S8x512x4096.Idx) : ∃ t : Fin cfg0.N, (cfg0.win 11).flush t = true ∧ i ∈ ((cfg0.win 11).blk t).view.set := by
  obtain ⟨b, f, s, rfl⟩ : ∃ (b : Fin 8) (f : Fin 512) (s : Fin 4096), i = ix3 b f s := ⟨i 0, i 1, i 2, by funext k; fin_cases k <;> rfl⟩
  have hs := s.isLt
  obtain ⟨t, e0, hq⟩ := cover_pt b ⟨s.val / 512, by omega⟩
  have h1 : (cs t).val = s.val / 512 := congrArg Fin.val hq
  refine ⟨t, flush0_11 t, ?_⟩
  have hm := ((cfg0.win 11).blk t).view.emb_mem_set (ix3 0 f ⟨s.val % 512, by omega⟩)
  rw [emb11] at hm
  have e1 : pos t ⟨s.val % 512, by omega⟩ = s := Fin.ext (by show 512 * (cs t).val + s.val % 512 = s.val; omega)
  rwa [e0, e1] at hm

theorem final11 : (dats m 0 c).arrAt 11 cfg0.N = G11 m c :=
  (dats m 0 c).arrAt_eq_of_cover 11 (G11 m c) (fun t _ => flushed11 m c t) covered11

/-- Result 5 of the call. -/
def G12 : Vec Ideal S8x4096x128 .f32 := arr3 (fun (b : Fin 8) (s : Fin 4096) (f : Fin 128) => gts (pX m c) (pW m c) (fun k => aF m c (ix1 k)) (fun k => aI m c (ix1 k)) (fun k => aM m c (ix1 k)) b s f)

theorem at12 (r : Fin 512) (f : Fin 128) : (outsAt0 m c t.val t.isLt).2.2.2.2.2.1 (ix3 0 r f) = G12 m c (ix3 (cb t) (pos t r) f) := by
  by_cases h0 : t.val % 8 = 0
  · rw [outsAt0_A m c t h0]
    dsimp only
    refine (oA12 c (grid0.coords t) _ _ _ _ _ _ _ _ r f).trans ?_
    exact gates_eq m c t r f
  · rw [outsAt0_B m c t h0]
    dsimp only
    refine (oB12 c (grid0.coords t) _ _ _ _ _ _ _ _ _ r f).trans ?_
    exact gates_eq m c t r f

theorem flushed12 : (dats m 0 c).flushed 12 t = ((cfg0.win 12).blk t).view.read (Elt Ideal) (G12 m c) := by
  rw [Value.flushed12]
  funext y
  obtain ⟨a, r, f, rfl⟩ : ∃ (a : Fin 1) (r : Fin 512) (f : Fin 128), y = ix3 a r f := ⟨y 0, y 1, y 2, by funext k; fin_cases k <;> rfl⟩
  obtain rfl : a = 0 := Subsingleton.elim _ _
  show (outsAt0 m c t.val t.isLt).2.2.2.2.2.1 (ix3 0 r f) = G12 m c (((cfg0.win 12).blk t).view.emb (ix3 0 r f))
  rw [emb12]
  exact at12 m c t r f

theorem covered12 (i : S8x4096x128.Idx) : ∃ t : Fin cfg0.N, (cfg0.win 12).flush t = true ∧ i ∈ ((cfg0.win 12).blk t).view.set := by
  obtain ⟨b, s, f, rfl⟩ : ∃ (b : Fin 8) (s : Fin 4096) (f : Fin 128), i = ix3 b s f := ⟨i 0, i 1, i 2, by funext k; fin_cases k <;> rfl⟩
  have hs := s.isLt
  obtain ⟨t, e0, hq⟩ := cover_pt b ⟨s.val / 512, by omega⟩
  have h1 : (cs t).val = s.val / 512 := congrArg Fin.val hq
  refine ⟨t, flush0_12 t, ?_⟩
  have hm := ((cfg0.win 12).blk t).view.emb_mem_set (ix3 0 ⟨s.val % 512, by omega⟩ f)
  rw [emb12] at hm
  have e1 : pos t ⟨s.val % 512, by omega⟩ = s := Fin.ext (by show 512 * (cs t).val + s.val % 512 = s.val; omega)
  rwa [e0, e1] at hm

theorem final12 : (dats m 0 c).arrAt 12 cfg0.N = G12 m c :=
  (dats m 0 c).arrAt_eq_of_cover 12 (G12 m c) (fun t _ => flushed12 m c t) covered12

/-- Result 6 of the call. -/
def G13 : Vec Ideal S8x4096x512 .bf16 := arr3 (fun (b : Fin 8) (s : Fin 4096) (f : Fin 512) => cnv (hist (pX m c) (pW m c) b) (fun k j => aC m c (ix2 k j)) (fun j => aB m c (ix1 j)) s.val ⟨f.val, by omega⟩)

theorem at13 (r : Fin 512) (f : Fin 512) : (outsAt0 m c t.val t.isLt).2.2.2.2.2.2.1 (ix3 0 r f) = G13 m c (ix3 (cb t) (pos t r) f) := by
  by_cases h0 : t.val % 8 = 0
  · rw [outsAt0_A m c t h0]
    dsimp only
    refine (oA13 c (grid0.coords t) _ _ _ _ _ _ _ _ r f).trans ?_
    exact cnv_at m c t _ (head_A m c t h0) r ⟨f.val, by omega⟩
  · rw [outsAt0_B m c t h0]
    dsimp only
    refine (oB13 c (grid0.coords t) _ _ _ _ _ _ _ _ _ r f).trans ?_
    exact cnv_at m c t _ (head_B m c t h0) r ⟨f.val, by omega⟩

theorem flushed13 : (dats m 0 c).flushed 13 t = ((cfg0.win 13).blk t).view.read (Elt Ideal) (G13 m c) := by
  rw [Value.flushed13]
  funext y
  obtain ⟨a, r, f, rfl⟩ : ∃ (a : Fin 1) (r : Fin 512) (f : Fin 512), y = ix3 a r f := ⟨y 0, y 1, y 2, by funext k; fin_cases k <;> rfl⟩
  obtain rfl : a = 0 := Subsingleton.elim _ _
  show (outsAt0 m c t.val t.isLt).2.2.2.2.2.2.1 (ix3 0 r f) = G13 m c (((cfg0.win 13).blk t).view.emb (ix3 0 r f))
  rw [emb13]
  exact at13 m c t r f

theorem covered13 (i : S8x4096x512.Idx) : ∃ t : Fin cfg0.N, (cfg0.win 13).flush t = true ∧ i ∈ ((cfg0.win 13).blk t).view.set := by
  obtain ⟨b, s, f, rfl⟩ : ∃ (b : Fin 8) (s : Fin 4096) (f : Fin 512), i = ix3 b s f := ⟨i 0, i 1, i 2, by funext k; fin_cases k <;> rfl⟩
  have hs := s.isLt
  obtain ⟨t, e0, hq⟩ := cover_pt b ⟨s.val / 512, by omega⟩
  have h1 : (cs t).val = s.val / 512 := congrArg Fin.val hq
  refine ⟨t, flush0_13 t, ?_⟩
  have hm := ((cfg0.win 13).blk t).view.emb_mem_set (ix3 0 ⟨s.val % 512, by omega⟩ f)
  rw [emb13] at hm
  have e1 : pos t ⟨s.val % 512, by omega⟩ = s := Fin.ext (by show 512 * (cs t).val + s.val % 512 = s.val; omega)
  rwa [e0, e1] at hm

theorem final13 : (dats m 0 c).arrAt 13 cfg0.N = G13 m c :=
  (dats m 0 c).arrAt_eq_of_cover 13 (G13 m c) (fun t _ => flushed13 m c t) covered13

/-- Result 7 of the call. -/
def G14 : Vec Ideal S8x4096x512 .bf16 := arr3 (fun (b : Fin 8) (s : Fin 4096) (f : Fin 512) => cnv (hist (pX m c) (pW m c) b) (fun k j => aC m c (ix2 k j)) (fun j => aB m c (ix1 j)) s.val ⟨512 + f.val, by omega⟩ * Ideal.ofBits .f32 0x3DB504F3#32)

theorem at14 (r : Fin 512) (f : Fin 512) : (outsAt0 m c t.val t.isLt).2.2.2.2.2.2.2.1 (ix3 0 r f) = G14 m c (ix3 (cb t) (pos t r) f) := by
  by_cases h0 : t.val % 8 = 0
  · rw [outsAt0_A m c t h0]
    dsimp only
    refine (oA14 c (grid0.coords t) _ _ _ _ _ _ _ _ r f).trans ?_
    exact congrArg (· * Ideal.ofBits .f32 0x3DB504F3#32) (cnv_at m c t _ (head_A m c t h0) r ⟨512 + f.val, by omega⟩)
  · rw [outsAt0_B m c t h0]
    dsimp only
    refine (oB14 c (grid0.coords t) _ _ _ _ _ _ _ _ _ r f).trans ?_
    exact congrArg (· * Ideal.ofBits .f32 0x3DB504F3#32) (cnv_at m c t _ (head_B m c t h0) r ⟨512 + f.val, by omega⟩)

theorem flushed14 : (dats m 0 c).flushed 14 t = ((cfg0.win 14).blk t).view.read (Elt Ideal) (G14 m c) := by
  rw [Value.flushed14]
  funext y
  obtain ⟨a, r, f, rfl⟩ : ∃ (a : Fin 1) (r : Fin 512) (f : Fin 512), y = ix3 a r f := ⟨y 0, y 1, y 2, by funext k; fin_cases k <;> rfl⟩
  obtain rfl : a = 0 := Subsingleton.elim _ _
  show (outsAt0 m c t.val t.isLt).2.2.2.2.2.2.2.1 (ix3 0 r f) = G14 m c (((cfg0.win 14).blk t).view.emb (ix3 0 r f))
  rw [emb14]
  exact at14 m c t r f

theorem covered14 (i : S8x4096x512.Idx) : ∃ t : Fin cfg0.N, (cfg0.win 14).flush t = true ∧ i ∈ ((cfg0.win 14).blk t).view.set := by
  obtain ⟨b, s, f, rfl⟩ : ∃ (b : Fin 8) (s : Fin 4096) (f : Fin 512), i = ix3 b s f := ⟨i 0, i 1, i 2, by funext k; fin_cases k <;> rfl⟩
  have hs := s.isLt
  obtain ⟨t, e0, hq⟩ := cover_pt b ⟨s.val / 512, by omega⟩
  have h1 : (cs t).val = s.val / 512 := congrArg Fin.val hq
  refine ⟨t, flush0_14 t, ?_⟩
  have hm := ((cfg0.win 14).blk t).view.emb_mem_set (ix3 0 ⟨s.val % 512, by omega⟩ f)
  rw [emb14] at hm
  have e1 : pos t ⟨s.val % 512, by omega⟩ = s := Fin.ext (by show 512 * (cs t).val + s.val % 512 = s.val; omega)
  rwa [e0, e1] at hm

theorem final14 : (dats m 0 c).arrAt 14 cfg0.N = G14 m c :=
  (dats m 0 c).arrAt_eq_of_cover 14 (G14 m c) (fun t _ => flushed14 m c t) covered14

/-- Result 8 of the call. -/
def G15 : Vec Ideal S8x4096x512 .bf16 := arr3 (fun (b : Fin 8) (s : Fin 4096) (f : Fin 512) => prj (pX m c) (pW m c) b s ⟨2568 + f.val, by omega⟩)

theorem at15 (r : Fin 512) (f : Fin 512) : (outsAt0 m c t.val t.isLt).2.2.2.2.2.2.2.2.1 (ix3 0 r f) = G15 m c (ix3 (cb t) (pos t r) f) := by
  by_cases h0 : t.val % 8 = 0
  · rw [outsAt0_A m c t h0]
    dsimp only
    refine (oA15 c (grid0.coords t) _ _ _ _ _ _ _ _ r f).trans ?_
    exact bp_b m c t r _ _ (by show 1536 ≤ 2560 + f.val; omega) (by show 2560 + f.val < 3072; omega) (by show 2568 + f.val = 2560 + f.val + 8; omega)
  · rw [outsAt0_B m c t h0]
    dsimp only
    refine (oB15 c (grid0.coords t) _ _ _ _ _ _ _ _ _ r f).trans ?_
    exact bp_b m c t r _ _ (by show 1536 ≤ 2560 + f.val; omega) (by show 2560 + f.val < 3072; omega) (by show 2568 + f.val = 2560 + f.val + 8; omega)

theorem flushed15 : (dats m 0 c).flushed 15 t = ((cfg0.win 15).blk t).view.read (Elt Ideal) (G15 m c) := by
  rw [Value.flushed15]
  funext y
  obtain ⟨a, r, f, rfl⟩ : ∃ (a : Fin 1) (r : Fin 512) (f : Fin 512), y = ix3 a r f := ⟨y 0, y 1, y 2, by funext k; fin_cases k <;> rfl⟩
  obtain rfl : a = 0 := Subsingleton.elim _ _
  show (outsAt0 m c t.val t.isLt).2.2.2.2.2.2.2.2.1 (ix3 0 r f) = G15 m c (((cfg0.win 15).blk t).view.emb (ix3 0 r f))
  rw [emb15]
  exact at15 m c t r f

theorem covered15 (i : S8x4096x512.Idx) : ∃ t : Fin cfg0.N, (cfg0.win 15).flush t = true ∧ i ∈ ((cfg0.win 15).blk t).view.set := by
  obtain ⟨b, s, f, rfl⟩ : ∃ (b : Fin 8) (s : Fin 4096) (f : Fin 512), i = ix3 b s f := ⟨i 0, i 1, i 2, by funext k; fin_cases k <;> rfl⟩
  have hs := s.isLt
  obtain ⟨t, e0, hq⟩ := cover_pt b ⟨s.val / 512, by omega⟩
  have h1 : (cs t).val = s.val / 512 := congrArg Fin.val hq
  refine ⟨t, flush0_15 t, ?_⟩
  have hm := ((cfg0.win 15).blk t).view.emb_mem_set (ix3 0 ⟨s.val % 512, by omega⟩ f)
  rw [emb15] at hm
  have e1 : pos t ⟨s.val % 512, by omega⟩ = s := Fin.ext (by show 512 * (cs t).val + s.val % 512 = s.val; omega)
  rwa [e0, e1] at hm

theorem final15 : (dats m 0 c).arrAt 15 cfg0.N = G15 m c :=
  (dats m 0 c).arrAt_eq_of_cover 15 (G15 m c) (fun t _ => flushed15 m c t) covered15

/-- Result 9 of the call. -/
def G16 : Vec Ideal S8x4096x512 .bf16 := arr3 (fun (b : Fin 8) (s : Fin 4096) (f : Fin 512) => Ideal.logistic (prj (pX m c) (pW m c) b s ⟨3088 + f.val, by omega⟩ + aO m c (ix1 f)))

theorem at16 (r : Fin 512) (f : Fin 512) : (outsAt0 m c t.val t.isLt).2.2.2.2.2.2.2.2.2.1 (ix3 0 r f) = G16 m c (ix3 (cb t) (pos t r) f) := by
  by_cases h0 : t.val % 8 = 0
  · rw [outsAt0_A m c t h0]
    dsimp only
    refine (oA16 c (grid0.coords t) _ _ _ _ _ _ _ _ r f).trans ?_
    exact congrArg Ideal.logistic (congrArg₂ (· + ·) (bp_c m c t r f) ((b3_apply m c t 0 f).trans (V12_apply m c f)))
  · rw [outsAt0_B m c t h0]
    dsimp only
    refine (oB16 c (grid0.coords t) _ _ _ _ _ _ _ _ _ r f).trans ?_
    exact congrArg Ideal.logistic (congrArg₂ (· + ·) (bp_c m c t r f) ((b3_apply m c t 0 f).trans (V12_apply m c f)))

theorem flushed16 : (dats m 0 c).flushed 16 t = ((cfg0.win 16).blk t).view.read (Elt Ideal) (G16 m c) := by
  rw [Value.flushed16]
  funext y
  obtain ⟨a, r, f, rfl⟩ : ∃ (a : Fin 1) (r : Fin 512) (f : Fin 512), y = ix3 a r f := ⟨y 0, y 1, y 2, by funext k; fin_cases k <;> rfl⟩
  obtain rfl : a = 0 := Subsingleton.elim _ _
  show (outsAt0 m c t.val t.isLt).2.2.2.2.2.2.2.2.2.1 (ix3 0 r f) = G16 m c (((cfg0.win 16).blk t).view.emb (ix3 0 r f))
  rw [emb16]
  exact at16 m c t r f

theorem covered16 (i : S8x4096x512.Idx) : ∃ t : Fin cfg0.N, (cfg0.win 16).flush t = true ∧ i ∈ ((cfg0.win 16).blk t).view.set := by
  obtain ⟨b, s, f, rfl⟩ : ∃ (b : Fin 8) (s : Fin 4096) (f : Fin 512), i = ix3 b s f := ⟨i 0, i 1, i 2, by funext k; fin_cases k <;> rfl⟩
  have hs := s.isLt
  obtain ⟨t, e0, hq⟩ := cover_pt b ⟨s.val / 512, by omega⟩
  have h1 : (cs t).val = s.val / 512 := congrArg Fin.val hq
  refine ⟨t, flush0_16 t, ?_⟩
  have hm := ((cfg0.win 16).blk t).view.emb_mem_set (ix3 0 ⟨s.val % 512, by omega⟩ f)
  rw [emb16] at hm
  have e1 : pos t ⟨s.val % 512, by omega⟩ = s := Fin.ext (by show 512 * (cs t).val + s.val % 512 = s.val; omega)
  rwa [e0, e1] at hm

theorem final16 : (dats m 0 c).arrAt 16 cfg0.N = G16 m c :=
  (dats m 0 c).arrAt_eq_of_cover 16 (G16 m c) (fun t _ => flushed16 m c t) covered16

/-- Result 10 of the call. -/
def G17 : Vec Ideal S8x8x1024 .f32 := arr3 (fun (b : Fin 8) (p : Fin 8) (j : Fin 1024) => hist (pX m c) (pW m c) b (4096 + p.val) j)

theorem at17 (h : t.val % 8 = 7) (p : Fin 8) (j : Fin 1024) : (outsAt0 m c t.val t.isLt).2.2.2.2.2.2.2.2.2.2.1 (ix3 0 p j) = G17 m c (ix3 (cb t) p j) := by
  rw [outsAt0_B m c t (by omega)]
  dsimp only
  refine (oB17 c (grid0.coords t) _ _ _ _ _ _ _ _ _ p j).trans ?_
  have e1 : (cs t).val = 7 := by rw [cs_eq, h]
  show _ = hist (pX m c) (pW m c) (cb t) (4096 + p.val) j
  rw [hist_hi _ _ _ _ _ (pos t ⟨504 + p.val, by omega⟩) (by show 4096 + p.val = 512 * (cs t).val + (504 + p.val) + 8; omega)]
  exact bp_b m c t _ _ _ (by show 1536 ≤ 1536 + j.val; omega) (by show 1536 + j.val < 3072; omega) (by show 1544 + j.val = 1536 + j.val + 8; omega)

theorem flushed17 (hf : (cfg0.win 17).flush t = true) : (dats m 0 c).flushed 17 t = ((cfg0.win 17).blk t).view.read (Elt Ideal) (G17 m c) := by
  rw [Value.flushed17]
  funext y
  obtain ⟨a, p, j, rfl⟩ : ∃ (a : Fin 1) (p : Fin 8) (j : Fin 1024), y = ix3 a p j := ⟨y 0, y 1, y 2, by funext k; fin_cases k <;> rfl⟩
  obtain rfl : a = 0 := Subsingleton.elim _ _
  show (outsAt0 m c t.val t.isLt).2.2.2.2.2.2.2.2.2.2.1 (ix3 0 p j) = G17 m c (((cfg0.win 17).blk t).view.emb (ix3 0 p j))
  rw [emb17]
  exact at17 m c t ((flush0_17 t).mp hf) p j

theorem covered17 (i : S8x8x1024.Idx) : ∃ t : Fin cfg0.N, (cfg0.win 17).flush t = true ∧ i ∈ ((cfg0.win 17).blk t).view.set := by
  obtain ⟨b, p, j, rfl⟩ : ∃ (b p : Fin 8) (j : Fin 1024), i = ix3 b p j := ⟨i 0, i 1, i 2, by funext k; fin_cases k <;> rfl⟩
  obtain ⟨t, e0, hq⟩ := cover_pt b 7
  refine ⟨t, (flush0_17 t).mpr ?_, ?_⟩
  · rw [← cs_eq t, hq]; rfl
  have hm := ((cfg0.win 17).blk t).view.emb_mem_set (ix3 0 p j)
  rw [emb17] at hm
  rwa [e0] at hm

theorem final17 : (dats m 0 c).arrAt 17 cfg0.N = G17 m c :=
  (dats m 0 c).arrAt_eq_of_cover 17 (G17 m c) (fun t ht => flushed17 m c t ht) covered17

end Cert.Kernel3Ideal.Inp
-- ==== Proof.Inp.Ref.lean ====
/- The projection as plainly written, element by element. -/
module

public import proofs.«01_k».proof.Proof.Inp.Math
public import proofs.«01_k».proof.Proof.Gen.Reference3Ideal.Run
public import Idealize.ShloMosaic.Lib.Pointwise

@[expose] public section

set_option maxRecDepth 16384

noncomputable section

namespace Cert.Reference3Ideal.Inp

open Idealize.ShloMosaic Idealize.ShloMosaic.TcCoe Idealize.SL.Sem Cert.Reference3Ideal Cert.Reference3Ideal.Gen Facts _root_.Inp.Math

/-- The logistic's logarithm, as written. -/
def lsT (S : Shape) (h0 : S_.BroadcastsInDim S (![] : Fin 0 → Fin S.rank)) (y : FVec Ideal S .f32) : FVec Ideal S .f32 :=
  Host.negf (select (cmpf .une (subf (Host.negf y) (broadcastInDim S ![] h0 (constant S_ .f32 0x00000000#32))) (subf (Host.negf y) (broadcastInDim S ![] h0 (constant S_ .f32 0x00000000#32))))
    (addf (Host.negf y) (broadcastInDim S ![] h0 (constant S_ .f32 0x00000000#32)))
    (addf (maximumf (Host.negf y) (broadcastInDim S ![] h0 (constant S_ .f32 0x00000000#32)))
      (Host.log1p (Host.exp (Host.negf (Host.absf (subf (Host.negf y) (broadcastInDim S ![] h0 (constant S_ .f32 0x00000000#32)))))))))

theorem zero_eq : Ideal.ofBits .f32 0x00000000#32 = 0 := by
  simp [Ideal.ofBits, Ideal.ieee]

theorem one_eq : Ideal.ofBits .f32 0x3F800000#32 = 1 := by
  simp [Ideal.ofBits, Ideal.ieee, -EReal.coe_mul]
  norm_num

theorem une_self (a x y : EReal) : Scalar.select (Ideal.cmp .une a a) x y = y := by
  have h : Ideal.cmp .une a a = 0#1 := by simp [Ideal.cmp]
  rw [h]
  rfl

theorem lsT_apply (S : Shape) (h0 : S_.BroadcastsInDim S (![] : Fin 0 → Fin S.rank)) (y : FVec Ideal S .f32) (i : S.Idx) :
    lsT S h0 y i = lsig (y i) := by
  refine Eq.trans ?_ (lsig_eq (y i))
  show -(Scalar.select (Ideal.cmp .une (-y i - Ideal.ofBits .f32 0x00000000#32) (-y i - Ideal.ofBits .f32 0x00000000#32)) _
    (max (-y i) (Ideal.ofBits .f32 0x00000000#32) + Ideal.log1p (Ideal.exp (-FloatOps.absf (F := Ideal) (φ := .f32) (-y i - Ideal.ofBits .f32 0x00000000#32))))) = _
  rw [une_self, zero_eq]

def dT (X : FVec Ideal S8x4096x1024 .f32) (W : FVec Ideal S1024x3600 .f32) : FVec Ideal S8x4096x3600 .f32 :=
  Host.dotGeneral dot_S8x4096x1024_S1024x3600_S8x4096x3600_2_0_01_1_n_n none X W

theorem scale_eq (z : EReal) : Ideal.div (z * Ideal.ofBits .f32 0x3E000000#32) (Ideal.log (Ideal.ofBits .f32 0x40000000#32)) = z * (((Real.log 256)⁻¹ : ℝ) : EReal) := by
  have h2 : Ideal.ofBits .f32 0x40000000#32 = ((2 : ℝ) : EReal) := by
    simp [Ideal.ofBits, Ideal.ieee, -EReal.coe_mul]; norm_num
  have h8 : Ideal.ofBits .f32 0x3E000000#32 = ((1 / 8 : ℝ) : EReal) := by
    simp [Ideal.ofBits, Ideal.ieee, -EReal.coe_mul]; norm_num
  have hl : Ideal.log ((2 : ℝ) : EReal) = ((Real.log 2 : ℝ) : EReal) := by
    show (if (2 : ℝ) ≤ 0 then ⊥ else ((Real.log 2 : ℝ) : EReal)) = _
    rw [if_neg (by norm_num)]
  have hp : (0 : ℝ) < Real.log 2 := Real.log_pos (by norm_num)
  have h256 : Real.log 256 = 8 * Real.log 2 := by
    rw [show (256 : ℝ) = 2 ^ 8 by norm_num, Real.log_pow]; norm_num
  rw [h2, h8, hl]
  unfold Ideal.div
  rw [if_neg (by exact_mod_cast hp.ne'), mul_assoc, ← EReal.coe_inv, ← EReal.coe_mul, h256]
  congr 2
  rw [mul_inv]
  norm_num

theorem dT_apply (X : FVec Ideal S8x4096x1024 .f32) (W : FVec Ideal S1024x3600 .f32) (b : Fin 8) (s : Fin 4096) (k : Fin 3600) :
    dT X W (ix3 b s k) = prj (fun b s d => X (ix3 b s d)) (fun d k => W (ix2 d k)) b s k := by
  pointwise [dT]
  rfl

/-- The gates, as written. -/
def gT (X : FVec Ideal S8x4096x1024 .f32) (W : FVec Ideal S1024x3600 .f32) (bf : FVec Ideal S8 .f32) (bi bm : FVec Ideal S4 .f32) : FVec Ideal S8x4096x128 .f32 :=
  concatenate S8x4096x128 2 [
    ⟨S8x4096x8, lsT S8x4096x8 bcast_S_S8x4096x8 (addf (extractStridedSlice S8x4096x8 ![0, 0, 1536] (dT X W) slices_S8x4096x3600_S8x4096x8_0_0_1536) (broadcastInDim S8x4096x8 ![0, 1, 2] bcast_S1x1x8_S8x4096x8_0_1_2 (broadcastInDim S1x1x8 ![2] bcast_S8_S1x1x8_2 bf)))⟩,
    ⟨S8x4096x4, addf (extractStridedSlice S8x4096x4 ![0, 0, 3080] (dT X W) slices_S8x4096x3600_S8x4096x4_0_0_3080) (broadcastInDim S8x4096x4 ![0, 1, 2] bcast_S1x1x4_S8x4096x4_0_1_2 (broadcastInDim S1x1x4 ![2] bcast_S4_S1x1x4_2 bi))⟩,
    ⟨S8x4096x4, lsT S8x4096x4 bcast_S_S8x4096x4 (addf (extractStridedSlice S8x4096x4 ![0, 0, 3084] (dT X W) slices_S8x4096x3600_S8x4096x4_0_0_3084) (broadcastInDim S8x4096x4 ![0, 1, 2] bcast_S1x1x4_S8x4096x4_0_1_2 (broadcastInDim S1x1x4 ![2] bcast_S4_S1x1x4_2 bm)))⟩,
    ⟨S8x4096x112, lsT S8x4096x112 bcast_S_S8x4096x112 (broadcastInDim S8x4096x112 ![] bcast_S_S8x4096x112 (constant S_ .f32 0x00000000#32))⟩]
    concatenates_S8x4096x8_S8x4096x4_S8x4096x4_S8x4096x112_S8x4096x128_d2

/-- The positions to convolve, three rows of zeros before them. -/
def pT (X : FVec Ideal S8x4096x1024 .f32) (W : FVec Ideal S1024x3600 .f32) : FVec Ideal S8x4099x1024 .f32 :=
  concatenate S8x4099x1024 1 [⟨S8x3x1024, (broadcastInDim S8x3x1024 ![] bcast_S_S8x3x1024 (constant S_ .f32 0x00000000#32))⟩, ⟨S8x4096x1024, (extractStridedSlice S8x4096x1024 ![0, 0, 1544] (dT X W) slices_S8x4096x3600_S8x4096x1024_0_0_1544)⟩] concatenates_S8x3x1024_S8x4096x1024_S8x4099x1024_d1

/-- The convolution, as written. -/
def uT (P : FVec Ideal S8x4099x1024 .f32) (CW : FVec Ideal S4x1024 .f32) (CB : FVec Ideal S1024 .f32) : FVec Ideal S8x4096x1024 .f32 :=
  addf (addf (addf (addf (broadcastInDim S8x4096x1024 ![0, 1, 2] bcast_S1x1x1024_S8x4096x1024_0_1_2 (broadcastInDim S1x1x1024 ![2] bcast_S1024_S1x1x1024_2 CB))
    (mulf (extractStridedSlice S8x4096x1024 ![0, 0, 0] P slices_S8x4099x1024_S8x4096x1024_0_0_0) (broadcastInDim S8x4096x1024 ![0, 1, 2] bcast_S1x1x1024_S8x4096x1024_0_1_2 (broadcastInDim S1x1x1024 ![2] bcast_S1024_S1x1x1024_2 (shapeCast _ (extractStridedSlice S1x1024 ![0, 0] CW slices_S4x1024_S1x1024_0_0) shapeCasts_S1x1024_S1024)))))
    (mulf (extractStridedSlice S8x4096x1024 ![0, 1, 0] P slices_S8x4099x1024_S8x4096x1024_0_1_0) (broadcastInDim S8x4096x1024 ![0, 1, 2] bcast_S1x1x1024_S8x4096x1024_0_1_2 (broadcastInDim S1x1x1024 ![2] bcast_S1024_S1x1x1024_2 (shapeCast _ (extractStridedSlice S1x1024 ![1, 0] CW slices_S4x1024_S1x1024_1_0) shapeCasts_S1x1024_S1024)))))
    (mulf (extractStridedSlice S8x4096x1024 ![0, 2, 0] P slices_S8x4099x1024_S8x4096x1024_0_2_0) (broadcastInDim S8x4096x1024 ![0, 1, 2] bcast_S1x1x1024_S8x4096x1024_0_1_2 (broadcastInDim S1x1x1024 ![2] bcast_S1024_S1x1x1024_2 (shapeCast _ (extractStridedSlice S1x1024 ![2, 0] CW slices_S4x1024_S1x1024_2_0) shapeCasts_S1x1024_S1024)))))
    (mulf (extractStridedSlice S8x4096x1024 ![0, 3, 0] P slices_S8x4099x1024_S8x4096x1024_0_3_0) (broadcastInDim S8x4096x1024 ![0, 1, 2] bcast_S1x1x1024_S8x4096x1024_0_1_2 (broadcastInDim S1x1x1024 ![2] bcast_S1024_S1x1x1024_2 (shapeCast _ (extractStridedSlice S1x1024 ![3, 0] CW slices_S4x1024_S1x1024_3_0) shapeCasts_S1x1024_S1024))))

/-- The activation, as written. -/
def aT (u : FVec Ideal S8x4096x1024 .f32) : FVec Ideal S8x4096x1024 .f32 :=
  mulf u (Host.divf (broadcastInDim S8x4096x1024 ![] bcast_S_S8x4096x1024 (constant S_ .f32 0x3F800000#32)) (addf (broadcastInDim S8x4096x1024 ![] bcast_S_S8x4096x1024 (constant S_ .f32 0x3F800000#32)) (Host.exp (Host.negf u))))

variable (m : (ℓ : Loc nD τ sig) → Buf (Elt Ideal) ℓ) (c : Dev nD)

theorem res69 : Value.res_main_v69 m c = gT (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := rfl

theorem res83 : Value.res_main_v83 m c = truncf .bf16 (extractStridedSlice S8x4096x512 ![0, 0, 0] (aT (uT (pT (m ((c.tc : Thread nD τ).loc main_arg0)) (m ((c.tc : Thread nD τ).loc main_arg1))) (m ((c.tc : Thread nD τ).loc main_arg6)) (m ((c.tc : Thread nD τ).loc main_arg7)))) slices_S8x4096x1024_S8x4096x512_0_0_0) bitsLt_bf16_f32 := rfl

theorem res84 : Value.res_main_v84 m c = truncf .bf16 (mulf (extractStridedSlice S8x4096x512 ![0, 0, 512] (aT (uT (pT (m ((c.tc : Thread nD τ).loc main_arg0)) (m ((c.tc : Thread nD τ).loc main_arg1))) (m ((c.tc : Thread nD τ).loc main_arg6)) (m ((c.tc : Thread nD τ).loc main_arg7)))) slices_S8x4096x1024_S8x4096x512_0_0_512) (broadcastInDim S8x4096x512 ![] bcast_S_S8x4096x512 (constant S_ .f32 0x3DB504F3#32))) bitsLt_bf16_f32 := rfl

theorem g_f (X : FVec Ideal S8x4096x1024 .f32) (W : FVec Ideal S1024x3600 .f32) (bf : FVec Ideal S8 .f32) (bi bm : FVec Ideal S4 .f32) (b : Fin 8) (s : Fin 4096) (k : Fin 8) :
    gT X W bf bi bm (ix3 b s ⟨k.val, by omega⟩) = lsig (dT X W (ix3 b s ⟨1536 + k.val, by omega⟩) + bf (ix1 k)) := by
  pointwise [gT]
  refine (lsT_apply _ _ _ _).trans ?_
  pointwise

theorem g_i (X : FVec Ideal S8x4096x1024 .f32) (W : FVec Ideal S1024x3600 .f32) (bf : FVec Ideal S8 .f32) (bi bm : FVec Ideal S4 .f32) (b : Fin 8) (s : Fin 4096) (k : Fin 4) :
    gT X W bf bi bm (ix3 b s ⟨8 + k.val, by omega⟩) = dT X W (ix3 b s ⟨3080 + k.val, by omega⟩) + bi (ix1 k) := by
  pointwise [gT]

theorem g_m (X : FVec Ideal S8x4096x1024 .f32) (W : FVec Ideal S1024x3600 .f32) (bf : FVec Ideal S8 .f32) (bi bm : FVec Ideal S4 .f32) (b : Fin 8) (s : Fin 4096) (k : Fin 4) :
    gT X W bf bi bm (ix3 b s ⟨12 + k.val, by omega⟩) = lsig (dT X W (ix3 b s ⟨3084 + k.val, by omega⟩) + bm (ix1 k)) := by
  pointwise [gT]
  refine (dif_neg (by omega)).trans ((dif_neg (by omega)).trans ((dif_pos (by omega)).trans ((lsT_apply _ _ _ _).trans ?_)))
  rw [show (⟨12 + k.val - 8 - 4, by omega⟩ : Fin 4) = k from Fin.ext (by simp only []; omega)]
  pointwise

theorem g_z (X : FVec Ideal S8x4096x1024 .f32) (W : FVec Ideal S1024x3600 .f32) (bf : FVec Ideal S8 .f32) (bi bm : FVec Ideal S4 .f32) (b : Fin 8) (s : Fin 4096) (k : Fin 112) :
    gT X W bf bi bm (ix3 b s ⟨16 + k.val, by omega⟩) = lsig 0 := by
  pointwise [gT]
  refine (dif_neg (by omega)).trans ((dif_neg (by omega)).trans ((dif_neg (by omega)).trans ((lsT_apply _ _ _ _).trans ?_)))
  pointwise

theorem gT_apply (X : FVec Ideal S8x4096x1024 .f32) (W : FVec Ideal S1024x3600 .f32) (bf : FVec Ideal S8 .f32) (bi bm : FVec Ideal S4 .f32) (b : Fin 8) (s : Fin 4096) (g : Fin 128) :
    gT X W bf bi bm (ix3 b s g) = gts (fun b s d => X (ix3 b s d)) (fun d k => W (ix2 d k)) (fun k => bf (ix1 k)) (fun k => bi (ix1 k)) (fun k => bm (ix1 k)) b s g := by
  refine gts_cases _ _ _ _ _ b s (fun g => gT X W bf bi bm (ix3 b s g)) (fun k => ?_) (fun k => ?_) (fun k => ?_) (fun k => ?_) g
  · exact (g_f X W bf bi bm b s k).trans (by rw [dT_apply])
  · exact (g_i X W bf bi bm b s k).trans (by rw [dT_apply])
  · exact (g_m X W bf bi bm b s k).trans (by rw [dT_apply])
  · exact g_z X W bf bi bm b s k

theorem p_lo (X : FVec Ideal S8x4096x1024 .f32) (W : FVec Ideal S1024x3600 .f32) (b : Fin 8) (s : Fin 3) (j : Fin 1024) :
    pT X W (ix3 b ⟨s.val, by omega⟩ j) = 0 := by
  pointwise [pT]

theorem p_hi (X : FVec Ideal S8x4096x1024 .f32) (W : FVec Ideal S1024x3600 .f32) (b : Fin 8) (s : Fin 4096) (j : Fin 1024) :
    pT X W (ix3 b ⟨3 + s.val, by omega⟩ j) = dT X W (ix3 b s ⟨1544 + j.val, by omega⟩) := by
  pointwise [pT]

theorem pT_apply (X : FVec Ideal S8x4096x1024 .f32) (W : FVec Ideal S1024x3600 .f32) (b : Fin 8) (n : Fin 4099) (j : Fin 1024) :
    pT X W (ix3 b n j) = hist (fun b s d => X (ix3 b s d)) (fun d k => W (ix2 d k)) b (n.val + 5) j := by
  by_cases h : n.val < 3
  · rw [hist_lo _ _ _ _ _ (by omega)]
    exact p_lo X W b ⟨n.val, h⟩ j
  · rw [hist_hi _ _ _ _ _ (⟨n.val - 3, by omega⟩ : Fin 4096) (by simp only []; omega)]
    refine Eq.trans ?_ ((p_hi X W b ⟨n.val - 3, by omega⟩ j).trans (dT_apply X W b _ _))
    exact congrArg (fun t => pT X W (ix3 b t j)) (Fin.ext (by simp only []; omega))

theorem uT_apply (P : FVec Ideal S8x4099x1024 .f32) (CW : FVec Ideal S4x1024 .f32) (CB : FVec Ideal S1024 .f32) (b : Fin 8) (s : Fin 4096) (j : Fin 1024) :
    uT P CW CB (ix3 b s j) = CB (ix1 j) + P (ix3 b ⟨s.val, by omega⟩ j) * CW (ix2 0 j) + P (ix3 b ⟨1 + s.val, by omega⟩ j) * CW (ix2 1 j)
      + P (ix3 b ⟨2 + s.val, by omega⟩ j) * CW (ix2 2 j) + P (ix3 b ⟨3 + s.val, by omega⟩ j) * CW (ix2 3 j) := by
  pointwise [uT]

theorem aT_apply (u : FVec Ideal S8x4096x1024 .f32) (b : Fin 8) (s : Fin 4096) (j : Fin 1024) :
    aT u (ix3 b s j) = silu (u (ix3 b s j)) := by
  pointwise [aT]
  rfl

theorem act_apply (X : FVec Ideal S8x4096x1024 .f32) (W : FVec Ideal S1024x3600 .f32) (CW : FVec Ideal S4x1024 .f32) (CB : FVec Ideal S1024 .f32) (b : Fin 8) (s : Fin 4096) (j : Fin 1024) :
    aT (uT (pT X W) CW CB) (ix3 b s j) = cnv (hist (fun b s d => X (ix3 b s d)) (fun d k => W (ix2 d k)) b) (fun k j => CW (ix2 k j)) (fun j => CB (ix1 j)) s.val j := by
  rw [aT_apply, uT_apply, pT_apply, pT_apply, pT_apply, pT_apply]
  unfold cnv
  simp only [Nat.add_comm _ s.val, Nat.add_assoc, Nat.reduceAdd]

theorem out0 (X : FVec Ideal S8x4096x1024 .f32) (W : FVec Ideal S1024x3600 .f32) (b : Fin 8) (f : Fin 512) (s : Fin 4096) :
    truncf .bf16 (transpose S8x512x4096 [0, 2, 1] (Host.divf (mulf (extractStridedSlice S8x4096x512 ![0, 0, 0] (dT X W) slices_S8x4096x3600_S8x4096x512_0_0_0) (broadcastInDim S8x4096x512 ![] bcast_S_S8x4096x512 (constant S_ .f32 0x3E000000#32))) (broadcastInDim S8x4096x512 ![] bcast_S_S8x4096x512 (id (Host.log (constant S_ .f32 0x40000000#32))))) transposes_S8x4096x512_S8x512x4096_0_2_1) bitsLt_bf16_f32 (ix3 b f s)
      = prj (fun b s d => X (ix3 b s d)) (fun d k => W (ix2 d k)) b s ⟨f.val, by omega⟩ * (((Real.log 256)⁻¹ : ℝ) : EReal) := by
  pointwise
  rw [dT_apply]
  show Ideal.div (_ * Ideal.ofBits .f32 0x3E000000#32) (Ideal.log (Ideal.ofBits .f32 0x40000000#32)) = _
  exact scale_eq _

theorem out1 (X : FVec Ideal S8x4096x1024 .f32) (W : FVec Ideal S1024x3600 .f32) (b : Fin 8) (s : Fin 4096) (f : Fin 512) :
    truncf .bf16 (extractStridedSlice S8x4096x512 ![0, 0, 512] (dT X W) slices_S8x4096x3600_S8x4096x512_0_0_512) bitsLt_bf16_f32 (ix3 b s f)
      = prj (fun b s d => X (ix3 b s d)) (fun d k => W (ix2 d k)) b s ⟨512 + f.val, by omega⟩ := by
  pointwise
  rw [dT_apply]

theorem out2 (X : FVec Ideal S8x4096x1024 .f32) (W : FVec Ideal S1024x3600 .f32) (b : Fin 8) (f : Fin 512) (s : Fin 4096) :
    transpose S8x512x4096 [0, 2, 1] (extractStridedSlice S8x4096x512 ![0, 0, 512] (dT X W) slices_S8x4096x3600_S8x4096x512_0_0_512) transposes_S8x4096x512_S8x512x4096_0_2_1 (ix3 b f s)
      = prj (fun b s d => X (ix3 b s d)) (fun d k => W (ix2 d k)) b s ⟨512 + f.val, by omega⟩ := by
  pointwise
  rw [dT_apply]

theorem out3 (X : FVec Ideal S8x4096x1024 .f32) (W : FVec Ideal S1024x3600 .f32) (b : Fin 8) (f : Fin 512) (s : Fin 4096) :
    transpose S8x512x4096 [0, 2, 1] (extractStridedSlice S8x4096x512 ![0, 0, 1024] (dT X W) slices_S8x4096x3600_S8x4096x512_0_0_1024) transposes_S8x4096x512_S8x512x4096_0_2_1 (ix3 b f s)
      = prj (fun b s d => X (ix3 b s d)) (fun d k => W (ix2 d k)) b s ⟨1024 + f.val, by omega⟩ := by
  pointwise
  rw [dT_apply]

theorem out8 (X : FVec Ideal S8x4096x1024 .f32) (W : FVec Ideal S1024x3600 .f32) (b : Fin 8) (s : Fin 4096) (f : Fin 512) :
    truncf .bf16 (extractStridedSlice S8x4096x512 ![0, 0, 2568] (dT X W) slices_S8x4096x3600_S8x4096x512_0_0_2568) bitsLt_bf16_f32 (ix3 b s f)
      = prj (fun b s d => X (ix3 b s d)) (fun d k => W (ix2 d k)) b s ⟨2568 + f.val, by omega⟩ := by
  pointwise
  rw [dT_apply]

theorem out9 (X : FVec Ideal S8x4096x1024 .f32) (W : FVec Ideal S1024x3600 .f32) (bo : FVec Ideal S512 .f32) (b : Fin 8) (s : Fin 4096) (f : Fin 512) :
    truncf .bf16 (Host.divf (broadcastInDim S8x4096x512 ![] bcast_S_S8x4096x512 (constant S_ .f32 0x3F800000#32)) (addf (broadcastInDim S8x4096x512 ![] bcast_S_S8x4096x512 (constant S_ .f32 0x3F800000#32)) (Host.exp (Host.negf (addf (extractStridedSlice S8x4096x512 ![0, 0, 3088] (dT X W) slices_S8x4096x3600_S8x4096x512_0_0_3088) (broadcastInDim S8x4096x512 ![0, 1, 2] bcast_S1x1x512_S8x4096x512_0_1_2 (broadcastInDim S1x1x512 ![2] bcast_S512_S1x1x512_2 bo))))))) bitsLt_bf16_f32 (ix3 b s f)
      = Ideal.logistic (prj (fun b s d => X (ix3 b s d)) (fun d k => W (ix2 d k)) b s ⟨3088 + f.val, by omega⟩ + bo (ix1 f)) := by
  pointwise
  rw [dT_apply]
  rfl

theorem out6 (A : FVec Ideal S8x4096x1024 .f32) (b : Fin 8) (s : Fin 4096) (f : Fin 512) :
    truncf .bf16 (extractStridedSlice S8x4096x512 ![0, 0, 0] A slices_S8x4096x1024_S8x4096x512_0_0_0) bitsLt_bf16_f32 (ix3 b s f)
      = A (ix3 b s ⟨f.val, by omega⟩) := by
  pointwise

theorem out7 (A : FVec Ideal S8x4096x1024 .f32) (b : Fin 8) (s : Fin 4096) (f : Fin 512) :
    truncf .bf16 (mulf (extractStridedSlice S8x4096x512 ![0, 0, 512] A slices_S8x4096x1024_S8x4096x512_0_0_512) (broadcastInDim S8x4096x512 ![] bcast_S_S8x4096x512 (constant S_ .f32 0x3DB504F3#32))) bitsLt_bf16_f32 (ix3 b s f)
      = A (ix3 b s ⟨512 + f.val, by omega⟩) * Ideal.ofBits .f32 0x3DB504F3#32 := by
  pointwise

theorem out10 (P : FVec Ideal S8x4099x1024 .f32) (b p : Fin 8) (j : Fin 1024) :
    extractStridedSlice S8x8x1024 ![0, 4091, 0] P slices_S8x4099x1024_S8x8x1024_0_4091_0 (ix3 b p j)
      = P (ix3 b ⟨4091 + p.val, by omega⟩ j) := by
  pointwise

end Cert.Reference3Ideal.Inp
-- ==== Proof.Inp.Claims.lean ====
/- The claims about the projection's call. -/
module

public import proofs.«01_k».proof.Defs
public import proofs.«01_k».proof.Proof.Inp.Arr
public import proofs.«01_k».proof.Proof.Inp.Ref
public import proofs.«01_k».proof.Proof.Gen.Kernel3.Frame
public import Idealize.ShloMosaic.Lib.Quiescent

@[expose] public section

noncomputable section

open Idealize.ShloMosaic Idealize.ShloMosaic.TcCoe Idealize.SL.Sem Inp.Math

namespace Cert.Proof.Inp

theorem frame_p : Cert.quiescent_Kernel3 := fun m ρ _ => Cert.Kernel3.Gen.frame m ρ
theorem frame_pi : Cert.quiescent_Kernel3Ideal := fun m ρ _ => Cert.Kernel3Ideal.Gen.frame m ρ
theorem frame_ri : Cert.quiescent_Reference3Ideal := fun m ρ _ =>
  (θ_run Cert.Reference3Ideal.defs _ _).mono (fun r h => ⟨fun c => (h c).2.2.2.2.2.2.2.2.2.2.2, Idealize.ShloMosaic.sem_eq_zero_of_no_sems (by decide) r.2⟩)
    (Cert.Reference3Ideal.Value.run (F := Ideal) m ρ)

theorem preserves : Cert.preserves_Kernel3_Kernel3Ideal :=
  IdealRules.named_const.statement Cert.Kernel3Ideal.κ "qscale" .f32 0x3E38AA3B#32 (((Real.log 256)⁻¹ : ℝ) : EReal) rfl

section
variable {X X' : Fin 8 → Fin 4096 → Fin 1024 → EReal} {W W' : Fin 1024 → Fin 3600 → EReal} (hX : X = X') (hW : W = W')
include hX hW

theorem prj_congr (b : Fin 8) (s : Fin 4096) (k : Fin 3600) : prj X W b s k = prj X' W' b s k := by rw [hX, hW]

theorem hist_congr (b : Fin 8) (n : ℕ) (j : Fin 1024) : hist X W b n j = hist X' W' b n j := by rw [hX, hW]

theorem gts_congr {f f' : Fin 8 → EReal} {i i' g g' : Fin 4 → EReal} (hf : f = f') (hi : i = i') (hg : g = g') (b : Fin 8) (s : Fin 4096) (k : Fin 128) :
    gts X W f i g b s k = gts X' W' f' i' g' b s k := by rw [hX, hW, hf, hi, hg]

theorem cnv_congr {C C' : Fin 4 → Fin 1024 → EReal} {B B' : Fin 1024 → EReal} (hC : C = C') (hB : B = B') (b : Fin 8) (s : ℕ) (j : Fin 1024) :
    cnv (hist X W b) C B s j = cnv (hist X' W' b) C' B' s j := by rw [hX, hW, hC, hB]

end

theorem ext3 {n0 n1 n2 : ℕ} {f g : (⟨3, ![n0, n1, n2]⟩ : Shape).Idx → EReal} (h : ∀ (a : Fin n0) (b : Fin n1) (c : Fin n2), f (ix3 a b c) = g (ix3 a b c)) : f = g := by
  funext y
  obtain ⟨a, b, c, rfl⟩ : ∃ (a : Fin n0) (b : Fin n1) (c : Fin n2), y = ix3 a b c := ⟨y 0, y 1, y 2, by funext k; fin_cases k <;> rfl⟩
  exact h a b c

open Cert.Reference3Ideal.Inp in
theorem algebraic : Cert.algebraic_Kernel3Ideal_Reference3Ideal := by
  intro m ρ m' ρ' hpre hagree
  refine ⟨_, _, _, _, _, _, _, _, _, _, _, Cert.Kernel3Ideal.Value.run_blocks (F := Ideal) m ρ, ?_⟩
  refine (θ_run Cert.Reference3Ideal.defs _ _).mono (fun _ h c => ?_) (Cert.Reference3Ideal.Value.run (F := Ideal) m' ρ')
  obtain ⟨h0, h1, h2, h3, h4, h5, h6, h7⟩ := hagree c
  have hX : (fun b s d => (m' ((c.tc : Thread Cert.Reference3Ideal.nD Cert.Reference3Ideal.τ).loc Cert.Reference3Ideal.main_arg0) : Vec Ideal ⟨3, ![8, 4096, 1024]⟩ .f32) (ix3 b s d)) = Cert.Kernel3Ideal.Inp.pX m c :=
    funext fun b => funext fun s => funext fun d => congrFun h0 _
  have hW : (fun d k => (m' ((c.tc : Thread Cert.Reference3Ideal.nD Cert.Reference3Ideal.τ).loc Cert.Reference3Ideal.main_arg1) : Vec Ideal ⟨2, ![1024, 3600]⟩ .f32) (ix2 d k)) = Cert.Kernel3Ideal.Inp.pW m c :=
    funext fun d => funext fun k => congrFun h1 _
  have hF : (fun k => (m' ((c.tc : Thread Cert.Reference3Ideal.nD Cert.Reference3Ideal.τ).loc Cert.Reference3Ideal.main_arg2) : Vec Ideal ⟨1, ![8]⟩ .f32) (ix1 k)) = fun k : Fin 8 => Cert.Kernel3Ideal.Inp.aF m c (ix1 k) :=
    funext fun k => congrFun h2 _
  have hI : (fun k => (m' ((c.tc : Thread Cert.Reference3Ideal.nD Cert.Reference3Ideal.τ).loc Cert.Reference3Ideal.main_arg3) : Vec Ideal ⟨1, ![4]⟩ .f32) (ix1 k)) = fun k : Fin 4 => Cert.Kernel3Ideal.Inp.aI m c (ix1 k) :=
    funext fun k => congrFun h3 _
  have hM : (fun k => (m' ((c.tc : Thread Cert.Reference3Ideal.nD Cert.Reference3Ideal.τ).loc Cert.Reference3Ideal.main_arg4) : Vec Ideal ⟨1, ![4]⟩ .f32) (ix1 k)) = fun k : Fin 4 => Cert.Kernel3Ideal.Inp.aM m c (ix1 k) :=
    funext fun k => congrFun h4 _
  have hB : (fun k => (m' ((c.tc : Thread Cert.Reference3Ideal.nD Cert.Reference3Ideal.τ).loc Cert.Reference3Ideal.main_arg7) : Vec Ideal ⟨1, ![1024]⟩ .f32) (ix1 k)) = fun k : Fin 1024 => Cert.Kernel3Ideal.Inp.aB m c (ix1 k) :=
    funext fun k => congrFun h7 _
  have hC : (fun k j => (m' ((c.tc : Thread Cert.Reference3Ideal.nD Cert.Reference3Ideal.τ).loc Cert.Reference3Ideal.main_arg6) : Vec Ideal ⟨2, ![4, 1024]⟩ .f32) (ix2 k j)) = fun (k : Fin 4) (j : Fin 1024) => Cert.Kernel3Ideal.Inp.aC m c (ix2 k j) :=
    funext fun k => funext fun j => congrFun h6 _
  have r0 := (h c).1.trans ((ext3 fun b f s => (out0 _ _ b f s).trans (congrArg₂ (· * ·) (prj_congr hX hW _ _ _) Cert.Kernel3Ideal.Inp.qs_eq.symm)).trans (Cert.Kernel3Ideal.Inp.final7 m c).symm)
  have r1 := (h c).2.1.trans ((ext3 fun b s f => (out1 _ _ b s f).trans (prj_congr hX hW _ _ _)).trans (Cert.Kernel3Ideal.Inp.final8 m c).symm)
  have r2 := (h c).2.2.1.trans ((ext3 fun b f s => (out2 _ _ b f s).trans (prj_congr hX hW _ _ _)).trans (Cert.Kernel3Ideal.Inp.final9 m c).symm)
  have r3 := (h c).2.2.2.1.trans ((ext3 fun b f s => (out3 _ _ b f s).trans (prj_congr hX hW _ _ _)).trans (Cert.Kernel3Ideal.Inp.final10 m c).symm)
  have r4 := (h c).2.2.2.2.1.trans ((ext3 fun b f s => (out3 _ _ b f s).trans (prj_congr hX hW _ _ _)).trans (Cert.Kernel3Ideal.Inp.final11 m c).symm)
  have r5 := (h c).2.2.2.2.2.1.trans ((ext3 fun b s g => (congrFun (res69 m' c) _).trans ((gT_apply _ _ _ _ _ b s g).trans (gts_congr hX hW hF hI hM _ _ _))).trans (Cert.Kernel3Ideal.Inp.final12 m c).symm)
  have r6 := (h c).2.2.2.2.2.2.1.trans ((ext3 fun b s f => (congrFun (res83 m' c) _).trans ((out6 _ b s f).trans ((act_apply _ _ _ _ b s _).trans (cnv_congr hX hW hC hB _ _ _)))).trans (Cert.Kernel3Ideal.Inp.final13 m c).symm)
  have r7 := (h c).2.2.2.2.2.2.2.1.trans ((ext3 fun b s f => (congrFun (res84 m' c) _).trans ((out7 _ b s f).trans (congrArg (· * Ideal.ofBits .f32 0x3DB504F3#32) ((act_apply _ _ _ _ b s _).trans (cnv_congr hX hW hC hB _ _ _))))).trans (Cert.Kernel3Ideal.Inp.final14 m c).symm)
  have r8 := (h c).2.2.2.2.2.2.2.2.1.trans ((ext3 fun b s f => (out8 _ _ b s f).trans (prj_congr hX hW _ _ _)).trans (Cert.Kernel3Ideal.Inp.final15 m c).symm)
  have r9 := (h c).2.2.2.2.2.2.2.2.2.1.trans ((ext3 fun b s f => (out9 _ _ _ b s f).trans (congrArg Ideal.logistic (congrArg₂ (· + ·) (prj_congr hX hW _ _ _) (congrFun h5 _)))).trans (Cert.Kernel3Ideal.Inp.final16 m c).symm)
  have r10 := (h c).2.2.2.2.2.2.2.2.2.2.1.trans ((ext3 fun b p j => (out10 _ b p j).trans ((pT_apply _ _ b _ j).trans ((hist_congr hX hW _ _ _).trans (congrArg (fun n => hist _ _ b n j) (by show 4091 + p.val + 5 = 4096 + p.val; omega))))).trans (Cert.Kernel3Ideal.Inp.final17 m c).symm)
  exact ⟨r0, r1, r2, r3, r4, r5, r6, r7, r8, r9, r10, (h c).2.2.2.2.2.2.2.2.2.2.2⟩

end Cert.Proof.Inp

end
-- ==== Proof.Smp.Pay.lean ====
/- What the block's call of the sample stores, element by element. -/
module

public import proofs.«01_k».proof.Proof.Mlp.Math
public import proofs.«01_k».proof.Proof.Gen.Kernel4Ideal.Frame

@[expose] public section

set_option maxRecDepth 16384

noncomputable section

namespace Cert.Kernel4Ideal.Smp

open Idealize.ShloMosaic Idealize.ShloMosaic.TcCoe Idealize.SL.Sem Cert.Kernel4Ideal Cert.Kernel4Ideal.Gen Facts _root_.Mlp.Math

/-- A row less its mean. -/
def cenT (u : FVec Ideal S256x1024 .f32) : FVec Ideal S256x1024 .f32 :=
  subf u (broadcastTo S256x1024 (divf (shapeCast S256x1 (multiReduction .add [1] S256 u 0x00000000#32 reduces_S256x1024_S256 (.inl rfl) rfl) shapeCasts_S256_S256x1)
    (broadcast S256x1 (Scalar.ofBits .f32 0x44800000#32))) broadcasts_S256x1_S256x1024)

/-- A row less its mean over its deviation. -/
def lnT (u : FVec Ideal S256x1024 .f32) : FVec Ideal S256x1024 .f32 :=
  mulf (cenT u) (broadcastTo S256x1024 (rsqrt (addf (divf (shapeCast S256x1
    (multiReduction .add [1] S256 (mulf (cenT u) (cenT u)) 0x00000000#32 reduces_S256x1024_S256 (.inl rfl) rfl) shapeCasts_S256_S256x1)
    (broadcast S256x1 (Scalar.ofBits .f32 0x44800000#32))) (broadcast S256x1 (Scalar.ofBits .f32 0x3727C5AC#32)))) broadcasts_S256x1_S256x1024)

/-- A row scaled and shifted. -/
def affT (u : FVec Ideal S256x1024 .f32) (g b : FVec Ideal S1x1024 .f32) : FVec Ideal S256x1024 .f32 :=
  addf (mulf (lnT u) (broadcastTo S256x1024 g broadcasts_S1x1024_S256x1024)) (broadcastTo S256x1024 b broadcasts_S1x1024_S256x1024)

theorem cenT_apply (u : FVec Ideal S256x1024 .f32) (r : Fin 256) (j : Fin 1024) :
    cenT u (ix2 r j) = u (ix2 r j) - Ideal.div (∑ k : Fin 1024, u (ix2 r k)) (Ideal.ofBits .f32 0x44800000#32) := by
  pointwise [cenT]

theorem affT_apply (u : FVec Ideal S256x1024 .f32) (g b : FVec Ideal S1x1024 .f32) (r : Fin 256) (j : Fin 1024) :
    affT u g b (ix2 r j) = lnorm (fun k => u (ix2 r k)) (fun k => g (ix2 0 k)) (fun k => b (ix2 0 k)) j := by
  pointwise [affT, lnT]
  simp only [cenT_apply]
  rfl

/-- The row that the first norm reads. -/
def preT (v1 : FVec Ideal S256x1024 .f32) (v3 v8 : FVec Ideal S256x512 .bf16) (v5 v10 : FVec Ideal S512x1024 .bf16) : FVec Ideal S256x1024 .f32 :=
  addf (mulf (broadcast S256x1024 (Scalar.ofBits .f32 0x3F9837F0#32)) v1)
    (addf (matmul dot_S256x512_S512x1024_S256x1024_1_0_0_1_n_n none v3 v5 (constant S256x1024 .f32 0x00000000#32))
      (matmul dot_S256x512_S512x1024_S256x1024_1_0_0_1_n_n none v8 v10 (constant S256x1024 .f32 0x00000000#32)))

theorem preT_apply (v1 : FVec Ideal S256x1024 .f32) (v3 v8 : FVec Ideal S256x512 .bf16) (v5 v10 : FVec Ideal S512x1024 .bf16) (r : Fin 256) (j : Fin 1024) :
    preT v1 v3 v8 v5 v10 (ix2 r j) = Ideal.ofBits .f32 0x3F9837F0#32 * v1 (ix2 r j)
      + ((∑ k : Fin 512, v3 (ix2 r k) * v5 (ix2 k j)) + ∑ k : Fin 512, v8 (ix2 r k) * v10 (ix2 k j)) := by
  pointwise [preT]

/-- A quarter of the hidden units. -/
def hidT (x : FVec Ideal S256x1024 .bf16) (w : FVec Ideal S1024x1024 .bf16) : FVec Ideal S256x1024 .bf16 :=
  truncf .bf16 (mulf (maximumf (matmul dot_S256x1024_S1024x1024_S256x1024_1_0_0_1_n_n none x w (constant S256x1024 .f32 0x00000000#32)) (broadcast S256x1024 (Scalar.ofBits .f32 0x00000000#32)))
    (maximumf (matmul dot_S256x1024_S1024x1024_S256x1024_1_0_0_1_n_n none x w (constant S256x1024 .f32 0x00000000#32)) (broadcast S256x1024 (Scalar.ofBits .f32 0x00000000#32)))) bitsLt_bf16_f32

theorem hidT_apply (x : FVec Ideal S256x1024 .bf16) (w : FVec Ideal S1024x1024 .bf16) (r : Fin 256) (i : Fin 1024) :
    hidT x w (ix2 r i) = hid (fun k => x (ix2 r k)) (fun k => w (ix2 k i)) := by
  pointwise [hidT]
  rfl

/-- A quarter's share of the feed-forward sum. -/
def partT (x : FVec Ideal S256x1024 .bf16) (w v : FVec Ideal S1024x1024 .bf16) : FVec Ideal S256x1024 .f32 :=
  matmul dot_S256x1024_S1024x1024_S256x1024_1_0_0_1_n_n none (hidT x w) v (constant S256x1024 .f32 0x00000000#32)

theorem partT_apply (x : FVec Ideal S256x1024 .bf16) (w v : FVec Ideal S1024x1024 .bf16) (r : Fin 256) (j : Fin 1024) :
    partT x w v (ix2 r j) = ∑ i : Fin 1024, hid (fun k => x (ix2 r k)) (fun k => w (ix2 k i)) * v (ix2 i j) := by
  pointwise [partT]
  simp only [hidT_apply]

theorem cast_id {s : Shape} {e : Type} (h : s.ShapeCasts s) (x : s.Idx → e) : shapeCast s x h = x := by
  funext i
  pointwise

theorem mid_eq (v0 : FVec Ideal S256x1024 .f32) (v2 v7 : FVec Ideal S256x512 .bf16) (v4 v9 : FVec Ideal S512x1024 .bf16) (v16 v18 : FVec Ideal S1x1024 .f32) :
    k0_pay4 (F := Ideal) (k0_pay1 v18) (k0_pay2 v0 v2 v4 v7 v9) (k0_pay3 v16) = affT (preT v0 v2 v7 v4 v9) v16 v18 := by
  unfold k0_pay4 k0_pay1 k0_pay2 k0_pay3
  simp only [cast_id]
  rfl

theorem acc_eq (v19 : FVec Ideal S1x1024 .f32) (v35 v36 : FVec Ideal S256x1024 .f32) (a0 b0 a1 b1 a2 b2 : FVec Ideal S1024x1024 .bf16) :
    k0_pay6 (F := Ideal) v19 v35 v36 a0 b0 a1 b1 a2 b2
      = addf (addf (addf (broadcast S256x1024 (Scalar.ofBits (F := Ideal) .f32 0x00000000#32)) (partT (k0_pay5 v19 v35 v36) a0 b0)) (partT (k0_pay5 v19 v35 v36) a1 b1)) (partT (k0_pay5 v19 v35 v36) a2 b2) := by
  unfold k0_pay6
  simp only [cast_id]
  rfl

theorem last_eq (v39 : FVec Ideal S256x1024 .f32) (v40 : FVec Ideal S256x1024 .bf16) (v74 : FVec Ideal S256x1024 .f32) (a3 b3 : FVec Ideal S1024x1024 .bf16) (g b : FVec Ideal S1x1024 .f32) :
    k0_pay7 (F := Ideal) v39 v40 v74 a3 b3 g b
      = affT (addf (mulf (broadcast S256x1024 (Scalar.ofBits (F := Ideal) .f32 0x3F9837F0#32)) v39) (addf v74 (partT v40 a3 b3))) g b := by
  unfold k0_pay7
  simp only [cast_id]
  rfl

theorem narrow_eq (v19 : FVec Ideal S1x1024 .f32) (v35 v36 : FVec Ideal S256x1024 .f32) (i : S256x1024.Idx) :
    k0_pay5 (F := Ideal) v19 v35 v36 i = k0_pay4 (F := Ideal) v19 v35 v36 i := rfl

end Cert.Kernel4Ideal.Smp
-- ==== Proof.Smp.Arr.lean ====
/- The array the block's call of the sample leaves: the row formula of the launch arguments. -/
module

public import proofs.«01_k».proof.Proof.Smp.Pay
public import proofs.«01_k».proof.Proof.Gen.Kernel4Ideal.Value
public import Idealize.ShloMosaic.Lib.StableHlo.ReadAt
public import Idealize.ShloMosaic.Lib.Pointwise
public import Idealize.ShloMosaic.Lib.Pipeline.Covers

@[expose] public section

set_option maxRecDepth 16384

noncomputable section

namespace Cert.Kernel4Ideal.Smp

open Idealize.ShloMosaic Idealize.ShloMosaic.TcCoe Idealize.SL.Sem Cert.Kernel4Ideal Cert.Kernel4Ideal.Gen _root_.Mlp.Math

theorem hz2 : (![0, 0] : Fin 2 → ℕ) = fun _ => 0 := by funext a; fin_cases a <;> rfl

theorem ld_at {sr sc or oc nr nc : ℕ} {e : EltTy} (x : Vec Ideal ⟨2, ![sr, sc]⟩ e)
    (inb : ∀ a, (![or, oc] : Fin 2 → ℕ) a + (⟨2, ![nr, nc]⟩ : Shape).size a ≤ (⟨2, ![sr, sc]⟩ : Shape).size a)
    (i : Fin nr) (j : Fin nc) (hi : or + i.val < sr) (hj : oc + j.val < sc) :
    View.ld x (Rect.unit (s := ⟨2, ![sr, sc]⟩) ![or, oc] (⟨2, ![nr, nc]⟩ : Shape).size inb) (ix2 i j) = x (ix2 ⟨or + i.val, hi⟩ ⟨oc + j.val, hj⟩) := by
  refine congrArg x (funext fun a => Fin.ext ?_)
  match a with
  | ⟨0, _⟩ => show or + 1 * i.val = or + i.val; omega
  | ⟨1, _⟩ => show oc + 1 * j.val = oc + j.val; omega

theorem ld_vec (x : Vec Ideal S1x1024 .f32) : View.ld x r0_4 = x := View.ld_unit_zero (S := S1x1024) hz2 _ x

theorem out_apply (x0 : Vec Ideal S256x1024 .f32) (x1 x2 : Vec Ideal S256x512 .bf16) (x3 : Vec Ideal S1024x1024 .bf16) (x4 x5 : Vec Ideal S1x1024 .f32)
    (x6 : Vec Ideal S1024x4096 .bf16) (x7 : Vec Ideal S4096x1024 .bf16) (x8 x9 : Vec Ideal S1x1024 .f32) (r : Fin 256) (j : Fin 1024) :
    out0_10 (F := Ideal) x0 x1 x2 x3 x4 x5 x6 x7 x8 x9 (ix2 r j)
      = row (fun k => x0 (ix2 r k)) (fun k => x1 (ix2 r k)) (fun k => x2 (ix2 r k)) (fun k j => x3 (ix2 k j)) (fun k => x4 (ix2 0 k)) (fun k => x5 (ix2 0 k))
          (fun k i => x6 (ix2 k i)) (fun i k => x7 (ix2 i k)) (fun k => x8 (ix2 0 k)) (fun k => x9 (ix2 0 k)) j := by
  have hmid : ∀ k, k0_pay4 (F := Ideal) (k0_pay8 x0 x1 x2 x3 x4 x5 x6 x7 x8 x9) (k0_pay9 x0 x1 x2 x3 x4 x5 x6 x7 x8 x9) (k0_pay10 x0 x1 x2 x3 x4 x5 x6 x7 x8 x9) (ix2 r k)
      = mid (fun k => x0 (ix2 r k)) (fun k => x1 (ix2 r k)) (fun k => x2 (ix2 r k)) (fun k j => x3 (ix2 k j)) (fun k => x4 (ix2 0 k)) (fun k => x5 (ix2 0 k)) k := by
    intro k
    unfold k0_pay8 k0_pay9 k0_pay10
    rw [mid_eq, affT_apply]
    simp only [preT_apply, View.ld_unit_zero (S := S256x1024) hz2, View.ld_unit_zero (S := S256x512) hz2]
    unfold mid mix
    refine lnorm_congr (fun q => ?_) (fun q => congrFun (ld_vec x4) _) (fun q => congrFun (ld_vec x5) _) k
    refine congrArg (Ideal.ofBits .f32 0x3F9837F0#32 * x0 (ix2 r q) + ·) (congrArg₂ (· + ·) (Finset.sum_congr rfl fun k _ => congrArg (x1 (ix2 r k) * ·) ?_) (Finset.sum_congr rfl fun k _ => congrArg (x2 (ix2 r k) * ·) ?_))
    · refine (ld_at x3 _ k q (by omega) (by omega)).trans ?_
      simp only [Nat.zero_add]
    · refine (ld_at x3 _ k q (by omega) (by omega)).trans ?_
      simp only [Nat.zero_add]
  unfold out0_10
  rw [View.canon_unit_zero hz2, last_eq, affT_apply, acc_eq]
  unfold row
  refine lnorm_congr (fun q => ?_) (fun q => congrFun (ld_vec x8) _) (fun q => congrFun (ld_vec x9) _) j
  pointwise
  rw [hmid]
  refine congrArg₂ (· + ·) rfl ?_
  simp only [partT_apply, narrow_eq, hmid]
  unfold ffn
  rw [sum_quarters]
  refine congrArg₂ (· + ·) (congrArg₂ (· + ·) (congrArg₂ (· + ·) ?_ ?_) ?_) ?_
  · refine Finset.sum_congr rfl fun i _ => congrArg₂ (· * ·) (congrArg (hid _) (funext fun k => ?_)) ?_
    · refine (ld_at x6 _ k i (by omega) (by omega)).trans ?_
      simp only [Nat.zero_add]
    · refine (ld_at x7 _ i q (by omega) (by omega)).trans ?_
      simp only [Nat.zero_add]
  · refine Finset.sum_congr rfl fun i _ => congrArg₂ (· * ·) (congrArg (hid _) (funext fun k => ?_)) ?_
    · refine (ld_at x6 _ k i (by omega) (by omega)).trans ?_
      simp only [Nat.zero_add]
    · refine (ld_at x7 _ i q (by omega) (by omega)).trans ?_
      simp only [Nat.zero_add]
  · refine Finset.sum_congr rfl fun i _ => congrArg₂ (· * ·) (congrArg (hid _) (funext fun k => ?_)) ?_
    · refine (ld_at x6 _ k i (by omega) (by omega)).trans ?_
      simp only [Nat.zero_add]
    · refine (ld_at x7 _ i q (by omega) (by omega)).trans ?_
      simp only [Nat.zero_add]
  · refine Finset.sum_congr rfl fun i _ => congrArg₂ (· * ·) (congrArg (hid _) (funext fun k => ?_)) ?_
    · refine (ld_at x6 _ k i (by omega) (by omega)).trans ?_
      simp only [Nat.zero_add]
    · refine (ld_at x7 _ i q (by omega) (by omega)).trans ?_
      simp only [Nat.zero_add]

variable (m : (ℓ : Loc nD τ sig) → Buf (Elt Ideal) ℓ) (c : Dev nD) (t : Fin cfg0.N)

/-- The layer's input. -/
abbrev a0 : Vec Ideal S32x8x1024 .f32 := m ((c : Thread nD τ).loc main_arg0)
/-- The attention's rows. -/
abbrev a1 : Vec Ideal S32x8x512 .f32 := m ((c : Thread nD τ).loc main_arg1)
/-- The mLSTM's rows. -/
abbrev a2 : Vec Ideal S32x8x512 .f32 := m ((c : Thread nD τ).loc main_arg2)
/-- The output projection. -/
abbrev a3 : Vec Ideal S1024x1024 .f32 := m ((c : Thread nD τ).loc main_arg3)
abbrev a4 : Vec Ideal S1024 .f32 := m ((c : Thread nD τ).loc main_arg4)
abbrev a5 : Vec Ideal S1024 .f32 := m ((c : Thread nD τ).loc main_arg5)
abbrev a6 : Vec Ideal S1024x4096 .f32 := m ((c : Thread nD τ).loc main_arg6)
abbrev a7 : Vec Ideal S4096x1024 .f32 := m ((c : Thread nD τ).loc main_arg7)
abbrev a8 : Vec Ideal S1024 .f32 := m ((c : Thread nD τ).loc main_arg8)
abbrev a9 : Vec Ideal S1024 .f32 := m ((c : Thread nD τ).loc main_arg9)

/-- The batch of a row. -/
abbrev rb (R : Fin 256) : Fin 32 := ⟨R.val / 8, by omega⟩
/-- The position of a row. -/
abbrev rs (R : Fin 256) : Fin 8 := ⟨R.val % 8, by omega⟩

theorem V0_apply (R : Fin 256) (k : Fin 1024) : (V m c main_v0 : Vec Ideal S256x1024 .f32) (ix2 R k) = a0 m c (ix3 (rb R) (rs R) k) := by
  unfold V hostOps0
  after_reads_at
theorem V2_apply (R : Fin 256) (k : Fin 512) : (V m c main_v2 : Vec Ideal S256x512 .bf16) (ix2 R k) = a1 m c (ix3 (rb R) (rs R) k) := by
  unfold V hostOps0
  after_reads_at
theorem V4_apply (R : Fin 256) (k : Fin 512) : (V m c main_v4 : Vec Ideal S256x512 .bf16) (ix2 R k) = a2 m c (ix3 (rb R) (rs R) k) := by
  unfold V hostOps0
  after_reads_at
theorem V5_apply (i : Fin 1024) (j : Fin 1024) : (V m c main_v5 : Vec Ideal S1024x1024 .bf16) (ix2 i j) = a3 m c (ix2 i j) := by
  unfold V hostOps0
  after_reads_at
theorem V6_apply (j : Fin 1024) : (V m c main_v6 : Vec Ideal S1x1024 .f32) (ix2 0 j) = a4 m c (ix1 j) := by
  unfold V hostOps0
  after_reads_at
theorem V7_apply (j : Fin 1024) : (V m c main_v7 : Vec Ideal S1x1024 .f32) (ix2 0 j) = a5 m c (ix1 j) := by
  unfold V hostOps0
  after_reads_at
theorem V8_apply (i : Fin 1024) (j : Fin 4096) : (V m c main_v8 : Vec Ideal S1024x4096 .bf16) (ix2 i j) = a6 m c (ix2 i j) := by
  unfold V hostOps0
  after_reads_at
theorem V9_apply (i : Fin 4096) (j : Fin 1024) : (V m c main_v9 : Vec Ideal S4096x1024 .bf16) (ix2 i j) = a7 m c (ix2 i j) := by
  unfold V hostOps0
  after_reads_at
theorem V10_apply (j : Fin 1024) : (V m c main_v10 : Vec Ideal S1x1024 .f32) (ix2 0 j) = a8 m c (ix1 j) := by
  unfold V hostOps0
  after_reads_at
theorem V11_apply (j : Fin 1024) : (V m c main_v11 : Vec Ideal S1x1024 .f32) (ix2 0 j) = a9 m c (ix1 j) := by
  unfold V hostOps0
  after_reads_at

theorem lt0 : (grid0.coords t 0).val < 1 := (grid0.coords t 0).isLt

/-- The row of the arrays that row `r` of a step is. -/
abbrev rowAt (r : Fin 256) : Fin 256 := ⟨256 * (grid0.coords t 0).val + r.val, by have := lt0 t; omega⟩

theorem word_small (x : ℕ) (h : x < 1) : (BitVec.ofNat 32 x).toNat = x := by
  rw [BitVec.toNat_ofNat]; exact Nat.mod_eq_of_lt (by omega)

theorem iblk0_apply (r : Fin 256) (k : Fin 1024) : (iblk m c 0 t : Vec Ideal S256x1024 .f32) (ix2 r k) = (V m c main_v0 : Vec Ideal S256x1024 .f32) (ix2 (rowAt t r) k) := by
  show V m c main_v0 (((cfg0.win 0).blk t).view.emb (ix2 r k)) = _
  congr 1
  funext a
  apply Fin.ext
  have h0 := word_small _ (lt0 t)
  match a with
  | ⟨0, _⟩ => show (BitVec.ofNat 32 (grid0.coords t 0).val).toNat * 256 + 1 * r.val = 256 * (grid0.coords t 0).val + r.val; omega
  | ⟨1, _⟩ => show 0 * 1024 + 1 * k.val = k.val; omega
theorem iblk1_apply (r : Fin 256) (k : Fin 512) : (iblk m c 1 t : Vec Ideal S256x512 .bf16) (ix2 r k) = (V m c main_v2 : Vec Ideal S256x512 .bf16) (ix2 (rowAt t r) k) := by
  show V m c main_v2 (((cfg0.win 1).blk t).view.emb (ix2 r k)) = _
  congr 1
  funext a
  apply Fin.ext
  have h0 := word_small _ (lt0 t)
  match a with
  | ⟨0, _⟩ => show (BitVec.ofNat 32 (grid0.coords t 0).val).toNat * 256 + 1 * r.val = 256 * (grid0.coords t 0).val + r.val; omega
  | ⟨1, _⟩ => show 0 * 512 + 1 * k.val = k.val; omega
theorem iblk2_apply (r : Fin 256) (k : Fin 512) : (iblk m c 2 t : Vec Ideal S256x512 .bf16) (ix2 r k) = (V m c main_v4 : Vec Ideal S256x512 .bf16) (ix2 (rowAt t r) k) := by
  show V m c main_v4 (((cfg0.win 2).blk t).view.emb (ix2 r k)) = _
  congr 1
  funext a
  apply Fin.ext
  have h0 := word_small _ (lt0 t)
  match a with
  | ⟨0, _⟩ => show (BitVec.ofNat 32 (grid0.coords t 0).val).toNat * 256 + 1 * r.val = 256 * (grid0.coords t 0).val + r.val; omega
  | ⟨1, _⟩ => show 0 * 512 + 1 * k.val = k.val; omega
theorem iblk3_apply (i : Fin 1024) (j : Fin 1024) : (iblk m c 3 t : Vec Ideal S1024x1024 .bf16) (ix2 i j) = (V m c main_v5 : Vec Ideal S1024x1024 .bf16) (ix2 i j) := by
  show V m c main_v5 (((cfg0.win 3).blk t).view.emb (ix2 i j)) = _
  congr 1
  funext a
  apply Fin.ext
  match a with
  | ⟨0, _⟩ => show 0 * 1024 + 1 * i.val = i.val; omega
  | ⟨1, _⟩ => show 0 * 1024 + 1 * j.val = j.val; omega
theorem iblk4_apply (i : Fin 1) (j : Fin 1024) : (iblk m c 4 t : Vec Ideal S1x1024 .f32) (ix2 i j) = (V m c main_v6 : Vec Ideal S1x1024 .f32) (ix2 i j) := by
  show V m c main_v6 (((cfg0.win 4).blk t).view.emb (ix2 i j)) = _
  congr 1
  funext a
  apply Fin.ext
  match a with
  | ⟨0, _⟩ => show 0 * 1 + 1 * i.val = i.val; omega
  | ⟨1, _⟩ => show 0 * 1024 + 1 * j.val = j.val; omega
theorem iblk5_apply (i : Fin 1) (j : Fin 1024) : (iblk m c 5 t : Vec Ideal S1x1024 .f32) (ix2 i j) = (V m c main_v7 : Vec Ideal S1x1024 .f32) (ix2 i j) := by
  show V m c main_v7 (((cfg0.win 5).blk t).view.emb (ix2 i j)) = _
  congr 1
  funext a
  apply Fin.ext
  match a with
  | ⟨0, _⟩ => show 0 * 1 + 1 * i.val = i.val; omega
  | ⟨1, _⟩ => show 0 * 1024 + 1 * j.val = j.val; omega
theorem iblk6_apply (i : Fin 1024) (j : Fin 4096) : (iblk m c 6 t : Vec Ideal S1024x4096 .bf16) (ix2 i j) = (V m c main_v8 : Vec Ideal S1024x4096 .bf16) (ix2 i j) := by
  show V m c main_v8 (((cfg0.win 6).blk t).view.emb (ix2 i j)) = _
  congr 1
  funext a
  apply Fin.ext
  match a with
  | ⟨0, _⟩ => show 0 * 1024 + 1 * i.val = i.val; omega
  | ⟨1, _⟩ => show 0 * 4096 + 1 * j.val = j.val; omega
theorem iblk7_apply (i : Fin 4096) (j : Fin 1024) : (iblk m c 7 t : Vec Ideal S4096x1024 .bf16) (ix2 i j) = (V m c main_v9 : Vec Ideal S4096x1024 .bf16) (ix2 i j) := by
  show V m c main_v9 (((cfg0.win 7).blk t).view.emb (ix2 i j)) = _
  congr 1
  funext a
  apply Fin.ext
  match a with
  | ⟨0, _⟩ => show 0 * 4096 + 1 * i.val = i.val; omega
  | ⟨1, _⟩ => show 0 * 1024 + 1 * j.val = j.val; omega
theorem iblk8_apply (i : Fin 1) (j : Fin 1024) : (iblk m c 8 t : Vec Ideal S1x1024 .f32) (ix2 i j) = (V m c main_v10 : Vec Ideal S1x1024 .f32) (ix2 i j) := by
  show V m c main_v10 (((cfg0.win 8).blk t).view.emb (ix2 i j)) = _
  congr 1
  funext a
  apply Fin.ext
  match a with
  | ⟨0, _⟩ => show 0 * 1 + 1 * i.val = i.val; omega
  | ⟨1, _⟩ => show 0 * 1024 + 1 * j.val = j.val; omega
theorem iblk9_apply (i : Fin 1) (j : Fin 1024) : (iblk m c 9 t : Vec Ideal S1x1024 .f32) (ix2 i j) = (V m c main_v11 : Vec Ideal S1x1024 .f32) (ix2 i j) := by
  show V m c main_v11 (((cfg0.win 9).blk t).view.emb (ix2 i j)) = _
  congr 1
  funext a
  apply Fin.ext
  match a with
  | ⟨0, _⟩ => show 0 * 1 + 1 * i.val = i.val; omega
  | ⟨1, _⟩ => show 0 * 1024 + 1 * j.val = j.val; omega

theorem emb10 (r : Fin 256) (j : Fin 1024) : ((cfg0.win 10).blk t).view.emb (ix2 r j) = (ix2 (rowAt t r) j : S256x1024.Idx) := by
  funext a
  apply Fin.ext
  have h0 := word_small _ (lt0 t)
  match a with
  | ⟨0, _⟩ => show (BitVec.ofNat 32 (grid0.coords t 0).val).toNat * 256 + 1 * r.val = 256 * (grid0.coords t 0).val + r.val; omega
  | ⟨1, _⟩ => show 0 * 1024 + 1 * j.val = j.val; omega

/-- The rows of the result. -/
def rowsArr (x : S32x8x1024.Idx → EReal) (f n : S32x8x512.Idx → EReal) (wo : S1024x1024.Idx → EReal) (g1 b1 : S1024.Idx → EReal)
    (w1 : S1024x4096.Idx → EReal) (w2 : S4096x1024.Idx → EReal) (g2 b2 : S1024.Idx → EReal) : S256x1024.Idx → EReal := fun y =>
  row (fun k => x (ix3 (rb (y 0)) (rs (y 0)) k)) (fun k => f (ix3 (rb (y 0)) (rs (y 0)) k)) (fun k => n (ix3 (rb (y 0)) (rs (y 0)) k))
    (fun k j => wo (ix2 k j)) (fun k => g1 (ix1 k)) (fun k => b1 (ix1 k)) (fun k i => w1 (ix2 k i)) (fun i k => w2 (ix2 i k)) (fun k => g2 (ix1 k)) (fun k => b2 (ix1 k)) (y 1)

/-- The rows of the launch arguments. -/
abbrev G := rowsArr (a0 m c) (a1 m c) (a2 m c) (a3 m c) (a4 m c) (a5 m c) (a6 m c) (a7 m c) (a8 m c) (a9 m c)

/-- What a step writes back is its block of rows. -/
theorem flushed_eq : (dats m 0 c).flushed 10 t = ((cfg0.win 10).blk t).view.read (Elt Ideal) (G m c) := by
  rw [Value.flushed10]
  funext y
  obtain ⟨r, j, rfl⟩ : ∃ (r : Fin 256) (j : Fin 1024), y = ix2 r j := ⟨y 0, y 1, by funext k; fin_cases k <;> rfl⟩
  show out0_10 (F := Ideal) (iblk m c 0 t) (iblk m c 1 t) (iblk m c 2 t) (iblk m c 3 t) (iblk m c 4 t) (iblk m c 5 t) (iblk m c 6 t) (iblk m c 7 t) (iblk m c 8 t) (iblk m c 9 t) (ix2 r j)
    = G m c (((cfg0.win 10).blk t).view.emb (ix2 r j))
  rw [emb10]
  refine (out_apply (iblk m c 0 t) (iblk m c 1 t) (iblk m c 2 t) (iblk m c 3 t) (iblk m c 4 t) (iblk m c 5 t) (iblk m c 6 t) (iblk m c 7 t) (iblk m c 8 t) (iblk m c 9 t) r j).trans ?_
  exact row_congr (fun k => (iblk0_apply m c t r k).trans (V0_apply m c _ k)) (fun k => (iblk1_apply m c t r k).trans (V2_apply m c _ k)) (fun k => (iblk2_apply m c t r k).trans (V4_apply m c _ k))
    (fun i j => (iblk3_apply m c t i j).trans (V5_apply m c i j)) (fun k => (iblk4_apply m c t 0 k).trans (V6_apply m c k)) (fun k => (iblk5_apply m c t 0 k).trans (V7_apply m c k))
    (fun i j => (iblk6_apply m c t i j).trans (V8_apply m c i j)) (fun i j => (iblk7_apply m c t i j).trans (V9_apply m c i j)) (fun k => (iblk8_apply m c t 0 k).trans (V10_apply m c k)) (fun k => (iblk9_apply m c t 0 k).trans (V11_apply m c k)) j

theorem covered (i : S256x1024.Idx) : ∃ t : Fin cfg0.N, (cfg0.win 10).flush t = true ∧ i ∈ ((cfg0.win 10).blk t).view.set := by
  obtain ⟨R, j, rfl⟩ : ∃ (R : Fin 256) (j : Fin 1024), i = ix2 R j := ⟨i 0, i 1, by funext k; fin_cases k <;> rfl⟩
  have hR := R.isLt
  obtain ⟨t, ht⟩ := Pipeline.Grid.coords_surjective grid0 (fun a => match a with
    | ⟨0, _⟩ => (⟨R.val / 256, by omega⟩ : Fin 1))
  have h0 : (grid0.coords t 0).val = R.val / 256 := congrArg Fin.val (congrFun ht 0)
  refine ⟨t, flush0_10 t, ?_⟩
  have hm := ((cfg0.win 10).blk t).view.emb_mem_set (ix2 ⟨R.val % 256, by omega⟩ j)
  rw [emb10] at hm
  have e0 : rowAt t ⟨R.val % 256, by omega⟩ = R := Fin.ext (by show 256 * (grid0.coords t 0).val + R.val % 256 = R.val; omega)
  rwa [e0] at hm

/-- The result array of the call is the row formula of the launch arguments. -/
theorem final : (dats m 0 c).arrAt 10 cfg0.N = G m c :=
  (dats m 0 c).arrAt_eq_of_cover 10 (G m c) (fun t _ => flushed_eq m c t) covered

end Cert.Kernel4Ideal.Smp
-- ==== Proof.Smp.Ref.lean ====
/- The output projection and the feed-forward layer of the sample as plainly written, read at one row. -/
module

public import proofs.«01_k».proof.Proof.Smp.Arr
public import proofs.«01_k».proof.Proof.Gen.Reference4Ideal.Run

@[expose] public section

set_option maxRecDepth 16384

noncomputable section

namespace Cert.Reference4Ideal.Smp

open Idealize.ShloMosaic Idealize.ShloMosaic.TcCoe Idealize.SL.Sem Cert.Reference4Ideal Cert.Reference4Ideal.Gen Facts _root_.Mlp.Math

/-- The rows less their means. -/
def cT (U : FVec Ideal S32x8x1024 .f32) : FVec Ideal S32x8x1024 .f32 :=
  (subf U (broadcastInDim S32x8x1024 ![0, 1, 2] bcast_S32x8x1_S32x8x1024_0_1_2 (Host.divf (broadcastInDim S32x8x1 ![0, 1] bcast_S32x8_S32x8x1_0_1 (Host.reduceAdd U (constant S_ .f32 0x00000000#32) reducesTo_S32x8x1024_S32x8_d2 h_S_)) (broadcastInDim S32x8x1 ![] bcast_S_S32x8x1 (constant S_ .f32 0x44800000#32)))))

/-- The layer norm of every row. -/
def lT (U : FVec Ideal S32x8x1024 .f32) (g b : FVec Ideal S1024 .f32) : FVec Ideal S32x8x1024 .f32 :=
  (addf (mulf (mulf (cT U) (broadcastInDim S32x8x1024 ![0, 1, 2] bcast_S32x8x1_S32x8x1024_0_1_2 (Host.rsqrt (addf (Host.divf (broadcastInDim S32x8x1 ![0, 1] bcast_S32x8_S32x8x1_0_1 (Host.reduceAdd (mulf (cT U) (cT U)) (constant S_ .f32 0x00000000#32) reducesTo_S32x8x1024_S32x8_d2 h_S_)) (broadcastInDim S32x8x1 ![] bcast_S_S32x8x1 (constant S_ .f32 0x44800000#32))) (broadcastInDim S32x8x1 ![] bcast_S_S32x8x1 (constant S_ .f32 0x3727C5AC#32)))))) (broadcastInDim S32x8x1024 ![0, 1, 2] bcast_S1x1x1024_S32x8x1024_0_1_2 (broadcastInDim S1x1x1024 ![2] bcast_S1024_S1x1x1024_2 g))) (broadcastInDim S32x8x1024 ![0, 1, 2] bcast_S1x1x1024_S32x8x1024_0_1_2 (broadcastInDim S1x1x1024 ![2] bcast_S1024_S1x1x1024_2 b)))

/-- The two branches joined. -/
def catT (A1 A2 : FVec Ideal S32x8x512 .f32) : FVec Ideal S32x8x1024 .f32 :=
  (concatenate S32x8x1024 2 [⟨S32x8x512, A1⟩, ⟨S32x8x512, A2⟩] concatenates_S32x8x512_S32x8x512_S32x8x1024_d2)

/-- What the first norm reads. -/
def uT (A0 : FVec Ideal S32x8x1024 .f32) (A1 A2 : FVec Ideal S32x8x512 .f32) (A3 : FVec Ideal S1024x1024 .f32) : FVec Ideal S32x8x1024 .f32 :=
  (addf (mulf (broadcastInDim S32x8x1024 ![] bcast_S_S32x8x1024 (constant S_ .f32 0x3F9837F0#32)) A0) (Host.dotGeneral dot_S32x8x1024_S1024x1024_S32x8x1024_2_0_01_1_n_n none (catT A1 A2) A3))

/-- The hidden units. -/
def hT (x : FVec Ideal S32x8x1024 .f32) (w : FVec Ideal S1024x4096 .f32) : FVec Ideal S32x8x4096 .f32 :=
  (mulf (maximumf (Host.dotGeneral dot_S32x8x1024_S1024x4096_S32x8x4096_2_0_01_1_n_n none x w) (broadcastInDim S32x8x4096 ![] bcast_S_S32x8x4096 (constant S_ .f32 0x00000000#32))) (maximumf (Host.dotGeneral dot_S32x8x1024_S1024x4096_S32x8x4096_2_0_01_1_n_n none x w) (broadcastInDim S32x8x4096 ![] bcast_S_S32x8x4096 (constant S_ .f32 0x00000000#32))))

/-- What the second norm reads. -/
def wT (M : FVec Ideal S32x8x1024 .f32) (w1 : FVec Ideal S1024x4096 .f32) (w2 : FVec Ideal S4096x1024 .f32) : FVec Ideal S32x8x1024 .f32 :=
  (addf (mulf (broadcastInDim S32x8x1024 ![] bcast_S_S32x8x1024 (constant S_ .f32 0x3F9837F0#32)) M) (Host.dotGeneral dot_S32x8x4096_S4096x1024_S32x8x1024_2_0_01_1_n_n none (hT M w1) w2))

variable (m : (ℓ : Loc nD τ sig) → Buf (Elt Ideal) ℓ) (c : Dev nD)

theorem res_eq : Value.res_main_v60 m c =
  shapeCast _ (lT (wT (lT (uT (m ((c.tc : Thread nD τ).loc main_arg0)) (m ((c.tc : Thread nD τ).loc main_arg1)) (m ((c.tc : Thread nD τ).loc main_arg2)) (m ((c.tc : Thread nD τ).loc main_arg3)))
    (m ((c.tc : Thread nD τ).loc main_arg4)) (m ((c.tc : Thread nD τ).loc main_arg5))) (m ((c.tc : Thread nD τ).loc main_arg6)) (m ((c.tc : Thread nD τ).loc main_arg7)))
    (m ((c.tc : Thread nD τ).loc main_arg8)) (m ((c.tc : Thread nD τ).loc main_arg9))) shapeCasts_S32x8x1024_S256x1024 := rfl

theorem cT_apply (U : FVec Ideal S32x8x1024 .f32) (b : Fin 32) (s : Fin 8) (j : Fin 1024) :
    cT U (ix3 b s j) = U (ix3 b s j) - Ideal.div (∑ k : Fin 1024, U (ix3 b s k)) (Ideal.ofBits .f32 0x44800000#32) := by
  pointwise [cT]

theorem lT_apply (U : FVec Ideal S32x8x1024 .f32) (g b : FVec Ideal S1024 .f32) (B : Fin 32) (s : Fin 8) (j : Fin 1024) :
    lT U g b (ix3 B s j) = lnorm (fun k => U (ix3 B s k)) (fun k => g (ix1 k)) (fun k => b (ix1 k)) j := by
  pointwise [lT]
  simp only [cT_apply]
  rfl

theorem cat_l (A1 A2 : FVec Ideal S32x8x512 .f32) (b : Fin 32) (s : Fin 8) (k : Fin 512) :
    catT A1 A2 (ix3 b s ⟨k.val, by omega⟩) = A1 (ix3 b s k) := by
  pointwise [catT]

theorem cat_r (A1 A2 : FVec Ideal S32x8x512 .f32) (b : Fin 32) (s : Fin 8) (k : Fin 512) :
    catT A1 A2 (ix3 b s ⟨512 + k.val, by omega⟩) = A2 (ix3 b s k) := by
  pointwise [catT]

theorem uT_apply (A0 : FVec Ideal S32x8x1024 .f32) (A1 A2 : FVec Ideal S32x8x512 .f32) (A3 : FVec Ideal S1024x1024 .f32) (b : Fin 32) (s : Fin 8) (j : Fin 1024) :
    uT A0 A1 A2 A3 (ix3 b s j) = Ideal.ofBits .f32 0x3F9837F0#32 * A0 (ix3 b s j)
      + mix (fun k => A1 (ix3 b s k)) (fun k => A2 (ix3 b s k)) (fun k j => A3 (ix2 k j)) j := by
  pointwise [uT]
  refine congrArg₂ (· + ·) rfl ?_
  exact sum_joined _ _ (fun k j => A3 (ix2 k j)) j (fun k => catT A1 A2 (ix3 b s k)) (cat_l A1 A2 b s) (cat_r A1 A2 b s)

theorem hT_apply (x : FVec Ideal S32x8x1024 .f32) (w : FVec Ideal S1024x4096 .f32) (b : Fin 32) (s : Fin 8) (i : Fin 4096) :
    hT x w (ix3 b s i) = hid (fun k => x (ix3 b s k)) (fun k => w (ix2 k i)) := by
  pointwise [hT]
  rfl

theorem wT_apply (M : FVec Ideal S32x8x1024 .f32) (w1 : FVec Ideal S1024x4096 .f32) (w2 : FVec Ideal S4096x1024 .f32) (b : Fin 32) (s : Fin 8) (j : Fin 1024) :
    wT M w1 w2 (ix3 b s j) = Ideal.ofBits .f32 0x3F9837F0#32 * M (ix3 b s j) + ffn (fun k => M (ix3 b s k)) (fun k i => w1 (ix2 k i)) (fun i k => w2 (ix2 i k)) j := by
  pointwise [wT]
  refine congrArg₂ (· + ·) rfl ?_
  simp only [hT_apply]
  rfl

theorem rest_apply (x : FVec Ideal S32x8x1024 .f32) (R : Fin 256) (j : Fin 1024) :
    shapeCast S256x1024 x shapeCasts_S32x8x1024_S256x1024 (ix2 R j) = x (ix3 (⟨R.val / 8, by omega⟩ : Fin 32) (⟨R.val % 8, by omega⟩ : Fin 8) j) := by
  pointwise

theorem plain_apply (x : FVec Ideal S32x8x1024 .f32) (f n : FVec Ideal S32x8x512 .f32) (wo : FVec Ideal S1024x1024 .f32) (g1 b1 : FVec Ideal S1024 .f32)
    (w1 : FVec Ideal S1024x4096 .f32) (w2 : FVec Ideal S4096x1024 .f32) (g2 b2 : FVec Ideal S1024 .f32) :
    shapeCast S256x1024 (lT (wT (lT (uT x f n wo) g1 b1) w1 w2) g2 b2) shapeCasts_S32x8x1024_S256x1024 = Cert.Kernel4Ideal.Smp.rowsArr x f n wo g1 b1 w1 w2 g2 b2 := by
  funext y
  obtain ⟨R, j, rfl⟩ : ∃ (R : Fin 256) (j : Fin 1024), y = ix2 R j := ⟨y 0, y 1, by funext k; fin_cases k <;> rfl⟩
  rw [rest_apply, lT_apply]
  unfold Cert.Kernel4Ideal.Smp.rowsArr row
  refine lnorm_congr (fun q => ?_) (fun _ => rfl) (fun _ => rfl) j
  rw [wT_apply]
  have hm : ∀ k, lT (uT x f n wo) g1 b1 (ix3 (⟨R.val / 8, by omega⟩ : Fin 32) (⟨R.val % 8, by omega⟩ : Fin 8) k)
      = mid (fun k => x (ix3 (⟨R.val / 8, by omega⟩ : Fin 32) (⟨R.val % 8, by omega⟩ : Fin 8) k)) (fun k => f (ix3 (⟨R.val / 8, by omega⟩ : Fin 32) (⟨R.val % 8, by omega⟩ : Fin 8) k))
          (fun k => n (ix3 (⟨R.val / 8, by omega⟩ : Fin 32) (⟨R.val % 8, by omega⟩ : Fin 8) k)) (fun k j => wo (ix2 k j)) (fun k => g1 (ix1 k)) (fun k => b1 (ix1 k)) k := by
    intro k
    rw [lT_apply]
    unfold mid
    exact lnorm_congr (fun q => uT_apply x f n wo _ _ q) (fun _ => rfl) (fun _ => rfl) k
  simp only [hm]
  rfl

/-- The result of the plain formula from arguments that agree. -/
theorem res_rows (x : FVec Ideal S32x8x1024 .f32) (f n : FVec Ideal S32x8x512 .f32) (wo : FVec Ideal S1024x1024 .f32) (g1 b1 : FVec Ideal S1024 .f32)
    (w1 : FVec Ideal S1024x4096 .f32) (w2 : FVec Ideal S4096x1024 .f32) (g2 b2 : FVec Ideal S1024 .f32)
    (h0 : m ((c.tc : Thread nD τ).loc main_arg0) = x) (h1 : m ((c.tc : Thread nD τ).loc main_arg1) = f) (h2 : m ((c.tc : Thread nD τ).loc main_arg2) = n)
    (h3 : m ((c.tc : Thread nD τ).loc main_arg3) = wo) (h4 : m ((c.tc : Thread nD τ).loc main_arg4) = g1) (h5 : m ((c.tc : Thread nD τ).loc main_arg5) = b1)
    (h6 : m ((c.tc : Thread nD τ).loc main_arg6) = w1) (h7 : m ((c.tc : Thread nD τ).loc main_arg7) = w2) (h8 : m ((c.tc : Thread nD τ).loc main_arg8) = g2)
    (h9 : m ((c.tc : Thread nD τ).loc main_arg9) = b2) :
    Value.res_main_v60 m c = Cert.Kernel4Ideal.Smp.rowsArr x f n wo g1 b1 w1 w2 g2 b2 := by
  subst h0 h1 h2 h3 h4 h5 h6 h7 h8 h9
  exact (res_eq m c).trans (plain_apply _ _ _ _ _ _ _ _ _ _)

end Cert.Reference4Ideal.Smp
-- ==== Proof.Smp.Claims.lean ====
/- The claims about the block's call of the sample. -/
module

public import proofs.«01_k».proof.Defs
public import proofs.«01_k».proof.Proof.Smp.Arr
public import proofs.«01_k».proof.Proof.Smp.Ref
public import proofs.«01_k».proof.Proof.Gen.Kernel4.Frame
public import Idealize.ShloMosaic.Lib.Quiescent

@[expose] public section

noncomputable section

open Idealize.ShloMosaic Idealize.ShloMosaic.TcCoe Idealize.SL.Sem

namespace Cert.Proof.Smp

theorem frame_p : Cert.quiescent_Kernel4 := fun m ρ _ => Cert.Kernel4.Gen.frame m ρ
theorem frame_pi : Cert.quiescent_Kernel4Ideal := fun m ρ _ => Cert.Kernel4Ideal.Gen.frame m ρ
theorem frame_ri : Cert.quiescent_Reference4Ideal := fun m ρ _ =>
  (θ_run Cert.Reference4Ideal.defs _ _).mono (fun r h => ⟨fun c => (h c).2, Idealize.ShloMosaic.sem_eq_zero_of_no_sems (by decide) r.2⟩)
    (Cert.Reference4Ideal.Value.run (F := Ideal) m ρ)

theorem preserves : Cert.preserves_Kernel4_Kernel4Ideal := trivial

theorem algebraic : Cert.algebraic_Kernel4Ideal_Reference4Ideal := by
  intro m ρ m' ρ' hpre hagree
  refine ⟨_, Cert.Kernel4Ideal.Value.run_blocks (F := Ideal) m ρ, ?_⟩
  refine (θ_run Cert.Reference4Ideal.defs _ _).mono (fun _ h c => ⟨(h c).1.trans ?_, (h c).2⟩) (Cert.Reference4Ideal.Value.run (F := Ideal) m' ρ')
  rw [Cert.Kernel4Ideal.Smp.final m c]
  obtain ⟨h0, h1, h2, h3, h4, h5, h6, h7, h8, h9⟩ := hagree c
  exact Cert.Reference4Ideal.Smp.res_rows m' c _ _ _ _ _ _ _ _ _ _ h0 h1 h2 h3 h4 h5 h6 h7 h8 h9

end Cert.Proof.Smp

end
-- ==== Proof.Smi.Pay.lean ====
/- What the projection's call of the sample stores, as formulas of what it loads, element by element. -/
module

public import proofs.«01_k».proof.Proof.Inp.Math
public import proofs.«01_k».proof.Proof.Gen.Kernel5Ideal.Skeleton
public import Idealize.ShloMosaic.Lib.Pointwise

@[expose] public section

set_option maxRecDepth 16384

noncomputable section

namespace Cert.Kernel5Ideal.Smi

open Idealize.ShloMosaic Idealize.ShloMosaic.TcCoe Idealize.SL.Sem Cert.Kernel5Ideal Cert.Kernel5Ideal.Gen Facts Inp.Math

/-- The row of a sequence's position. -/
abbrev rw8 (b : Fin 32) (t : Fin 8) : Fin 256 := ⟨b.val * 8 + t.val, by omega⟩

theorem div8 (b : Fin 32) (t : Fin 8) (h : (b.val * 8 + t.val) / 8 < 32) : (⟨(b.val * 8 + t.val) / 8, h⟩ : Fin 32) = b := Fin.ext (by show (b.val * 8 + t.val) / 8 = b.val; omega)
theorem mod8 (b : Fin 32) (t : Fin 8) (h : (b.val * 8 + t.val) % 8 < 8) : (⟨(b.val * 8 + t.val) % 8, h⟩ : Fin 8) = t := Fin.ext (by show (b.val * 8 + t.val) % 8 = t.val; omega)

theorem pay5_apply (x : Vec Ideal S32x8x1024 .f32) (b : Fin 32) (t : Fin 8) (d : Fin 1024) :
    k0_pay5 (F := Ideal) x (ix2 (rw8 b t) d) = x (ix3 b t d) := by
  have h : k0_pay5 (F := Ideal) x (ix2 (rw8 b t) d) = x (ix3 ⟨(b.val * 8 + t.val) / 8, by omega⟩ ⟨(b.val * 8 + t.val) % 8, by omega⟩ d) := by
    pointwise [k0_pay5]
  rw [h, div8, mod8]

section
variable (x : Vec Ideal S32x8x1024 .f32) (b : Fin 32) (t : Fin 8)

theorem pay6_apply (w : Vec Ideal S1024x512 .bf16) (f : Fin 512) :
    k0_pay6 (F := Ideal) x w (ix3 b t f) = (∑ d : Fin 1024, x (ix3 b t d) * w (ix2 d f)) * Named.named (F := Ideal) κ "qscale" (φ := .f32) 0x3E38AA3B#32 := by
  pointwise [k0_pay6]
  simp only [pay5_apply]

theorem pay7_apply (w : Vec Ideal S1024x512 .bf16) (f : Fin 512) :
    k0_pay7 (F := Ideal) x w (ix3 b t f) = ∑ d : Fin 1024, x (ix3 b t d) * w (ix2 d f) := by
  pointwise [k0_pay7]
  simp only [pay5_apply]

theorem pay8_apply (w : Vec Ideal S1024x512 .bf16) (f : Fin 512) :
    k0_pay8 (F := Ideal) x w (ix3 b t f) = ∑ d : Fin 1024, x (ix3 b t d) * w (ix2 d f) := by
  pointwise [k0_pay8]
  simp only [pay5_apply]

theorem pay9_apply (w : Vec Ideal S1024x512 .bf16) (f : Fin 512) :
    k0_pay9 (F := Ideal) x w (ix3 b t f) = ∑ d : Fin 1024, x (ix3 b t d) * w (ix2 d f) := by
  pointwise [k0_pay9]
  simp only [pay5_apply]

theorem pay10_apply (w : Vec Ideal S1024x512 .bf16) (o : Vec Ideal S1x512 .f32) (f : Fin 512) :
    k0_pay10 (F := Ideal) (k0_pay5 x) w o (ix3 b t f) = Ideal.logistic ((∑ d : Fin 1024, x (ix3 b t d) * w (ix2 d f)) + o (ix2 0 f)) := by
  pointwise [k0_pay10]
  simp only [pay5_apply]

theorem mid_eq : ∀ g : Fin 128, IntOp.andi (IntOp.cmpi CmpIPredicate.sge (BitVec.ofNat 32 ↑g) 8#32)
    (IntOp.cmpi CmpIPredicate.slt (BitVec.ofNat 32 ↑g) 12#32) = if 8 ≤ g.val ∧ g.val < 12 then 1#1 else 0#1 := by decide

theorem pay11_apply (w : Vec Ideal S1024x128 .bf16) (o : Vec Ideal S1x128 .f32) (f : Fin 128) :
    k0_pay11 (F := Ideal) (k0_pay5 x) w o (ix3 b t f) = gate f.val ((∑ d : Fin 1024, x (ix3 b t d) * w (ix2 d f)) + o (ix2 0 f)) := by
  pointwise [k0_pay11]
  simp only [pay5_apply]
  rw [mid_eq f]
  unfold gate
  by_cases h : 8 ≤ f.val ∧ f.val < 12
  · rw [if_pos h, if_pos h]; rfl
  · rw [if_neg h, if_neg h]; rfl

theorem pay12_apply (w : Vec Ideal S1024x1024 .bf16) (f : Fin 1024) :
    k0_pay12 (F := Ideal) (k0_pay5 x) w (ix3 b t f) = ∑ d : Fin 1024, x (ix3 b t d) * w (ix2 d f) := by
  pointwise [k0_pay12]
  simp only [pay5_apply]

theorem pay14_apply (w : Vec Ideal S1024x1024 .bf16) (f : Fin 1024) :
    k0_pay14 (F := Ideal) (k0_pay5 x) w (ix3 b t f) = ∑ d : Fin 1024, x (ix3 b t d) * w (ix2 d f) := by
  pointwise [k0_pay14, k0_pay12]
  simp only [pay5_apply]

theorem pay15_apply (w : Vec Ideal S1024x1024 .bf16) (cb cw c0 c1 : Vec Ideal S1x1024 .f32) (y0 y1 : Vec Ideal S32x8x1024 .f32) (f : Fin 1024) :
    k0_pay15 (F := Ideal) (k0_pay5 x) w cb cw y0 c0 y1 c1 (ix3 b t f) =
      cb (ix2 0 f) + (∑ d : Fin 1024, x (ix3 b t d) * w (ix2 d f)) * cw (ix2 0 f) + y0 (ix3 b t f) * c0 (ix2 0 f) + y1 (ix3 b t f) * c1 (ix2 0 f) := by
  pointwise [k0_pay15]
  rw [pay12_apply]

end

theorem pay1_apply (z : FVec Ideal S32x8x1024 .f32) (y2 : Vec Ideal S32x8x1024 .f32) (c2 : Vec Ideal S1x1024 .f32) (b : Fin 32) (t : Fin 8) (f : Fin 1024) :
    k0_pay1 (F := Ideal) z y2 c2 (ix3 b t f) = silu (z (ix3 b t f) + y2 (ix3 b t f) * c2 (ix2 0 f)) := by
  pointwise [k0_pay1]
  rfl

theorem pay2_apply (z : FVec Ideal S32x8x1024 .f32) (y2 : Vec Ideal S32x8x1024 .f32) (c2 : Vec Ideal S1x1024 .f32) (b : Fin 32) (t : Fin 8) (f : Fin 512) :
    k0_pay2 (F := Ideal) z y2 c2 (ix3 b t f) = k0_pay1 (F := Ideal) z y2 c2 (ix3 b t ⟨f.val, by omega⟩) := by
  pointwise [k0_pay2]

theorem pay3_apply (z : FVec Ideal S32x8x1024 .f32) (y2 : Vec Ideal S32x8x1024 .f32) (c2 : Vec Ideal S1x1024 .f32) (b : Fin 32) (t : Fin 8) (f : Fin 512) :
    k0_pay3 (F := Ideal) z y2 c2 (ix3 b t f) = k0_pay1 (F := Ideal) z y2 c2 (ix3 b t ⟨512 + f.val, by omega⟩) * Ideal.ofBits .f32 0x3DB504F3#32 := by
  pointwise [k0_pay3]

theorem pay13_eq (v : Vec Ideal S32x8x1024 .f32) : k0_pay13 (F := Ideal) v = v := by
  unfold k0_pay13
  dsimp only
  rw [shapeCast_self, shapeCast_self]

end Cert.Kernel5Ideal.Smi
-- ==== Proof.Smi.Math.lean ====
/- The projection of the sample's few positions: its gates and the rows its convolution reads. -/
module

public import proofs.«01_k».proof.Proof.Inp.Math

@[expose] public section

noncomputable section

namespace Smi.Math

open Idealize.ShloMosaic Inp.Math

/-- A projected position. -/
def prj (X : Fin 32 → Fin 8 → Fin 1024 → EReal) (W : Fin 1024 → Fin 3600 → EReal) (b : Fin 32) (s : Fin 8) (k : Fin 3600) : EReal :=
  ∑ d : Fin 1024, X b s d * W d k

/-- The convolved columns of a sequence: five rows of zeros, three carried ones, the eight positions' own. -/
def hist (X : Fin 32 → Fin 8 → Fin 1024 → EReal) (W : Fin 1024 → Fin 3600 → EReal) (S : Fin 32 → Fin 3 → Fin 1024 → EReal) (b : Fin 32) (n : ℕ) (j : Fin 1024) : EReal :=
  if h : 8 ≤ n ∧ n < 16 then prj X W b ⟨n - 8, by omega⟩ ⟨1544 + j.val, by omega⟩ else if h' : 5 ≤ n ∧ n < 8 then S b ⟨n - 5, by omega⟩ j else 0

section
variable (X : Fin 32 → Fin 8 → Fin 1024 → EReal) (W : Fin 1024 → Fin 3600 → EReal) (S : Fin 32 → Fin 3 → Fin 1024 → EReal) (b : Fin 32) (n : ℕ) (j : Fin 1024)

theorem hist_hi (s : Fin 8) (h : n = s.val + 8) : hist X W S b n j = prj X W b s ⟨1544 + j.val, by omega⟩ := by
  unfold hist
  subst h
  rw [dif_pos ⟨by omega, by omega⟩]
  rfl

theorem hist_mid (s : Fin 3) (h : n = s.val + 5) : hist X W S b n j = S b s j := by
  unfold hist
  subst h
  rw [dif_neg (by omega), dif_pos ⟨by omega, by omega⟩]
  rfl

theorem hist_lo (h : n < 5) : hist X W S b n j = 0 := by
  unfold hist
  rw [dif_neg (by omega), dif_neg (by omega)]

end

/-- The gates of a position: eight and four through the logistic's logarithm, four as they are between them, the rest unused. -/
def gts (X : Fin 32 → Fin 8 → Fin 1024 → EReal) (W : Fin 1024 → Fin 3600 → EReal) (bf : Fin 8 → EReal) (bi bm : Fin 4 → EReal) (b : Fin 32) (s : Fin 8) (g : Fin 128) : EReal :=
  if h : g.val < 8 then lsig (prj X W b s ⟨1536 + g.val, by omega⟩ + bf ⟨g.val, h⟩)
  else if h' : g.val < 12 then prj X W b s ⟨3080 + (g.val - 8), by omega⟩ + bi ⟨g.val - 8, by omega⟩
  else if h'' : g.val < 16 then lsig (prj X W b s ⟨3084 + (g.val - 12), by omega⟩ + bm ⟨g.val - 12, by omega⟩)
  else lsig 0

/-- A row of gates is known by its four parts. -/
theorem gts_cases (X : Fin 32 → Fin 8 → Fin 1024 → EReal) (W : Fin 1024 → Fin 3600 → EReal) (bf : Fin 8 → EReal) (bi bm : Fin 4 → EReal) (b : Fin 32) (s : Fin 8)
    (G : Fin 128 → EReal)
    (h0 : ∀ k : Fin 8, G ⟨k.val, by omega⟩ = lsig (prj X W b s ⟨1536 + k.val, by omega⟩ + bf k))
    (h1 : ∀ k : Fin 4, G ⟨8 + k.val, by omega⟩ = prj X W b s ⟨3080 + k.val, by omega⟩ + bi k)
    (h2 : ∀ k : Fin 4, G ⟨12 + k.val, by omega⟩ = lsig (prj X W b s ⟨3084 + k.val, by omega⟩ + bm k))
    (h3 : ∀ k : Fin 112, G ⟨16 + k.val, by omega⟩ = lsig 0) (g : Fin 128) : G g = gts X W bf bi bm b s g := by
  unfold gts
  by_cases a0 : g.val < 8
  · rw [dif_pos a0]; exact h0 ⟨g.val, a0⟩
  rw [dif_neg a0]
  by_cases a1 : g.val < 12
  · rw [dif_pos a1]
    refine Eq.trans ?_ (h1 ⟨g.val - 8, by omega⟩)
    exact congrArg G (Fin.ext (by simp only []; omega))
  rw [dif_neg a1]
  by_cases a2 : g.val < 16
  · rw [dif_pos a2]
    refine Eq.trans ?_ (h2 ⟨g.val - 12, by omega⟩)
    exact congrArg G (Fin.ext (by simp only []; omega))
  rw [dif_neg a2]
  refine Eq.trans ?_ (h3 ⟨g.val - 16, by omega⟩)
  exact congrArg G (Fin.ext (by simp only []; omega))

end Smi.Math
-- ==== Proof.Smi.Out.lean ====
/- What the projection's call of the sample leaves in each of its blocks, element by element. -/
module

public import proofs.«01_k».proof.Proof.Smi.Pay
public import proofs.«01_k».proof.Proof.Smi.Math
public import proofs.«01_k».proof.Proof.Gen.Kernel5Ideal.Value
public import Idealize.ShloMosaic.Lib.WritesUnit
public import Idealize.ShloMosaic.Lib.VecWindow

@[expose] public section

set_option maxRecDepth 16384

noncomputable section

namespace Cert.Kernel5Ideal.Smi

open Idealize.ShloMosaic Idealize.ShloMosaic.TcCoe Idealize.SL.Sem Cert.Kernel5Ideal Cert.Kernel5Ideal.Gen _root_.Inp.Math

theorem hz3 : (![0, 0, 0] : Fin 3 → ℕ) = fun _ => 0 := by funext a; fin_cases a <;> rfl

theorem hz2 : (![0, 0] : Fin 2 → ℕ) = fun _ => 0 := by funext a; fin_cases a <;> rfl

/-- A load of a rectangle, at an index: the buffer at the index moved by the rectangle's offset. -/
theorem readAt_at {sg : RefSig} {κ : Kind} {sp : Space} {s : Shape} {e : EltTy} (v : View sg κ sp s e) (f : v.ty.Contents (Elt Ideal)) {off size : Fin s.rank → ℕ} (inb : ∀ a, off a + size a ≤ s.size a)
    (x : (Rect.unit off size inb).shape.Idx) (y : s.Idx) (hy : ∀ a, (y a).val = off a + (x a).val) :
    v.readAt (Elt Ideal) (Rect.unit off size inb).toLoadRect f x = v.read (Elt Ideal) f y := by
  rw [View.readAt_unit v f inb rfl inb]
  show v.read (Elt Ideal) f _ = _
  congr 1
  funext a
  apply Fin.ext
  show off a + 1 * (x a).val = _
  rw [one_mul]
  exact (hy a).symm

/-- A sequence's position against a column of the weights. -/
def bp (x0 : Vec Ideal S32x8x1024 .f32) (x1 : Vec Ideal S1024x3712 .bf16) (b : Fin 32) (r : Fin 8) (k : Fin 3712) : EReal :=
  ∑ d : Fin 1024, x0 (ix3 b r d) * x1 (ix2 d k)

/-- The convolution's rows of a sequence: eight earlier ones, then its own. -/
def zr (H x0 : Vec Ideal S32x8x1024 .f32) (x1 : Vec Ideal S1024x3712 .bf16) (b : Fin 32) (p : ℕ) (j : Fin 1024) : EReal :=
  if h : p < 8 then H (ix3 b ⟨p, h⟩ j) else if h' : p < 16 then bp x0 x1 b ⟨p - 8, by omega⟩ ⟨1536 + j.val, by omega⟩ else 0

theorem ix3_ok {n0 n1 n2 m0 m1 m2 : ℕ} (a : Fin n0) (b : Fin n1) (e : Fin n2) (a' : Fin m0) (b' : Fin m1) (e' : Fin m2) (o0 o1 o2 : ℕ)
    (h0 : a.val = o0 + a'.val) (h1 : b.val = o1 + b'.val) (h2 : e.val = o2 + e'.val) :
    ∀ x : Fin 3, (ix3 a b e x).val = (![o0, o1, o2] : Fin 3 → ℕ) x + (ix3 a' b' e' x).val := by
  intro x
  match x with
  | ⟨0, _⟩ => exact h0
  | ⟨1, _⟩ => exact h1
  | ⟨2, _⟩ => exact h2

theorem ix2_ok {n0 n1 m0 m1 : ℕ} (a : Fin n0) (b : Fin n1) (a' : Fin m0) (b' : Fin m1) (o0 o1 : ℕ)
    (h0 : a.val = o0 + a'.val) (h1 : b.val = o1 + b'.val) :
    ∀ x : Fin 2, (ix2 a b x).val = (![o0, o1] : Fin 2 → ℕ) x + (ix2 a' b' x).val := by
  intro x
  match x with
  | ⟨0, _⟩ => exact h0
  | ⟨1, _⟩ => exact h1

variable (c : Dev nD) (i : grid0.Coords) {arg2 : Memref sig .tc .vmem S32x8x1024 .f32} {harg2 : arg2.IsWhole} {arg3 : Memref sig .tc .vmem S1024x3712 .bf16} {harg3 : arg3.IsWhole} {arg4 : Memref sig .tc .vmem S1x128 .f32} {harg4 : arg4.IsWhole} {arg5 : Memref sig .tc .vmem S1x512 .f32} {harg5 : arg5.IsWhole} {arg6 : Memref sig .tc .vmem S4x1024 .f32} {harg6 : arg6.IsWhole} {arg7 : Memref sig .tc .vmem S1x1024 .f32} {harg7 : arg7.IsWhole} {arg8 : Memref sig .tc .vmem S32x8x1024 .f32} {harg8 : arg8.IsWhole} {arg9 : Memref sig .tc .vmem S32x8x512 .bf16} {harg9 : arg9.IsWhole} {arg10 : Memref sig .tc .vmem S32x8x512 .f32} {harg10 : arg10.IsWhole} {arg11 : Memref sig .tc .vmem S32x8x512 .f32} {harg11 : arg11.IsWhole} {arg12 : Memref sig .tc .vmem S32x8x128 .f32} {harg12 : arg12.IsWhole} {arg13 : Memref sig .tc .vmem S32x8x512 .bf16} {harg13 : arg13.IsWhole} {arg14 : Memref sig .tc .vmem S32x8x512 .bf16} {harg14 : arg14.IsWhole} {arg15 : Memref sig .tc .vmem S32x8x512 .bf16} {harg15 : arg15.IsWhole} {arg16 : Memref sig .tc .vmem S32x8x512 .bf16} {harg16 : arg16.IsWhole} {arg17 : Memref sig .tc .vmem S32x8x1024 .f32} {harg17 : arg17.IsWhole} {arg18 : Memref sig .tc .vmem S32x16x1024 .f32} {harg18 : arg18.IsWhole}
  (x0 : Vec Ideal S32x8x1024 .f32) (x1 : Vec Ideal S1024x3712 .bf16) (x2 : Vec Ideal S1x128 .f32) (x3 : Vec Ideal S1x512 .f32) (x4 : Vec Ideal S4x1024 .f32) (x5 : Vec Ideal S1x1024 .f32) (x6 : Vec Ideal S32x8x1024 .f32)

theorem rdX (inb : ∀ a, (![0, 0, 0] : Fin 3 → ℕ) a + S32x8x1024.size a ≤ S32x8x1024.size a) :
    View.readAt (Elt Ideal) arg2.view (Rect.unit (s := S32x8x1024) ![0, 0, 0] S32x8x1024.size inb).toLoadRect (harg2.unread x0) = x0 :=
  (View.readAt_full _ _ _).trans (harg2.read_unread x0)

theorem rdW (o n : ℕ) (inb : ∀ a, (![0, o] : Fin 2 → ℕ) a + (⟨2, ![1024, n]⟩ : Shape).size a ≤ S1024x3712.size a) (d : Fin 1024) (j : Fin n) (h : o + j.val < 3712) :
    View.readAt (Elt Ideal) arg3.view (Rect.unit (s := S1024x3712) ![0, o] (⟨2, ![1024, n]⟩ : Shape).size inb).toLoadRect (harg3.unread x1) (ix2 d j) = x1 (ix2 d ⟨o + j.val, h⟩) := by
  refine (readAt_at arg3.view _ inb (ix2 d j) (ix2 d ⟨o + j.val, h⟩) (ix2_ok _ _ _ _ _ _ (Nat.zero_add _).symm rfl)).trans ?_
  rw [harg3.read_unread]

theorem rdC (o : ℕ) (inb : ∀ a, (![o, 0] : Fin 2 → ℕ) a + S1x1024.size a ≤ S4x1024.size a) (j : Fin 1024) (h : o < 4) :
    View.readAt (Elt Ideal) arg6.view (Rect.unit (s := S4x1024) ![o, 0] S1x1024.size inb).toLoadRect (harg6.unread x4) (ix2 0 j) = x4 (ix2 ⟨o, h⟩ j) := by
  refine (readAt_at arg6.view _ inb (ix2 0 j) (ix2 ⟨o, h⟩ j) (ix2_ok _ _ _ _ _ _ rfl (Nat.zero_add _).symm)).trans ?_
  rw [harg6.read_unread]

theorem sumW (o n : ℕ) (inb : ∀ a, (![0, o] : Fin 2 → ℕ) a + (⟨2, ![1024, n]⟩ : Shape).size a ≤ S1024x3712.size a) (b : Fin 32) (r : Fin 8) (j : Fin n) (h : o + j.val < 3712) :
    (∑ d : Fin 1024, x0 (ix3 b r d) * View.readAt (Elt Ideal) arg3.view (Rect.unit (s := S1024x3712) ![0, o] (⟨2, ![1024, n]⟩ : Shape).size inb).toLoadRect (harg3.unread x1) (ix2 d j)) = bp x0 x1 b r ⟨o + j.val, h⟩ := by
  unfold bp
  exact Finset.sum_congr rfl fun d _ => congrArg (x0 (ix3 b r d) * ·) (rdW (harg3 := harg3) x1 o n inb d j h)

theorem oA7 (hc0 : cond0_0 i) (b : Fin 32) (r : Fin 8) (f : Fin 512) : out0_A_7 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 (ix3 b r f) = bp x0 x1 b r ⟨0 + f.val, by omega⟩ * Named.named (F := Ideal) κ "qscale" (φ := .f32) 0x3E38AA3B#32 := by
  unfold out0_A_7
  rw [View.read_writes_eq_canon _ _ _ (cover0_A_7 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6)]
  unfold kernelRun0_A
  dsimp only
  rw [View.canon_unit_zero hz3]
  refine (pay6_apply _ _ _ _ _).trans ?_
  exact congrArg (· * _) ((Finset.sum_congr rfl fun d _ => congrArg (· * _) (congrFun (rdX (harg2 := harg2) x0 inb_S32x8x1024_S32x8x1024_0_0_0) _)).trans (sumW (harg3 := harg3) x0 x1 0 512 _ _ _ _ (by omega)))

theorem oA8 (hc0 : cond0_0 i) (b : Fin 32) (r : Fin 8) (f : Fin 512) : out0_A_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 (ix3 b r f) = bp x0 x1 b r ⟨512 + f.val, by omega⟩ := by
  unfold out0_A_8
  rw [View.read_writes_eq_canon _ _ _ (cover0_A_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6)]
  unfold kernelRun0_A
  dsimp only
  rw [View.canon_unit_zero hz3]
  refine (pay7_apply _ _ _ _ _).trans ?_
  exact (Finset.sum_congr rfl fun d _ => congrArg (· * _) (congrFun (rdX (harg2 := harg2) x0 inb_S32x8x1024_S32x8x1024_0_0_0) _)).trans (sumW (harg3 := harg3) x0 x1 512 512 _ _ _ _ (by omega))

theorem oA9 (hc0 : cond0_0 i) (b : Fin 32) (r : Fin 8) (f : Fin 512) : out0_A_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 (ix3 b r f) = bp x0 x1 b r ⟨1024 + f.val, by omega⟩ := by
  unfold out0_A_9
  rw [View.read_writes_eq_canon _ _ _ (cover0_A_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6)]
  unfold kernelRun0_A
  dsimp only
  rw [View.canon_unit_zero hz3]
  refine (pay8_apply _ _ _ _ _).trans ?_
  exact (Finset.sum_congr rfl fun d _ => congrArg (· * _) (congrFun (rdX (harg2 := harg2) x0 inb_S32x8x1024_S32x8x1024_0_0_0) _)).trans (sumW (harg3 := harg3) x0 x1 1024 512 _ _ _ _ (by omega))

theorem oA13 (hc0 : cond0_0 i) (b : Fin 32) (r : Fin 8) (f : Fin 512) : out0_A_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 (ix3 b r f) = bp x0 x1 b r ⟨2560 + f.val, by omega⟩ := by
  unfold out0_A_13
  rw [View.read_writes_eq_canon _ _ _ (cover0_A_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6)]
  unfold kernelRun0_A
  dsimp only
  rw [View.canon_unit_zero hz3]
  refine (pay9_apply _ _ _ _ _).trans ?_
  exact (Finset.sum_congr rfl fun d _ => congrArg (· * _) (congrFun (rdX (harg2 := harg2) x0 inb_S32x8x1024_S32x8x1024_0_0_0) _)).trans (sumW (harg3 := harg3) x0 x1 2560 512 _ _ _ _ (by omega))

theorem oA10 (hc0 : cond0_0 i) (b : Fin 32) (r : Fin 8) (f : Fin 128) : out0_A_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 (ix3 b r f) = gate f.val (bp x0 x1 b r ⟨3584 + f.val, by omega⟩ + x2 (ix2 0 f)) := by
  unfold out0_A_10
  rw [View.read_writes_eq_canon _ _ _ (cover0_A_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6)]
  unfold kernelRun0_A
  dsimp only
  rw [View.canon_unit_zero hz3]
  refine (pay11_apply _ _ _ _ _ _).trans ?_
  exact congrArg (gate _) (congrArg₂ (· + ·) ((Finset.sum_congr rfl fun d _ => congrArg (· * _) (congrFun (rdX (harg2 := harg2) x0 inb_S32x8x1024_S32x8x1024_0_0_0) _)).trans (sumW (harg3 := harg3) x0 x1 3584 128 _ _ _ _ (by omega))) (congrFun ((View.readAt_full _ _ _).trans (harg4.read_unread x2)) _))

theorem oA14 (hc0 : cond0_0 i) (b : Fin 32) (r : Fin 8) (f : Fin 512) : out0_A_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 (ix3 b r f) = Ideal.logistic (bp x0 x1 b r ⟨3072 + f.val, by omega⟩ + x3 (ix2 0 f)) := by
  unfold out0_A_14
  rw [View.read_writes_eq_canon _ _ _ (cover0_A_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6)]
  unfold kernelRun0_A
  dsimp only
  rw [View.canon_unit_zero hz3]
  refine (pay10_apply _ _ _ _ _ _).trans ?_
  exact congrArg Ideal.logistic (congrArg₂ (· + ·) ((Finset.sum_congr rfl fun d _ => congrArg (· * _) (congrFun (rdX (harg2 := harg2) x0 inb_S32x8x1024_S32x8x1024_0_0_0) _)).trans (sumW (harg3 := harg3) x0 x1 3072 512 _ _ _ _ (by omega))) (congrFun ((View.readAt_full _ _ _).trans (harg5.read_unread x3)) _))

theorem bp_pay (w : Vec Ideal S1024x1024 .bf16) (hw : ∀ (d : Fin 1024) (j : Fin 1024), w (ix2 d j) = x1 (ix2 d ⟨1536 + j.val, by omega⟩)) (x : Vec Ideal S32x8x1024 .f32) (hx : x = x0) (b : Fin 32) (r : Fin 8) (j : Fin 1024) :
    k0_pay14 (F := Ideal) (k0_pay5 x) w (ix3 b r j) = bp x0 x1 b r ⟨1536 + j.val, by omega⟩ := by
  subst hx
  rw [pay14_apply]
  unfold bp
  exact Finset.sum_congr rfl fun d _ => congrArg (x (ix3 b r d) * ·) (hw d j)

/-- A row of the carried buffer after the block's rows were stored from the eighth on. -/
theorem sc_hi {sg : RefSig} {κ : Kind} {sp : Space} (v : View sg κ sp S32x16x1024 .f32) (f : v.ty.Contents (Elt Ideal)) (inb : ∀ a, (![0, 8, 0] : Fin 3 → ℕ) a + S32x8x1024.size a ≤ S32x16x1024.size a)
    (w : Vec Ideal S32x8x1024 .f32) (L : List (View.Piece (Elt Ideal) S32x16x1024 .f32)) (b : Fin 32) (p : Fin 16) (hp : 8 ≤ p.val) (j : Fin 1024) :
    v.read (Elt Ideal) (v.writes (Elt Ideal) f ((⟨Rect.unit (s := S32x16x1024) ![0, 8, 0] S32x8x1024.size inb, w⟩ : View.Piece (Elt Ideal) S32x16x1024 .f32) :: L)) (ix3 b p j) = w (ix3 b ⟨p.val - 8, by omega⟩ j) :=
  View.read_writes_cons_unit_of_mem v f inb w L (ix3 b p j) (ix3 b ⟨p.val - 8, by omega⟩ j) rfl (ix3_ok _ _ _ _ _ _ _ _ _ (Nat.zero_add _).symm (by show p.val = 8 + (p.val - 8); omega) (Nat.zero_add _).symm)

theorem sc_lo {sg : RefSig} {κ : Kind} {sp : Space} (v : View sg κ sp S32x16x1024 .f32) (f : v.ty.Contents (Elt Ideal)) (inb : ∀ a, (![0, 8, 0] : Fin 3 → ℕ) a + S32x8x1024.size a ≤ S32x16x1024.size a)
    (w : Vec Ideal S32x8x1024 .f32) (L : List (View.Piece (Elt Ideal) S32x16x1024 .f32)) (b : Fin 32) (p : Fin 16) (hp : p.val < 8) (j : Fin 1024) :
    v.read (Elt Ideal) (v.writes (Elt Ideal) f ((⟨Rect.unit (s := S32x16x1024) ![0, 8, 0] S32x8x1024.size inb, w⟩ : View.Piece (Elt Ideal) S32x16x1024 .f32) :: L)) (ix3 b p j) = v.read (Elt Ideal) (v.writes (Elt Ideal) f L) (ix3 b p j) :=
  View.read_writes_cons_unit_of_not_mem v f inb w L (ix3 b p j) rfl 1 (Or.inl hp)

theorem sc_top {sg : RefSig} {κ : Kind} {sp : Space} (v : View sg κ sp S32x16x1024 .f32) (f : v.ty.Contents (Elt Ideal)) (inb : ∀ a, (![0, 0, 0] : Fin 3 → ℕ) a + S32x8x1024.size a ≤ S32x16x1024.size a)
    (w : Vec Ideal S32x8x1024 .f32) (L : List (View.Piece (Elt Ideal) S32x16x1024 .f32)) (b : Fin 32) (p : Fin 16) (hp : p.val < 8) (j : Fin 1024) :
    v.read (Elt Ideal) (v.writes (Elt Ideal) f ((⟨Rect.unit (s := S32x16x1024) ![0, 0, 0] S32x8x1024.size inb, w⟩ : View.Piece (Elt Ideal) S32x16x1024 .f32) :: L)) (ix3 b p j) = w (ix3 b ⟨p.val, hp⟩ j) :=
  View.read_writes_cons_unit_of_mem v f inb w L (ix3 b p j) (ix3 b ⟨p.val, hp⟩ j) rfl (ix3_ok _ _ _ _ _ _ _ _ _ (Nat.zero_add _).symm (Nat.zero_add _).symm (Nat.zero_add _).symm)

theorem zr_hi (H : Vec Ideal S32x8x1024 .f32) (b : Fin 32) (p : Fin 16) (hp : 8 ≤ p.val) (j : Fin 1024) : zr H x0 x1 b p.val j = bp x0 x1 b ⟨p.val - 8, by omega⟩ ⟨1536 + j.val, by omega⟩ := by
  unfold zr
  rw [dif_neg (by omega), dif_pos p.isLt]

theorem zr_lo (H : Vec Ideal S32x8x1024 .f32) (b : Fin 32) (p : Fin 16) (hp : p.val < 8) (j : Fin 1024) : zr H x0 x1 b p.val j = H (ix3 b ⟨p.val, hp⟩ j) := by
  unfold zr
  rw [dif_pos hp]

theorem scA {sg : RefSig} {κ : Kind} {sp : Space} (v : View sg κ sp S32x16x1024 .f32) (f : v.ty.Contents (Elt Ideal)) (b : Fin 32) (p : Fin 16) (j : Fin 1024) :
    v.read (Elt Ideal) (v.writes (Elt Ideal) f (kernelRun0_A.sl.HS0_2 c arg2 harg2 arg3 harg3 arg8 harg8 x0 x1 x6)) (ix3 b p j) = zr x6 x0 x1 b p.val j := by
  unfold kernelRun0_A.sl.HS0_2
  by_cases hp : p.val < 8
  · refine (sc_lo v f _ _ _ b p hp j).trans ?_
    refine (sc_top v f _ _ _ b p hp j).trans ?_
    rw [zr_lo x0 x1 x6 b p hp j, pay13_eq]
    exact congrFun ((View.readAt_full _ _ _).trans (harg8.read_unread x6)) _
  · refine (sc_hi v f _ _ _ b p (by omega) j).trans ?_
    rw [zr_hi x0 x1 x6 b p (by omega) j]
    exact bp_pay x0 x1 _ (fun d j => rdW (harg3 := harg3) x1 1536 1024 _ d j (by omega)) _ (rdX (harg2 := harg2) x0 _) b _ j

theorem v83A (b : Fin 32) (r : Fin 8) (j : Fin 1024) : kernelRun0_A.sl.v83 (F := Ideal) c arg2 harg2 arg3 harg3 arg8 harg8 arg18 x0 x1 x6 (ix3 b r j) = zr x6 x0 x1 b (r.val + 5) j := by
  unfold kernelRun0_A.sl.v83
  refine (readAt_at arg18.view _ inb_S32x16x1024_S32x8x1024_0_5_0 (ix3 b r j) (ix3 b ⟨r.val + 5, by omega⟩ j) (ix3_ok _ _ _ _ _ _ _ _ _ (Nat.zero_add _).symm (Nat.add_comm _ _) (Nat.zero_add _).symm)).trans ?_
  exact scA (harg2 := harg2) (harg3 := harg3) (harg8 := harg8) c x0 x1 x6 arg18.view _ b ⟨r.val + 5, by omega⟩ j

theorem v89A (b : Fin 32) (r : Fin 8) (j : Fin 1024) : kernelRun0_A.sl.v89 (F := Ideal) c arg2 harg2 arg3 harg3 arg8 harg8 arg18 x0 x1 x6 (ix3 b r j) = zr x6 x0 x1 b (r.val + 6) j := by
  unfold kernelRun0_A.sl.v89
  refine (readAt_at arg18.view _ inb_S32x16x1024_S32x8x1024_0_6_0 (ix3 b r j) (ix3 b ⟨r.val + 6, by omega⟩ j) (ix3_ok _ _ _ _ _ _ _ _ _ (Nat.zero_add _).symm (Nat.add_comm _ _) (Nat.zero_add _).symm)).trans ?_
  exact scA (harg2 := harg2) (harg3 := harg3) (harg8 := harg8) c x0 x1 x6 arg18.view _ b ⟨r.val + 6, by omega⟩ j

theorem v95A (b : Fin 32) (r : Fin 8) (j : Fin 1024) : kernelRun0_A.sl.v95 (F := Ideal) c arg2 harg2 arg3 harg3 arg8 harg8 arg18 x0 x1 x6 (ix3 b r j) = zr x6 x0 x1 b (r.val + 7) j := by
  unfold kernelRun0_A.sl.v95
  refine (readAt_at arg18.view _ inb_S32x16x1024_S32x8x1024_0_7_0 (ix3 b r j) (ix3 b ⟨r.val + 7, by omega⟩ j) (ix3_ok _ _ _ _ _ _ _ _ _ (Nat.zero_add _).symm (Nat.add_comm _ _) (Nat.zero_add _).symm)).trans ?_
  exact scA (harg2 := harg2) (harg3 := harg3) (harg8 := harg8) c x0 x1 x6 arg18.view _ b ⟨r.val + 7, by omega⟩ j

theorem v111A (b : Fin 32) (r : Fin 8) (j : Fin 1024) : kernelRun0_A.sl.v111 (F := Ideal) c arg2 harg2 arg3 harg3 arg8 harg8 arg18 x0 x1 x6 (ix3 b r j) = bp x0 x1 b r ⟨1536 + j.val, by omega⟩ := by
  unfold kernelRun0_A.sl.v111
  refine (readAt_at arg18.view _ inb_S32x16x1024_S32x8x1024_0_8_0 (ix3 b r j) (ix3 b ⟨8 + r.val, by omega⟩ j) (ix3_ok _ _ _ _ _ _ _ _ _ (Nat.zero_add _).symm rfl (Nat.zero_add _).symm)).trans ?_
  refine (scA (harg2 := harg2) (harg3 := harg3) (harg8 := harg8) c x0 x1 x6 arg18.view _ b ⟨8 + r.val, by omega⟩ j).trans ?_
  rw [zr_hi x0 x1 x6 b ⟨8 + r.val, by omega⟩ (by show 8 ≤ 8 + r.val; omega) j]
  exact congrArg (fun q => bp x0 x1 b q _) (Fin.ext (by show 8 + r.val - 8 = r.val; omega))

theorem r2A (b : Fin 32) (r : Fin 8) (j : Fin 1024) : kernelRun0_A.sl.r_2 (F := Ideal) c arg2 harg2 arg3 harg3 arg6 harg6 arg7 harg7 arg8 harg8 arg18 x0 x1 x4 x5 x6 (ix3 b r j)
    = x5 (ix2 0 j) + zr x6 x0 x1 b (r.val + 8) j * x4 (ix2 3 j) + zr x6 x0 x1 b (r.val + 5) j * x4 (ix2 0 j) + zr x6 x0 x1 b (r.val + 6) j * x4 (ix2 1 j) := by
  unfold kernelRun0_A.sl.r_2
  refine (pay15_apply _ _ _ _ _ _ _ _ _ _ _).trans ?_
  refine congrArg₂ (· + ·) (congrArg₂ (· + ·) (congrArg₂ (· + ·) (congrFun ((View.readAt_full _ _ _).trans (harg7.read_unread x5)) _) (congrArg₂ (· * ·) ?_ (rdC (harg6 := harg6) x4 3 _ j (by decide))))
    (congrArg₂ (· * ·) (v83A c x0 x1 x6 b r j) (rdC (harg6 := harg6) x4 0 _ j (by decide)))) (congrArg₂ (· * ·) (v89A c x0 x1 x6 b r j) (rdC (harg6 := harg6) x4 1 _ j (by decide)))
  rw [zr_hi x0 x1 x6 b ⟨r.val + 8, by omega⟩ (by show 8 ≤ r.val + 8; omega) j]
  exact (Finset.sum_congr rfl fun d _ => congrArg (· * _) (congrFun (rdX (harg2 := harg2) x0 inb_S32x8x1024_S32x8x1024_0_0_0) _)).trans (sumW (harg3 := harg3) x0 x1 1536 1024 _ _ _ _ (by omega))

theorem oA11 (hc0 : cond0_0 i) (b : Fin 32) (r : Fin 8) (f : Fin 512) : out0_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 (ix3 b r f) = cnv (zr x6 x0 x1 b) (fun k j => x4 (ix2 k j)) (fun j => x5 (ix2 0 j)) r.val ⟨f.val, by omega⟩ := by
  unfold out0_A_11
  rw [View.read_writes_eq_canon _ _ _ (cover0_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6)]
  unfold kernelRun0_A
  dsimp only
  rw [View.canon_unit_zero hz3]
  refine (pay2_apply _ _ _ _ _ _).trans ?_
  exact (pay1_apply _ _ _ b r ⟨f.val, by omega⟩).trans ((congrArg silu (congrArg₂ (· + ·) (r2A c x0 x1 x4 x5 x6 b r ⟨f.val, by omega⟩) (congrArg₂ (· * ·) (v95A c x0 x1 x6 b r ⟨f.val, by omega⟩) (rdC (harg6 := harg6) x4 2 _ ⟨f.val, by omega⟩ (by decide))))).trans (cnv_eq _ _ _ _ _))

theorem oA12 (hc0 : cond0_0 i) (b : Fin 32) (r : Fin 8) (f : Fin 512) : out0_A_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 (ix3 b r f) = cnv (zr x6 x0 x1 b) (fun k j => x4 (ix2 k j)) (fun j => x5 (ix2 0 j)) r.val ⟨512 + f.val, by omega⟩ * Ideal.ofBits .f32 0x3DB504F3#32 := by
  unfold out0_A_12
  rw [View.read_writes_eq_canon _ _ _ (cover0_A_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6)]
  unfold kernelRun0_A
  dsimp only
  rw [View.canon_unit_zero hz3]
  refine (pay3_apply _ _ _ _ _ _).trans ?_
  exact congrArg (· * Ideal.ofBits .f32 0x3DB504F3#32) ((pay1_apply _ _ _ b r ⟨512 + f.val, by omega⟩).trans ((congrArg silu (congrArg₂ (· + ·) (r2A c x0 x1 x4 x5 x6 b r ⟨512 + f.val, by omega⟩) (congrArg₂ (· * ·) (v95A c x0 x1 x6 b r ⟨512 + f.val, by omega⟩) (rdC (harg6 := harg6) x4 2 _ ⟨512 + f.val, by omega⟩ (by decide))))).trans (cnv_eq _ _ _ _ _)))

theorem oA15 (hc0 : cond0_0 i) (b : Fin 32) (r : Fin 8) (f : Fin 1024) : out0_A_15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 (ix3 b r f) = bp x0 x1 b r ⟨1536 + f.val, by omega⟩ := by
  unfold out0_A_15
  rw [View.read_writes_eq_canon _ _ _ (cover0_A_15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6)]
  unfold kernelRun0_A
  dsimp only
  rw [View.canon_unit_zero hz3]
  exact v111A c x0 x1 x6 b r f

end Cert.Kernel5Ideal.Smi
-- ==== Proof.Smi.Host.lean ====
/- The arrays the sample's projection's call reads, of the launch arguments. -/
module

public import proofs.«01_k».proof.Proof.Smi.Pay
public import proofs.«01_k».proof.Proof.Gen.Kernel5Ideal.Frame
public import Idealize.ShloMosaic.Lib.StableHlo.ReadAt
public import Idealize.ShloMosaic.Lib.Pointwise

@[expose] public section

set_option maxRecDepth 16384

noncomputable section

namespace Cert.Kernel5Ideal.Smi

open Idealize.ShloMosaic Idealize.ShloMosaic.TcCoe Idealize.SL.Sem Cert.Kernel5Ideal Cert.Kernel5Ideal.Gen _root_.Inp.Math

variable (m : (ℓ : Loc nD τ sig) → Buf (Elt Ideal) ℓ) (c : Dev nD)

abbrev aX : Vec Ideal S32x8x1024 .f32 := m ((c : Thread nD τ).loc main_arg0)
abbrev aS : Vec Ideal S32x3x1024 .f32 := m ((c : Thread nD τ).loc main_arg1)
abbrev aW : Vec Ideal S1024x3600 .f32 := m ((c : Thread nD τ).loc main_arg2)
abbrev aF : Vec Ideal S8 .f32 := m ((c : Thread nD τ).loc main_arg3)
abbrev aI : Vec Ideal S4 .f32 := m ((c : Thread nD τ).loc main_arg4)
abbrev aM : Vec Ideal S4 .f32 := m ((c : Thread nD τ).loc main_arg5)
abbrev aO : Vec Ideal S512 .f32 := m ((c : Thread nD τ).loc main_arg6)
abbrev aC : Vec Ideal S4x1024 .f32 := m ((c : Thread nD τ).loc main_arg7)
abbrev aB : Vec Ideal S1024 .f32 := m ((c : Thread nD τ).loc main_arg8)

/-- The weights' columns in the kernel's order. -/
def wcat (A : Vec Ideal S1024x1536 .f32) (B : Vec Ideal S1024x1536 .f32) (C : Vec Ideal S1024x512 .f32) (D : Vec Ideal S1024x128 .f32) : Vec Ideal S1024x3712 .f32 :=
  concatenate S1024x3712 1 [⟨S1024x1536, A⟩, ⟨S1024x1536, B⟩, ⟨S1024x512, C⟩, ⟨S1024x128, D⟩] concatenates_S1024x1536_S1024x1536_S1024x512_S1024x128_S1024x3712_d1
/-- The gates' columns, filled up with zeros. -/
def gcat (A B : Vec Ideal S1024x8 .f32) (C : Vec Ideal S1024x112 .f32) : Vec Ideal S1024x128 .f32 :=
  concatenate S1024x128 1 [⟨S1024x8, A⟩, ⟨S1024x8, B⟩, ⟨S1024x112, C⟩] concatenates_S1024x8_S1024x8_S1024x112_S1024x128_d1
/-- The gates' offsets, filled up with zeros. -/
def bcat (A : Vec Ideal S8 .f32) (B C : Vec Ideal S4 .f32) (D : Vec Ideal S112 .f32) : Vec Ideal S128 .f32 :=
  concatenate S128 0 [⟨S8, A⟩, ⟨S4, B⟩, ⟨S4, C⟩, ⟨S112, D⟩] concatenates_S8_S4_S4_S112_S128_d0

theorem wcat_congr {A A' B B' : Vec Ideal S1024x1536 .f32} {C C' : Vec Ideal S1024x512 .f32} {D D' : Vec Ideal S1024x128 .f32} (a : A = A') (b : B = B') (c : C = C') (d : D = D') :
    wcat A B C D = wcat A' B' C' D' := by rw [a, b, c, d]
theorem gcat_congr {A A' B B' : Vec Ideal S1024x8 .f32} {C C' : Vec Ideal S1024x112 .f32} (a : A = A') (b : B = B') (c : C = C') :
    gcat A B C = gcat A' B' C' := by rw [a, b, c]
theorem bcat_congr {A A' : Vec Ideal S8 .f32} {B B' C C' : Vec Ideal S4 .f32} {D D' : Vec Ideal S112 .f32} (a : A = A') (b : B = B') (c : C = C') (d : D = D') :
    bcat A B C D = bcat A' B' C' D' := by rw [a, b, c, d]

theorem wcat_a (A : Vec Ideal S1024x1536 .f32) (B : Vec Ideal S1024x1536 .f32) (C : Vec Ideal S1024x512 .f32) (D : Vec Ideal S1024x128 .f32) (d : Fin 1024) (k : Fin 1536) :
    wcat A B C D (ix2 d ⟨k.val, by omega⟩) = A (ix2 d k) := by
  pointwise [wcat]

theorem wcat_b (A : Vec Ideal S1024x1536 .f32) (B : Vec Ideal S1024x1536 .f32) (C : Vec Ideal S1024x512 .f32) (D : Vec Ideal S1024x128 .f32) (d : Fin 1024) (k : Fin 1536) :
    wcat A B C D (ix2 d ⟨1536 + k.val, by omega⟩) = B (ix2 d k) := by
  pointwise [wcat]

theorem wcat_c (A : Vec Ideal S1024x1536 .f32) (B : Vec Ideal S1024x1536 .f32) (C : Vec Ideal S1024x512 .f32) (D : Vec Ideal S1024x128 .f32) (d : Fin 1024) (k : Fin 512) :
    wcat A B C D (ix2 d ⟨3072 + k.val, by omega⟩) = C (ix2 d k) := by
  pointwise [wcat]
  refine (dif_neg (by omega)).trans ?_
  refine (dif_neg (by omega)).trans ?_
  refine (dif_pos (by omega)).trans ?_
  exact congrArg (fun t => C (ix2 d t)) (Fin.ext (by simp only []; omega))

theorem wcat_d (A : Vec Ideal S1024x1536 .f32) (B : Vec Ideal S1024x1536 .f32) (C : Vec Ideal S1024x512 .f32) (D : Vec Ideal S1024x128 .f32) (d : Fin 1024) (k : Fin 128) :
    wcat A B C D (ix2 d ⟨3584 + k.val, by omega⟩) = D (ix2 d k) := by
  pointwise [wcat]
  refine (dif_neg (by omega)).trans ?_
  refine (dif_neg (by omega)).trans ?_
  refine (dif_neg (by omega)).trans ?_
  exact congrArg (fun t => D (ix2 d t)) (Fin.ext (by simp only []; omega))

theorem gcat_a (A B : Vec Ideal S1024x8 .f32) (C : Vec Ideal S1024x112 .f32) (d : Fin 1024) (k : Fin 8) :
    gcat A B C (ix2 d ⟨k.val, by omega⟩) = A (ix2 d k) := by
  pointwise [gcat]

theorem gcat_b (A B : Vec Ideal S1024x8 .f32) (C : Vec Ideal S1024x112 .f32) (d : Fin 1024) (k : Fin 8) :
    gcat A B C (ix2 d ⟨8 + k.val, by omega⟩) = B (ix2 d k) := by
  pointwise [gcat]

theorem gcat_c (A B : Vec Ideal S1024x8 .f32) (C : Vec Ideal S1024x112 .f32) (d : Fin 1024) (k : Fin 112) :
    gcat A B C (ix2 d ⟨16 + k.val, by omega⟩) = C (ix2 d k) := by
  pointwise [gcat]
  refine (dif_neg (by omega)).trans ?_
  refine (dif_neg (by omega)).trans ?_
  exact congrArg (fun t => C (ix2 d t)) (Fin.ext (by simp only []; omega))

theorem bcat_a (A : Vec Ideal S8 .f32) (B C : Vec Ideal S4 .f32) (D : Vec Ideal S112 .f32) (k : Fin 8) :
    bcat A B C D (ix1 ⟨k.val, by omega⟩) = A (ix1 k) := by
  pointwise [bcat]

theorem bcat_b (A : Vec Ideal S8 .f32) (B C : Vec Ideal S4 .f32) (D : Vec Ideal S112 .f32) (k : Fin 4) :
    bcat A B C D (ix1 ⟨8 + k.val, by omega⟩) = B (ix1 k) := by
  pointwise [bcat]

theorem bcat_c (A : Vec Ideal S8 .f32) (B C : Vec Ideal S4 .f32) (D : Vec Ideal S112 .f32) (k : Fin 4) :
    bcat A B C D (ix1 ⟨12 + k.val, by omega⟩) = C (ix1 k) := by
  pointwise [bcat]
  refine (dif_neg (by omega)).trans ?_
  refine (dif_neg (by omega)).trans ?_
  refine (dif_pos (by omega)).trans ?_
  exact congrArg (fun t => C (ix1 t)) (Fin.ext (by simp only []; omega))

theorem bcat_d (A : Vec Ideal S8 .f32) (B C : Vec Ideal S4 .f32) (D : Vec Ideal S112 .f32) (k : Fin 112) :
    bcat A B C D (ix1 ⟨16 + k.val, by omega⟩) = D (ix1 k) := by
  pointwise [bcat]
  refine (dif_neg (by omega)).trans ?_
  refine (dif_neg (by omega)).trans ?_
  refine (dif_neg (by omega)).trans ?_
  exact congrArg (fun t => D (ix1 t)) (Fin.ext (by simp only []; omega))

open StableHlo in
theorem V8_eq : (V m c main_v8 : Vec Ideal S1024x3712 .bf16) = truncf (F := Ideal) .bf16 (wcat
    (extractStridedSlice S1024x1536 ![0, 0] (aW m c) slices_S1024x3600_S1024x1536_0_0)
    (extractStridedSlice S1024x1536 ![0, 1544] (aW m c) slices_S1024x3600_S1024x1536_0_1544)
    (extractStridedSlice S1024x512 ![0, 3088] (aW m c) slices_S1024x3600_S1024x512_0_3088)
    (gcat (extractStridedSlice S1024x8 ![0, 1536] (aW m c) slices_S1024x3600_S1024x8_0_1536)
      (extractStridedSlice S1024x8 ![0, 3080] (aW m c) slices_S1024x3600_S1024x8_0_3080)
      (broadcastInDim S1024x112 ![] bcast_S_S1024x112 (constant (F := Ideal) S_ .f32 0x00000000#32)))) bitsLt_bf16_f32 := by
  unfold V hostOps0
  after_reads_simp
  refine congrArg (fun u => truncf (F := Ideal) .bf16 u bitsLt_bf16_f32) (wcat_congr ?_ ?_ ?_ ?_)
  · after_reads_simp
    rfl
  · after_reads_simp
    rfl
  · after_reads_simp
    rfl
  · after_reads_simp
    refine gcat_congr ?_ ?_ ?_
    · after_reads_simp
      rfl
    · after_reads_simp
      rfl
    · show upto _ _ _ (Proc.devRef .tc main_v2) = _
      after_reads_simp

open StableHlo in
theorem V11_eq : (V m c main_v11 : Vec Ideal S1x128 .f32) = broadcastInDim S1x128 ![1] bcast_S128_S1x128_1 (bcat (aF m c) (aI m c) (aM m c) (broadcastInDim S112 ![] bcast_S_S112 (constant (F := Ideal) S_ .f32 0x00000000#32))) := by
  unfold V hostOps0
  after_reads_simp
  refine congrArg (fun u => broadcastInDim S1x128 ![1] bcast_S128_S1x128_1 u) (bcat_congr ?_ ?_ ?_ ?_)
  · after_reads_simp
    rfl
  · after_reads_simp
    rfl
  · after_reads_simp
    rfl
  · show upto _ _ _ (Proc.devRef .tc main_v9) = _
    after_reads_simp

theorem V8_a (d : Fin 1024) (k : Fin 1536) :
    (V m c main_v8 : Vec Ideal S1024x3712 .bf16) (ix2 d ⟨k.val, by omega⟩) = aW m c (ix2 d ⟨k.val, by omega⟩) := by
  rw [V8_eq]
  refine (wcat_a _ _ _ _ d k).trans ?_
  pointwise

theorem V8_b (d : Fin 1024) (k : Fin 1536) :
    (V m c main_v8 : Vec Ideal S1024x3712 .bf16) (ix2 d ⟨1536 + k.val, by omega⟩) = aW m c (ix2 d ⟨1544 + k.val, by omega⟩) := by
  rw [V8_eq]
  refine (wcat_b _ _ _ _ d k).trans ?_
  pointwise

theorem V8_c (d : Fin 1024) (k : Fin 512) :
    (V m c main_v8 : Vec Ideal S1024x3712 .bf16) (ix2 d ⟨3072 + k.val, by omega⟩) = aW m c (ix2 d ⟨3088 + k.val, by omega⟩) := by
  rw [V8_eq]
  refine (wcat_c _ _ _ _ d k).trans ?_
  pointwise

theorem V8_f (d : Fin 1024) (k : Fin 8) :
    (V m c main_v8 : Vec Ideal S1024x3712 .bf16) (ix2 d ⟨3584 + k.val, by omega⟩) = aW m c (ix2 d ⟨1536 + k.val, by omega⟩) := by
  rw [V8_eq]
  refine (wcat_d _ _ _ _ d ⟨k.val, by omega⟩).trans ((gcat_a _ _ _ d k).trans ?_)
  pointwise

theorem V8_g (d : Fin 1024) (k : Fin 8) :
    (V m c main_v8 : Vec Ideal S1024x3712 .bf16) (ix2 d ⟨3584 + (8 + k.val), by omega⟩) = aW m c (ix2 d ⟨3080 + k.val, by omega⟩) := by
  rw [V8_eq]
  refine (wcat_d _ _ _ _ d ⟨8 + k.val, by omega⟩).trans ((gcat_b _ _ _ d k).trans ?_)
  pointwise

theorem V8_z (d : Fin 1024) (k : Fin 112) :
    (V m c main_v8 : Vec Ideal S1024x3712 .bf16) (ix2 d ⟨3584 + (16 + k.val), by omega⟩) = (0 : EReal) := by
  rw [V8_eq]
  refine (wcat_d _ _ _ _ d ⟨16 + k.val, by omega⟩).trans ((gcat_c _ _ _ d k).trans ?_)
  pointwise

theorem V11_f (k : Fin 8) : (V m c main_v11 : Vec Ideal S1x128 .f32) (ix2 0 ⟨k.val, by omega⟩) = aF m c (ix1 k) := by
  rw [V11_eq]
  pointwise
  exact bcat_a _ _ _ _ k

theorem V11_i (k : Fin 4) : (V m c main_v11 : Vec Ideal S1x128 .f32) (ix2 0 ⟨8 + k.val, by omega⟩) = aI m c (ix1 k) := by
  rw [V11_eq]
  pointwise
  exact bcat_b _ _ _ _ k

theorem V11_m (k : Fin 4) : (V m c main_v11 : Vec Ideal S1x128 .f32) (ix2 0 ⟨12 + k.val, by omega⟩) = aM m c (ix1 k) := by
  rw [V11_eq]
  pointwise
  exact bcat_c _ _ _ _ k

theorem V11_z (k : Fin 112) : (V m c main_v11 : Vec Ideal S1x128 .f32) (ix2 0 ⟨16 + k.val, by omega⟩) = (0 : EReal) := by
  rw [V11_eq]
  pointwise
  refine (bcat_d _ _ _ _ k).trans ?_
  pointwise

theorem V13_apply (k : Fin 512) : (V m c main_v13 : Vec Ideal S1x512 .f32) (ix2 0 k) = aO m c (ix1 k) := by
  unfold V hostOps0
  after_reads_at

theorem V14_apply (k : Fin 1024) : (V m c main_v14 : Vec Ideal S1x1024 .f32) (ix2 0 k) = aB m c (ix1 k) := by
  unfold V hostOps0
  after_reads_at

theorem V12_lo (b : Fin 32) (p : Fin 5) (j : Fin 1024) : (V m c main_v12 : Vec Ideal S32x8x1024 .f32) (ix3 b ⟨p.val, by omega⟩ j) = (0 : EReal) := by
  unfold V hostOps0
  after_reads_at
  refine (dif_neg (fun h => h.1)).trans ?_
  show ((((0#32).toInt : ℤ) : ℝ) : EReal) = 0
  simp

theorem V12_hi (b : Fin 32) (s : Fin 3) (j : Fin 1024) : (V m c main_v12 : Vec Ideal S32x8x1024 .f32) (ix3 b ⟨5 + s.val, by omega⟩ j) = aS m c (ix3 b s j) := by
  unfold V hostOps0
  after_reads_at

theorem V0_apply (b : Fin 32) (s : Fin 8) (d : Fin 1024) : (V m c main_arg0 : Vec Ideal S32x8x1024 .f32) (ix3 b s d) = aX m c (ix3 b s d) := by
  unfold V hostOps0
  after_reads_at

theorem V7_apply (k : Fin 4) (j : Fin 1024) : (V m c main_arg7 : Vec Ideal S4x1024 .f32) (ix2 k j) = aC m c (ix2 k j) := by
  unfold V hostOps0
  after_reads_at

end Cert.Kernel5Ideal.Smi
-- ==== Proof.Smi.Blk.lean ====
/- The blocks of the sample's projection's call, of the launch arguments, and where the result blocks lie. -/
module

public import proofs.«01_k».proof.Proof.Smi.Out
public import proofs.«01_k».proof.Proof.Smi.Host

@[expose] public section

set_option maxRecDepth 16384

noncomputable section

namespace Cert.Kernel5Ideal.Smi

open Idealize.ShloMosaic Idealize.ShloMosaic.TcCoe Idealize.SL.Sem Cert.Kernel5Ideal Cert.Kernel5Ideal.Gen _root_.Smi.Math
open _root_.Inp.Math hiding prj hist hist_hi hist_lo gts gts_cases

variable (m : (ℓ : Loc nD τ sig) → Buf (Elt Ideal) ℓ) (c : Dev nD) (t : Fin cfg0.N)

theorem at0 : (BitVec.ofNat 32 (grid0.coords t 0).val).toNat = 0 := by
  have h : (grid0.coords t 0).val < 1 := (grid0.coords t 0).isLt
  rw [show (grid0.coords t 0).val = 0 by omega]
  rfl

theorem at1 : (BitVec.ofNat 32 (grid0.coords t 1).val).toNat = 0 := by
  have h : (grid0.coords t 1).val < 1 := (grid0.coords t 1).isLt
  rw [show (grid0.coords t 1).val = 0 by omega]
  rfl

/-- The input, as a function of sequence, position and feature. -/
abbrev pX : Fin 32 → Fin 8 → Fin 1024 → EReal := fun b s d => aX m c (ix3 b s d)
/-- The weights. -/
abbrev pW : Fin 1024 → Fin 3600 → EReal := fun d k => aW m c (ix2 d k)
/-- The carried rows. -/
abbrev pS : Fin 32 → Fin 3 → Fin 1024 → EReal := fun b s j => aS m c (ix3 b s j)

/-- The blocks, as plain vectors. -/
abbrev b0 : Vec Ideal S32x8x1024 .f32 := iblk m c 0 t
abbrev b1 : Vec Ideal S1024x3712 .bf16 := iblk m c 1 t
abbrev b2 : Vec Ideal S1x128 .f32 := iblk m c 2 t
abbrev b3 : Vec Ideal S1x512 .f32 := iblk m c 3 t
abbrev b4 : Vec Ideal S4x1024 .f32 := iblk m c 4 t
abbrev b5 : Vec Ideal S1x1024 .f32 := iblk m c 5 t
abbrev b6 : Vec Ideal S32x8x1024 .f32 := iblk m c 6 t

theorem b0_apply (b : Fin 32) (r : Fin 8) (d : Fin 1024) : b0 m c t (ix3 b r d) = (V m c main_arg0 : Vec Ideal S32x8x1024 .f32) (ix3 b r d) := by
  show V m c main_arg0 (((cfg0.win 0).blk t).view.emb (ix3 b r d)) = _
  congr 1
  funext a
  apply Fin.ext
  have h0 := at0 t
  have h1 := at1 t
  match a with
  | ⟨0, _⟩ => show (BitVec.ofNat 32 (grid0.coords t 0).val).toNat * 32 + 1 * b.val = b.val; omega
  | ⟨1, _⟩ => show (BitVec.ofNat 32 (grid0.coords t 1).val).toNat * 8 + 1 * r.val = r.val; omega
  | ⟨2, _⟩ => show 0 * 1024 + 1 * d.val = d.val; omega

theorem b6_apply (b : Fin 32) (r : Fin 8) (d : Fin 1024) : b6 m c t (ix3 b r d) = (V m c main_v12 : Vec Ideal S32x8x1024 .f32) (ix3 b r d) := by
  show V m c main_v12 (((cfg0.win 6).blk t).view.emb (ix3 b r d)) = _
  congr 1
  funext a
  apply Fin.ext
  have h0 := at0 t
  have h1 := at1 t
  match a with
  | ⟨0, _⟩ => show (BitVec.ofNat 32 (grid0.coords t 0).val).toNat * 32 + 1 * b.val = b.val; omega
  | ⟨1, _⟩ => show 0 * 8 + 1 * r.val = r.val; omega
  | ⟨2, _⟩ => show 0 * 1024 + 1 * d.val = d.val; omega

theorem b1_apply (i : Fin 1024) (j : Fin 3712) : b1 m c t (ix2 i j) = (V m c main_v8 : Vec Ideal S1024x3712 .bf16) (ix2 i j) := by
  show V m c main_v8 (((cfg0.win 1).blk t).view.emb (ix2 i j)) = _
  congr 1
  funext a
  apply Fin.ext
  match a with
  | ⟨0, _⟩ => show 0 * 1024 + 1 * i.val = i.val; omega
  | ⟨1, _⟩ => show 0 * 3712 + 1 * j.val = j.val; omega

theorem b2_apply (i : Fin 1) (j : Fin 128) : b2 m c t (ix2 i j) = (V m c main_v11 : Vec Ideal S1x128 .f32) (ix2 i j) := by
  show V m c main_v11 (((cfg0.win 2).blk t).view.emb (ix2 i j)) = _
  congr 1
  funext a
  apply Fin.ext
  match a with
  | ⟨0, _⟩ => show 0 * 1 + 1 * i.val = i.val; omega
  | ⟨1, _⟩ => show 0 * 128 + 1 * j.val = j.val; omega

theorem b3_apply (i : Fin 1) (j : Fin 512) : b3 m c t (ix2 i j) = (V m c main_v13 : Vec Ideal S1x512 .f32) (ix2 i j) := by
  show V m c main_v13 (((cfg0.win 3).blk t).view.emb (ix2 i j)) = _
  congr 1
  funext a
  apply Fin.ext
  match a with
  | ⟨0, _⟩ => show 0 * 1 + 1 * i.val = i.val; omega
  | ⟨1, _⟩ => show 0 * 512 + 1 * j.val = j.val; omega

theorem b4_apply (i : Fin 4) (j : Fin 1024) : b4 m c t (ix2 i j) = (V m c main_arg7 : Vec Ideal S4x1024 .f32) (ix2 i j) := by
  show V m c main_arg7 (((cfg0.win 4).blk t).view.emb (ix2 i j)) = _
  congr 1
  funext a
  apply Fin.ext
  match a with
  | ⟨0, _⟩ => show 0 * 4 + 1 * i.val = i.val; omega
  | ⟨1, _⟩ => show 0 * 1024 + 1 * j.val = j.val; omega

theorem b5_apply (i : Fin 1) (j : Fin 1024) : b5 m c t (ix2 i j) = (V m c main_v14 : Vec Ideal S1x1024 .f32) (ix2 i j) := by
  show V m c main_v14 (((cfg0.win 5).blk t).view.emb (ix2 i j)) = _
  congr 1
  funext a
  apply Fin.ext
  match a with
  | ⟨0, _⟩ => show 0 * 1 + 1 * i.val = i.val; omega
  | ⟨1, _⟩ => show 0 * 1024 + 1 * j.val = j.val; omega

theorem emb7 (b : Fin 32) (r : Fin 8) (f : Fin 512) : ((cfg0.win 7).blk t).view.emb (ix3 b r f) = (ix3 b r f : S32x8x512.Idx) := by
  funext a
  apply Fin.ext
  have h0 := at0 t
  have h1 := at1 t
  match a with
  | ⟨0, _⟩ => show (BitVec.ofNat 32 (grid0.coords t 0).val).toNat * 32 + 1 * b.val = b.val; omega
  | ⟨1, _⟩ => show (BitVec.ofNat 32 (grid0.coords t 1).val).toNat * 8 + 1 * r.val = r.val; omega
  | ⟨2, _⟩ => show 0 * 512 + 1 * f.val = f.val; omega

theorem emb8 (b : Fin 32) (r : Fin 8) (f : Fin 512) : ((cfg0.win 8).blk t).view.emb (ix3 b r f) = (ix3 b r f : S32x8x512.Idx) := by
  funext a
  apply Fin.ext
  have h0 := at0 t
  have h1 := at1 t
  match a with
  | ⟨0, _⟩ => show (BitVec.ofNat 32 (grid0.coords t 0).val).toNat * 32 + 1 * b.val = b.val; omega
  | ⟨1, _⟩ => show (BitVec.ofNat 32 (grid0.coords t 1).val).toNat * 8 + 1 * r.val = r.val; omega
  | ⟨2, _⟩ => show 0 * 512 + 1 * f.val = f.val; omega

theorem emb9 (b : Fin 32) (r : Fin 8) (f : Fin 512) : ((cfg0.win 9).blk t).view.emb (ix3 b r f) = (ix3 b r f : S32x8x512.Idx) := by
  funext a
  apply Fin.ext
  have h0 := at0 t
  have h1 := at1 t
  match a with
  | ⟨0, _⟩ => show (BitVec.ofNat 32 (grid0.coords t 0).val).toNat * 32 + 1 * b.val = b.val; omega
  | ⟨1, _⟩ => show (BitVec.ofNat 32 (grid0.coords t 1).val).toNat * 8 + 1 * r.val = r.val; omega
  | ⟨2, _⟩ => show 0 * 512 + 1 * f.val = f.val; omega

theorem emb10 (b : Fin 32) (r : Fin 8) (f : Fin 128) : ((cfg0.win 10).blk t).view.emb (ix3 b r f) = (ix3 b r f : S32x8x128.Idx) := by
  funext a
  apply Fin.ext
  have h0 := at0 t
  have h1 := at1 t
  match a with
  | ⟨0, _⟩ => show (BitVec.ofNat 32 (grid0.coords t 0).val).toNat * 32 + 1 * b.val = b.val; omega
  | ⟨1, _⟩ => show (BitVec.ofNat 32 (grid0.coords t 1).val).toNat * 8 + 1 * r.val = r.val; omega
  | ⟨2, _⟩ => show 0 * 128 + 1 * f.val = f.val; omega

theorem emb11 (b : Fin 32) (r : Fin 8) (f : Fin 512) : ((cfg0.win 11).blk t).view.emb (ix3 b r f) = (ix3 b r f : S32x8x512.Idx) := by
  funext a
  apply Fin.ext
  have h0 := at0 t
  have h1 := at1 t
  match a with
  | ⟨0, _⟩ => show (BitVec.ofNat 32 (grid0.coords t 0).val).toNat * 32 + 1 * b.val = b.val; omega
  | ⟨1, _⟩ => show (BitVec.ofNat 32 (grid0.coords t 1).val).toNat * 8 + 1 * r.val = r.val; omega
  | ⟨2, _⟩ => show 0 * 512 + 1 * f.val = f.val; omega

theorem emb12 (b : Fin 32) (r : Fin 8) (f : Fin 512) : ((cfg0.win 12).blk t).view.emb (ix3 b r f) = (ix3 b r f : S32x8x512.Idx) := by
  funext a
  apply Fin.ext
  have h0 := at0 t
  have h1 := at1 t
  match a with
  | ⟨0, _⟩ => show (BitVec.ofNat 32 (grid0.coords t 0).val).toNat * 32 + 1 * b.val = b.val; omega
  | ⟨1, _⟩ => show (BitVec.ofNat 32 (grid0.coords t 1).val).toNat * 8 + 1 * r.val = r.val; omega
  | ⟨2, _⟩ => show 0 * 512 + 1 * f.val = f.val; omega

theorem emb13 (b : Fin 32) (r : Fin 8) (f : Fin 512) : ((cfg0.win 13).blk t).view.emb (ix3 b r f) = (ix3 b r f : S32x8x512.Idx) := by
  funext a
  apply Fin.ext
  have h0 := at0 t
  have h1 := at1 t
  match a with
  | ⟨0, _⟩ => show (BitVec.ofNat 32 (grid0.coords t 0).val).toNat * 32 + 1 * b.val = b.val; omega
  | ⟨1, _⟩ => show (BitVec.ofNat 32 (grid0.coords t 1).val).toNat * 8 + 1 * r.val = r.val; omega
  | ⟨2, _⟩ => show 0 * 512 + 1 * f.val = f.val; omega

theorem emb14 (b : Fin 32) (r : Fin 8) (f : Fin 512) : ((cfg0.win 14).blk t).view.emb (ix3 b r f) = (ix3 b r f : S32x8x512.Idx) := by
  funext a
  apply Fin.ext
  have h0 := at0 t
  have h1 := at1 t
  match a with
  | ⟨0, _⟩ => show (BitVec.ofNat 32 (grid0.coords t 0).val).toNat * 32 + 1 * b.val = b.val; omega
  | ⟨1, _⟩ => show (BitVec.ofNat 32 (grid0.coords t 1).val).toNat * 8 + 1 * r.val = r.val; omega
  | ⟨2, _⟩ => show 0 * 512 + 1 * f.val = f.val; omega

theorem emb15 (b : Fin 32) (r : Fin 8) (f : Fin 1024) : ((cfg0.win 15).blk t).view.emb (ix3 b r f) = (ix3 b r f : S32x8x1024.Idx) := by
  funext a
  apply Fin.ext
  have h0 := at0 t
  have h1 := at1 t
  match a with
  | ⟨0, _⟩ => show (BitVec.ofNat 32 (grid0.coords t 0).val).toNat * 32 + 1 * b.val = b.val; omega
  | ⟨1, _⟩ => show 0 * 8 + 1 * r.val = r.val; omega
  | ⟨2, _⟩ => show 0 * 1024 + 1 * f.val = f.val; omega

/-- A row of a step against a column of the rearranged weights: the projection at the column it came from. -/
theorem bp_eq (b : Fin 32) (r : Fin 8) (k : Fin 3712) (k' : Fin 3600) (h : ∀ d : Fin 1024, (V m c main_v8 : Vec Ideal S1024x3712 .bf16) (ix2 d k) = aW m c (ix2 d k')) :
    bp (b0 m c t) (b1 m c t) b r k = prj (pX m c) (pW m c) b r k' := by
  unfold bp prj
  exact Finset.sum_congr rfl fun d _ => congrArg₂ (· * ·) ((b0_apply m c t b r d).trans (V0_apply m c b r d)) ((b1_apply m c t d k).trans (h d))

theorem bp_a (b : Fin 32) (r : Fin 8) (k : Fin 3712) (k' : Fin 3600) (h : k.val < 1536) (hk : k'.val = k.val) :
    bp (b0 m c t) (b1 m c t) b r k = prj (pX m c) (pW m c) b r k' :=
  bp_eq m c t b r k k' fun d => (V8_a m c d ⟨k.val, h⟩).trans (congrArg (fun q => aW m c (ix2 d q)) (Fin.ext hk.symm))

theorem bp_b (b : Fin 32) (r : Fin 8) (k : Fin 3712) (k' : Fin 3600) (h : 1536 ≤ k.val) (h' : k.val < 3072) (hk : k'.val = k.val + 8) :
    bp (b0 m c t) (b1 m c t) b r k = prj (pX m c) (pW m c) b r k' :=
  bp_eq m c t b r k k' fun d => (congrArg (fun q => (V m c main_v8 : Vec Ideal S1024x3712 .bf16) (ix2 d q)) (Fin.ext (by show k.val = 1536 + (k.val - 1536); omega))).trans ((V8_b m c d ⟨k.val - 1536, by omega⟩).trans (congrArg (fun q => aW m c (ix2 d q)) (Fin.ext (by show 1544 + (k.val - 1536) = k'.val; omega))))

theorem bp_c (b : Fin 32) (r : Fin 8) (k : Fin 512) :
    bp (b0 m c t) (b1 m c t) b r ⟨3072 + k.val, by omega⟩ = prj (pX m c) (pW m c) b r ⟨3088 + k.val, by omega⟩ :=
  bp_eq m c t b r _ _ fun d => V8_c m c d k

/-- The gates of a row of a step. -/
theorem gates_eq (b : Fin 32) (r : Fin 8) (g : Fin 128) :
    gate g.val (bp (b0 m c t) (b1 m c t) b r ⟨3584 + g.val, by omega⟩ + b2 m c t (ix2 0 g))
      = gts (pX m c) (pW m c) (fun k => aF m c (ix1 k)) (fun k => aI m c (ix1 k)) (fun k => aM m c (ix1 k)) b r g := by
  refine gts_cases _ _ _ _ _ b r (fun g => gate g.val (bp (b0 m c t) (b1 m c t) b r ⟨3584 + g.val, by omega⟩ + b2 m c t (ix2 0 g))) (fun k => ?_) (fun k => ?_) (fun k => ?_) (fun k => ?_) g
  · unfold gate
    refine (if_neg (by show ¬(8 ≤ k.val ∧ k.val < 12); omega)).trans (congrArg lsig (congrArg₂ (· + ·) ?_ ?_))
    · exact bp_eq m c t b r _ _ fun d => V8_f m c d k
    · exact (b2_apply m c t 0 _).trans (V11_f m c k)
  · unfold gate
    refine (if_pos (by show 8 ≤ 8 + k.val ∧ 8 + k.val < 12; omega)).trans (congrArg₂ (· + ·) ?_ ?_)
    · exact bp_eq m c t b r _ _ fun d => V8_g m c d ⟨k.val, by omega⟩
    · exact (b2_apply m c t 0 _).trans (V11_i m c k)
  · unfold gate
    refine (if_neg (by show ¬(8 ≤ 12 + k.val ∧ 12 + k.val < 12); omega)).trans (congrArg lsig (congrArg₂ (· + ·) ?_ ?_))
    · refine bp_eq m c t b r _ _ fun d => (congrArg (fun q => (V m c main_v8 : Vec Ideal S1024x3712 .bf16) (ix2 d q)) (Fin.ext (by show 3584 + (12 + k.val) = 3584 + (8 + (4 + k.val)); omega))).trans ((V8_g m c d ⟨4 + k.val, by omega⟩).trans (congrArg (fun q => aW m c (ix2 d q)) (Fin.ext (by show 3080 + (4 + k.val) = 3084 + k.val; omega))))
    · exact (b2_apply m c t 0 _).trans (V11_m m c k)
  · unfold gate
    refine (if_neg (by show ¬(8 ≤ 16 + k.val ∧ 16 + k.val < 12); omega)).trans (congrArg lsig ?_)
    refine (congrArg₂ (· + ·) ?_ ((b2_apply m c t 0 _).trans (V11_z m c k))).trans (add_zero (0 : EReal))
    unfold bp
    refine (Finset.sum_congr rfl fun d _ => (congrArg (b0 m c t (ix3 b r d) * ·) ((b1_apply m c t d _).trans (V8_z m c d k))).trans (mul_zero _)).trans ?_
    exact Finset.sum_const_zero

/-- The rows the convolution reads. -/
theorem zr_eq (b : Fin 32) (p : ℕ) (hp : p < 16) (j : Fin 1024) :
    zr (b6 m c t) (b0 m c t) (b1 m c t) b p j = hist (pX m c) (pW m c) (pS m c) b p j := by
  by_cases h : p < 8
  · refine (zr_lo (b0 m c t) (b1 m c t) (b6 m c t) b ⟨p, hp⟩ h j).trans ((b6_apply m c t b ⟨p, h⟩ j).trans ?_)
    by_cases h' : p < 5
    · rw [hist_lo _ _ _ _ _ _ h']
      exact V12_lo m c b ⟨p, h'⟩ j
    · rw [hist_mid _ _ _ _ _ _ (⟨p - 5, by omega⟩ : Fin 3) (by show p = p - 5 + 5; omega)]
      exact (congrArg (fun q => (V m c main_v12 : Vec Ideal S32x8x1024 .f32) (ix3 b q j)) (Fin.ext (by show p = 5 + (p - 5); omega))).trans (V12_hi m c b ⟨p - 5, by omega⟩ j)
  · refine (zr_hi (b0 m c t) (b1 m c t) (b6 m c t) b ⟨p, hp⟩ (by show 8 ≤ p; omega) j).trans ?_
    rw [hist_hi _ _ _ _ _ _ (⟨p - 8, by omega⟩ : Fin 8) (by show p = p - 8 + 8; omega)]
    exact bp_b m c t b _ _ _ (by show 1536 ≤ 1536 + j.val; omega) (by show 1536 + j.val < 3072; omega) (by show 1544 + j.val = 1536 + j.val + 8; omega)

/-- The convolution's result at a position. -/
theorem cnv_at (b : Fin 32) (r : Fin 8) (j : Fin 1024) :
    cnv (zr (b6 m c t) (b0 m c t) (b1 m c t) b) (fun k j => b4 m c t (ix2 k j)) (fun j => b5 m c t (ix2 0 j)) r.val j
      = cnv (hist (pX m c) (pW m c) (pS m c) b) (fun k j => aC m c (ix2 k j)) (fun j => aB m c (ix1 j)) r.val j := by
  have hw : ∀ k : Fin 4, b4 m c t (ix2 k j) = aC m c (ix2 k j) := fun k => (b4_apply m c t k j).trans (V7_apply m c k j)
  have hb : b5 m c t (ix2 0 j) = aB m c (ix1 j) := (b5_apply m c t 0 j).trans (V14_apply m c j)
  have hz : ∀ o : ℕ, o ≤ 8 → zr (b6 m c t) (b0 m c t) (b1 m c t) b (r.val + o) j = hist (pX m c) (pW m c) (pS m c) b (r.val + o) j := fun o ho =>
    zr_eq m c t b (r.val + o) (by omega) j
  unfold cnv
  simp only [hw, hb, hz 5 (by omega), hz 6 (by omega), hz 7 (by omega), hz 8 (by omega)]

end Cert.Kernel5Ideal.Smi
-- ==== Proof.Smi.Arr.lean ====
/- The arrays the sample's projection's call leaves: the projection, its gates and its convolution, of the launch arguments. -/
module

public import proofs.«01_k».proof.Proof.Smi.Blk
public import Idealize.ShloMosaic.Lib.Pipeline.Covers

@[expose] public section

set_option maxRecDepth 16384

noncomputable section

namespace Cert.Kernel5Ideal.Smi

open Idealize.ShloMosaic Idealize.ShloMosaic.TcCoe Idealize.SL.Sem Cert.Kernel5Ideal Cert.Kernel5Ideal.Gen _root_.Smi.Math
open _root_.Inp.Math hiding prj hist hist_hi hist_lo gts gts_cases

variable (m : (ℓ : Loc nD τ sig) → Buf (Elt Ideal) ℓ) (c : Dev nD) (t : Fin cfg0.N)

/-- An array of rank three, of its entries. -/
def arr3 {n0 n1 n2 : ℕ} (f : Fin n0 → Fin n1 → Fin n2 → EReal) : (⟨3, ![n0, n1, n2]⟩ : Shape).Idx → EReal := fun y => f (y 0) (y 1) (y 2)

/-- The scale of the queries. -/
abbrev qs : EReal := Named.named (F := Ideal) κ "qscale" (φ := .f32) 0x3E38AA3B#32

theorem qs_eq : qs = (((Real.log 256)⁻¹ : ℝ) : EReal) := IdealRules.named_const.ideal_named_scalar _ _ _ _ rfl

theorem some_pt : ∃ t : Fin cfg0.N, t = t := by
  obtain ⟨t, -⟩ := Pipeline.Grid.coords_surjective grid0 (fun a => match a with
    | ⟨0, _⟩ => (0 : Fin 1) | ⟨1, _⟩ => (0 : Fin 1))
  exact ⟨t, rfl⟩

/-- Result 0 of the call. -/
def G7 : Vec Ideal S32x8x512 .bf16 := arr3 (fun (b : Fin 32) (s : Fin 8) (f : Fin 512) => prj (pX m c) (pW m c) b s ⟨f.val, by omega⟩ * qs)

theorem at7 (b : Fin 32) (r : Fin 8) (f : Fin 512) : (outsAt0 m c t).1 (ix3 b r f) = G7 m c (ix3 b r f) := by
  unfold outsAt0
  dsimp only
  refine (oA7 c (grid0.coords t) _ _ _ _ _ _ _ _ b r f).trans ?_
  exact congrArg (· * qs) (bp_a m c t b r _ _ (by show 0 + f.val < 1536; omega) (by show f.val = 0 + f.val; omega))

theorem flushed7 : (dats m 0 c).flushed 7 t = ((cfg0.win 7).blk t).view.read (Elt Ideal) (G7 m c) := by
  rw [Value.flushed7]
  funext y
  obtain ⟨b, r, f, rfl⟩ : ∃ (b : Fin 32) (r : Fin 8) (f : Fin 512), y = ix3 b r f := ⟨y 0, y 1, y 2, by funext k; fin_cases k <;> rfl⟩
  show (outsAt0 m c t).1 (ix3 b r f) = G7 m c (((cfg0.win 7).blk t).view.emb (ix3 b r f))
  rw [emb7]
  exact at7 m c t b r f

theorem covered7 (i : S32x8x512.Idx) : ∃ t : Fin cfg0.N, (cfg0.win 7).flush t = true ∧ i ∈ ((cfg0.win 7).blk t).view.set := by
  obtain ⟨b, s, f, rfl⟩ : ∃ (b : Fin 32) (s : Fin 8) (f : Fin 512), i = ix3 b s f := ⟨i 0, i 1, i 2, by funext k; fin_cases k <;> rfl⟩
  obtain ⟨t, -⟩ := some_pt
  refine ⟨t, flush0_7 t, ?_⟩
  have hm := ((cfg0.win 7).blk t).view.emb_mem_set (ix3 b s f)
  rwa [emb7] at hm

theorem final7 : (dats m 0 c).arrAt 7 cfg0.N = G7 m c :=
  (dats m 0 c).arrAt_eq_of_cover 7 (G7 m c) (fun t _ => flushed7 m c t) covered7

/-- Result 1 of the call. -/
def G8 : Vec Ideal S32x8x512 .f32 := arr3 (fun (b : Fin 32) (s : Fin 8) (f : Fin 512) => prj (pX m c) (pW m c) b s ⟨512 + f.val, by omega⟩)

theorem at8 (b : Fin 32) (r : Fin 8) (f : Fin 512) : (outsAt0 m c t).2.1 (ix3 b r f) = G8 m c (ix3 b r f) := by
  unfold outsAt0
  dsimp only
  refine (oA8 c (grid0.coords t) _ _ _ _ _ _ _ _ b r f).trans ?_
  exact bp_a m c t b r _ _ (by show 512 + f.val < 1536; omega) rfl

theorem flushed8 : (dats m 0 c).flushed 8 t = ((cfg0.win 8).blk t).view.read (Elt Ideal) (G8 m c) := by
  rw [Value.flushed8]
  funext y
  obtain ⟨b, r, f, rfl⟩ : ∃ (b : Fin 32) (r : Fin 8) (f : Fin 512), y = ix3 b r f := ⟨y 0, y 1, y 2, by funext k; fin_cases k <;> rfl⟩
  show (outsAt0 m c t).2.1 (ix3 b r f) = G8 m c (((cfg0.win 8).blk t).view.emb (ix3 b r f))
  rw [emb8]
  exact at8 m c t b r f

theorem covered8 (i : S32x8x512.Idx) : ∃ t : Fin cfg0.N, (cfg0.win 8).flush t = true ∧ i ∈ ((cfg0.win 8).blk t).view.set := by
  obtain ⟨b, s, f, rfl⟩ : ∃ (b : Fin 32) (s : Fin 8) (f : Fin 512), i = ix3 b s f := ⟨i 0, i 1, i 2, by funext k; fin_cases k <;> rfl⟩
  obtain ⟨t, -⟩ := some_pt
  refine ⟨t, flush0_8 t, ?_⟩
  have hm := ((cfg0.win 8).blk t).view.emb_mem_set (ix3 b s f)
  rwa [emb8] at hm

theorem final8 : (dats m 0 c).arrAt 8 cfg0.N = G8 m c :=
  (dats m 0 c).arrAt_eq_of_cover 8 (G8 m c) (fun t _ => flushed8 m c t) covered8

/-- Result 2 of the call. -/
def G9 : Vec Ideal S32x8x512 .f32 := arr3 (fun (b : Fin 32) (s : Fin 8) (f : Fin 512) => prj (pX m c) (pW m c) b s ⟨1024 + f.val, by omega⟩)

theorem at9 (b : Fin 32) (r : Fin 8) (f : Fin 512) : (outsAt0 m c t).2.2.1 (ix3 b r f) = G9 m c (ix3 b r f) := by
  unfold outsAt0
  dsimp only
  refine (oA9 c (grid0.coords t) _ _ _ _ _ _ _ _ b r f).trans ?_
  exact bp_a m c t b r _ _ (by show 1024 + f.val < 1536; omega) rfl

theorem flushed9 : (dats m 0 c).flushed 9 t = ((cfg0.win 9).blk t).view.read (Elt Ideal) (G9 m c) := by
  rw [Value.flushed9]
  funext y
  obtain ⟨b, r, f, rfl⟩ : ∃ (b : Fin 32) (r : Fin 8) (f : Fin 512), y = ix3 b r f := ⟨y 0, y 1, y 2, by funext k; fin_cases k <;> rfl⟩
  show (outsAt0 m c t).2.2.1 (ix3 b r f) = G9 m c (((cfg0.win 9).blk t).view.emb (ix3 b r f))
  rw [emb9]
  exact at9 m c t b r f

theorem covered9 (i : S32x8x512.Idx) : ∃ t : Fin cfg0.N, (cfg0.win 9).flush t = true ∧ i ∈ ((cfg0.win 9).blk t).view.set := by
  obtain ⟨b, s, f, rfl⟩ : ∃ (b : Fin 32) (s : Fin 8) (f : Fin 512), i = ix3 b s f := ⟨i 0, i 1, i 2, by funext k; fin_cases k <;> rfl⟩
  obtain ⟨t, -⟩ := some_pt
  refine ⟨t, flush0_9 t, ?_⟩
  have hm := ((cfg0.win 9).blk t).view.emb_mem_set (ix3 b s f)
  rwa [emb9] at hm

theorem final9 : (dats m 0 c).arrAt 9 cfg0.N = G9 m c :=
  (dats m 0 c).arrAt_eq_of_cover 9 (G9 m c) (fun t _ => flushed9 m c t) covered9

/-- Result 3 of the call. -/
def G10 : Vec Ideal S32x8x128 .f32 := arr3 (fun (b : Fin 32) (s : Fin 8) (f : Fin 128) => gts (pX m c) (pW m c) (fun k => aF m c (ix1 k)) (fun k => aI m c (ix1 k)) (fun k => aM m c (ix1 k)) b s f)

theorem at10 (b : Fin 32) (r : Fin 8) (f : Fin 128) : (outsAt0 m c t).2.2.2.1 (ix3 b r f) = G10 m c (ix3 b r f) := by
  unfold outsAt0
  dsimp only
  refine (oA10 c (grid0.coords t) _ _ _ _ _ _ _ _ b r f).trans ?_
  exact gates_eq m c t b r f

theorem flushed10 : (dats m 0 c).flushed 10 t = ((cfg0.win 10).blk t).view.read (Elt Ideal) (G10 m c) := by
  rw [Value.flushed10]
  funext y
  obtain ⟨b, r, f, rfl⟩ : ∃ (b : Fin 32) (r : Fin 8) (f : Fin 128), y = ix3 b r f := ⟨y 0, y 1, y 2, by funext k; fin_cases k <;> rfl⟩
  show (outsAt0 m c t).2.2.2.1 (ix3 b r f) = G10 m c (((cfg0.win 10).blk t).view.emb (ix3 b r f))
  rw [emb10]
  exact at10 m c t b r f

theorem covered10 (i : S32x8x128.Idx) : ∃ t : Fin cfg0.N, (cfg0.win 10).flush t = true ∧ i ∈ ((cfg0.win 10).blk t).view.set := by
  obtain ⟨b, s, f, rfl⟩ : ∃ (b : Fin 32) (s : Fin 8) (f : Fin 128), i = ix3 b s f := ⟨i 0, i 1, i 2, by funext k; fin_cases k <;> rfl⟩
  obtain ⟨t, -⟩ := some_pt
  refine ⟨t, flush0_10 t, ?_⟩
  have hm := ((cfg0.win 10).blk t).view.emb_mem_set (ix3 b s f)
  rwa [emb10] at hm

theorem final10 : (dats m 0 c).arrAt 10 cfg0.N = G10 m c :=
  (dats m 0 c).arrAt_eq_of_cover 10 (G10 m c) (fun t _ => flushed10 m c t) covered10

/-- Result 4 of the call. -/
def G11 : Vec Ideal S32x8x512 .bf16 := arr3 (fun (b : Fin 32) (s : Fin 8) (f : Fin 512) => cnv (hist (pX m c) (pW m c) (pS m c) b) (fun k j => aC m c (ix2 k j)) (fun j => aB m c (ix1 j)) s.val ⟨f.val, by omega⟩)

theorem at11 (b : Fin 32) (r : Fin 8) (f : Fin 512) : (outsAt0 m c t).2.2.2.2.1 (ix3 b r f) = G11 m c (ix3 b r f) := by
  unfold outsAt0
  dsimp only
  refine (oA11 c (grid0.coords t) _ _ _ _ _ _ _ _ b r f).trans ?_
  exact cnv_at m c t b r ⟨f.val, by omega⟩

theorem flushed11 : (dats m 0 c).flushed 11 t = ((cfg0.win 11).blk t).view.read (Elt Ideal) (G11 m c) := by
  rw [Value.flushed11]
  funext y
  obtain ⟨b, r, f, rfl⟩ : ∃ (b : Fin 32) (r : Fin 8) (f : Fin 512), y = ix3 b r f := ⟨y 0, y 1, y 2, by funext k; fin_cases k <;> rfl⟩
  show (outsAt0 m c t).2.2.2.2.1 (ix3 b r f) = G11 m c (((cfg0.win 11).blk t).view.emb (ix3 b r f))
  rw [emb11]
  exact at11 m c t b r f

theorem covered11 (i : S32x8x512.Idx) : ∃ t : Fin cfg0.N, (cfg0.win 11).flush t = true ∧ i ∈ ((cfg0.win 11).blk t).view.set := by
  obtain ⟨b, s, f, rfl⟩ : ∃ (b : Fin 32) (s : Fin 8) (f : Fin 512), i = ix3 b s f := ⟨i 0, i 1, i 2, by funext k; fin_cases k <;> rfl⟩
  obtain ⟨t, -⟩ := some_pt
  refine ⟨t, flush0_11 t, ?_⟩
  have hm := ((cfg0.win 11).blk t).view.emb_mem_set (ix3 b s f)
  rwa [emb11] at hm

theorem final11 : (dats m 0 c).arrAt 11 cfg0.N = G11 m c :=
  (dats m 0 c).arrAt_eq_of_cover 11 (G11 m c) (fun t _ => flushed11 m c t) covered11

/-- Result 5 of the call. -/
def G12 : Vec Ideal S32x8x512 .bf16 := arr3 (fun (b : Fin 32) (s : Fin 8) (f : Fin 512) => cnv (hist (pX m c) (pW m c) (pS m c) b) (fun k j => aC m c (ix2 k j)) (fun j => aB m c (ix1 j)) s.val ⟨512 + f.val, by omega⟩ * Ideal.ofBits .f32 0x3DB504F3#32)

theorem at12 (b : Fin 32) (r : Fin 8) (f : Fin 512) : (outsAt0 m c t).2.2.2.2.2.1 (ix3 b r f) = G12 m c (ix3 b r f) := by
  unfold outsAt0
  dsimp only
  refine (oA12 c (grid0.coords t) _ _ _ _ _ _ _ _ b r f).trans ?_
  exact congrArg (· * Ideal.ofBits .f32 0x3DB504F3#32) (cnv_at m c t b r ⟨512 + f.val, by omega⟩)

theorem flushed12 : (dats m 0 c).flushed 12 t = ((cfg0.win 12).blk t).view.read (Elt Ideal) (G12 m c) := by
  rw [Value.flushed12]
  funext y
  obtain ⟨b, r, f, rfl⟩ : ∃ (b : Fin 32) (r : Fin 8) (f : Fin 512), y = ix3 b r f := ⟨y 0, y 1, y 2, by funext k; fin_cases k <;> rfl⟩
  show (outsAt0 m c t).2.2.2.2.2.1 (ix3 b r f) = G12 m c (((cfg0.win 12).blk t).view.emb (ix3 b r f))
  rw [emb12]
  exact at12 m c t b r f

theorem covered12 (i : S32x8x512.Idx) : ∃ t : Fin cfg0.N, (cfg0.win 12).flush t = true ∧ i ∈ ((cfg0.win 12).blk t).view.set := by
  obtain ⟨b, s, f, rfl⟩ : ∃ (b : Fin 32) (s : Fin 8) (f : Fin 512), i = ix3 b s f := ⟨i 0, i 1, i 2, by funext k; fin_cases k <;> rfl⟩
  obtain ⟨t, -⟩ := some_pt
  refine ⟨t, flush0_12 t, ?_⟩
  have hm := ((cfg0.win 12).blk t).view.emb_mem_set (ix3 b s f)
  rwa [emb12] at hm

theorem final12 : (dats m 0 c).arrAt 12 cfg0.N = G12 m c :=
  (dats m 0 c).arrAt_eq_of_cover 12 (G12 m c) (fun t _ => flushed12 m c t) covered12

/-- Result 6 of the call. -/
def G13 : Vec Ideal S32x8x512 .bf16 := arr3 (fun (b : Fin 32) (s : Fin 8) (f : Fin 512) => prj (pX m c) (pW m c) b s ⟨2568 + f.val, by omega⟩)

theorem at13 (b : Fin 32) (r : Fin 8) (f : Fin 512) : (outsAt0 m c t).2.2.2.2.2.2.1 (ix3 b r f) = G13 m c (ix3 b r f) := by
  unfold outsAt0
  dsimp only
  refine (oA13 c (grid0.coords t) _ _ _ _ _ _ _ _ b r f).trans ?_
  exact bp_b m c t b r _ _ (by show 1536 ≤ 2560 + f.val; omega) (by show 2560 + f.val < 3072; omega) (by show 2568 + f.val = 2560 + f.val + 8; omega)

theorem flushed13 : (dats m 0 c).flushed 13 t = ((cfg0.win 13).blk t).view.read (Elt Ideal) (G13 m c) := by
  rw [Value.flushed13]
  funext y
  obtain ⟨b, r, f, rfl⟩ : ∃ (b : Fin 32) (r : Fin 8) (f : Fin 512), y = ix3 b r f := ⟨y 0, y 1, y 2, by funext k; fin_cases k <;> rfl⟩
  show (outsAt0 m c t).2.2.2.2.2.2.1 (ix3 b r f) = G13 m c (((cfg0.win 13).blk t).view.emb (ix3 b r f))
  rw [emb13]
  exact at13 m c t b r f

theorem covered13 (i : S32x8x512.Idx) : ∃ t : Fin cfg0.N, (cfg0.win 13).flush t = true ∧ i ∈ ((cfg0.win 13).blk t).view.set := by
  obtain ⟨b, s, f, rfl⟩ : ∃ (b : Fin 32) (s : Fin 8) (f : Fin 512), i = ix3 b s f := ⟨i 0, i 1, i 2, by funext k; fin_cases k <;> rfl⟩
  obtain ⟨t, -⟩ := some_pt
  refine ⟨t, flush0_13 t, ?_⟩
  have hm := ((cfg0.win 13).blk t).view.emb_mem_set (ix3 b s f)
  rwa [emb13] at hm

theorem final13 : (dats m 0 c).arrAt 13 cfg0.N = G13 m c :=
  (dats m 0 c).arrAt_eq_of_cover 13 (G13 m c) (fun t _ => flushed13 m c t) covered13

/-- Result 7 of the call. -/
def G14 : Vec Ideal S32x8x512 .bf16 := arr3 (fun (b : Fin 32) (s : Fin 8) (f : Fin 512) => Ideal.logistic (prj (pX m c) (pW m c) b s ⟨3088 + f.val, by omega⟩ + aO m c (ix1 f)))

theorem at14 (b : Fin 32) (r : Fin 8) (f : Fin 512) : (outsAt0 m c t).2.2.2.2.2.2.2.1 (ix3 b r f) = G14 m c (ix3 b r f) := by
  unfold outsAt0
  dsimp only
  refine (oA14 c (grid0.coords t) _ _ _ _ _ _ _ _ b r f).trans ?_
  exact congrArg Ideal.logistic (congrArg₂ (· + ·) (bp_c m c t b r f) ((b3_apply m c t 0 f).trans (V13_apply m c f)))

theorem flushed14 : (dats m 0 c).flushed 14 t = ((cfg0.win 14).blk t).view.read (Elt Ideal) (G14 m c) := by
  rw [Value.flushed14]
  funext y
  obtain ⟨b, r, f, rfl⟩ : ∃ (b : Fin 32) (r : Fin 8) (f : Fin 512), y = ix3 b r f := ⟨y 0, y 1, y 2, by funext k; fin_cases k <;> rfl⟩
  show (outsAt0 m c t).2.2.2.2.2.2.2.1 (ix3 b r f) = G14 m c (((cfg0.win 14).blk t).view.emb (ix3 b r f))
  rw [emb14]
  exact at14 m c t b r f

theorem covered14 (i : S32x8x512.Idx) : ∃ t : Fin cfg0.N, (cfg0.win 14).flush t = true ∧ i ∈ ((cfg0.win 14).blk t).view.set := by
  obtain ⟨b, s, f, rfl⟩ : ∃ (b : Fin 32) (s : Fin 8) (f : Fin 512), i = ix3 b s f := ⟨i 0, i 1, i 2, by funext k; fin_cases k <;> rfl⟩
  obtain ⟨t, -⟩ := some_pt
  refine ⟨t, flush0_14 t, ?_⟩
  have hm := ((cfg0.win 14).blk t).view.emb_mem_set (ix3 b s f)
  rwa [emb14] at hm

theorem final14 : (dats m 0 c).arrAt 14 cfg0.N = G14 m c :=
  (dats m 0 c).arrAt_eq_of_cover 14 (G14 m c) (fun t _ => flushed14 m c t) covered14

/-- Result 8 of the call. -/
def G15 : Vec Ideal S32x8x1024 .f32 := arr3 (fun (b : Fin 32) (s : Fin 8) (f : Fin 1024) => prj (pX m c) (pW m c) b s ⟨1544 + f.val, by omega⟩)

theorem at15 (b : Fin 32) (r : Fin 8) (f : Fin 1024) : (outsAt0 m c t).2.2.2.2.2.2.2.2 (ix3 b r f) = G15 m c (ix3 b r f) := by
  unfold outsAt0
  dsimp only
  refine (oA15 c (grid0.coords t) _ _ _ _ _ _ _ _ b r f).trans ?_
  exact bp_b m c t b r _ _ (by show 1536 ≤ 1536 + f.val; omega) (by show 1536 + f.val < 3072; omega) (by show 1544 + f.val = 1536 + f.val + 8; omega)

theorem flushed15 : (dats m 0 c).flushed 15 t = ((cfg0.win 15).blk t).view.read (Elt Ideal) (G15 m c) := by
  rw [Value.flushed15]
  funext y
  obtain ⟨b, r, f, rfl⟩ : ∃ (b : Fin 32) (r : Fin 8) (f : Fin 1024), y = ix3 b r f := ⟨y 0, y 1, y 2, by funext k; fin_cases k <;> rfl⟩
  show (outsAt0 m c t).2.2.2.2.2.2.2.2 (ix3 b r f) = G15 m c (((cfg0.win 15).blk t).view.emb (ix3 b r f))
  rw [emb15]
  exact at15 m c t b r f

theorem covered15 (i : S32x8x1024.Idx) : ∃ t : Fin cfg0.N, (cfg0.win 15).flush t = true ∧ i ∈ ((cfg0.win 15).blk t).view.set := by
  obtain ⟨b, s, f, rfl⟩ : ∃ (b : Fin 32) (s : Fin 8) (f : Fin 1024), i = ix3 b s f := ⟨i 0, i 1, i 2, by funext k; fin_cases k <;> rfl⟩
  obtain ⟨t, -⟩ := some_pt
  refine ⟨t, flush0_15 t, ?_⟩
  have hm := ((cfg0.win 15).blk t).view.emb_mem_set (ix3 b s f)
  rwa [emb15] at hm

theorem final15 : (dats m 0 c).arrAt 15 cfg0.N = G15 m c :=
  (dats m 0 c).arrAt_eq_of_cover 15 (G15 m c) (fun t _ => flushed15 m c t) covered15

end Cert.Kernel5Ideal.Smi
-- ==== Proof.Smi.Ref.lean ====
/- The sample's projection as plainly written, element by element. -/
module

public import proofs.«01_k».proof.Proof.Smi.Math
public import proofs.«01_k».proof.Proof.Gen.Reference5Ideal.Run
public import Idealize.ShloMosaic.Lib.Pointwise

@[expose] public section

set_option maxRecDepth 16384

noncomputable section

namespace Cert.Reference5Ideal.Smi

open Idealize.ShloMosaic Idealize.ShloMosaic.TcCoe Idealize.SL.Sem Cert.Reference5Ideal Cert.Reference5Ideal.Gen Facts _root_.Smi.Math
open _root_.Inp.Math hiding prj hist hist_hi hist_lo gts gts_cases

/-- The logistic's logarithm, as written. -/
def lsT (S : Shape) (h0 : S_.BroadcastsInDim S (![] : Fin 0 → Fin S.rank)) (y : FVec Ideal S .f32) : FVec Ideal S .f32 :=
  Host.negf (select (cmpf .une (subf (Host.negf y) (broadcastInDim S ![] h0 (constant S_ .f32 0x00000000#32))) (subf (Host.negf y) (broadcastInDim S ![] h0 (constant S_ .f32 0x00000000#32))))
    (addf (Host.negf y) (broadcastInDim S ![] h0 (constant S_ .f32 0x00000000#32)))
    (addf (maximumf (Host.negf y) (broadcastInDim S ![] h0 (constant S_ .f32 0x00000000#32)))
      (Host.log1p (Host.exp (Host.negf (Host.absf (subf (Host.negf y) (broadcastInDim S ![] h0 (constant S_ .f32 0x00000000#32)))))))))

theorem zero_eq : Ideal.ofBits .f32 0x00000000#32 = 0 := by
  simp [Ideal.ofBits, Ideal.ieee]

theorem one_eq : Ideal.ofBits .f32 0x3F800000#32 = 1 := by
  simp [Ideal.ofBits, Ideal.ieee, -EReal.coe_mul]
  norm_num

theorem une_self (a x y : EReal) : Scalar.select (Ideal.cmp .une a a) x y = y := by
  have h : Ideal.cmp .une a a = 0#1 := by simp [Ideal.cmp]
  rw [h]
  rfl

theorem lsT_apply (S : Shape) (h0 : S_.BroadcastsInDim S (![] : Fin 0 → Fin S.rank)) (y : FVec Ideal S .f32) (i : S.Idx) :
    lsT S h0 y i = lsig (y i) := by
  refine Eq.trans ?_ (lsig_eq (y i))
  show -(Scalar.select (Ideal.cmp .une (-y i - Ideal.ofBits .f32 0x00000000#32) (-y i - Ideal.ofBits .f32 0x00000000#32)) _
    (max (-y i) (Ideal.ofBits .f32 0x00000000#32) + Ideal.log1p (Ideal.exp (-FloatOps.absf (F := Ideal) (φ := .f32) (-y i - Ideal.ofBits .f32 0x00000000#32))))) = _
  rw [une_self, zero_eq]

def dT (X : FVec Ideal S32x8x1024 .f32) (W : FVec Ideal S1024x3600 .f32) : FVec Ideal S32x8x3600 .f32 :=
  Host.dotGeneral dot_S32x8x1024_S1024x3600_S32x8x3600_2_0_01_1_n_n none X W

theorem scale_eq (z : EReal) : Ideal.div (z * Ideal.ofBits .f32 0x3E000000#32) (Ideal.log (Ideal.ofBits .f32 0x40000000#32)) = z * (((Real.log 256)⁻¹ : ℝ) : EReal) := by
  have h2 : Ideal.ofBits .f32 0x40000000#32 = ((2 : ℝ) : EReal) := by
    simp [Ideal.ofBits, Ideal.ieee, -EReal.coe_mul]; norm_num
  have h8 : Ideal.ofBits .f32 0x3E000000#32 = ((1 / 8 : ℝ) : EReal) := by
    simp [Ideal.ofBits, Ideal.ieee, -EReal.coe_mul]; norm_num
  have hl : Ideal.log ((2 : ℝ) : EReal) = ((Real.log 2 : ℝ) : EReal) := by
    show (if (2 : ℝ) ≤ 0 then ⊥ else ((Real.log 2 : ℝ) : EReal)) = _
    rw [if_neg (by norm_num)]
  have hp : (0 : ℝ) < Real.log 2 := Real.log_pos (by norm_num)
  have h256 : Real.log 256 = 8 * Real.log 2 := by
    rw [show (256 : ℝ) = 2 ^ 8 by norm_num, Real.log_pow]; norm_num
  rw [h2, h8, hl]
  unfold Ideal.div
  rw [if_neg (by exact_mod_cast hp.ne'), mul_assoc, ← EReal.coe_inv, ← EReal.coe_mul, h256]
  congr 2
  rw [mul_inv]
  norm_num

theorem dT_apply (X : FVec Ideal S32x8x1024 .f32) (W : FVec Ideal S1024x3600 .f32) (b : Fin 32) (s : Fin 8) (k : Fin 3600) :
    dT X W (ix3 b s k) = prj (fun b s d => X (ix3 b s d)) (fun d k => W (ix2 d k)) b s k := by
  pointwise [dT]
  rfl

/-- The gates, as written. -/
def gT (X : FVec Ideal S32x8x1024 .f32) (W : FVec Ideal S1024x3600 .f32) (bf : FVec Ideal S8 .f32) (bi bm : FVec Ideal S4 .f32) : FVec Ideal S32x8x128 .f32 :=
  concatenate S32x8x128 2 [
    ⟨S32x8x8, lsT S32x8x8 bcast_S_S32x8x8 (addf (extractStridedSlice S32x8x8 ![0, 0, 1536] (dT X W) slices_S32x8x3600_S32x8x8_0_0_1536) (broadcastInDim S32x8x8 ![0, 1, 2] bcast_S1x1x8_S32x8x8_0_1_2 (broadcastInDim S1x1x8 ![2] bcast_S8_S1x1x8_2 bf)))⟩,
    ⟨S32x8x4, addf (extractStridedSlice S32x8x4 ![0, 0, 3080] (dT X W) slices_S32x8x3600_S32x8x4_0_0_3080) (broadcastInDim S32x8x4 ![0, 1, 2] bcast_S1x1x4_S32x8x4_0_1_2 (broadcastInDim S1x1x4 ![2] bcast_S4_S1x1x4_2 bi))⟩,
    ⟨S32x8x4, lsT S32x8x4 bcast_S_S32x8x4 (addf (extractStridedSlice S32x8x4 ![0, 0, 3084] (dT X W) slices_S32x8x3600_S32x8x4_0_0_3084) (broadcastInDim S32x8x4 ![0, 1, 2] bcast_S1x1x4_S32x8x4_0_1_2 (broadcastInDim S1x1x4 ![2] bcast_S4_S1x1x4_2 bm)))⟩,
    ⟨S32x8x112, lsT S32x8x112 bcast_S_S32x8x112 (broadcastInDim S32x8x112 ![] bcast_S_S32x8x112 (constant S_ .f32 0x00000000#32))⟩]
    concatenates_S32x8x8_S32x8x4_S32x8x4_S32x8x112_S32x8x128_d2

/-- The positions to convolve, three carried rows before them. -/
def pT (X : FVec Ideal S32x8x1024 .f32) (W : FVec Ideal S1024x3600 .f32) (S : FVec Ideal S32x3x1024 .f32) : FVec Ideal S32x11x1024 .f32 :=
  concatenate S32x11x1024 1 [⟨S32x3x1024, S⟩, ⟨S32x8x1024, (extractStridedSlice S32x8x1024 ![0, 0, 1544] (dT X W) slices_S32x8x3600_S32x8x1024_0_0_1544)⟩] concatenates_S32x3x1024_S32x8x1024_S32x11x1024_d1

/-- The convolution, as written. -/
def uT (P : FVec Ideal S32x11x1024 .f32) (CW : FVec Ideal S4x1024 .f32) (CB : FVec Ideal S1024 .f32) : FVec Ideal S32x8x1024 .f32 :=
  addf (addf (addf (addf (broadcastInDim S32x8x1024 ![0, 1, 2] bcast_S1x1x1024_S32x8x1024_0_1_2 (broadcastInDim S1x1x1024 ![2] bcast_S1024_S1x1x1024_2 CB))
    (mulf (extractStridedSlice S32x8x1024 ![0, 0, 0] P slices_S32x11x1024_S32x8x1024_0_0_0) (broadcastInDim S32x8x1024 ![0, 1, 2] bcast_S1x1x1024_S32x8x1024_0_1_2 (broadcastInDim S1x1x1024 ![2] bcast_S1024_S1x1x1024_2 (shapeCast _ (extractStridedSlice S1x1024 ![0, 0] CW slices_S4x1024_S1x1024_0_0) shapeCasts_S1x1024_S1024)))))
    (mulf (extractStridedSlice S32x8x1024 ![0, 1, 0] P slices_S32x11x1024_S32x8x1024_0_1_0) (broadcastInDim S32x8x1024 ![0, 1, 2] bcast_S1x1x1024_S32x8x1024_0_1_2 (broadcastInDim S1x1x1024 ![2] bcast_S1024_S1x1x1024_2 (shapeCast _ (extractStridedSlice S1x1024 ![1, 0] CW slices_S4x1024_S1x1024_1_0) shapeCasts_S1x1024_S1024)))))
    (mulf (extractStridedSlice S32x8x1024 ![0, 2, 0] P slices_S32x11x1024_S32x8x1024_0_2_0) (broadcastInDim S32x8x1024 ![0, 1, 2] bcast_S1x1x1024_S32x8x1024_0_1_2 (broadcastInDim S1x1x1024 ![2] bcast_S1024_S1x1x1024_2 (shapeCast _ (extractStridedSlice S1x1024 ![2, 0] CW slices_S4x1024_S1x1024_2_0) shapeCasts_S1x1024_S1024)))))
    (mulf (extractStridedSlice S32x8x1024 ![0, 3, 0] P slices_S32x11x1024_S32x8x1024_0_3_0) (broadcastInDim S32x8x1024 ![0, 1, 2] bcast_S1x1x1024_S32x8x1024_0_1_2 (broadcastInDim S1x1x1024 ![2] bcast_S1024_S1x1x1024_2 (shapeCast _ (extractStridedSlice S1x1024 ![3, 0] CW slices_S4x1024_S1x1024_3_0) shapeCasts_S1x1024_S1024))))

/-- The activation, as written. -/
def aT (u : FVec Ideal S32x8x1024 .f32) : FVec Ideal S32x8x1024 .f32 :=
  mulf u (Host.divf (broadcastInDim S32x8x1024 ![] bcast_S_S32x8x1024 (constant S_ .f32 0x3F800000#32)) (addf (broadcastInDim S32x8x1024 ![] bcast_S_S32x8x1024 (constant S_ .f32 0x3F800000#32)) (Host.exp (Host.negf u))))

variable (m : (ℓ : Loc nD τ sig) → Buf (Elt Ideal) ℓ) (c : Dev nD)

theorem res68 : Value.res_main_v68 m c = gT (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) := rfl

theorem res76 : Value.res_main_v76 m c = truncf .bf16 (extractStridedSlice S32x8x512 ![0, 0, 0] (aT (uT (pT (m ((c.tc : Thread nD τ).loc main_arg0)) (m ((c.tc : Thread nD τ).loc main_arg2)) (m ((c.tc : Thread nD τ).loc main_arg1))) (m ((c.tc : Thread nD τ).loc main_arg7)) (m ((c.tc : Thread nD τ).loc main_arg8)))) slices_S32x8x1024_S32x8x512_0_0_0) bitsLt_bf16_f32 := rfl

theorem res77 : Value.res_main_v77 m c = truncf .bf16 (mulf (extractStridedSlice S32x8x512 ![0, 0, 512] (aT (uT (pT (m ((c.tc : Thread nD τ).loc main_arg0)) (m ((c.tc : Thread nD τ).loc main_arg2)) (m ((c.tc : Thread nD τ).loc main_arg1))) (m ((c.tc : Thread nD τ).loc main_arg7)) (m ((c.tc : Thread nD τ).loc main_arg8)))) slices_S32x8x1024_S32x8x512_0_0_512) (broadcastInDim S32x8x512 ![] bcast_S_S32x8x512 (constant S_ .f32 0x3DB504F3#32))) bitsLt_bf16_f32 := rfl

theorem g_f (X : FVec Ideal S32x8x1024 .f32) (W : FVec Ideal S1024x3600 .f32) (bf : FVec Ideal S8 .f32) (bi bm : FVec Ideal S4 .f32) (b : Fin 32) (s : Fin 8) (k : Fin 8) :
    gT X W bf bi bm (ix3 b s ⟨k.val, by omega⟩) = lsig (dT X W (ix3 b s ⟨1536 + k.val, by omega⟩) + bf (ix1 k)) := by
  pointwise [gT]
  refine (lsT_apply _ _ _ _).trans ?_
  pointwise

theorem g_i (X : FVec Ideal S32x8x1024 .f32) (W : FVec Ideal S1024x3600 .f32) (bf : FVec Ideal S8 .f32) (bi bm : FVec Ideal S4 .f32) (b : Fin 32) (s : Fin 8) (k : Fin 4) :
    gT X W bf bi bm (ix3 b s ⟨8 + k.val, by omega⟩) = dT X W (ix3 b s ⟨3080 + k.val, by omega⟩) + bi (ix1 k) := by
  pointwise [gT]

theorem g_m (X : FVec Ideal S32x8x1024 .f32) (W : FVec Ideal S1024x3600 .f32) (bf : FVec Ideal S8 .f32) (bi bm : FVec Ideal S4 .f32) (b : Fin 32) (s : Fin 8) (k : Fin 4) :
    gT X W bf bi bm (ix3 b s ⟨12 + k.val, by omega⟩) = lsig (dT X W (ix3 b s ⟨3084 + k.val, by omega⟩) + bm (ix1 k)) := by
  pointwise [gT]
  refine (dif_neg (by omega)).trans ((dif_neg (by omega)).trans ((dif_pos (by omega)).trans ((lsT_apply _ _ _ _).trans ?_)))
  rw [show (⟨12 + k.val - 8 - 4, by omega⟩ : Fin 4) = k from Fin.ext (by simp only []; omega)]
  pointwise

theorem g_z (X : FVec Ideal S32x8x1024 .f32) (W : FVec Ideal S1024x3600 .f32) (bf : FVec Ideal S8 .f32) (bi bm : FVec Ideal S4 .f32) (b : Fin 32) (s : Fin 8) (k : Fin 112) :
    gT X W bf bi bm (ix3 b s ⟨16 + k.val, by omega⟩) = lsig 0 := by
  pointwise [gT]
  refine (dif_neg (by omega)).trans ((dif_neg (by omega)).trans ((dif_neg (by omega)).trans ((lsT_apply _ _ _ _).trans ?_)))
  pointwise

theorem gT_apply (X : FVec Ideal S32x8x1024 .f32) (W : FVec Ideal S1024x3600 .f32) (bf : FVec Ideal S8 .f32) (bi bm : FVec Ideal S4 .f32) (b : Fin 32) (s : Fin 8) (g : Fin 128) :
    gT X W bf bi bm (ix3 b s g) = gts (fun b s d => X (ix3 b s d)) (fun d k => W (ix2 d k)) (fun k => bf (ix1 k)) (fun k => bi (ix1 k)) (fun k => bm (ix1 k)) b s g := by
  refine gts_cases _ _ _ _ _ b s (fun g => gT X W bf bi bm (ix3 b s g)) (fun k => ?_) (fun k => ?_) (fun k => ?_) (fun k => ?_) g
  · exact (g_f X W bf bi bm b s k).trans (by rw [dT_apply])
  · exact (g_i X W bf bi bm b s k).trans (by rw [dT_apply])
  · exact (g_m X W bf bi bm b s k).trans (by rw [dT_apply])
  · exact g_z X W bf bi bm b s k

theorem p_lo (X : FVec Ideal S32x8x1024 .f32) (W : FVec Ideal S1024x3600 .f32) (S : FVec Ideal S32x3x1024 .f32) (b : Fin 32) (s : Fin 3) (j : Fin 1024) :
    pT X W S (ix3 b ⟨s.val, by omega⟩ j) = S (ix3 b s j) := by
  pointwise [pT]

theorem p_hi (X : FVec Ideal S32x8x1024 .f32) (W : FVec Ideal S1024x3600 .f32) (S : FVec Ideal S32x3x1024 .f32) (b : Fin 32) (s : Fin 8) (j : Fin 1024) :
    pT X W S (ix3 b ⟨3 + s.val, by omega⟩ j) = dT X W (ix3 b s ⟨1544 + j.val, by omega⟩) := by
  pointwise [pT]

theorem pT_apply (X : FVec Ideal S32x8x1024 .f32) (W : FVec Ideal S1024x3600 .f32) (S : FVec Ideal S32x3x1024 .f32) (b : Fin 32) (n : Fin 11) (j : Fin 1024) :
    pT X W S (ix3 b n j) = hist (fun b s d => X (ix3 b s d)) (fun d k => W (ix2 d k)) (fun b s j => S (ix3 b s j)) b (n.val + 5) j := by
  by_cases h : n.val < 3
  · rw [hist_mid _ _ _ _ _ _ (⟨n.val, h⟩ : Fin 3) rfl]
    exact p_lo X W S b ⟨n.val, h⟩ j
  · rw [hist_hi _ _ _ _ _ _ (⟨n.val - 3, by omega⟩ : Fin 8) (by simp only []; omega)]
    refine Eq.trans ?_ ((p_hi X W S b ⟨n.val - 3, by omega⟩ j).trans (dT_apply X W b _ _))
    exact congrArg (fun t => pT X W S (ix3 b t j)) (Fin.ext (by simp only []; omega))

theorem uT_apply (P : FVec Ideal S32x11x1024 .f32) (CW : FVec Ideal S4x1024 .f32) (CB : FVec Ideal S1024 .f32) (b : Fin 32) (s : Fin 8) (j : Fin 1024) :
    uT P CW CB (ix3 b s j) = CB (ix1 j) + P (ix3 b ⟨s.val, by omega⟩ j) * CW (ix2 0 j) + P (ix3 b ⟨1 + s.val, by omega⟩ j) * CW (ix2 1 j)
      + P (ix3 b ⟨2 + s.val, by omega⟩ j) * CW (ix2 2 j) + P (ix3 b ⟨3 + s.val, by omega⟩ j) * CW (ix2 3 j) := by
  pointwise [uT]

theorem aT_apply (u : FVec Ideal S32x8x1024 .f32) (b : Fin 32) (s : Fin 8) (j : Fin 1024) :
    aT u (ix3 b s j) = silu (u (ix3 b s j)) := by
  pointwise [aT]
  rfl

theorem act_apply (X : FVec Ideal S32x8x1024 .f32) (W : FVec Ideal S1024x3600 .f32) (S : FVec Ideal S32x3x1024 .f32) (CW : FVec Ideal S4x1024 .f32) (CB : FVec Ideal S1024 .f32) (b : Fin 32) (s : Fin 8) (j : Fin 1024) :
    aT (uT (pT X W S) CW CB) (ix3 b s j) = cnv (hist (fun b s d => X (ix3 b s d)) (fun d k => W (ix2 d k)) (fun b s j => S (ix3 b s j)) b) (fun k j => CW (ix2 k j)) (fun j => CB (ix1 j)) s.val j := by
  rw [aT_apply, uT_apply, pT_apply, pT_apply, pT_apply, pT_apply]
  unfold cnv
  simp only [Nat.add_comm _ s.val, Nat.add_assoc, Nat.reduceAdd]

theorem out0 (X : FVec Ideal S32x8x1024 .f32) (W : FVec Ideal S1024x3600 .f32) (b : Fin 32) (s : Fin 8) (f : Fin 512) :
    truncf .bf16 (Host.divf (mulf (extractStridedSlice S32x8x512 ![0, 0, 0] (dT X W) slices_S32x8x3600_S32x8x512_0_0_0) (broadcastInDim S32x8x512 ![] bcast_S_S32x8x512 (constant S_ .f32 0x3E000000#32))) (broadcastInDim S32x8x512 ![] bcast_S_S32x8x512 (id (Host.log (constant S_ .f32 0x40000000#32))))) bitsLt_bf16_f32 (ix3 b s f)
      = prj (fun b s d => X (ix3 b s d)) (fun d k => W (ix2 d k)) b s ⟨f.val, by omega⟩ * (((Real.log 256)⁻¹ : ℝ) : EReal) := by
  pointwise
  rw [dT_apply]
  show Ideal.div (_ * Ideal.ofBits .f32 0x3E000000#32) (Ideal.log (Ideal.ofBits .f32 0x40000000#32)) = _
  exact scale_eq _

theorem out1 (X : FVec Ideal S32x8x1024 .f32) (W : FVec Ideal S1024x3600 .f32) (b : Fin 32) (s : Fin 8) (f : Fin 512) :
    extractStridedSlice S32x8x512 ![0, 0, 512] (dT X W) slices_S32x8x3600_S32x8x512_0_0_512 (ix3 b s f)
      = prj (fun b s d => X (ix3 b s d)) (fun d k => W (ix2 d k)) b s ⟨512 + f.val, by omega⟩ := by
  pointwise
  rw [dT_apply]

theorem out2 (X : FVec Ideal S32x8x1024 .f32) (W : FVec Ideal S1024x3600 .f32) (b : Fin 32) (s : Fin 8) (f : Fin 512) :
    extractStridedSlice S32x8x512 ![0, 0, 1024] (dT X W) slices_S32x8x3600_S32x8x512_0_0_1024 (ix3 b s f)
      = prj (fun b s d => X (ix3 b s d)) (fun d k => W (ix2 d k)) b s ⟨1024 + f.val, by omega⟩ := by
  pointwise
  rw [dT_apply]

theorem out8 (X : FVec Ideal S32x8x1024 .f32) (W : FVec Ideal S1024x3600 .f32) (b : Fin 32) (s : Fin 8) (f : Fin 512) :
    truncf .bf16 (extractStridedSlice S32x8x512 ![0, 0, 2568] (dT X W) slices_S32x8x3600_S32x8x512_0_0_2568) bitsLt_bf16_f32 (ix3 b s f)
      = prj (fun b s d => X (ix3 b s d)) (fun d k => W (ix2 d k)) b s ⟨2568 + f.val, by omega⟩ := by
  pointwise
  rw [dT_apply]

theorem out9 (X : FVec Ideal S32x8x1024 .f32) (W : FVec Ideal S1024x3600 .f32) (bo : FVec Ideal S512 .f32) (b : Fin 32) (s : Fin 8) (f : Fin 512) :
    truncf .bf16 (Host.divf (broadcastInDim S32x8x512 ![] bcast_S_S32x8x512 (constant S_ .f32 0x3F800000#32)) (addf (broadcastInDim S32x8x512 ![] bcast_S_S32x8x512 (constant S_ .f32 0x3F800000#32)) (Host.exp (Host.negf (addf (extractStridedSlice S32x8x512 ![0, 0, 3088] (dT X W) slices_S32x8x3600_S32x8x512_0_0_3088) (broadcastInDim S32x8x512 ![0, 1, 2] bcast_S1x1x512_S32x8x512_0_1_2 (broadcastInDim S1x1x512 ![2] bcast_S512_S1x1x512_2 bo))))))) bitsLt_bf16_f32 (ix3 b s f)
      = Ideal.logistic (prj (fun b s d => X (ix3 b s d)) (fun d k => W (ix2 d k)) b s ⟨3088 + f.val, by omega⟩ + bo (ix1 f)) := by
  pointwise
  rw [dT_apply]
  rfl

theorem out6 (A : FVec Ideal S32x8x1024 .f32) (b : Fin 32) (s : Fin 8) (f : Fin 512) :
    truncf .bf16 (extractStridedSlice S32x8x512 ![0, 0, 0] A slices_S32x8x1024_S32x8x512_0_0_0) bitsLt_bf16_f32 (ix3 b s f)
      = A (ix3 b s ⟨f.val, by omega⟩) := by
  pointwise

theorem out7 (A : FVec Ideal S32x8x1024 .f32) (b : Fin 32) (s : Fin 8) (f : Fin 512) :
    truncf .bf16 (mulf (extractStridedSlice S32x8x512 ![0, 0, 512] A slices_S32x8x1024_S32x8x512_0_0_512) (broadcastInDim S32x8x512 ![] bcast_S_S32x8x512 (constant S_ .f32 0x3DB504F3#32))) bitsLt_bf16_f32 (ix3 b s f)
      = A (ix3 b s ⟨512 + f.val, by omega⟩) * Ideal.ofBits .f32 0x3DB504F3#32 := by
  pointwise

theorem out10 (P : FVec Ideal S32x11x1024 .f32) (b : Fin 32) (s : Fin 8) (j : Fin 1024) :
    extractStridedSlice S32x8x1024 ![0, 3, 0] P slices_S32x11x1024_S32x8x1024_0_3_0 (ix3 b s j)
      = P (ix3 b ⟨3 + s.val, by omega⟩ j) := by
  pointwise

end Cert.Reference5Ideal.Smi
-- ==== Proof.Smi.Claims.lean ====
/- The claims about the projection's call of the sample. -/
module

public import proofs.«01_k».proof.Defs
public import proofs.«01_k».proof.Proof.Smi.Arr
public import proofs.«01_k».proof.Proof.Smi.Ref
public import proofs.«01_k».proof.Proof.Gen.Kernel5.Frame
public import Idealize.ShloMosaic.Lib.Quiescent

@[expose] public section

noncomputable section

open Idealize.ShloMosaic Idealize.ShloMosaic.TcCoe Idealize.SL.Sem _root_.Smi.Math
open _root_.Inp.Math hiding prj hist hist_hi hist_lo gts gts_cases

namespace Cert.Proof.Smi

theorem frame_p : Cert.quiescent_Kernel5 := fun m ρ _ => Cert.Kernel5.Gen.frame m ρ
theorem frame_pi : Cert.quiescent_Kernel5Ideal := fun m ρ _ => Cert.Kernel5Ideal.Gen.frame m ρ
theorem frame_ri : Cert.quiescent_Reference5Ideal := fun m ρ _ =>
  (θ_run Cert.Reference5Ideal.defs _ _).mono (fun r h => ⟨fun c => (h c).2.2.2.2.2.2.2.2.2, Idealize.ShloMosaic.sem_eq_zero_of_no_sems (by decide) r.2⟩)
    (Cert.Reference5Ideal.Value.run (F := Ideal) m ρ)

theorem preserves : Cert.preserves_Kernel5_Kernel5Ideal :=
  IdealRules.named_const.statement Cert.Kernel5Ideal.κ "qscale" .f32 0x3E38AA3B#32 (((Real.log 256)⁻¹ : ℝ) : EReal) rfl

section
variable {X X' : Fin 32 → Fin 8 → Fin 1024 → EReal} {W W' : Fin 1024 → Fin 3600 → EReal} (hX : X = X') (hW : W = W')
include hX hW

theorem prj_congr (b : Fin 32) (s : Fin 8) (k : Fin 3600) : prj X W b s k = prj X' W' b s k := by rw [hX, hW]

theorem gts_congr {f f' : Fin 8 → EReal} {i i' g g' : Fin 4 → EReal} (hf : f = f') (hi : i = i') (hg : g = g') (b : Fin 32) (s : Fin 8) (k : Fin 128) :
    gts X W f i g b s k = gts X' W' f' i' g' b s k := by rw [hX, hW, hf, hi, hg]

theorem cnv_congr {S S' : Fin 32 → Fin 3 → Fin 1024 → EReal} (hS : S = S') {C C' : Fin 4 → Fin 1024 → EReal} {B B' : Fin 1024 → EReal} (hC : C = C') (hB : B = B') (b : Fin 32) (s : ℕ) (j : Fin 1024) :
    cnv (hist X W S b) C B s j = cnv (hist X' W' S' b) C' B' s j := by rw [hX, hW, hS, hC, hB]

end

theorem ext3 {n0 n1 n2 : ℕ} {f g : (⟨3, ![n0, n1, n2]⟩ : Shape).Idx → EReal} (h : ∀ (a : Fin n0) (b : Fin n1) (c : Fin n2), f (ix3 a b c) = g (ix3 a b c)) : f = g := by
  funext y
  obtain ⟨a, b, c, rfl⟩ : ∃ (a : Fin n0) (b : Fin n1) (c : Fin n2), y = ix3 a b c := ⟨y 0, y 1, y 2, by funext k; fin_cases k <;> rfl⟩
  exact h a b c

open Cert.Reference5Ideal.Smi in
theorem algebraic : Cert.algebraic_Kernel5Ideal_Reference5Ideal := by
  intro m ρ m' ρ' hpre hagree
  refine ⟨_, _, _, _, _, _, _, _, _, Cert.Kernel5Ideal.Value.run_blocks (F := Ideal) m ρ, ?_⟩
  refine (θ_run Cert.Reference5Ideal.defs _ _).mono (fun _ h c => ?_) (Cert.Reference5Ideal.Value.run (F := Ideal) m' ρ')
  obtain ⟨h0, h1, h2, h3, h4, h5, h6, h7, h8⟩ := hagree c
  have hX : (fun b s d => (m' ((c.tc : Thread Cert.Reference5Ideal.nD Cert.Reference5Ideal.τ).loc Cert.Reference5Ideal.main_arg0) : Vec Ideal ⟨3, ![32, 8, 1024]⟩ .f32) (ix3 b s d)) = Cert.Kernel5Ideal.Smi.pX m c :=
    funext fun b => funext fun s => funext fun d => congrFun h0 _
  have hS : (fun b s j => (m' ((c.tc : Thread Cert.Reference5Ideal.nD Cert.Reference5Ideal.τ).loc Cert.Reference5Ideal.main_arg1) : Vec Ideal ⟨3, ![32, 3, 1024]⟩ .f32) (ix3 b s j)) = Cert.Kernel5Ideal.Smi.pS m c :=
    funext fun b => funext fun s => funext fun j => congrFun h1 _
  have hW : (fun d k => (m' ((c.tc : Thread Cert.Reference5Ideal.nD Cert.Reference5Ideal.τ).loc Cert.Reference5Ideal.main_arg2) : Vec Ideal ⟨2, ![1024, 3600]⟩ .f32) (ix2 d k)) = Cert.Kernel5Ideal.Smi.pW m c :=
    funext fun d => funext fun k => congrFun h2 _
  have hF : (fun k => (m' ((c.tc : Thread Cert.Reference5Ideal.nD Cert.Reference5Ideal.τ).loc Cert.Reference5Ideal.main_arg3) : Vec Ideal ⟨1, ![8]⟩ .f32) (ix1 k)) = fun k : Fin 8 => Cert.Kernel5Ideal.Smi.aF m c (ix1 k) :=
    funext fun k => congrFun h3 _
  have hI : (fun k => (m' ((c.tc : Thread Cert.Reference5Ideal.nD Cert.Reference5Ideal.τ).loc Cert.Reference5Ideal.main_arg4) : Vec Ideal ⟨1, ![4]⟩ .f32) (ix1 k)) = fun k : Fin 4 => Cert.Kernel5Ideal.Smi.aI m c (ix1 k) :=
    funext fun k => congrFun h4 _
  have hM : (fun k => (m' ((c.tc : Thread Cert.Reference5Ideal.nD Cert.Reference5Ideal.τ).loc Cert.Reference5Ideal.main_arg5) : Vec Ideal ⟨1, ![4]⟩ .f32) (ix1 k)) = fun k : Fin 4 => Cert.Kernel5Ideal.Smi.aM m c (ix1 k) :=
    funext fun k => congrFun h5 _
  have hC : (fun k j => (m' ((c.tc : Thread Cert.Reference5Ideal.nD Cert.Reference5Ideal.τ).loc Cert.Reference5Ideal.main_arg7) : Vec Ideal ⟨2, ![4, 1024]⟩ .f32) (ix2 k j)) = fun (k : Fin 4) (j : Fin 1024) => Cert.Kernel5Ideal.Smi.aC m c (ix2 k j) :=
    funext fun k => funext fun j => congrFun h7 _
  have hB : (fun k => (m' ((c.tc : Thread Cert.Reference5Ideal.nD Cert.Reference5Ideal.τ).loc Cert.Reference5Ideal.main_arg8) : Vec Ideal ⟨1, ![1024]⟩ .f32) (ix1 k)) = fun k : Fin 1024 => Cert.Kernel5Ideal.Smi.aB m c (ix1 k) :=
    funext fun k => congrFun h8 _
  have r0 := (h c).1.trans ((ext3 fun b s f => (out0 _ _ b s f).trans (congrArg₂ (· * ·) (prj_congr hX hW _ _ _) Cert.Kernel5Ideal.Smi.qs_eq.symm)).trans (Cert.Kernel5Ideal.Smi.final7 m c).symm)
  have r1 := (h c).2.1.trans ((ext3 fun b s f => (out1 _ _ b s f).trans (prj_congr hX hW _ _ _)).trans (Cert.Kernel5Ideal.Smi.final8 m c).symm)
  have r2 := (h c).2.2.1.trans ((ext3 fun b s f => (out2 _ _ b s f).trans (prj_congr hX hW _ _ _)).trans (Cert.Kernel5Ideal.Smi.final9 m c).symm)
  have r3 := (h c).2.2.2.1.trans ((ext3 fun b s f => (congrFun (res68 m' c) _).trans ((gT_apply _ _ _ _ _ b s f).trans (gts_congr hX hW hF hI hM _ _ _))).trans (Cert.Kernel5Ideal.Smi.final10 m c).symm)
  have r4 := (h c).2.2.2.2.1.trans ((ext3 fun b s f => (congrFun (res76 m' c) _).trans ((out6 _ b s f).trans ((act_apply _ _ _ _ _ b s _).trans (cnv_congr hX hW hS hC hB _ _ _)))).trans (Cert.Kernel5Ideal.Smi.final11 m c).symm)
  have r5 := (h c).2.2.2.2.2.1.trans ((ext3 fun b s f => (congrFun (res77 m' c) _).trans ((out7 _ b s f).trans (congrArg (· * Ideal.ofBits .f32 0x3DB504F3#32) ((act_apply _ _ _ _ _ b s _).trans (cnv_congr hX hW hS hC hB _ _ _))))).trans (Cert.Kernel5Ideal.Smi.final12 m c).symm)
  have r6 := (h c).2.2.2.2.2.2.1.trans ((ext3 fun b s f => (out8 _ _ b s f).trans (prj_congr hX hW _ _ _)).trans (Cert.Kernel5Ideal.Smi.final13 m c).symm)
  have r7 := (h c).2.2.2.2.2.2.2.1.trans ((ext3 fun b s f => (out9 _ _ _ b s f).trans (congrArg Ideal.logistic (congrArg₂ (· + ·) (prj_congr hX hW _ _ _) (congrFun h6 _)))).trans (Cert.Kernel5Ideal.Smi.final14 m c).symm)
  have r8 := (h c).2.2.2.2.2.2.2.2.1.trans ((ext3 fun b s f => (out10 (pT _ _ _) b s f).trans ((p_hi _ _ _ b s f).trans ((dT_apply _ _ b s _).trans (prj_congr hX hW _ _ _)))).trans (Cert.Kernel5Ideal.Smi.final15 m c).symm)
  exact ⟨r0, r1, r2, r3, r4, r5, r6, r7, r8, (h c).2.2.2.2.2.2.2.2.2⟩

end Cert.Proof.Smi
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal
public import proofs.«01_k».proof.Proof.Gen.Pre_finite_scores
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Fox.Claims
public import proofs.«01_k».proof.Proof.Mlp.Claims
public import proofs.«01_k».proof.Proof.Inp.Claims
public import proofs.«01_k».proof.Proof.Smp.Claims
public import proofs.«01_k».proof.Proof.Smi.Claims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Pre_finite_scores.Gen.facts,
  Fox.frame_p, Fox.frame_pi, Fox.frame_pi', Fox.frame_ri, Fox.frame_ri', Mlp.frame_p, Mlp.frame_pi, Mlp.frame_ri, Inp.frame_p, Inp.frame_pi, Inp.frame_ri, Smp.frame_p, Smp.frame_pi, Smp.frame_ri, Smi.frame_p, Smi.frame_pi, Smi.frame_ri, Fox.preserves, Fox.algebraic, Mlp.preserves, Mlp.algebraic,
  Inp.preserves, Inp.algebraic, Smp.preserves, Smp.algebraic, Smi.preserves, Smi.algebraic⟩

end Cert.Proof

end
